-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite1 [hPre_finite1 : Cert.Pre_finite1.Facts] (m : (ℓ : Loc Cert.KernelIdeal.nD Cert.KernelIdeal.τ Cert.KernelIdeal.sig) → Buf (Elt Ideal) ℓ) : Prop :=
  ∀ c : Dev Cert.KernelIdeal.nD,
    (Cert.Pre_finite1.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite1 [hPre_finite1 : Cert.Pre_finite1.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite1.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 [hPre_in_range : Cert.Pre_in_range.Facts] (m : (ℓ : Loc Cert.Kernel12.nD Cert.Kernel12.τ Cert.Kernel12.sig) → Buf (Elt Bits) ℓ) : Prop :=
  ∀ c : Dev Cert.Kernel12.nD,
    (Cert.Pre_in_range.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4)) (m ((c.tc : Thread Cert.Kernel12.nD Cert.Kernel12.τ).loc Cert.Kernel12.main_arg5))) = (fun _ => 1#1)

def Pre_Kernel12Ideal [hPre_in_range : Cert.Pre_in_range.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_in_range.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_in_range [hPre_in_range : Cert.Pre_in_range.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_in_range.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite1 [hKernelIdeal : Cert.KernelIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite1 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite1 [hReferenceIdeal : Cert.ReferenceIdeal.Facts] [hPre_finite1 : Cert.Pre_finite1.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite1 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Kernel12 [hKernel12 : Cert.Kernel12.Facts] [hPre_in_range : Cert.Pre_in_range.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] [hPre_in_range : Cert.Pre_in_range.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_in_range [hReference12Ideal : Cert.Reference12Ideal.Facts] [hPre_in_range : Cert.Pre_in_range.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_in_range m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def preserves_Kernel_KernelIdeal : Prop :=
  True

def algebraic_KernelIdeal_ReferenceIdeal_pre_finite1 [hKernelIdeal : Cert.KernelIdeal.Facts] [hReferenceIdeal : Cert.ReferenceIdeal.Facts] [hPre_finite1 : Cert.Pre_finite1.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite1 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v19_0)) (v1 : (c : Dev Cert.Kernel2Ideal.nD) → Buf (Elt Ideal) ((c.tc : Thread Cert.Kernel2Ideal.nD Cert.Kernel2Ideal.τ).loc Cert.Kernel2Ideal.main_v19_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19_0) = v0 c
          ∧ r.2.mem ((c.tc : Thread Cert.Kernel2Ideal.nD Cert.Kernel2Ideal.τ).loc Cert.Kernel2Ideal.main_v19_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)) (v5 : (c : Dev Cert.Kernel3Ideal.nD) → Buf (Elt Ideal) ((c.tc : Thread Cert.Kernel3Ideal.nD Cert.Kernel3Ideal.τ).loc Cert.Kernel3Ideal.main_v5_5)) (v6 : (c : Dev Cert.Kernel3Ideal.nD) → Buf (Elt Ideal) ((c.tc : Thread Cert.Kernel3Ideal.nD Cert.Kernel3Ideal.τ).loc Cert.Kernel3Ideal.main_v5_6)) (v7 : (c : Dev Cert.Kernel3Ideal.nD) → Buf (Elt Ideal) ((c.tc : Thread Cert.Kernel3Ideal.nD Cert.Kernel3Ideal.τ).loc Cert.Kernel3Ideal.main_v5_7)) (v8 : (c : Dev Cert.Kernel3Ideal.nD) → Buf (Elt Ideal) ((c.tc : Thread Cert.Kernel3Ideal.nD Cert.Kernel3Ideal.τ).loc Cert.Kernel3Ideal.main_v5_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_v5_5) = v5 c
          ∧ r.2.mem ((c.tc : Thread Cert.Kernel3Ideal.nD Cert.Kernel3Ideal.τ).loc Cert.Kernel3Ideal.main_v5_6) = v6 c
          ∧ r.2.mem ((c.tc : Thread Cert.Kernel3Ideal.nD Cert.Kernel3Ideal.τ).loc Cert.Kernel3Ideal.main_v5_7) = v7 c
          ∧ r.2.mem ((c.tc : Thread Cert.Kernel3Ideal.nD Cert.Kernel3Ideal.τ).loc Cert.Kernel3Ideal.main_v5_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v104) = v0 c
          ∧ r.2.mem ((c.tc : Thread Cert.Reference3Ideal.nD Cert.Reference3Ideal.τ).loc Cert.Reference3Ideal.main_v105) = v1 c
          ∧ r.2.mem ((c.tc : Thread Cert.Reference3Ideal.nD Cert.Reference3Ideal.τ).loc Cert.Reference3Ideal.main_v106) = v2 c
          ∧ r.2.mem ((c.tc : Thread Cert.Reference3Ideal.nD Cert.Reference3Ideal.τ).loc Cert.Reference3Ideal.main_v107) = v3 c
          ∧ r.2.mem ((c.tc : Thread Cert.Reference3Ideal.nD Cert.Reference3Ideal.τ).loc Cert.Reference3Ideal.main_v108) = v4 c
          ∧ r.2.mem ((c.tc : Thread Cert.Reference3Ideal.nD Cert.Reference3Ideal.τ).loc Cert.Reference3Ideal.main_v109) = v5 c
          ∧ r.2.mem ((c.tc : Thread Cert.Reference3Ideal.nD Cert.Reference3Ideal.τ).loc Cert.Reference3Ideal.main_v110) = v6 c
          ∧ r.2.mem ((c.tc : Thread Cert.Reference3Ideal.nD Cert.Reference3Ideal.τ).loc Cert.Reference3Ideal.main_v103) = v7 c
          ∧ r.2.mem ((c.tc : Thread Cert.Reference3Ideal.nD Cert.Reference3Ideal.τ).loc Cert.Reference3Ideal.main_v75) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v15_0)) (v1 : (c : Dev Cert.Kernel4Ideal.nD) → Buf (Elt Ideal) ((c.tc : Thread Cert.Kernel4Ideal.nD Cert.Kernel4Ideal.τ).loc Cert.Kernel4Ideal.main_v15_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15_0) = v0 c
          ∧ r.2.mem ((c.tc : Thread Cert.Kernel4Ideal.nD Cert.Kernel4Ideal.τ).loc Cert.Kernel4Ideal.main_v15_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v139) = v0 c
          ∧ r.2.mem ((c.tc : Thread Cert.Reference4Ideal.nD Cert.Reference4Ideal.τ).loc Cert.Reference4Ideal.main_v134) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v11)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v14) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v60) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v13)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def preserves_Kernel12_Kernel12Ideal : Prop :=
  IdealRules.named_const.Statement Cert.Kernel12Ideal.κ "c1" .f32 0x3FC48605#32 ((8388608 / 5463681 : ℝ) : EReal)
  ∧ IdealRules.named_const.Statement Cert.Kernel12Ideal.κ "c2" .f32 0x42C8E6D3#32 ((268435456 / 2672307 : ℝ) : EReal)

def algebraic_Kernel12Ideal_Reference12Ideal [hKernel12Ideal : Cert.Kernel12Ideal.Facts] [hReference12Ideal : Cert.Reference12Ideal.Facts] [hPre_in_range : Cert.Pre_in_range.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)) (v2 : (c : Dev Cert.Kernel12Ideal.nD) → Buf (Elt Ideal) ((c.tc : Thread Cert.Kernel12Ideal.nD Cert.Kernel12Ideal.τ).loc Cert.Kernel12Ideal.main_v2_2)) (v3 : (c : Dev Cert.Kernel12Ideal.nD) → Buf (Elt Ideal) ((c.tc : Thread Cert.Kernel12Ideal.nD Cert.Kernel12Ideal.τ).loc Cert.Kernel12Ideal.main_v2_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_v2_2) = v2 c
          ∧ r.2.mem ((c.tc : Thread Cert.Kernel12Ideal.nD Cert.Kernel12Ideal.τ).loc Cert.Kernel12Ideal.main_v2_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_v29) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_v16) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite1 : Cert.Pre_finite1.Facts) (hPre_finite2 : Cert.Pre_finite2.Facts) (hPre_finite3 : Cert.Pre_finite3.Facts) (hPre_finite4 : Cert.Pre_finite4.Facts) (hPre_finite5 : Cert.Pre_finite5.Facts) (hPre_finite6 : Cert.Pre_finite6.Facts) (hPre_finite7 : Cert.Pre_finite7.Facts) (hPre_in_range : Cert.Pre_in_range.Facts),
    quiescent_Kernel (hKernel := hKernel)
    ∧ quiescent_KernelIdeal (hKernelIdeal := hKernelIdeal)
    ∧ quiescent_KernelIdeal_pre_finite1 (hKernelIdeal := hKernelIdeal) (hPre_finite1 := hPre_finite1)
    ∧ quiescent_ReferenceIdeal (hReferenceIdeal := hReferenceIdeal)
    ∧ quiescent_ReferenceIdeal_pre_finite1 (hReferenceIdeal := hReferenceIdeal) (hPre_finite1 := hPre_finite1)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12) (hPre_in_range := hPre_in_range)
    ∧ quiescent_Kernel12Ideal (hKernel12Ideal := hKernel12Ideal) (hPre_in_range := hPre_in_range)
    ∧ quiescent_Reference12Ideal (hReference12Ideal := hReference12Ideal)
    ∧ quiescent_Reference12Ideal_pre_in_range (hReference12Ideal := hReference12Ideal) (hPre_in_range := hPre_in_range)
    ∧ preserves_Kernel_KernelIdeal
    ∧ algebraic_KernelIdeal_ReferenceIdeal_pre_finite1 (hKernelIdeal := hKernelIdeal) (hReferenceIdeal := hReferenceIdeal) (hPre_finite1 := hPre_finite1)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal) (hPre_in_range := hPre_in_range)
-- ==== Pre_finite1.lean ====
abbrev S4096x1024 : Shape := ⟨2, ![4096, 1024]⟩
abbrev S4096x512 : Shape := ⟨2, ![4096, 512]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v3 : IVec S_ 1) (main_v7 : IVec S_ 1) (main_v11 : IVec S_ 1) (main_v15 : IVec S_ 1) : IVec S_ 1 :=
  let main_v16 : FVec F S1x1024 .f32 := Host.absf main_arg4
  let main_cst_6 : FVec F S_ .f32 := constant S_ .f32 0x7F800000#32
  let main_v17 : FVec F S1x1024 .f32 := broadcastInDim S1x1024 ![] bcast_S_S1x1024 main_cst_6
  let main_v18 : IVec S1x1024 1 := cmpf .olt main_v16 main_v17
  let main_c_7 : IVec S_ 1 := constantI S_ 1 1#1
  let main_v19 : IVec S_ 1 := (fun x v => Host.reduce IntOp.andi x v reducesTo_S1x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x1024 .f32) (main_arg1 : FVec F S4096x512 .f32) (main_arg2 : FVec F S4096x512 .f32) (main_arg3 : FVec F S1024x1024 .f32) (main_arg4 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S1024x1024 .f32 := Host.absf main_arg3
  let main_cst_4 : FVec F S_ .f32 := constant S_ .f32 0x7F800000#32
  let main_v13 : FVec F S1024x1024 .f32 := broadcastInDim S1024x1024 ![] bcast_S_S1024x1024 main_cst_4
  let main_v14 : IVec S1024x1024 1 := cmpf .olt main_v12 main_v13
  let main_c_5 : IVec S_ 1 := constantI S_ 1 1#1
  let main_v15 : IVec S_ 1 := (fun x v => Host.reduce IntOp.andi x v reducesTo_S1024x1024_S_d0_1 h_S_) main_v14 main_c_5
  fn_part1 (F := F) main_arg4 main_v3 main_v7 main_v11 main_v15
-- ==== Pre_finite2.lean ====
abbrev S4096x1024 : Shape := ⟨2, ![4096, 1024]⟩
abbrev S1x1024 : Shape := ⟨2, ![1, 1024]⟩
abbrev S1024x3592 : Shape := ⟨2, ![1024, 3592]⟩
abbrev S4096x3592 : Shape := ⟨2, ![4096, 3592]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3592 : S_.BroadcastsInDim S1024x3592 (![] : Fin 0 → Fin S1024x3592.rank)
  reducesTo_S1024x3592_S_d0_1 : S1024x3592.ReducesTo [0, 1] S_
  bcast_S_S4096x3592 : S_.BroadcastsInDim S4096x3592 (![] : Fin 0 → Fin S4096x3592.rank)
  reducesTo_S4096x3592_S_d0_1 : S4096x3592.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x1024 .f32) (main_arg1 : FVec F S4096x1024 .f32) (main_arg2 : FVec F S1x1024 .f32) (main_arg3 : FVec F S1024x3592 .f32) (main_arg4 : FVec F S4096x3592 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x3592 .f32 := Host.absf main_arg3
  let main_cst_2 : FVec F S_ .f32 := constant S_ .f32 0x7F800000#32
  let main_v9 : FVec F S1024x3592 .f32 := broadcastInDim S1024x3592 ![] bcast_S_S1024x3592 main_cst_2
  let main_v10 : IVec S1024x3592 1 := cmpf .olt main_v8 main_v9
  let main_c_3 : IVec S_ 1 := constantI S_ 1 1#1
  let main_v11 : IVec S_ 1 := (fun x v => Host.reduce IntOp.andi x v reducesTo_S1024x3592_S_d0_1 h_S_) main_v10 main_c_3
  let main_v12 : FVec F S4096x3592 .f32 := Host.absf main_arg4
  let main_cst_4 : FVec F S_ .f32 := constant S_ .f32 0x7F800000#32
  let main_v13 : FVec F S4096x3592 .f32 := broadcastInDim S4096x3592 ![] bcast_S_S4096x3592 main_cst_4
  let main_v14 : IVec S4096x3592 1 := cmpf .olt main_v12 main_v13
  let main_c_5 : IVec S_ 1 := constantI S_ 1 1#1
  let main_v15 : IVec S_ 1 := (fun x v => Host.reduce IntOp.andi x v reducesTo_S4096x3592_S_d0_1 h_S_) main_v14 main_c_5
  fn_part1 (F := F) main_v3 main_v7 main_v11 main_v15
-- ==== Pre_finite3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S1024x2816 .f32) (main_arg6 : FVec F S2816x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S1024x2816 .f32 := Host.absf main_arg5
  let main_cst_8 : FVec F S_ .f32 := constant S_ .f32 0x7F800000#32
  let main_v21 : FVec F S1024x2816 .f32 := broadcastInDim S1024x2816 ![] bcast_S_S1024x2816 main_cst_8
  let main_v22 : IVec S1024x2816 1 := cmpf .olt main_v20 main_v21
  let main_c_9 : IVec S_ 1 := constantI S_ 1 1#1
  let main_v23 : IVec S_ 1 := (fun x v => Host.reduce IntOp.andi x v reducesTo_S1024x2816_S_d0_1 h_S_) main_v22 main_c_9
  let main_v24 : FVec F S2816x1024 .f32 := Host.absf main_arg6
  let main_cst_10 : FVec F S_ .f32 := constant S_ .f32 0x7F800000#32
  let main_v25 : FVec F S2816x1024 .f32 := broadcastInDim S2816x1024 ![] bcast_S_S2816x1024 main_cst_10
  let main_v26 : IVec S2816x1024 1 := cmpf .olt main_v24 main_v25
  let main_c_11 : IVec S_ 1 := constantI S_ 1 1#1
  let main_v27 : IVec S_ 1 := (fun x v => Host.reduce IntOp.andi x v reducesTo_S2816x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1024x2816 .f32) (main_arg5 : FVec F S1024x2816 .f32) (main_arg6 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024 .f32 := Host.absf main_arg3
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_arg4 main_arg5 main_arg6 main_v3 main_v7 main_v11 main_v15
-- ==== Pre_finite4.lean ====
abbrev S4096x3592 : Shape := ⟨2, ![4096, 3592]⟩
abbrev S4x1536 : Shape := ⟨2, ![4, 1536]⟩
abbrev S4096x4x128 : Shape := ⟨3, ![4096, 4, 128]⟩
abbrev S_ : Shape := ⟨0, ![]⟩

class Facts : Prop where
  bcast_S_S4096x3592 : S_.BroadcastsInDim S4096x3592 (![] : Fin 0 → Fin S4096x3592.rank)
  reducesTo_S4096x3592_S_d0_1 : S4096x3592.ReducesTo [0, 1] S_
  h_S_ : 0 < S_.numel
  bcast_S_S4x1536 : S_.BroadcastsInDim S4x1536 (![] : Fin 0 → Fin S4x1536.rank)
  reducesTo_S4x1536_S_d0_1 : S4x1536.ReducesTo [0, 1] S_
  bcast_S_S4096x4x128 : S_.BroadcastsInDim S4096x4x128 (![] : Fin 0 → Fin S4096x4x128.rank)
  reducesTo_S4096x4x128_S_d0_1_2 : S4096x4x128.ReducesTo [0, 1, 2] S_

variable [Facts]

def fn_part1 {F : FTy → Type} [FloatOps F] (main_arg4 : FVec F S4096x4x128 .f32) (main_v3 : IVec S_ 1) (main_v7 : IVec S_ 1) (main_v11 : IVec S_ 1) (main_v15 : IVec S_ 1) : IVec S_ 1 :=
  let main_v16 : FVec F S4096x4x128 .f32 := Host.absf main_arg4
  let main_cst_6 : FVec F S_ .f32 := constant S_ .f32 0x7F800000#32
  let main_v17 : FVec F S4096x4x128 .f32 := broadcastInDim S4096x4x128 ![] bcast_S_S4096x4x128 main_cst_6
  let main_v18 : IVec S4096x4x128 1 := cmpf .olt main_v16 main_v17
  let main_c_7 : IVec S_ 1 := constantI S_ 1 1#1
  let main_v19 : IVec S_ 1 := (fun x v => Host.reduce IntOp.andi x v reducesTo_S4096x4x128_S_d0_1_2 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x3592 .f32) (main_arg1 : FVec F S4x1536 .f32) (main_arg2 : FVec F S4096x4x128 .f32) (main_arg3 : FVec F S4096x4x128 .f32) (main_arg4 : FVec F S4096x4x128 .f32) : IVec S_ 1 :=
  let main_v0 : FVec F S4096x3592 .f32 := Host.absf main_arg0
  let main_cst : FVec F S_ .f32 := constant S_ .f32 0x7F800000#32
  let main_v1 : FVec F S4096x3592 .f32 := broadcastInDim S4096x3592 ![] bcast_S_S4096x3592 main_cst
  let main_v2 : IVec S4096x3592 1 := cmpf .olt main_v0 main_v1
  let main_c : IVec S_ 1 := constantI S_ 1 1#1
  let main_v3 : IVec S_ 1 := (fun x v => Host.reduce IntOp.andi x v reducesTo_S4096x3592_S_d0_1 h_S_) main_v2 main_c
  let main_v4 : FVec F S4x1536 .f32 := Host.absf main_arg1
  let main_cst_0 : FVec F S_ .f32 := constant S_ .f32 0x7F800000#32
  let main_v5 : FVec F S4x1536 .f32 := broadcastInDim S4x1536 ![] bcast_S_S4x1536 main_cst_0
  let main_v6 : IVec S4x1536 1 := cmpf .olt main_v4 main_v5
  let main_c_1 : IVec S_ 1 := constantI S_ 1 1#1
  let main_v7 : IVec S_ 1 := (fun x v => Host.reduce IntOp.andi x v reducesTo_S4x1536_S_d0_1 h_S_) main_v6 main_c_1
  let main_v8 : FVec F S4096x4x128 .f32 := Host.absf main_arg2
  let main_cst_2 : FVec F S_ .f32 := constant S_ .f32 0x7F800000#32
  let main_v9 : FVec F S4096x4x128 .f32 := broadcastInDim S4096x4x128 ![] bcast_S_S4096x4x128 main_cst_2
  let main_v10 : IVec S4096x4x128 1 := cmpf .olt main_v8 main_v9
  let main_c_3 : IVec S_ 1 := constantI S_ 1 1#1
  let main_v11 : IVec S_ 1 := (fun x v => Host.reduce IntOp.andi x v reducesTo_S4096x4x128_S_d0_1_2 h_S_) main_v10 main_c_3
  let main_v12 : FVec F S4096x4x128 .f32 := Host.absf main_arg3
  let main_cst_4 : FVec F S_ .f32 := constant S_ .f32 0x7F800000#32
  let main_v13 : FVec F S4096x4x128 .f32 := broadcastInDim S4096x4x128 ![] bcast_S_S4096x4x128 main_cst_4
  let main_v14 : IVec S4096x4x128 1 := cmpf .olt main_v12 main_v13
  let main_c_5 : IVec S_ 1 := constantI S_ 1 1#1
  let main_v15 : IVec S_ 1 := (fun x v => Host.reduce IntOp.andi x v reducesTo_S4096x4x128_S_d0_1_2 h_S_) main_v14 main_c_5
  fn_part1 (F := F) main_arg4 main_v3 main_v7 main_v11 main_v15
-- ==== Pre_finite5.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4096x512 .f32) (main_arg1 : FVec F S4096x512 .f32) (main_arg2 : FVec F S1024x1024 .f32) (main_arg3 : FVec F S4096x1024 .f32) (main_arg4 : FVec F S1x1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : FVec F S1x1024 .f32 := Host.absf main_arg4
  let main_cst_4 : FVec F S_ .f32 := constant S_ .f32 0x7F800000#32
  let main_v13 : FVec F S1x1024 .f32 := broadcastInDim S1x1024 ![] bcast_S_S1x1024 main_cst_4
  let main_v14 : IVec S1x1024 1 := cmpf .olt main_v12 main_v13
  let main_c_5 : IVec S_ 1 := constantI S_ 1 1#1
  let main_v15 : IVec S_ 1 := (fun x v => Host.reduce IntOp.andi x v reducesTo_S1x1024_S_d0_1 h_S_) main_v14 main_c_5
  fn_part1 (F := F) main_v3 main_v7 main_v11 main_v15
-- ==== Pre_finite6.lean ====
abbrev S4096x1024 : Shape := ⟨2, ![4096, 1024]⟩
abbrev S1x1024 : Shape := ⟨2, ![1, 1024]⟩
abbrev S1024x3592 : Shape := ⟨2, ![1024, 3592]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3592 : S_.BroadcastsInDim S1024x3592 (![] : Fin 0 → Fin S1024x3592.rank)
  reducesTo_S1024x3592_S_d0_1 : S1024x3592.ReducesTo [0, 1] S_

variable [Facts]

def fn {F : FTy → Type} [FloatOps F] (main_arg0 : FVec F S4096x1024 .f32) (main_arg1 : FVec F S1x1024 .f32) (main_arg2 : FVec F S1024x3592 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x3592 .f32 := Host.absf main_arg2
  let main_cst_2 : FVec F S_ .f32 := constant S_ .f32 0x7F800000#32
  let main_v9 : FVec F S1024x3592 .f32 := broadcastInDim S1024x3592 ![] bcast_S_S1024x3592 main_cst_2
  let main_v10 : IVec S1024x3592 1 := cmpf .olt main_v8 main_v9
  let main_c_3 : IVec S_ 1 := constantI S_ 1 1#1
  let main_v11 : IVec S_ 1 := (fun x v => Host.reduce IntOp.andi x v reducesTo_S1024x3592_S_d0_1 h_S_) main_v10 main_c_3
  let main_v12 : IVec S_ 1 := andi main_v3 main_v7
  let main_v13 : IVec S_ 1 := andi main_v12 main_v11
  main_v13
-- ==== Pre_finite7.lean ====
abbrev S4096x3592 : Shape := ⟨2, ![4096, 3592]⟩
abbrev S4x1536 : Shape := ⟨2, ![4, 1536]⟩
abbrev S_ : Shape := ⟨0, ![]⟩

class Facts : Prop where
  bcast_S_S4096x3592 : S_.BroadcastsInDim S4096x3592 (![] : Fin 0 → Fin S4096x3592.rank)
  reducesTo_S4096x3592_S_d0_1 : S4096x3592.ReducesTo [0, 1] S_
  h_S_ : 0 < S_.numel
  bcast_S_S4x1536 : S_.BroadcastsInDim S4x1536 (![] : Fin 0 → Fin S4x1536.rank)
  reducesTo_S4x1536_S_d0_1 : S4x1536.ReducesTo [0, 1] S_

variable [Facts]

def fn {F : FTy → Type} [FloatOps F] (main_arg0 : FVec F S4096x3592 .f32) (main_arg1 : FVec F S4x1536 .f32) : IVec S_ 1 :=
  let main_v0 : FVec F S4096x3592 .f32 := Host.absf main_arg0
  let main_cst : FVec F S_ .f32 := constant S_ .f32 0x7F800000#32
  let main_v1 : FVec F S4096x3592 .f32 := broadcastInDim S4096x3592 ![] bcast_S_S4096x3592 main_cst
  let main_v2 : IVec S4096x3592 1 := cmpf .olt main_v0 main_v1
  let main_c : IVec S_ 1 := constantI S_ 1 1#1
  let main_v3 : IVec S_ 1 := (fun x v => Host.reduce IntOp.andi x v reducesTo_S4096x3592_S_d0_1 h_S_) main_v2 main_c
  let main_v4 : FVec F S4x1536 .f32 := Host.absf main_arg1
  let main_cst_0 : FVec F S_ .f32 := constant S_ .f32 0x7F800000#32
  let main_v5 : FVec F S4x1536 .f32 := broadcastInDim S4x1536 ![] bcast_S_S4x1536 main_cst_0
  let main_v6 : IVec S4x1536 1 := cmpf .olt main_v4 main_v5
  let main_c_1 : IVec S_ 1 := constantI S_ 1 1#1
  let main_v7 : IVec S_ 1 := (fun x v => Host.reduce IntOp.andi x v reducesTo_S4x1536_S_d0_1 h_S_) main_v6 main_c_1
  let main_v8 : IVec S_ 1 := andi main_v3 main_v7
  main_v8
-- ==== Pre_in_range.lean ====
abbrev S8x1024x449 : Shape := ⟨3, ![8, 1024, 449]⟩
abbrev S1 : Shape := ⟨1, ![1]⟩
abbrev S1024x449 : Shape := ⟨2, ![1024, 449]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x449 .f32) (main_arg1 : FVec F S8x1024x449 .f32) (main_arg2 : IVec S1 32) (main_arg3 : FVec F S1024x449 .f32) (main_arg4 : FVec F S1024x449 .f32) (main_arg5 : FVec F S1024x449 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Kernel.lean ====
abbrev S4096x1024 : Shape := ⟨2, ![4096, 1024]⟩
abbrev S4096x512 : Shape := ⟨2, ![4096, 512]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S1x1024, .f32⟩
  | .hbm, ⟨12, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x512, .f32⟩
  | .local _ .vmem, ⟨14, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4096x1024 : Shape := ⟨2, ![4096, 1024]⟩
abbrev S4096x512 : Shape := ⟨2, ![4096, 512]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x8x64 : Shape := ⟨3, ![4096, 8, 64]⟩
abbrev S4096x8 : Shape := ⟨2, ![4096, 8]⟩
abbrev S4096x4x2x1 : Shape := ⟨4, ![4096, 4, 2, 1]⟩
abbrev S4096x4x2x64 : Shape := ⟨4, ![4096, 4, 2, 64]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S1024x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | .hbm, ⟨54, _⟩ => ⟨S4096x1024, .f32⟩
  | .hbm, ⟨55, _⟩ => ⟨S4096x512, .f32⟩
  | .hbm, ⟨56, _⟩ => ⟨S4096x512, .f32⟩
  | .hbm, ⟨57, _⟩ => ⟨S4096x8x64, .f32⟩
  | .hbm, ⟨58, _⟩ => ⟨S_, .f32⟩
  | .hbm, ⟨59, _⟩ => ⟨S4096x8, .f32⟩
  | .hbm, ⟨60, _⟩ => ⟨S4096x8, .f32⟩
  | .hbm, ⟨61, _⟩ => ⟨S_, .f32⟩
  | .hbm, ⟨62, _⟩ => ⟨S4096x8, .f32⟩
  | .hbm, ⟨63, _⟩ => ⟨S4096x8, .f32⟩
  | .hbm, ⟨64, _⟩ => ⟨S4096x4x2x1, .f32⟩
  | .hbm, ⟨65, _⟩ => ⟨S4096x4x2x1, .f32⟩
  | .hbm, ⟨66, _⟩ => ⟨S4096x4x2x64, .f32⟩
  | .hbm, ⟨67, _⟩ => ⟨S4096x512, .f32⟩
  | .hbm, ⟨68, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x3592 : Shape := ⟨2, ![1024, 3592]⟩
abbrev S4096x3592 : Shape := ⟨2, ![4096, 3592]⟩
abbrev S1024x2048 : Shape := ⟨2, ![1024, 2048]⟩
abbrev S1024x1536 : Shape := ⟨2, ![1024, 1536]⟩
abbrev S1024x8 : Shape := ⟨2, ![1024, 8]⟩
abbrev S_ : Shape := ⟨0, ![]⟩
abbrev S1024x120 : Shape := ⟨2, ![1024, 120]⟩
abbrev S1024x3712 : Shape := ⟨2, ![1024, 3712]⟩
abbrev S4096x2048 : Shape := ⟨2, ![4096, 2048]⟩
abbrev S4096x1536 : Shape := ⟨2, ![4096, 1536]⟩
abbrev S4096x8 : Shape := ⟨2, ![4096, 8]⟩
abbrev S4096x120 : Shape := ⟨2, ![4096, 120]⟩
abbrev S4096x3712 : Shape := ⟨2, ![4096, 3712]⟩
abbrev S4096x512 : Shape := ⟨2, ![4096, 512]⟩
abbrev S4096x128 : Shape := ⟨2, ![4096, 128]⟩
abbrev S8x128 : Shape := ⟨2, ![8, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S1024x512 : Shape := ⟨2, ![1024, 512]⟩
abbrev S1024x128 : Shape := ⟨2, ![1024, 128]⟩
abbrev S512 : Shape := ⟨1, ![512]⟩
abbrev S512x1 : Shape := ⟨2, ![512, 1]⟩
abbrev S1024 : Shape := ⟨1, ![1024]⟩

abbrev nBuf : Space → Nat
  | .hbm => 29
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3592, .f32⟩
  | .hbm, ⟨4, _⟩ => ⟨S4096x3592, .f32⟩
  | .hbm, ⟨5, _⟩ => ⟨S1024x2048, .f32⟩
  | .hbm, ⟨6, _⟩ => ⟨S1024x1536, .f32⟩
  | .hbm, ⟨7, _⟩ => ⟨S1024x8, .f32⟩
  | .hbm, ⟨8, _⟩ => ⟨S_, .f32⟩
  | .hbm, ⟨9, _⟩ => ⟨S1024x120, .f32⟩
  | .hbm, ⟨10, _⟩ => ⟨S1024x3712, .f32⟩
  | .hbm, ⟨11, _⟩ => ⟨S1024x3712, .bf16⟩
  | .hbm, ⟨12, _⟩ => ⟨S4096x2048, .f32⟩
  | .hbm, ⟨13, _⟩ => ⟨S4096x1536, .f32⟩
  | .hbm, ⟨14, _⟩ => ⟨S4096x8, .f32⟩
  | .hbm, ⟨15, _⟩ => ⟨S_, .f32⟩
  | .hbm, ⟨16, _⟩ => ⟨S4096x120, .f32⟩
  | .hbm, ⟨17, _⟩ => ⟨S4096x3712, .f32⟩
  | .hbm, ⟨18, _⟩ => ⟨S4096x3712, .bf16⟩
  | .hbm, ⟨19, _⟩ => ⟨S4096x1536, .bf16⟩
  | .hbm, ⟨20, _⟩ => ⟨S4096x512, .bf16⟩
  | .hbm, ⟨21, _⟩ => ⟨S4096x512, .bf16⟩
  | .hbm, ⟨22, _⟩ => ⟨S4096x512, .bf16⟩
  | .hbm, ⟨23, _⟩ => ⟨S4096x512, .bf16⟩
  | .hbm, ⟨24, _⟩ => ⟨S4096x128, .bf16⟩
  | .hbm, ⟨25, _⟩ => ⟨S_, .f32⟩
  | .hbm, ⟨26, _⟩ => ⟨S8x128, .f32⟩
  | .hbm, ⟨27, _⟩ => ⟨S4096x1024, .f32⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x3712, .bf16⟩
  | .local _ .vmem, ⟨6, _⟩ => ⟨S512x1536, .bf16⟩
  | .local _ .vmem, ⟨7, _⟩ => ⟨S512x1536, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x1024 : Shape := ⟨2, ![4096, 1024]⟩
abbrev S1x1024 : Shape := ⟨2, ![1, 1024]⟩
abbrev S1024x3592 : Shape := ⟨2, ![1024, 3592]⟩
abbrev S4096x3592 : Shape := ⟨2, ![4096, 3592]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3592, .f32⟩
  | .hbm, ⟨4, _⟩ => ⟨S4096x3592, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3592, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1 : Shape := ⟨1, ![1]⟩
abbrev S1x1 : Shape := ⟨2, ![1, 1]⟩
abbrev S1024 : Shape := ⟨1, ![1024]⟩

abbrev nBuf : Space → Nat
  | .hbm => 21
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S4096x1024, .f32⟩
  | .hbm, ⟨13, _⟩ => ⟨S4096x1024, .bf16⟩
  | .hbm, ⟨14, _⟩ => ⟨S4096x2816, .bf16⟩
  | .hbm, ⟨15, _⟩ => ⟨S4096x2816, .bf16⟩
  | .hbm, ⟨16, _⟩ => ⟨S4096x2816, .bf16⟩
  | .hbm, ⟨17, _⟩ => ⟨S4096x1024, .bf16⟩
  | .hbm, ⟨18, _⟩ => ⟨S1x128, .f32⟩
  | .hbm, ⟨19, _⟩ => ⟨S1x1024, .f32⟩
  | .hbm, ⟨20, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | .local _ .vmem, ⟨21, _⟩ => ⟨S1x128, .f32⟩
  | .local _ .vmem, ⟨22, _⟩ => ⟨S1x1024, .f32⟩
  | .local _ .vmem, ⟨23, _⟩ => ⟨S1x1024, .f32⟩
  | .local _ .vmem, ⟨24, _⟩ => ⟨S256x2816, .f32⟩
  | .local _ .vmem, ⟨25, _⟩ => ⟨S256x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev main_v5_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference3Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1x128 : Shape := ⟨2, ![1, 128]⟩

abbrev nBuf : Space → Nat
  | .hbm => 159
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S1024x2816, .f32⟩
  | 5 => ⟨S1024x2816, .f32⟩
  | 6 => ⟨S2816x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x2816, .f32⟩
  | 29 => ⟨S4096x2816, .f32⟩
  | 30 => ⟨S4096x2816, .f32⟩
  | 31 => ⟨S4096x2816, .f32⟩
  | 32 => ⟨S_, .f32⟩
  | 33 => ⟨S4096x2816, .f32⟩
  | 34 => ⟨S4096x2816, .f32⟩
  | 35 => ⟨S_, .f32⟩
  | 36 => ⟨S4096x2816, .f32⟩
  | 37 => ⟨S4096x2816, .f32⟩
  | 38 => ⟨S_, .f32⟩
  | 39 => ⟨S4096x2816, .f32⟩
  | 40 => ⟨S4096x2816, .f32⟩
  | 41 => ⟨S4096x2816, .f32⟩
  | 42 => ⟨S4096x2816, .f32⟩
  | 43 => ⟨S4096x2816, .f32⟩
  | 44 => ⟨S4096x1024, .f32⟩
  | 45 => ⟨S1024, .f32⟩
  | 46 => ⟨S4096x1024, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S_, .f32⟩
  | 73 => ⟨S4096, .f32⟩
  | 74 => ⟨S_, .f32⟩
  | 75 => ⟨S4096, .f32⟩
  | 76 => ⟨S4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S4096, .f32⟩
  | 85 => ⟨S_, .f32⟩
  | 86 => ⟨S4096, .f32⟩
  | 87 => ⟨S4096, .f32⟩
  | 88 => ⟨S4096x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S4096x1024, .f32⟩
  | 95 => ⟨S4096x1024, .f32⟩
  | 96 => ⟨S_, .f32⟩
  | 97 => ⟨S1024, .f32⟩
  | 98 => ⟨S4096x1024, .f32⟩
  | 99 => ⟨S_, .f32⟩
  | 100 => ⟨S4096, .f32⟩
  | 101 => ⟨S4096x1, .f32⟩
  | 102 => ⟨S4096x1024, .f32⟩
  | 103 => ⟨S4096x1024, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S1x1024, .f32⟩
  | 116 => ⟨S4096x2816, .f32⟩
  | 117 => ⟨S4096x2816, .f32⟩
  | 118 => ⟨S4096x2816, .f32⟩
  | 119 => ⟨S4096x2816, .f32⟩
  | 120 => ⟨S4096x2816, .f32⟩
  | 121 => ⟨S4096x2816, .f32⟩
  | 122 => ⟨S4096x2816, .f32⟩
  | 123 => ⟨S4096x1024, .f32⟩
  | 124 => ⟨S4096x1024, .f32⟩
  | 125 => ⟨S4096x1024, .f32⟩
  | 126 => ⟨S4096x1024, .f32⟩
  | 127 => ⟨S_, .f32⟩
  | _ => ⟨S4096x1024, .f32⟩

abbrev hbmTy0_1 (i : Nat) : BufTy := match i % 128 with
  | 0 => ⟨S1024, .f32⟩
  | 1 => ⟨S1x1024, .f32⟩
  | 2 => ⟨S4096x1024, .f32⟩
  | 3 => ⟨S4096x1024, .f32⟩
  | 4 => ⟨S_, .f32⟩
  | 5 => ⟨S1024, .f32⟩
  | 6 => ⟨S4096x1024, .f32⟩
  | 7 => ⟨S_, .f32⟩
  | 8 => ⟨S4096, .f32⟩
  | 9 => ⟨S4096x1, .f32⟩
  | 10 => ⟨S4096x1024, .f32⟩
  | 11 => ⟨S4096x1024, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S1x1024, .f32⟩
  | 24 => ⟨S4096x1024, .f32⟩
  | 25 => ⟨S4096x1024, .bf16⟩
  | 26 => ⟨S4096x2816, .bf16⟩
  | 27 => ⟨S4096x2816, .bf16⟩
  | 28 => ⟨S4096x2816, .bf16⟩
  | 29 => ⟨S4096x1024, .bf16⟩
  | 30 => ⟨S1x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_cst_12 : Ref sig .tc := ⟨.hbm, 81, rfl⟩
abbrev main_cst_13 : Ref sig .tc := ⟨.hbm, 82, rfl⟩
abbrev main_v49 : Ref sig .tc := ⟨.hbm, 83, rfl⟩
abbrev main_v50 : Ref sig .tc := ⟨.hbm, 84, rfl⟩
abbrev main_cst_14 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_15 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_16 : Ref sig .tc := ⟨.hbm, 96, rfl⟩
abbrev main_v60 : Ref sig .tc := ⟨.hbm, 97, rfl⟩
abbrev main_v61 : Ref sig .tc := ⟨.hbm, 98, rfl⟩
abbrev main_cst_17 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_18 : Ref sig .tc := ⟨.hbm, 105, rfl⟩
abbrev main_v67 : Ref sig .tc := ⟨.hbm, 106, rfl⟩
abbrev main_v68 : Ref sig .tc := ⟨.hbm, 107, rfl⟩
abbrev main_cst_19 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_call1_v0 : Ref sig .tc := ⟨.hbm, 119, rfl⟩
abbrev main_call1_v1 : Ref sig .tc := ⟨.hbm, 120, rfl⟩
abbrev main_call1_v2 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_20 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_cst_21 : Ref sig .tc := ⟨.hbm, 132, rfl⟩
abbrev main_v88 : Ref sig .tc := ⟨.hbm, 133, rfl⟩
abbrev main_v89 : Ref sig .tc := ⟨.hbm, 134, rfl⟩
abbrev main_cst_22 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_23 : Ref sig .tc := ⟨.hbm, 141, rfl⟩
abbrev main_v95 : Ref sig .tc := ⟨.hbm, 142, rfl⟩
abbrev main_v96 : Ref sig .tc := ⟨.hbm, 143, rfl⟩
abbrev main_cst_24 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩

abbrev nD : Nat := 1
abbrev τ : Topo := Topo.v7x

variable {F : FTy → Type} [FloatOps F]
-- ==== Kernel4.lean ====
abbrev S4096x3592 : Shape := ⟨2, ![4096, 3592]⟩
abbrev S4x1536 : Shape := ⟨2, ![4, 1536]⟩
abbrev S4096x4x128 : Shape := ⟨3, ![4096, 4, 128]⟩
abbrev S4096x2048 : Shape := ⟨2, ![4096, 2048]⟩
abbrev S4096x1536 : Shape := ⟨2, ![4096, 1536]⟩
abbrev S4096x8 : Shape := ⟨2, ![4096, 8]⟩
abbrev S_ : Shape := ⟨0, ![]⟩
abbrev S4096x120 : Shape := ⟨2, ![4096, 120]⟩
abbrev S4096x3712 : Shape := ⟨2, ![4096, 3712]⟩
abbrev S64x64x4x128 : Shape := ⟨4, ![64, 64, 4, 128]⟩
abbrev S64x4x64x128 : Shape := ⟨4, ![64, 4, 64, 128]⟩
abbrev S1x64x4x64x128 : Shape := ⟨5, ![1, 64, 4, 64, 128]⟩
abbrev S3x64x4x64x128 : Shape := ⟨5, ![3, 64, 4, 64, 128]⟩
abbrev S4096x128 : Shape := ⟨2, ![4096, 128]⟩
abbrev S4x128 : Shape := ⟨2, ![4, 128]⟩
abbrev S1x64x1x64x128 : Shape := ⟨5, ![1, 64, 1, 64, 128]⟩
abbrev S4104x128 : Shape := ⟨2, ![4104, 128]⟩
abbrev S8x128 : Shape := ⟨2, ![8, 128]⟩
abbrev S1x128 : Shape := ⟨2, ![1, 128]⟩
abbrev S256x128 : Shape := ⟨2, ![256, 128]⟩
abbrev S1x1x1x64x128 : Shape := ⟨5, ![1, 1, 1, 64, 128]⟩
abbrev S64x128 : Shape := ⟨2, ![64, 128]⟩
abbrev S256 : Shape := ⟨1, ![256]⟩
abbrev S256x1 : Shape := ⟨2, ![256, 1]⟩
abbrev S128 : Shape := ⟨1, ![128]⟩

abbrev nBuf : Space → Nat
  | .hbm => 23
  | .vmem => 12
  | .smem => 0
  | _ => 0

abbrev bufTy : (tb : Table) → Fin (tcTables nBuf tb) → BufTy
  | .hbm, ⟨0, _⟩ => ⟨S4096x3592, .f32⟩
  | .hbm, ⟨1, _⟩ => ⟨S4x1536, .f32⟩
  | .hbm, ⟨2, _⟩ => ⟨S4096x4x128, .f32⟩
  | .hbm, ⟨3, _⟩ => ⟨S4096x4x128, .f32⟩
  | .hbm, ⟨4, _⟩ => ⟨S4096x4x128, .f32⟩
  | .hbm, ⟨5, _⟩ => ⟨S4096x2048, .f32⟩
  | .hbm, ⟨6, _⟩ => ⟨S4096x1536, .f32⟩
  | .hbm, ⟨7, _⟩ => ⟨S4096x8, .f32⟩
  | .hbm, ⟨8, _⟩ => ⟨S_, .f32⟩
  | .hbm, ⟨9, _⟩ => ⟨S4096x120, .f32⟩
  | .hbm, ⟨10, _⟩ => ⟨S4096x3712, .f32⟩
  | .hbm, ⟨11, _⟩ => ⟨S64x64x4x128, .f32⟩
  | .hbm, ⟨12, _⟩ => ⟨S64x4x64x128, .f32⟩
  | .hbm, ⟨13, _⟩ => ⟨S64x64x4x128, .f32⟩
  | .hbm, ⟨14, _⟩ => ⟨S64x4x64x128, .f32⟩
  | .hbm, ⟨15, _⟩ => ⟨S64x64x4x128, .f32⟩
  | .hbm, ⟨16, _⟩ => ⟨S64x4x64x128, .f32⟩
  | .hbm, ⟨17, _⟩ => ⟨S1x64x4x64x128, .f32⟩
  | .hbm, ⟨18, _⟩ => ⟨S1x64x4x64x128, .f32⟩
  | .hbm, ⟨19, _⟩ => ⟨S1x64x4x64x128, .f32⟩
  | .hbm, ⟨20, _⟩ => ⟨S3x64x4x64x128, .f32⟩
  | .hbm, ⟨21, _⟩ => ⟨S4096x1536, .bf16⟩
  | .hbm, ⟨22, _⟩ => ⟨S4x1536, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x64x1x64x128, .f32⟩
  | .local _ .vmem, ⟨5, _⟩ => ⟨S1x64x1x64x128, .f32⟩
  | .local _ .vmem, ⟨6, _⟩ => ⟨S4096x128, .bf16⟩
  | .local _ .vmem, ⟨7, _⟩ => ⟨S4096x128, .bf16⟩
  | .local _ .vmem, ⟨8, _⟩ => ⟨S4x128, .f32⟩
  | .local _ .vmem, ⟨9, _⟩ => ⟨S4x128, .f32⟩
  | .local _ .vmem, ⟨10, _⟩ => ⟨S4104x128, .f32⟩
  | .local _ .vmem, ⟨11, _⟩ => ⟨S4104x128, .f32⟩
  | _, _ => ⟨S4096x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15_0 : Ref sig .tc := ⟨.hbm, 21, rfl⟩
abbrev main_v15_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg0 : BitVec 32 := BitVec.ofNat 32 (i 0).val
  let c2_i32 : BitVec 32 := 2#32
  let v16 : BitVec 1 := Scalar.cmpi .slt arg0 c2_i32
  let v17 : BitVec 32 := Scalar.extui v16
  let c0_i32_10 : BitVec 32 := 0#32
  let v18 : BitVec 1 := Scalar.cmpi .ne v17 c0_i32_10
  v18

@[reducible] def k0_t1_loop : Scf.Loop 32 :=
  let c0_i32_16 : BitVec 32 := 0#32
  let c16_i32_17 : BitVec 32 := 16#32
  let v24 : BitVec 32 := Scalar.addi c0_i32_16 c16_i32_17
  let c1_i32_18 : BitVec 32 := 1#32
  ⟨c0_i32_16, v24, c1_i32_18⟩
def k0_mult1 (k0_t1 : Fin k0_t1_loop.trips) : BitVec 32 :=
  let c0_i32_16 : BitVec 32 := 0#32
  let c1_i32_18 : BitVec 32 := 1#32
  let arg9 : BitVec 32 := Scf.iv c0_i32_16 c1_i32_18 k0_t1
  let c256_i32 : BitVec 32 := 256#32
  let v30 : BitVec 32 := Scalar.muli arg9 c256_i32
  v30
def k0_off1 (k0_t1 : Fin k0_t1_loop.trips) (c0_i32_25 : BitVec 32) : Fin 2 → Nat :=
  let c0_i32_16 : BitVec 32 := 0#32
  let c1_i32_18 : BitVec 32 := 1#32
  let arg9 : BitVec 32 := Scf.iv c0_i32_16 c1_i32_18 k0_t1
  let c256_i32 : BitVec 32 := 256#32
  let v30 : BitVec 32 := Scalar.muli arg9 c256_i32
  let v31 : BitVec 32 := v30
  let c8_i32 : BitVec 32 := 8#32
  let v32 : BitVec 32 := Scalar.addi v31 c8_i32
  let c3_i32 : BitVec 32 := 3#32
  let v33 : BitVec 32 := Scalar.subi v32 c3_i32
  let v34 : BitVec 32 := Scalar.addi v33 c0_i32_25
  let v35 : Index := Scalar.indexCast v34
  let c0_26 : Index := 0#32
  ![v35.toNat, 0]
def k0_off2 (k0_t1 : Fin k0_t1_loop.trips) (c0_i32_42 : BitVec 32) : Fin 5 → Nat :=
  let c0_43 : Index := 0#32
  let c0_i32_16 : BitVec 32 := 0#32
  let c1_i32_18 : BitVec 32 := 1#32
  let arg9 : BitVec 32 := Scf.iv c0_i32_16 c1_i32_18 k0_t1
  let c4_i32 : BitVec 32 := 4#32
  let v74 : BitVec 32 := Scalar.muli arg9 c4_i32
  let v75 : BitVec 32 := Scalar.addi v74 c0_i32_42
  let v76 : Index := Scalar.indexCast v75
  let c0_44 : Index := 0#32
  let c0_45 : Index := 0#32
  let c0_46 : Index := 0#32
  ![0, v76.toNat, 0, 0, 0]
def k0_off3 (k0_t1 : Fin k0_t1_loop.trips) : Fin 2 → Nat :=
  let c0_i32_16 : BitVec 32 := 0#32
  let c1_i32_18 : BitVec 32 := 1#32
  let arg9 : BitVec 32 := Scf.iv c0_i32_16 c1_i32_18 k0_t1
  let c256_i32 : BitVec 32 := 256#32
  let v30 : BitVec 32 := Scalar.muli arg9 c256_i32
  let v31 : BitVec 32 := v30
  let v121 : Index := Scalar.indexCast v31
  let c0_70 : Index := 0#32
  ![v121.toNat, 0]
def k0_cond2 (i : grid0.Coords) : BitVec 1 :=
  let arg0 : BitVec 32 := BitVec.ofNat 32 (i 0).val
  let c2_i32_11 : BitVec 32 := 2#32
  let v19 : BitVec 1 := Scalar.cmpi .eq arg0 c2_i32_11
  let v20 : BitVec 32 := Scalar.extui v19
  let c0_i32_12 : BitVec 32 := 0#32
  let v21 : BitVec 1 := Scalar.cmpi .ne v20 c0_i32_12
  v21

@[reducible] def k0_t2_loop : Scf.Loop 32 :=
  let c0_i32_16 : BitVec 32 := 0#32
  let c16_i32_17 : BitVec 32 := 16#32
  let v24 : BitVec 32 := Scalar.addi c0_i32_16 c16_i32_17
  let c1_i32_18 : BitVec 32 := 1#32
  ⟨c0_i32_16, v24, c1_i32_18⟩
def k0_mult2 (k0_t2 : Fin k0_t2_loop.trips) : BitVec 32 :=
  let c0_i32_16 : BitVec 32 := 0#32
  let c1_i32_18 : BitVec 32 := 1#32
  let arg9 : BitVec 32 := Scf.iv c0_i32_16 c1_i32_18 k0_t2
  let c256_i32 : BitVec 32 := 256#32
  let v30 : BitVec 32 := Scalar.muli arg9 c256_i32
  v30
def k0_off4 (k0_t2 : Fin k0_t2_loop.trips) (c0_i32_25 : BitVec 32) : Fin 2 → Nat :=
  let c0_i32_16 : BitVec 32 := 0#32
  let c1_i32_18 : BitVec 32 := 1#32
  let arg9 : BitVec 32 := Scf.iv c0_i32_16 c1_i32_18 k0_t2
  let c256_i32 : BitVec 32 := 256#32
  let v30 : BitVec 32 := Scalar.muli arg9 c256_i32
  let v31 : BitVec 32 := v30
  let c8_i32 : BitVec 32 := 8#32
  let v32 : BitVec 32 := Scalar.addi v31 c8_i32
  let c3_i32 : BitVec 32 := 3#32
  let v33 : BitVec 32 := Scalar.subi v32 c3_i32
  let v34 : BitVec 32 := Scalar.addi v33 c0_i32_25
  let v35 : Index := Scalar.indexCast v34
  let c0_26 : Index := 0#32
  ![v35.toNat, 0]
def k0_off5 (k0_t2 : Fin k0_t2_loop.trips) (c0_i32_42 : BitVec 32) : Fin 5 → Nat :=
  let c0_43 : Index := 0#32
  let c0_i32_16 : BitVec 32 := 0#32
  let c1_i32_18 : BitVec 32 := 1#32
  let arg9 : BitVec 32 := Scf.iv c0_i32_16 c1_i32_18 k0_t2
  let c4_i32 : BitVec 32 := 4#32
  let v74 : BitVec 32 := Scalar.muli arg9 c4_i32
  let v75 : BitVec 32 := Scalar.addi v74 c0_i32_42
  let v76 : Index := Scalar.indexCast v75
  let c0_44 : Index := 0#32
  let c0_45 : Index := 0#32
  let c0_46 : Index := 0#32
  ![0, v76.toNat, 0, 0, 0]
def k0_off6 (k0_t2 : Fin k0_t2_loop.trips) : Fin 2 → Nat :=
  let c0_i32_16 : BitVec 32 := 0#32
  let c1_i32_18 : BitVec 32 := 1#32
  let arg9 : BitVec 32 := Scf.iv c0_i32_16 c1_i32_18 k0_t2
  let c256_i32 : BitVec 32 := 256#32
  let v30 : BitVec 32 := Scalar.muli arg9 c256_i32
  let v31 : BitVec 32 := v30
  let v102 : Index := Scalar.indexCast v31
  let c0_67 : Index := 0#32
  ![v102.toNat, 0]
@[reducible] def k0_t3_loop : Scf.Loop 32 :=
  let c0_i32_13 : BitVec 32 := 0#32
  let c16_i32 : BitVec 32 := 16#32
  let v22 : BitVec 32 := Scalar.addi c0_i32_13 c16_i32
  let c1_i32 : BitVec 32 := 1#32
  ⟨c0_i32_13, v22, c1_i32⟩
def k0_mult3 (k0_t3 : Fin k0_t3_loop.trips) : BitVec 32 :=
  let c0_i32_13 : BitVec 32 := 0#32
  let c1_i32 : BitVec 32 := 1#32
  let arg9 : BitVec 32 := Scf.iv c0_i32_13 c1_i32 k0_t3
  let c256_i32 : BitVec 32 := 256#32
  let v23 : BitVec 32 := Scalar.muli arg9 c256_i32
  v23
def k0_off7 (k0_t3 : Fin k0_t3_loop.trips) : Fin 2 → Nat :=
  let c0_i32_13 : BitVec 32 := 0#32
  let c1_i32 : BitVec 32 := 1#32
  let arg9 : BitVec 32 := Scf.iv c0_i32_13 c1_i32 k0_t3
  let c256_i32 : BitVec 32 := 256#32
  let v23 : BitVec 32 := Scalar.muli arg9 c256_i32
  let v24 : BitVec 32 := v23
  let v25 : Index := Scalar.indexCast v24
  let c0_15 : Index := 0#32
  ![v25.toNat, 0]
def k0_off8 (k0_t3 : Fin k0_t3_loop.trips) (c0_i32_16 : BitVec 32) : Fin 2 → Nat :=
  let c0_i32_13 : BitVec 32 := 0#32
  let c1_i32 : BitVec 32 := 1#32
  let arg9 : BitVec 32 := Scf.iv c0_i32_13 c1_i32 k0_t3
  let c256_i32 : BitVec 32 := 256#32
  let v23 : BitVec 32 := Scalar.muli arg9 c256_i32
  let v24 : BitVec 32 := v23
  let c3_i32 : BitVec 32 := 3#32
  let v30 : BitVec 32 := Scalar.addi v24 c3_i32
  let v31 : BitVec 32 := Scalar.subi v30 c0_i32_16
  let v32 : Index := Scalar.indexCast v31
  let c0_17 : Index := 0#32
  ![v32.toNat, 0]
def k0_off9 (k0_t3 : Fin k0_t3_loop.trips) : Fin 2 → Nat :=
  let c0_i32_13 : BitVec 32 := 0#32
  let c1_i32 : BitVec 32 := 1#32
  let arg9 : BitVec 32 := Scf.iv c0_i32_13 c1_i32 k0_t3
  let c256_i32 : BitVec 32 := 256#32
  let v23 : BitVec 32 := Scalar.muli arg9 c256_i32
  let v24 : BitVec 32 := v23
  let v55 : Index := Scalar.indexCast v24
  let c0_24 : Index := 0#32
  ![v55.toNat, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4096x3592 : Shape := ⟨2, ![4096, 3592]⟩
abbrev S4x1536 : Shape := ⟨2, ![4, 1536]⟩
abbrev S4096x4x128 : Shape := ⟨3, ![4096, 4, 128]⟩
abbrev S4096x1536 : Shape := ⟨2, ![4096, 1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩
abbrev S4096x512 : Shape := ⟨2, ![4096, 512]⟩
abbrev S4096x4 : Shape := ⟨2, ![4096, 4]⟩
abbrev S4096x4x1 : Shape := ⟨3, ![4096, 4, 1]⟩

abbrev nBuf : Space → Nat
  | .hbm => 191
  | .vmem => 0
  | .smem => 0
  | _ => 0

abbrev hbmTy0_0 (i : Nat) : BufTy := match i % 128 with
  | 0 => ⟨S4096x3592, .f32⟩
  | 1 => ⟨S4x1536, .f32⟩
  | 2 => ⟨S4096x4x128, .f32⟩
  | 3 => ⟨S4096x4x128, .f32⟩
  | 4 => ⟨S4096x4x128, .f32⟩
  | 5 => ⟨S4096x1536, .f32⟩
  | 6 => ⟨S_, .f32⟩
  | 7 => ⟨S3x1536, .f32⟩
  | 8 => ⟨S4099x1536, .f32⟩
  | 9 => ⟨S_, .f32⟩
  | 10 => ⟨S3x1536, .f32⟩
  | 11 => ⟨S4096x1536, .f32⟩
  | 12 => ⟨S1x1536, .f32⟩
  | 13 => ⟨S1536, .f32⟩
  | 14 => ⟨S1x1536, .f32⟩
  | 15 => ⟨S4096x1536, .f32⟩
  | 16 => ⟨S4096x1536, .f32⟩
  | 17 => ⟨S_, .f32⟩
  | 18 => ⟨S4096x1536, .f32⟩
  | 19 => ⟨S4096x1536, .f32⟩
  | 20 => ⟨S4096x1536, .f32⟩
  | 21 => ⟨S1x1536, .f32⟩
  | 22 => ⟨S1536, .f32⟩
  | 23 => ⟨S1x1536, .f32⟩
  | 24 => ⟨S4096x1536, .f32⟩
  | 25 => ⟨S4096x1536, .f32⟩
  | 26 => ⟨S4096x1536, .f32⟩
  | 27 => ⟨S4096x1536, .f32⟩
  | 28 => ⟨S1x1536, .f32⟩
  | 29 => ⟨S1536, .f32⟩
  | 30 => ⟨S1x1536, .f32⟩
  | 31 => ⟨S4096x1536, .f32⟩
  | 32 => ⟨S4096x1536, .f32⟩
  | 33 => ⟨S4096x1536, .f32⟩
  | 34 => ⟨S4096x1536, .f32⟩
  | 35 => ⟨S1x1536, .f32⟩
  | 36 => ⟨S1536, .f32⟩
  | 37 => ⟨S1x1536, .f32⟩
  | 38 => ⟨S4096x1536, .f32⟩
  | 39 => ⟨S4096x1536, .f32⟩
  | 40 => ⟨S4096x1536, .f32⟩
  | 41 => ⟨S4096x1536, .f32⟩
  | 42 => ⟨S4096x1536, .f32⟩
  | 43 => ⟨S_, .f32⟩
  | 44 => ⟨S4096x1536, .f32⟩
  | 45 => ⟨S4096x1536, .f32⟩
  | 46 => ⟨S_, .f32⟩
  | 47 => ⟨S4096x1536, .f32⟩
  | 48 => ⟨S4096x1536, .f32⟩
  | 49 => ⟨S_, .f32⟩
  | 50 => ⟨S4096x1536, .f32⟩
  | 51 => ⟨S4096x1536, .f32⟩
  | 52 => ⟨S4096x1536, .f32⟩
  | 53 => ⟨S4096x1536, .f32⟩
  | 54 => ⟨S4096x512, .f32⟩
  | 55 => ⟨S4096x512, .f32⟩
  | 56 => ⟨S4096x512, .f32⟩
  | 57 => ⟨S4096x4x128, .f32⟩
  | 58 => ⟨S4096x4x128, .f32⟩
  | 59 => ⟨S_, .f32⟩
  | 60 => ⟨S4096x4, .f32⟩
  | 61 => ⟨S4096x4x1, .f32⟩
  | 62 => ⟨S_, .f32⟩
  | 63 => ⟨S4096x4x1, .f32⟩
  | 64 => ⟨S4096x4x1, .f32⟩
  | 65 => ⟨S4096x4x1, .f32⟩
  | 66 => ⟨S4096x4x1, .f32⟩
  | 67 => ⟨S_, .f32⟩
  | 68 => ⟨S4096x4x1, .f32⟩
  | 69 => ⟨S4096x4x1, .f32⟩
  | 70 => ⟨S4096x4x128, .f32⟩
  | 71 => ⟨S4096x4x128, .f32⟩
  | 72 => ⟨S_, .f32⟩
  | 73 => ⟨S4096x4x128, .f32⟩
  | 74 => ⟨S4096x4x128, .f32⟩
  | 75 => ⟨S4096x4x128, .f32⟩
  | 76 => ⟨S4096x4x128, .f32⟩
  | 77 => ⟨S_, .f32⟩
  | 78 => ⟨S4096x4, .f32⟩
  | 79 => ⟨S4096x4x1, .f32⟩
  | 80 => ⟨S_, .f32⟩
  | 81 => ⟨S4096x4x1, .f32⟩
  | 82 => ⟨S4096x4x1, .f32⟩
  | 83 => ⟨S4096x4x1, .f32⟩
  | 84 => ⟨S4096x4x1, .f32⟩
  | 85 => ⟨S_, .f32⟩
  | 86 => ⟨S4096x4x1, .f32⟩
  | 87 => ⟨S4096x4x1, .f32⟩
  | 88 => ⟨S4096x4x128, .f32⟩
  | 89 => ⟨S4096x4x128, .f32⟩
  | 90 => ⟨S4096x4x128, .f32⟩
  | 91 => ⟨S4096x512, .f32⟩
  | 92 => ⟨S4096x4x128, .f32⟩
  | 93 => ⟨S_, .f32⟩
  | 94 => ⟨S4096x4, .f32⟩
  | 95 => ⟨S4096x4x1, .f32⟩
  | 96 => ⟨S4096x4x128, .f32⟩
  | 97 => ⟨S4096x4x128, .f32⟩
  | 98 => ⟨S4096x4x1, .f32⟩
  | 99 => ⟨S_, .f32⟩
  | 100 => ⟨S4096x4, .f32⟩
  | 101 => ⟨S4096x4x128, .f32⟩
  | 102 => ⟨S4096x4x128, .f32⟩
  | 103 => ⟨S4096x4x128, .f32⟩
  | 104 => ⟨S4096x4x128, .f32⟩
  | 105 => ⟨S4096x4x128, .f32⟩
  | 106 => ⟨S4096x512, .f32⟩
  | 107 => ⟨S_, .f32⟩
  | 108 => ⟨S4096x4x128, .f32⟩
  | 109 => ⟨S4096x4x128, .f32⟩
  | 110 => ⟨S4096x4x128, .f32⟩
  | 111 => ⟨S_, .f32⟩
  | 112 => ⟨S4096x4, .f32⟩
  | 113 => ⟨S4096x4x1, .f32⟩
  | 114 => ⟨S4096x4x128, .f32⟩
  | 115 => ⟨S4096x4x128, .f32⟩
  | 116 => ⟨S4096x4x1, .f32⟩
  | 117 => ⟨S_, .f32⟩
  | 118 => ⟨S4096x4, .f32⟩
  | 119 => ⟨S4096x4x128, .f32⟩
  | 120 => ⟨S4096x4x128, .f32⟩
  | 121 => ⟨S4096x4x128, .f32⟩
  | 122 => ⟨S4096x4x128, .f32⟩
  | 123 => ⟨S4096x4x128, .f32⟩
  | 124 => ⟨S4096x512, .f32⟩
  | 125 => ⟨S4096x1536, .f32⟩
  | 126 => ⟨S4096x1536, .f32⟩
  | 127 => ⟨S4096x1536, .f32⟩
  | _ => ⟨S4096x3592, .f32⟩

abbrev hbmTy0_1 (i : Nat) : BufTy := match i % 128 with
  | 0 => ⟨S4096x1536, .f32⟩
  | 1 => ⟨S4096x1536, .f32⟩
  | 2 => ⟨S4096x1536, .f32⟩
  | 3 => ⟨S_, .f32⟩
  | 4 => ⟨S1536, .f32⟩
  | 5 => ⟨S1x1536, .f32⟩
  | 6 => ⟨S4096x1536, .f32⟩
  | 7 => ⟨S4096x1536, .f32⟩
  | 8 => ⟨S_, .f32⟩
  | 9 => ⟨S1536, .f32⟩
  | 10 => ⟨S1x1536, .f32⟩
  | 11 => ⟨S_, .f32⟩
  | 12 => ⟨S4x1536, .f32⟩
  | 13 => ⟨S_, .f32⟩
  | 14 => ⟨S4099x1536, .f32⟩
  | 15 => ⟨S4096x1536, .f32⟩
  | 16 => ⟨S_, .f32⟩
  | 17 => ⟨S1536, .f32⟩
  | 18 => ⟨S1x1536, .f32⟩
  | 19 => ⟨S4096x1536, .f32⟩
  | 20 => ⟨S4096x1536, .f32⟩
  | 21 => ⟨S_, .f32⟩
  | 22 => ⟨S1536, .f32⟩
  | 23 => ⟨S1x1536, .f32⟩
  | 24 => ⟨S_, .f32⟩
  | 25 => ⟨S4x1536, .f32⟩
  | 26 => ⟨S4x1536, .f32⟩
  | 27 => ⟨S_, .f32⟩
  | 28 => ⟨S4099x1536, .f32⟩
  | 29 => ⟨S4099x1536, .f32⟩
  | 30 => ⟨S4096x1536, .f32⟩
  | 31 => ⟨S_, .f32⟩
  | 32 => ⟨S1536, .f32⟩
  | 33 => ⟨S1x1536, .f32⟩
  | 34 => ⟨S4096x1536, .f32⟩
  | 35 => ⟨S4096x1536, .f32⟩
  | 36 => ⟨S_, .f32⟩
  | 37 => ⟨S1536, .f32⟩
  | 38 => ⟨S1x1536, .f32⟩
  | 39 => ⟨S_, .f32⟩
  | 40 => ⟨S4x1536, .f32⟩
  | 41 => ⟨S4x1536, .f32⟩
  | 42 => ⟨S_, .f32⟩
  | 43 => ⟨S4099x1536, .f32⟩
  | 44 => ⟨S4099x1536, .f32⟩
  | 45 => ⟨S4096x1536, .f32⟩
  | 46 => ⟨S_, .f32⟩
  | 47 => ⟨S1536, .f32⟩
  | 48 => ⟨S1x1536, .f32⟩
  | 49 => ⟨S4096x1536, .f32⟩
  | 50 => ⟨S4096x1536, .f32⟩
  | 51 => ⟨S_, .f32⟩
  | 52 => ⟨S1536, .f32⟩
  | 53 => ⟨S1x1536, .f32⟩
  | 54 => ⟨S_, .f32⟩
  | 55 => ⟨S4x1536, .f32⟩
  | 56 => ⟨S4x1536, .f32⟩
  | 57 => ⟨S_, .f32⟩
  | 58 => ⟨S4099x1536, .f32⟩
  | 59 => ⟨S4099x1536, .f32⟩
  | 60 => ⟨S3x1536, .f32⟩
  | 61 => ⟨S4096x1536, .f32⟩
  | 62 => ⟨S4096x1536, .bf16⟩
  | _ => ⟨S4096x3592, .f32⟩

abbrev hbmTy (i : Nat) : BufTy := match i / 128 with
  | 0 => hbmTy0_0 i
  | 1 => hbmTy0_1 i
  | _ => ⟨S4096x3592, .f32⟩

abbrev bufTy : (tb : Table) → Fin (tcTables nBuf tb) → BufTy
  | .hbm, ⟨i, _⟩ => hbmTy i
  | _, _ => ⟨S4096x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v33_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v33_1 : Ref sig .tc := ⟨.hbm, 52, rfl⟩
abbrev main_v33_0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_2 : Ref sig .tc := ⟨.hbm, 59, rfl⟩
abbrev main_v39 : Ref sig .tc := ⟨.hbm, 60, rfl⟩
abbrev main_v40 : Ref sig .tc := ⟨.hbm, 61, rfl⟩
abbrev main_cst_3 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_4 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_5 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_6 : Ref sig .tc := ⟨.hbm, 77, rfl⟩
abbrev main_v53 : Ref sig .tc := ⟨.hbm, 78, rfl⟩
abbrev main_v54 : Ref sig .tc := ⟨.hbm, 79, rfl⟩
abbrev main_cst_7 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_10 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_11 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_12 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_13 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_call1_v0 : Ref sig .tc := ⟨.hbm, 126, rfl⟩
abbrev main_call1_v1 : Ref sig .tc := ⟨.hbm, 127, rfl⟩
abbrev main_call1_v2 : Ref sig .tc := ⟨.hbm, 128, rfl⟩
abbrev main_v94 : Ref sig .tc := ⟨.hbm, 129, rfl⟩
abbrev main_v95 : Ref sig .tc := ⟨.hbm, 130, rfl⟩
abbrev main_cst_14 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_15 : Ref sig .tc := ⟨.hbm, 136, rfl⟩
abbrev main_v100 : Ref sig .tc := ⟨.hbm, 137, rfl⟩
abbrev main_v101 : Ref sig .tc := ⟨.hbm, 138, rfl⟩
abbrev main_cst_16 : Ref sig .tc := ⟨.hbm, 139, rfl⟩
abbrev main_v102 : Ref sig .tc := ⟨.hbm, 140, rfl⟩
abbrev main_cst_17 : Ref sig .tc := ⟨.hbm, 141, rfl⟩
abbrev main_v103 : Ref sig .tc := ⟨.hbm, 142, rfl⟩
abbrev main_v104 : Ref sig .tc := ⟨.hbm, 143, rfl⟩
abbrev main_cst_18 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_19 : Ref sig .tc := ⟨.hbm, 149, rfl⟩
abbrev main_v109 : Ref sig .tc := ⟨.hbm, 150, rfl⟩
abbrev main_v110 : Ref sig .tc := ⟨.hbm, 151, rfl⟩
abbrev main_cst_20 : Ref sig .tc := ⟨.hbm, 152, rfl⟩
abbrev main_v111 : Ref sig .tc := ⟨.hbm, 153, rfl⟩
abbrev main_v112 : Ref sig .tc := ⟨.hbm, 154, rfl⟩
abbrev main_cst_21 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_22 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_23 : Ref sig .tc := ⟨.hbm, 164, rfl⟩
abbrev main_v120 : Ref sig .tc := ⟨.hbm, 165, rfl⟩
abbrev main_v121 : Ref sig .tc := ⟨.hbm, 166, rfl⟩
abbrev main_cst_24 : Ref sig .tc := ⟨.hbm, 167, rfl⟩
abbrev main_v122 : Ref sig .tc := ⟨.hbm, 168, rfl⟩
abbrev main_v123 : Ref sig .tc := ⟨.hbm, 169, rfl⟩
abbrev main_cst_25 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_26 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_27 : Ref sig .tc := ⟨.hbm, 179, rfl⟩
abbrev main_v131 : Ref sig .tc := ⟨.hbm, 180, rfl⟩
abbrev main_v132 : Ref sig .tc := ⟨.hbm, 181, rfl⟩
abbrev main_cst_28 : Ref sig .tc := ⟨.hbm, 182, rfl⟩
abbrev main_v133 : Ref sig .tc := ⟨.hbm, 183, rfl⟩
abbrev main_v134 : Ref sig .tc := ⟨.hbm, 184, rfl⟩
abbrev main_cst_29 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩

abbrev nD : Nat := 1
abbrev τ : Topo := Topo.v7x

variable {F : FTy → Type} [FloatOps F]
-- ==== Kernel5.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S1024x1024, .bf16⟩
  | .hbm, ⟨6, _⟩ => ⟨S4096x1024, .f32⟩
  | .hbm, ⟨7, _⟩ => ⟨S4096x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x3592 : Shape := ⟨2, ![1024, 3592]⟩
abbrev S1024x2048 : Shape := ⟨2, ![1024, 2048]⟩
abbrev S1024x1536 : Shape := ⟨2, ![1024, 1536]⟩
abbrev S1024x8 : Shape := ⟨2, ![1024, 8]⟩
abbrev S_ : Shape := ⟨0, ![]⟩
abbrev S1024x120 : Shape := ⟨2, ![1024, 120]⟩
abbrev S1024x3712 : Shape := ⟨2, ![1024, 3712]⟩
abbrev S8x128 : Shape := ⟨2, ![8, 128]⟩
abbrev S4096x3712 : Shape := ⟨2, ![4096, 3712]⟩
abbrev S512x1024 : Shape := ⟨2, ![512, 1024]⟩
abbrev S512x3712 : Shape := ⟨2, ![512, 3712]⟩
abbrev S512 : Shape := ⟨1, ![512]⟩
abbrev S512x1 : Shape := ⟨2, ![512, 1]⟩
abbrev S4096x2048 : Shape := ⟨2, ![4096, 2048]⟩
abbrev S4096x8 : Shape := ⟨2, ![4096, 8]⟩
abbrev S4096x1536 : Shape := ⟨2, ![4096, 1536]⟩
abbrev S4096x3592 : Shape := ⟨2, ![4096, 3592]⟩

abbrev nBuf : Space → Nat
  | .hbm => 18
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3592, .f32⟩
  | .hbm, ⟨3, _⟩ => ⟨S1024x2048, .f32⟩
  | .hbm, ⟨4, _⟩ => ⟨S1024x1536, .f32⟩
  | .hbm, ⟨5, _⟩ => ⟨S1024x8, .f32⟩
  | .hbm, ⟨6, _⟩ => ⟨S_, .f32⟩
  | .hbm, ⟨7, _⟩ => ⟨S1024x120, .f32⟩
  | .hbm, ⟨8, _⟩ => ⟨S1024x3712, .f32⟩
  | .hbm, ⟨9, _⟩ => ⟨S1024x3712, .bf16⟩
  | .hbm, ⟨10, _⟩ => ⟨S_, .f32⟩
  | .hbm, ⟨11, _⟩ => ⟨S8x128, .f32⟩
  | .hbm, ⟨12, _⟩ => ⟨S4096x3712, .f32⟩
  | .hbm, ⟨13, _⟩ => ⟨S4096x1024, .bf16⟩
  | .hbm, ⟨14, _⟩ => ⟨S4096x2048, .f32⟩
  | .hbm, ⟨15, _⟩ => ⟨S4096x8, .f32⟩
  | .hbm, ⟨16, _⟩ => ⟨S4096x1536, .f32⟩
  | .hbm, ⟨17, _⟩ => ⟨S4096x3592, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x3712, .f32⟩
  | .local _ .vmem, ⟨5, _⟩ => ⟨S512x3712, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S4096x1024 : Shape := ⟨2, ![4096, 1024]⟩
abbrev S1x1024 : Shape := ⟨2, ![1, 1024]⟩
abbrev S1024x3592 : Shape := ⟨2, ![1024, 3592]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3592 : Shape := ⟨2, ![4096, 3592]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3592, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x3592, .f32⟩
  | .hbm, ⟨21, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S4096x3592 : Shape := ⟨2, ![4096, 3592]⟩
abbrev S4x1536 : Shape := ⟨2, ![4, 1536]⟩
abbrev S4096x2048 : Shape := ⟨2, ![4096, 2048]⟩
abbrev S4096x1536 : Shape := ⟨2, ![4096, 1536]⟩
abbrev S4096x8 : Shape := ⟨2, ![4096, 8]⟩
abbrev S_ : Shape := ⟨0, ![]⟩
abbrev S4096x120 : Shape := ⟨2, ![4096, 120]⟩
abbrev S4096x3712 : Shape := ⟨2, ![4096, 3712]⟩
abbrev S3x64x4x64x128 : Shape := ⟨5, ![3, 64, 4, 64, 128]⟩
abbrev S4096x128 : Shape := ⟨2, ![4096, 128]⟩
abbrev S4x128 : Shape := ⟨2, ![4, 128]⟩
abbrev S1x64x1x64x128 : Shape := ⟨5, ![1, 64, 1, 64, 128]⟩
abbrev S4104x128 : Shape := ⟨2, ![4104, 128]⟩
abbrev S8x128 : Shape := ⟨2, ![8, 128]⟩
abbrev S256x128 : Shape := ⟨2, ![256, 128]⟩
abbrev S1x128 : Shape := ⟨2, ![1, 128]⟩
abbrev S256 : Shape := ⟨1, ![256]⟩
abbrev S256x1 : Shape := ⟨2, ![256, 1]⟩
abbrev S64x128 : Shape := ⟨2, ![64, 128]⟩
abbrev S1x1x1x64x128 : Shape := ⟨5, ![1, 1, 1, 64, 128]⟩
abbrev S3x64x64x4x128 : Shape := ⟨5, ![3, 64, 64, 4, 128]⟩
abbrev S3x4096x4x128 : Shape := ⟨4, ![3, 4096, 4, 128]⟩

abbrev nBuf : Space → Nat
  | .hbm => 11
  | .vmem => 7
  | .smem => 0
  | _ => 0

abbrev bufTy : (tb : Table) → Fin (tcTables nBuf tb) → BufTy
  | .hbm, ⟨0, _⟩ => ⟨S4096x3592, .f32⟩
  | .hbm, ⟨1, _⟩ => ⟨S4x1536, .f32⟩
  | .hbm, ⟨2, _⟩ => ⟨S4096x2048, .f32⟩
  | .hbm, ⟨3, _⟩ => ⟨S4096x1536, .f32⟩
  | .hbm, ⟨4, _⟩ => ⟨S4096x8, .f32⟩
  | .hbm, ⟨5, _⟩ => ⟨S_, .f32⟩
  | .hbm, ⟨6, _⟩ => ⟨S4096x120, .f32⟩
  | .hbm, ⟨7, _⟩ => ⟨S4096x3712, .f32⟩
  | .hbm, ⟨8, _⟩ => ⟨S3x64x4x64x128, .f32⟩
  | .hbm, ⟨9, _⟩ => ⟨S3x64x64x4x128, .f32⟩
  | .hbm, ⟨10, _⟩ => ⟨S3x4096x4x128, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x64x1x64x128, .f32⟩
  | .local _ .vmem, ⟨5, _⟩ => ⟨S1x64x1x64x128, .f32⟩
  | .local _ .vmem, ⟨6, _⟩ => ⟨S4104x128, .f32⟩
  | _, _ => ⟨S4096x3592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def k0_cond1 (i : grid0.Coords) : BitVec 1 :=
  let arg0 : BitVec 32 := BitVec.ofNat 32 (i 0).val
  let c2_i32 : BitVec 32 := 2#32
  let v12 : BitVec 1 := Scalar.cmpi .slt arg0 c2_i32
  let v13 : BitVec 32 := Scalar.extui v12
  let c0_i32_8 : BitVec 32 := 0#32
  let v14 : BitVec 1 := Scalar.cmpi .ne v13 c0_i32_8
  v14

@[reducible] def k0_t1_loop : Scf.Loop 32 :=
  let c0_i32_11 : BitVec 32 := 0#32
  let c16_i32 : BitVec 32 := 16#32
  let v18 : BitVec 32 := Scalar.addi c0_i32_11 c16_i32
  let c1_i32 : BitVec 32 := 1#32
  ⟨c0_i32_11, v18, c1_i32⟩
def k0_mult1 (k0_t1 : Fin k0_t1_loop.trips) : BitVec 32 :=
  let c0_i32_11 : BitVec 32 := 0#32
  let c1_i32 : BitVec 32 := 1#32
  let arg6 : BitVec 32 := Scf.iv c0_i32_11 c1_i32 k0_t1
  let c256_i32 : BitVec 32 := 256#32
  let v19 : BitVec 32 := Scalar.muli arg6 c256_i32
  v19
def k0_off1 (k0_t1 : Fin k0_t1_loop.trips) : Fin 2 → Nat :=
  let c0_i32_11 : BitVec 32 := 0#32
  let c1_i32 : BitVec 32 := 1#32
  let arg6 : BitVec 32 := Scf.iv c0_i32_11 c1_i32 k0_t1
  let c256_i32 : BitVec 32 := 256#32
  let v19 : BitVec 32 := Scalar.muli arg6 c256_i32
  let v20 : BitVec 32 := v19
  let c8_i32 : BitVec 32 := 8#32
  let v21 : BitVec 32 := Scalar.addi v20 c8_i32
  let c3_i32 : BitVec 32 := 3#32
  let v22 : BitVec 32 := Scalar.subi v21 c3_i32
  let v23 : Index := Scalar.indexCast v22
  let c0_13 : Index := 0#32
  ![v23.toNat, 0]
def k0_off2 (k0_t1 : Fin k0_t1_loop.trips) (c1_i32_16 : BitVec 32) : Fin 2 → Nat :=
  let c0_i32_11 : BitVec 32 := 0#32
  let c1_i32 : BitVec 32 := 1#32
  let arg6 : BitVec 32 := Scf.iv c0_i32_11 c1_i32 k0_t1
  let c256_i32 : BitVec 32 := 256#32
  let v19 : BitVec 32 := Scalar.muli arg6 c256_i32
  let v20 : BitVec 32 := v19
  let c8_i32_14 : BitVec 32 := 8#32
  let v28 : BitVec 32 := Scalar.addi v20 c8_i32_14
  let c3_i32_15 : BitVec 32 := 3#32
  let v29 : BitVec 32 := Scalar.subi v28 c3_i32_15
  let v30 : BitVec 32 := Scalar.addi v29 c1_i32_16
  let v31 : Index := Scalar.indexCast v30
  let c0_17 : Index := 0#32
  ![v31.toNat, 0]
def k0_off3 (k0_t1 : Fin k0_t1_loop.trips) (c0_i32_31 : BitVec 32) : Fin 5 → Nat :=
  let c0_32 : Index := 0#32
  let c0_i32_11 : BitVec 32 := 0#32
  let c1_i32 : BitVec 32 := 1#32
  let arg6 : BitVec 32 := Scf.iv c0_i32_11 c1_i32 k0_t1
  let c4_i32 : BitVec 32 := 4#32
  let v74 : BitVec 32 := Scalar.muli arg6 c4_i32
  let v75 : BitVec 32 := Scalar.addi v74 c0_i32_31
  let v76 : Index := Scalar.indexCast v75
  let c0_33 : Index := 0#32
  let c0_34 : Index := 0#32
  let c0_35 : Index := 0#32
  ![0, v76.toNat, 0, 0, 0]
def k0_cond2 (i : grid0.Coords) : BitVec 1 :=
  let arg0 : BitVec 32 := BitVec.ofNat 32 (i 0).val
  let c2_i32_9 : BitVec 32 := 2#32
  let v15 : BitVec 1 := Scalar.cmpi .eq arg0 c2_i32_9
  let v16 : BitVec 32 := Scalar.extui v15
  let c0_i32_10 : BitVec 32 := 0#32
  let v17 : BitVec 1 := Scalar.cmpi .ne v16 c0_i32_10
  v17

@[reducible] def k0_t2_loop : Scf.Loop 32 :=
  let c0_i32_11 : BitVec 32 := 0#32
  let c16_i32 : BitVec 32 := 16#32
  let v18 : BitVec 32 := Scalar.addi c0_i32_11 c16_i32
  let c1_i32 : BitVec 32 := 1#32
  ⟨c0_i32_11, v18, c1_i32⟩
def k0_mult2 (k0_t2 : Fin k0_t2_loop.trips) : BitVec 32 :=
  let c0_i32_11 : BitVec 32 := 0#32
  let c1_i32 : BitVec 32 := 1#32
  let arg6 : BitVec 32 := Scf.iv c0_i32_11 c1_i32 k0_t2
  let c256_i32 : BitVec 32 := 256#32
  let v19 : BitVec 32 := Scalar.muli arg6 c256_i32
  v19
def k0_off4 (k0_t2 : Fin k0_t2_loop.trips) : Fin 2 → Nat :=
  let c0_i32_11 : BitVec 32 := 0#32
  let c1_i32 : BitVec 32 := 1#32
  let arg6 : BitVec 32 := Scf.iv c0_i32_11 c1_i32 k0_t2
  let c256_i32 : BitVec 32 := 256#32
  let v19 : BitVec 32 := Scalar.muli arg6 c256_i32
  let v20 : BitVec 32 := v19
  let c8_i32 : BitVec 32 := 8#32
  let v21 : BitVec 32 := Scalar.addi v20 c8_i32
  let c3_i32 : BitVec 32 := 3#32
  let v22 : BitVec 32 := Scalar.subi v21 c3_i32
  let v23 : Index := Scalar.indexCast v22
  let c0_13 : Index := 0#32
  ![v23.toNat, 0]
def k0_off5 (k0_t2 : Fin k0_t2_loop.trips) (c1_i32_16 : BitVec 32) : Fin 2 → Nat :=
  let c0_i32_11 : BitVec 32 := 0#32
  let c1_i32 : BitVec 32 := 1#32
  let arg6 : BitVec 32 := Scf.iv c0_i32_11 c1_i32 k0_t2
  let c256_i32 : BitVec 32 := 256#32
  let v19 : BitVec 32 := Scalar.muli arg6 c256_i32
  let v20 : BitVec 32 := v19
  let c8_i32_14 : BitVec 32 := 8#32
  let v28 : BitVec 32 := Scalar.addi v20 c8_i32_14
  let c3_i32_15 : BitVec 32 := 3#32
  let v29 : BitVec 32 := Scalar.subi v28 c3_i32_15
  let v30 : BitVec 32 := Scalar.addi v29 c1_i32_16
  let v31 : Index := Scalar.indexCast v30
  let c0_17 : Index := 0#32
  ![v31.toNat, 0]
def k0_off6 (k0_t2 : Fin k0_t2_loop.trips) (c0_i32_29 : BitVec 32) : Fin 5 → Nat :=
  let c0_30 : Index := 0#32
  let c0_i32_11 : BitVec 32 := 0#32
  let c1_i32 : BitVec 32 := 1#32
  let arg6 : BitVec 32 := Scf.iv c0_i32_11 c1_i32 k0_t2
  let c4_i32 : BitVec 32 := 4#32
  let v64 : BitVec 32 := Scalar.muli arg6 c4_i32
  let v65 : BitVec 32 := Scalar.addi v64 c0_i32_29
  let v66 : Index := Scalar.indexCast v65
  let c0_31 : Index := 0#32
  let c0_32 : Index := 0#32
  let c0_33 : Index := 0#32
  ![0, v66.toNat, 0, 0, 0]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x3592 : Shape := ⟨2, ![4096, 3592]⟩
abbrev S4x1536 : Shape := ⟨2, ![4, 1536]⟩
abbrev S4096x1536 : Shape := ⟨2, ![4096, 1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩
abbrev S4096x512 : Shape := ⟨2, ![4096, 512]⟩
abbrev S4096x4x128 : Shape := ⟨3, ![4096, 4, 128]⟩
abbrev S4096x4 : Shape := ⟨2, ![4096, 4]⟩
abbrev S4096x4x1 : Shape := ⟨3, ![4096, 4, 1]⟩
abbrev S1x4096x4x128 : Shape := ⟨4, ![1, 4096, 4, 128]⟩
abbrev S3x4096x4x128 : Shape := ⟨4, ![3, 4096, 4, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x3592, .f32⟩
  | .hbm, ⟨1, _⟩ => ⟨S4x1536, .f32⟩
  | .hbm, ⟨2, _⟩ => ⟨S4096x1536, .f32⟩
  | .hbm, ⟨3, _⟩ => ⟨S_, .f32⟩
  | .hbm, ⟨4, _⟩ => ⟨S3x1536, .f32⟩
  | .hbm, ⟨5, _⟩ => ⟨S4099x1536, .f32⟩
  | .hbm, ⟨6, _⟩ => ⟨S4096x1536, .f32⟩
  | .hbm, ⟨7, _⟩ => ⟨S1x1536, .f32⟩
  | .hbm, ⟨8, _⟩ => ⟨S1536, .f32⟩
  | .hbm, ⟨9, _⟩ => ⟨S1x1536, .f32⟩
  | .hbm, ⟨10, _⟩ => ⟨S4096x1536, .f32⟩
  | .hbm, ⟨11, _⟩ => ⟨S4096x1536, .f32⟩
  | .hbm, ⟨12, _⟩ => ⟨S_, .f32⟩
  | .hbm, ⟨13, _⟩ => ⟨S4096x1536, .f32⟩
  | .hbm, ⟨14, _⟩ => ⟨S4096x1536, .f32⟩
  | .hbm, ⟨15, _⟩ => ⟨S4096x1536, .f32⟩
  | .hbm, ⟨16, _⟩ => ⟨S1x1536, .f32⟩
  | .hbm, ⟨17, _⟩ => ⟨S1536, .f32⟩
  | .hbm, ⟨18, _⟩ => ⟨S1x1536, .f32⟩
  | .hbm, ⟨19, _⟩ => ⟨S4096x1536, .f32⟩
  | .hbm, ⟨20, _⟩ => ⟨S4096x1536, .f32⟩
  | .hbm, ⟨21, _⟩ => ⟨S4096x1536, .f32⟩
  | .hbm, ⟨22, _⟩ => ⟨S4096x1536, .f32⟩
  | .hbm, ⟨23, _⟩ => ⟨S1x1536, .f32⟩
  | .hbm, ⟨24, _⟩ => ⟨S1536, .f32⟩
  | .hbm, ⟨25, _⟩ => ⟨S1x1536, .f32⟩
  | .hbm, ⟨26, _⟩ => ⟨S4096x1536, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S1x1536, .f32⟩
  | .hbm, ⟨31, _⟩ => ⟨S1536, .f32⟩
  | .hbm, ⟨32, _⟩ => ⟨S1x1536, .f32⟩
  | .hbm, ⟨33, _⟩ => ⟨S4096x1536, .f32⟩
  | .hbm, ⟨34, _⟩ => ⟨S4096x1536, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S_, .f32⟩
  | .hbm, ⟨39, _⟩ => ⟨S4096x1536, .f32⟩
  | .hbm, ⟨40, _⟩ => ⟨S4096x1536, .f32⟩
  | .hbm, ⟨41, _⟩ => ⟨S_, .f32⟩
  | .hbm, ⟨42, _⟩ => ⟨S4096x1536, .f32⟩
  | .hbm, ⟨43, _⟩ => ⟨S4096x1536, .f32⟩
  | .hbm, ⟨44, _⟩ => ⟨S4096x1536, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x4x128, .f32⟩
  | .hbm, ⟨49, _⟩ => ⟨S4096x4x128, .f32⟩
  | .hbm, ⟨50, _⟩ => ⟨S_, .f32⟩
  | .hbm, ⟨51, _⟩ => ⟨S4096x4, .f32⟩
  | .hbm, ⟨52, _⟩ => ⟨S4096x4x1, .f32⟩
  | .hbm, ⟨53, _⟩ => ⟨S_, .f32⟩
  | .hbm, ⟨54, _⟩ => ⟨S4096x4x1, .f32⟩
  | .hbm, ⟨55, _⟩ => ⟨S4096x4x1, .f32⟩
  | .hbm, ⟨56, _⟩ => ⟨S4096x4x1, .f32⟩
  | .hbm, ⟨57, _⟩ => ⟨S4096x4x128, .f32⟩
  | .hbm, ⟨58, _⟩ => ⟨S4096x4x128, .f32⟩
  | .hbm, ⟨59, _⟩ => ⟨S_, .f32⟩
  | .hbm, ⟨60, _⟩ => ⟨S4096x4x128, .f32⟩
  | .hbm, ⟨61, _⟩ => ⟨S4096x4x128, .f32⟩
  | .hbm, ⟨62, _⟩ => ⟨S4096x4x128, .f32⟩
  | .hbm, ⟨63, _⟩ => ⟨S4096x4x128, .f32⟩
  | .hbm, ⟨64, _⟩ => ⟨S_, .f32⟩
  | .hbm, ⟨65, _⟩ => ⟨S4096x4, .f32⟩
  | .hbm, ⟨66, _⟩ => ⟨S4096x4x1, .f32⟩
  | .hbm, ⟨67, _⟩ => ⟨S_, .f32⟩
  | .hbm, ⟨68, _⟩ => ⟨S4096x4x1, .f32⟩
  | .hbm, ⟨69, _⟩ => ⟨S4096x4x1, .f32⟩
  | .hbm, ⟨70, _⟩ => ⟨S4096x4x1, .f32⟩
  | .hbm, ⟨71, _⟩ => ⟨S4096x4x128, .f32⟩
  | .hbm, ⟨72, _⟩ => ⟨S4096x4x128, .f32⟩
  | .hbm, ⟨73, _⟩ => ⟨S4096x4x128, .f32⟩
  | .hbm, ⟨74, _⟩ => ⟨S1x4096x4x128, .f32⟩
  | .hbm, ⟨75, _⟩ => ⟨S1x4096x4x128, .f32⟩
  | .hbm, ⟨76, _⟩ => ⟨S1x4096x4x128, .f32⟩
  | .hbm, ⟨77, _⟩ => ⟨S3x4096x4x128, .f32⟩
  | _, _ => ⟨S4096x3592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩

abbrev nD : Nat := 1
abbrev τ : Topo := Topo.v7x

variable {F : FTy → Type} [FloatOps F]
-- ==== Kernel8.lean ====
abbrev S4096x2816 : Shape := ⟨2, ![4096, 2816]⟩
abbrev S4096x1024 : Shape := ⟨2, ![4096, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x512 : Shape := ⟨2, ![4096, 512]⟩
abbrev S4096x1024 : Shape := ⟨2, ![4096, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x1024, .bf16⟩
  | .hbm, ⟨4, _⟩ => ⟨S1024x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference9Ideal.lean ====
abbrev S4096x512 : Shape := ⟨2, ![4096, 512]⟩
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel10.lean ====
abbrev S4096x1024 : Shape := ⟨2, ![4096, 1024]⟩
abbrev S4096x3592 : Shape := ⟨2, ![4096, 3592]⟩
abbrev S4096x2048 : Shape := ⟨2, ![4096, 2048]⟩
abbrev S4096x1536 : Shape := ⟨2, ![4096, 1536]⟩
abbrev S4096x8 : Shape := ⟨2, ![4096, 8]⟩
abbrev S_ : Shape := ⟨0, ![]⟩
abbrev S4096x120 : Shape := ⟨2, ![4096, 120]⟩
abbrev S4096x3712 : Shape := ⟨2, ![4096, 3712]⟩
abbrev S4096x512 : Shape := ⟨2, ![4096, 512]⟩
abbrev S4096x128 : Shape := ⟨2, ![4096, 128]⟩
abbrev S8x1024x449 : Shape := ⟨3, ![8, 1024, 449]⟩
abbrev S1024x1024 : Shape := ⟨2, ![1024, 1024]⟩
abbrev S1024x1536 : Shape := ⟨2, ![1024, 1536]⟩
abbrev S1024x512 : Shape := ⟨2, ![1024, 512]⟩
abbrev S1024x128 : Shape := ⟨2, ![1024, 128]⟩
abbrev S1024x3712 : Shape := ⟨2, ![1024, 3712]⟩
abbrev S1024x449 : Shape := ⟨2, ![1024, 449]⟩
abbrev S1x1024x449 : Shape := ⟨3, ![1, 1024, 449]⟩
abbrev S1024x252 : Shape := ⟨2, ![1024, 252]⟩
abbrev S1x1024x252 : Shape := ⟨3, ![1, 1024, 252]⟩
abbrev S1024x8 : Shape := ⟨2, ![1024, 8]⟩
abbrev S1x1024x8 : Shape := ⟨3, ![1, 1024, 8]⟩
abbrev S1024x189 : Shape := ⟨2, ![1024, 189]⟩
abbrev S1x1024x189 : Shape := ⟨3, ![1, 1024, 189]⟩

abbrev nBuf : Space → Nat
  | .hbm => 17
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x3592, .f32⟩
  | .hbm, ⟨2, _⟩ => ⟨S4096x2048, .f32⟩
  | .hbm, ⟨3, _⟩ => ⟨S4096x1536, .f32⟩
  | .hbm, ⟨4, _⟩ => ⟨S4096x8, .f32⟩
  | .hbm, ⟨5, _⟩ => ⟨S_, .f32⟩
  | .hbm, ⟨6, _⟩ => ⟨S4096x120, .f32⟩
  | .hbm, ⟨7, _⟩ => ⟨S4096x3712, .f32⟩
  | .hbm, ⟨8, _⟩ => ⟨S4096x3712, .bf16⟩
  | .hbm, ⟨9, _⟩ => ⟨S4096x1536, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x128, .bf16⟩
  | .hbm, ⟨15, _⟩ => ⟨S4096x1024, .bf16⟩
  | .hbm, ⟨16, _⟩ => ⟨S8x1024x449, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x128, .bf16⟩
  | .local _ .vmem, ⟨14, _⟩ => ⟨S8x1024x449, .bf16⟩
  | .local _ .vmem, ⟨15, _⟩ => ⟨S1024x3712, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v53 : BitVec 1 := Scalar.cmpi .eq arg0 c3_i32
  let v54 : BitVec 32 := Scalar.extui v53
  let c0_i32_38 : BitVec 32 := 0#32
  let v55 : BitVec 1 := Scalar.cmpi .ne v54 c0_i32_38
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024x449 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference10Ideal.lean ====
abbrev S4096x1024 : Shape := ⟨2, ![4096, 1024]⟩
abbrev S4096x3592 : Shape := ⟨2, ![4096, 3592]⟩
abbrev S_ : Shape := ⟨0, ![]⟩
abbrev S1024x3592 : Shape := ⟨2, ![1024, 3592]⟩
abbrev S3592x1024 : Shape := ⟨2, ![3592, 1024]⟩
abbrev S1024x8x449 : Shape := ⟨3, ![1024, 8, 449]⟩
abbrev S8x1024x449 : Shape := ⟨3, ![8, 1024, 449]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3592, .f32⟩
  | .hbm, ⟨2, _⟩ => ⟨S_, .f32⟩
  | .hbm, ⟨3, _⟩ => ⟨S1024x3592, .f32⟩
  | .hbm, ⟨4, _⟩ => ⟨S4096x3592, .f32⟩
  | .hbm, ⟨5, _⟩ => ⟨S3592x1024, .f32⟩
  | .hbm, ⟨6, _⟩ => ⟨S1024x3592, .f32⟩
  | .hbm, ⟨7, _⟩ => ⟨S1024x8x449, .f32⟩
  | .hbm, ⟨8, _⟩ => ⟨S8x1024x449, .f32⟩
  | .hbm, ⟨9, _⟩ => ⟨S8x1024x449, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8x1024x449 : Shape := ⟨3, ![8, 1024, 449]⟩
abbrev S1024x3712 : Shape := ⟨2, ![1024, 3712]⟩
abbrev S8x256x449 : Shape := ⟨3, ![8, 256, 449]⟩
abbrev S256x3712 : Shape := ⟨2, ![256, 3712]⟩
abbrev S256x128 : Shape := ⟨2, ![256, 128]⟩
abbrev S1x256x449 : Shape := ⟨3, ![1, 256, 449]⟩
abbrev S256x449 : Shape := ⟨2, ![256, 449]⟩
abbrev S1x256x252 : Shape := ⟨3, ![1, 256, 252]⟩
abbrev S256x252 : Shape := ⟨2, ![256, 252]⟩
abbrev S1x256x8 : Shape := ⟨3, ![1, 256, 8]⟩
abbrev S256x8 : Shape := ⟨2, ![256, 8]⟩
abbrev S1x256x189 : Shape := ⟨3, ![1, 256, 189]⟩
abbrev S256x189 : Shape := ⟨2, ![256, 189]⟩

abbrev nBuf : Space → Nat
  | .hbm => 3
  | .vmem => 4
  | .smem => 0
  | _ => 0

abbrev bufTy : (tb : Table) → Fin (tcTables nBuf tb) → BufTy
  | .hbm, ⟨0, _⟩ => ⟨S8x1024x449, .f32⟩
  | .hbm, ⟨1, _⟩ => ⟨S8x1024x449, .bf16⟩
  | .hbm, ⟨2, _⟩ => ⟨S1024x3712, .bf16⟩
  | .local _ .vmem, ⟨0, _⟩ => ⟨S8x256x449, .bf16⟩
  | .local _ .vmem, ⟨1, _⟩ => ⟨S8x256x449, .bf16⟩
  | .local _ .vmem, ⟨2, _⟩ => ⟨S256x3712, .bf16⟩
  | .local _ .vmem, ⟨3, _⟩ => ⟨S256x3712, .bf16⟩
  | _, _ => ⟨S8x1024x449, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x449 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3712 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference11Ideal.lean ====
abbrev S8x1024x449 : Shape := ⟨3, ![8, 1024, 449]⟩
abbrev S1024x8x449 : Shape := ⟨3, ![1024, 8, 449]⟩
abbrev S1024x3592 : Shape := ⟨2, ![1024, 3592]⟩
abbrev S1024x2048 : Shape := ⟨2, ![1024, 2048]⟩
abbrev S1024x8 : Shape := ⟨2, ![1024, 8]⟩
abbrev S1024x1536 : Shape := ⟨2, ![1024, 1536]⟩
abbrev S_ : Shape := ⟨0, ![]⟩
abbrev S1024x120 : Shape := ⟨2, ![1024, 120]⟩
abbrev S1024x3712 : Shape := ⟨2, ![1024, 3712]⟩

abbrev nBuf : Space → Nat
  | .hbm => 10
  | .vmem => 0
  | .smem => 0
  | _ => 0

abbrev bufTy : (tb : Table) → Fin (tcTables nBuf tb) → BufTy
  | .hbm, ⟨0, _⟩ => ⟨S8x1024x449, .f32⟩
  | .hbm, ⟨1, _⟩ => ⟨S1024x8x449, .f32⟩
  | .hbm, ⟨2, _⟩ => ⟨S1024x3592, .f32⟩
  | .hbm, ⟨3, _⟩ => ⟨S1024x2048, .f32⟩
  | .hbm, ⟨4, _⟩ => ⟨S1024x8, .f32⟩
  | .hbm, ⟨5, _⟩ => ⟨S1024x1536, .f32⟩
  | .hbm, ⟨6, _⟩ => ⟨S_, .f32⟩
  | .hbm, ⟨7, _⟩ => ⟨S1024x120, .f32⟩
  | .hbm, ⟨8, _⟩ => ⟨S1024x3712, .f32⟩
  | .hbm, ⟨9, _⟩ => ⟨S1024x3712, .bf16⟩
  | _, _ => ⟨S8x1024x449, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel12.lean ====
abbrev S8x1024x449 : Shape := ⟨3, ![8, 1024, 449]⟩
abbrev S1 : Shape := ⟨1, ![1]⟩
abbrev S1024x449 : Shape := ⟨2, ![1024, 449]⟩
abbrev S8x256x449 : Shape := ⟨3, ![8, 256, 449]⟩
abbrev S1x256x449 : Shape := ⟨3, ![1, 256, 449]⟩
abbrev S256x449 : Shape := ⟨2, ![256, 449]⟩

abbrev nBuf : Space → Nat
  | .hbm => 11
  | .vmem => 18
  | .smem => 1
  | _ => 0

abbrev bufTy : (tb : Table) → Fin (tcTables nBuf tb) → BufTy
  | .hbm, ⟨0, _⟩ => ⟨S8x1024x449, .f32⟩
  | .hbm, ⟨1, _⟩ => ⟨S8x1024x449, .f32⟩
  | .hbm, ⟨2, _⟩ => ⟨S1024x449, .f32⟩
  | .hbm, ⟨3, _⟩ => ⟨S1024x449, .f32⟩
  | .hbm, ⟨4, _⟩ => ⟨S1024x449, .f32⟩
  | .hbm, ⟨5, _⟩ => ⟨S8x1024x449, .bf16⟩
  | .hbm, ⟨6, _⟩ => ⟨S8x1024x449, .bf16⟩
  | .hbm, ⟨7, _⟩ => ⟨S1024x449, .f32⟩
  | .hbm, ⟨8, _⟩ => ⟨S1024x449, .f32⟩
  | .hbm, ⟨9, _⟩ => ⟨S1024x449, .f32⟩
  | .hbm, ⟨10, _⟩ => ⟨S1024x449, .f32⟩
  | .local _ .vmem, ⟨0, _⟩ => ⟨S8x256x449, .bf16⟩
  | .local _ .vmem, ⟨1, _⟩ => ⟨S8x256x449, .bf16⟩
  | .local _ .vmem, ⟨2, _⟩ => ⟨S1x256x449, .bf16⟩
  | .local _ .vmem, ⟨3, _⟩ => ⟨S1x256x449, .bf16⟩
  | .local _ .vmem, ⟨4, _⟩ => ⟨S256x449, .f32⟩
  | .local _ .vmem, ⟨5, _⟩ => ⟨S256x449, .f32⟩
  | .local _ .vmem, ⟨6, _⟩ => ⟨S256x449, .f32⟩
  | .local _ .vmem, ⟨7, _⟩ => ⟨S256x449, .f32⟩
  | .local _ .vmem, ⟨8, _⟩ => ⟨S256x449, .f32⟩
  | .local _ .vmem, ⟨9, _⟩ => ⟨S256x449, .f32⟩
  | .local _ .vmem, ⟨10, _⟩ => ⟨S256x449, .f32⟩
  | .local _ .vmem, ⟨11, _⟩ => ⟨S256x449, .f32⟩
  | .local _ .vmem, ⟨12, _⟩ => ⟨S256x449, .f32⟩
  | .local _ .vmem, ⟨13, _⟩ => ⟨S256x449, .f32⟩
  | .local _ .vmem, ⟨14, _⟩ => ⟨S256x449, .f32⟩
  | .local _ .vmem, ⟨15, _⟩ => ⟨S256x449, .f32⟩
  | .local _ .vmem, ⟨16, _⟩ => ⟨S256x449, .f32⟩
  | .local _ .vmem, ⟨17, _⟩ => ⟨S256x449, .f32⟩
  | .local _ .smem, ⟨0, _⟩ => ⟨S1, .i32⟩
  | _, _ => ⟨S8x1024x449, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x449 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x449 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x449 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x449 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x449 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x449 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x449 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x449 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x449 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel12Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== Reference12Ideal.lean ====
abbrev S8x1024x449 : Shape := ⟨3, ![8, 1024, 449]⟩
abbrev S1 : Shape := ⟨1, ![1]⟩
abbrev S1024x449 : Shape := ⟨2, ![1024, 449]⟩
abbrev S8 : Shape := ⟨1, ![8]⟩
abbrev S8x1x1 : Shape := ⟨3, ![8, 1, 1]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S8x1024x449, .f32⟩
  | .hbm, ⟨1, _⟩ => ⟨S8x1024x449, .f32⟩
  | .hbm, ⟨2, _⟩ => ⟨S1, .i32⟩
  | .hbm, ⟨3, _⟩ => ⟨S1024x449, .f32⟩
  | .hbm, ⟨4, _⟩ => ⟨S1024x449, .f32⟩
  | .hbm, ⟨5, _⟩ => ⟨S1024x449, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x1024x449, .i1⟩
  | .hbm, ⟨11, _⟩ => ⟨S8x1024x449, .f32⟩
  | .hbm, ⟨12, _⟩ => ⟨S_, .f32⟩
  | .hbm, ⟨13, _⟩ => ⟨S1024x449, .f32⟩
  | .hbm, ⟨14, _⟩ => ⟨S_, .f32⟩
  | .hbm, ⟨15, _⟩ => ⟨S1024x449, .f32⟩
  | .hbm, ⟨16, _⟩ => ⟨S1024x449, .f32⟩
  | .hbm, ⟨17, _⟩ => ⟨S_, .f32⟩
  | .hbm, ⟨18, _⟩ => ⟨S1024x449, .f32⟩
  | .hbm, ⟨19, _⟩ => ⟨S1024x449, .f32⟩
  | .hbm, ⟨20, _⟩ => ⟨S1024x449, .f32⟩
  | .hbm, ⟨21, _⟩ => ⟨S_, .f32⟩
  | .hbm, ⟨22, _⟩ => ⟨S1024x449, .f32⟩
  | .hbm, ⟨23, _⟩ => ⟨S1024x449, .f32⟩
  | .hbm, ⟨24, _⟩ => ⟨S1024x449, .f32⟩
  | .hbm, ⟨25, _⟩ => ⟨S_, .f32⟩
  | .hbm, ⟨26, _⟩ => ⟨S1024x449, .f32⟩
  | .hbm, ⟨27, _⟩ => ⟨S1024x449, .f32⟩
  | .hbm, ⟨28, _⟩ => ⟨S1024x449, .f32⟩
  | .hbm, ⟨29, _⟩ => ⟨S_, .f32⟩
  | .hbm, ⟨30, _⟩ => ⟨S1024x449, .f32⟩
  | .hbm, ⟨31, _⟩ => ⟨S1024x449, .f32⟩
  | .hbm, ⟨32, _⟩ => ⟨S_, .f32⟩
  | .hbm, ⟨33, _⟩ => ⟨S1024x449, .f32⟩
  | .hbm, ⟨34, _⟩ => ⟨S1024x449, .f32⟩
  | .hbm, ⟨35, _⟩ => ⟨S1024x449, .f32⟩
  | .hbm, ⟨36, _⟩ => ⟨S_, .f32⟩
  | .hbm, ⟨37, _⟩ => ⟨S1024x449, .f32⟩
  | .hbm, ⟨38, _⟩ => ⟨S1024x449, .f32⟩
  | .hbm, ⟨39, _⟩ => ⟨S1024x449, .f32⟩
  | .hbm, ⟨40, _⟩ => ⟨S_, .f32⟩
  | .hbm, ⟨41, _⟩ => ⟨S1024x449, .f32⟩
  | .hbm, ⟨42, _⟩ => ⟨S1024x449, .f32⟩
  | .hbm, ⟨43, _⟩ => ⟨S1024x449, .f32⟩
  | .hbm, ⟨44, _⟩ => ⟨S_, .f32⟩
  | .hbm, ⟨45, _⟩ => ⟨S1024x449, .f32⟩
  | .hbm, ⟨46, _⟩ => ⟨S1024x449, .f32⟩
  | _, _ => ⟨S8x1024x449, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Proof.Common.lean ====
/-
  Shared by the value proofs: extended reals that are real numbers. A finite array is the image of an array of reals
  (`real_of_lt`), sums, products, quotients and reciprocal square roots of such are images again, and the gradient of
  the root-mean-square normalisation is written once over the reals (`rmsBwd`) with the two spellings that occur.
-/
module

public import Idealize.ShloMosaic.Lib.Pointwise
public import Idealize.ShloMosaic.Lib.IdealHost
public import Idealize.ShloMosaic.Lib.ReduceAll
public import Idealize.ShloMosaic.Lib.StableHlo
public import Mathlib.Tactic.FieldSimp
public import Mathlib.Tactic.Ring
public import Mathlib.Tactic.Positivity
public import Mathlib.Tactic.Linarith

@[expose] public section

set_option maxRecDepth 16384

noncomputable section

open Idealize.ShloMosaic

namespace Cert.Common

/-- The f32 pattern of plus infinity. -/
theorem ofBits_inf : Ideal.ofBits .f32 0x7F800000#32 = ⊤ := by simp [Ideal.ofBits, Ideal.ieee]

/-- An extended real whose absolute value is below infinity is a real number. -/
theorem real_of_abs_lt (x : EReal) (h : max x (-x) < ⊤) : ∃ r : ℝ, x = (r : EReal) := by
  induction x using EReal.rec with
  | bot => simp at h
  | top => simp at h
  | coe r => exact ⟨r, rfl⟩

/-- An array that passes the printed test `abs a < inf` at every index is an array of reals. -/
theorem real_of_all {s t u : Shape} {axes : List (Fin s.rank)} [Subsingleton t.Idx] (a : FVec Ideal s .f32)
    {d : Fin (⟨0, ![]⟩ : Shape).rank → Fin s.rank} (hb : (⟨0, ![]⟩ : Shape).BroadcastsInDim s d) (init : u.Idx → BitVec 1)
    (h : s.ReducesTo axes t) (hu : 0 < u.numel) (j : t.Idx)
    (e : Host.reduce IntOp.andi (cmpf .olt (Host.absf a) (broadcastInDim s d hb (constant (⟨0, ![]⟩ : Shape) .f32 0x7F800000#32))) init h hu j = 1#1) :
    ∃ A : s.Idx → ℝ, a = fun i => (A i : EReal) := by
  have hall := Host.reduce_andi_all _ init h hu j e
  have hr : ∀ i, ∃ r : ℝ, a i = (r : EReal) := by
    intro i
    have hi : Ideal.cmp .olt (max (a i) (-(a i))) (Ideal.ofBits .f32 0x7F800000#32) = 1#1 := hall i
    rw [ofBits_inf] at hi
    apply real_of_abs_lt
    by_contra hc
    rw [show Ideal.cmp .olt (max (a i) (-(a i))) ⊤ = BitVec.ofBool (decide (max (a i) (-(a i)) < ⊤)) from rfl, decide_eq_false hc] at hi
    exact absurd hi (by decide)
  choose A hA using hr
  exact ⟨A, funext hA⟩

/-- A sum of images is the image of the sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_div (x y : ℝ) (h : y ≠ 0) : Ideal.div (x : EReal) (y : EReal) = ((x / y : ℝ) : EReal) := by
  rw [Ideal.div_coe h, ← EReal.coe_mul, mul_one_div]

theorem coe_rsqrt (x : ℝ) (h : 0 < x) : Ideal.rsqrt (x : EReal) = (((Real.sqrt x)⁻¹ : ℝ) : EReal) := by
  rw [Ideal.rsqrt_coe, if_neg (not_lt.mpr h.le), if_neg h.ne']

theorem coe_zero_add (x : ℝ) : (0 : EReal) + (x : EReal) = (x : EReal) := zero_add _

/-! ## The literals -/

theorem ofBits_1024 : Ideal.ofBits .f32 0x44800000#32 = ((1024 : ℝ) : EReal) := by
  simp [Ideal.ofBits, Ideal.ieee, -EReal.coe_mul]; norm_num

/-- The added constant of the norms: the value of the float next to one millionth. -/
def eps : ℝ := (2 ^ 23 + 407485 : ℕ) * (2 : ℝ) ^ (-43 : ℤ)

theorem eps_pos : 0 < eps := by unfold eps; positivity

theorem ofBits_eps : Ideal.ofBits .f32 0x358637BD#32 = (eps : EReal) := by
  simp [Ideal.ofBits, Ideal.ieee, -EReal.coe_mul, eps]

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

theorem ofBits_64 : Ideal.ofBits .f32 0x42800000#32 = ((64 : ℝ) : EReal) := by
  simp [Ideal.ofBits, Ideal.ieee, -EReal.coe_mul]; norm_num

theorem ofBits_neg_64th : Ideal.ofBits .f32 0xBC800000#32 = ((-(1 / 64) : ℝ) : EReal) := by
  simp [Ideal.ofBits, Ideal.ieee, -EReal.coe_mul, -EReal.coe_neg]; norm_num

/-! ## The root-mean-square norm of one row and its gradient, over the reals -/

variable {n : ℕ}

/-- The mean of the squares of a row of 1024, plus the constant. -/
def ms (x : Fin n → ℝ) : ℝ := (∑ k, x k * x k) / 1024 + eps

theorem ms_pos (x : Fin n → ℝ) : 0 < ms x := by
  have h : 0 ≤ ∑ k, x k * x k := Finset.sum_nonneg fun k _ => mul_self_nonneg _
  have := eps_pos
  unfold ms; positivity

/-- The reciprocal root mean square. -/
def rinv (x : Fin n → ℝ) : ℝ := (Real.sqrt (ms x))⁻¹

theorem rinv_sq (x : Fin n → ℝ) : rinv x * rinv x = 1 / ms x := by
  unfold rinv
  rw [← mul_inv, Real.mul_self_sqrt (ms_pos x).le, one_div]

/-- The gradient of the normalised row at the cotangent `d`. -/
def rmsBwd (x d : Fin n → ℝ) (k : Fin n) : ℝ := rinv x * (d k - x k * rinv x * ((∑ j, d j * (x j * rinv x)) / 1024))

/-- The gradient of the normalised row as reverse differentiation spells it: through the factor `x` and, twice, through
    the square under the reciprocal root. -/
theorem rms_vjp (x d : Fin n → ℝ) (k : Fin n) :
    d k * rinv x + x k * ((∑ j, x j * d j) * (-(1 / 2) * (rinv x / ms x)) / 1024) + (∑ j, x j * d j) * (-(1 / 2) * (rinv x / ms x)) / 1024 * x k
      = rmsBwd x d k := by
  have h := rinv_sq x
  have hs : ∑ j, d j * (x j * rinv x) = (∑ j, x j * d j) * rinv x := by
    rw [Finset.sum_mul]; exact Finset.sum_congr rfl fun j _ => by ring
  unfold rmsBwd
  rw [hs, show rinv x / ms x = rinv x * (rinv x * rinv x) by rw [h]; ring]
  ring

/-- `Ideal.rsqrt` of the mean square, as printed. -/
theorem rsqrt_ms (x : Fin n → ℝ) : Ideal.rsqrt (((∑ k, x k * x k) / 1024 + eps : ℝ) : EReal) = (rinv x : EReal) :=
  coe_rsqrt _ (ms_pos x)

/-! ## Small facts on matrices -/

theorem zero2 : (![0, 0] : Fin 2 → Nat) = fun _ => 0 := funext fun a => by fin_cases a <;> rfl

/-- An array read at its two indices is the array. -/
theorem ext2 {n k : ℕ} {v w : (⟨2, ![n, k]⟩ : Shape).Idx → EReal} (h : ∀ i j, v (ix2 i j) = w (ix2 i j)) : v = w := by
  funext i
  rw [eq_ix2 i]
  exact h _ _

/-- An index with the coordinates `a` and `b`. -/
theorem ix2_of {n k : ℕ} {f : (⟨2, ![n, k]⟩ : Shape).Idx} {a : Fin n} {b : Fin k} (h0 : (f 0).val = a.val) (h1 : (f 1).val = b.val) : f = ix2 a b :=
  (eq_ix2 f).trans (congrArg₂ ix2 (Fin.ext h0) (Fin.ext h1))

end Cert.Common
-- ==== Proof.MixSpec.lean ====
/-
  The attention output's gradient over the reals: what both programs of this pair compute.
-/
module

public import proofs.«01_k».proof.Proof.Common

@[expose] public section

noncomputable section

open Cert.Common

namespace Cert.MixSpec

variable (D : Fin 4096 → Fin 1024 → ℝ) (A B : Fin 4096 → Fin 512 → ℝ) (W : Fin 1024 → Fin 1024 → ℝ) (G : Fin 1024 → ℝ)

/-- The projected attention output: the two branches side by side times the weight. -/
def mix (i : Fin 4096) (k : Fin 1024) : ℝ :=
  (∑ j : Fin 512, A i j * W ⟨j.val, by have := j.isLt; omega⟩ k) + ∑ j : Fin 512, B i j * W ⟨512 + j.val, by have := j.isLt; omega⟩ k

/-- The same after the norm and its gain: what is added to the residual stream. -/
def branch (i : Fin 4096) (k : Fin 1024) : ℝ := mix A B W i k * rinv (mix A B W i) * G k

/-- Its gradient, through the norm after it. -/
def dmix (i : Fin 4096) (k : Fin 1024) : ℝ := rmsBwd (mix A B W i) (fun k => D i k * G k) k

/-- The norm weight's gradient. -/
def dgain (k : Fin 1024) : ℝ := ∑ i, D i k * (mix A B W i k * rinv (mix A B W i))

/-- The two branches' gradient. -/
def doab (i : Fin 4096) (j : Fin 1024) : ℝ := ∑ k, dmix D A B W G i k * W j k

/-- The head beside the head that lane `c` belongs to: the heads lie in pairs of 64 lanes, and the two of a pair are exchanged. -/
def mate (c : Fin 512) : Fin 8 := ⟨2 * (c.val / 128) + (1 - c.val / 64 % 2), by have := c.isLt; omega⟩

/-- The attention's row sums of output times gradient, per head, by minus one sixty-fourth, in the lanes of the head beside. -/
def nd (i : Fin 4096) (c : Fin 512) : ℝ :=
  (∑ d : Fin 64, (fun x : Fin 512 => doab D A B W G i ⟨512 + x.val, by have := x.isLt; omega⟩ * B i x)
    ⟨(mate c).val * 64 + d.val, by have := (mate c).isLt; have := d.isLt; omega⟩) * (-(1 / 64))

end Cert.MixSpec
-- ==== Proof.MixPay.lean ====
/-
  The payloads of the attention output's gradient kernel at real inputs, read at one index.
-/
module

public import proofs.«01_k».proof.Proof.MixSpec
public import proofs.«01_k».proof.Proof.Gen.KernelIdeal.Value

@[expose] public section

set_option maxRecDepth 16384

noncomputable section

open Idealize.ShloMosaic Idealize.ShloMosaic.TcCoe Idealize.SL.Sem
open Cert.Common

namespace Cert.KernelIdeal.Mix

open Cert.KernelIdeal Cert.KernelIdeal.Gen Cert.MixSpec

variable (X D : Fin 512 → Fin 1024 → ℝ) (G : Fin 1024 → ℝ)
variable (v3 v5 : Vec Ideal S512x1024 .f32) (g : Vec Ideal S1x1024 .f32)
variable (h3 : ∀ r k, v3 (ix2 r k) = (X r k : EReal)) (h5 : ∀ r k, v5 (ix2 r k) = (D r k : EReal)) (hg : ∀ k, g (ix2 0 k) = (G k : EReal))

include h3 in
theorem pay5_apply (r : Fin 512) : k0_pay5 v3 (ix2 r 0) = (rinv (X r) : EReal) := by
  pointwise [k0_pay5, k0_pay4]
  simp only [h3, ← EReal.coe_mul, coe_sum, ofBits_1024, ofBits_eps, coe_div _ _ (by norm_num : (1024 : ℝ) ≠ 0), ← EReal.coe_add, rsqrt_ms]

include h3 h5 hg in
theorem pay8_apply (r : Fin 512) (k : Fin 1024) :
    k0_pay8 v3 v5 g (ix2 r k) = (rmsBwd (X r) (fun k => D r k * G k) k : EReal) := by
  pointwise [k0_pay8, k0_pay6, k0_pay4]
  simp only [pay5_apply X v3 h3, h3, h5, hg, ← EReal.coe_mul, coe_sum, ofBits_1024, ofBits_eps, coe_div _ _ (by norm_num : (1024 : ℝ) ≠ 0), ← EReal.coe_sub, rmsBwd]

include h3 h5 in
theorem pay7_apply (a : Vec Ideal S1x1024 .f32) (k : Fin 1024) :
    k0_pay7 v3 v5 a (ix2 0 k) = a (ix2 0 k) + ((∑ r, D r k * (X r k * rinv (X r)) : ℝ) : EReal) := by
  pointwise [k0_pay7, k0_pay6, k0_pay4]
  simp only [pay5_apply X v3 h3, h3, h5, ← EReal.coe_mul, coe_sum]

variable (Y : Fin 512 → Fin 1024 → ℝ) (W : Fin 1024 → Fin 1024 → ℝ) (O : Fin 512 → Fin 512 → ℝ)
variable (v36 : FVec Ideal S512x1024 .bf16) (w : Vec Ideal S1024x1024 .bf16) (o : Vec Ideal S512x512 .f32)
variable (hy : ∀ r k, v36 (ix2 r k) = (Y r k : EReal)) (hw : ∀ r k, w (ix2 r k) = (W r k : EReal)) (ho : ∀ r k, o (ix2 r k) = (O r k : EReal))

include hy hw in
theorem pay1_apply (r : Fin 512) (j : Fin 1024) : k0_pay1 v36 w (ix2 r j) = ((∑ k, Y r k * W j k : ℝ) : EReal) := by
  pointwise [k0_pay1]
  simp only [hy, hw, ← EReal.coe_mul, coe_sum]

theorem shr6 : ∀ k : Fin 512, IntOp.shrui ArithUnit.vector (BitVec.ofNat 32 k.val) 6#32 = BitVec.ofNat 32 (k.val / 64) := by decide +kernel

theorem mate_bits : ∀ a b : Fin 8, BitVec.setWidth 32 (IntOp.cmpi CmpIPredicate.eq (BitVec.ofNat 32 a.val) (IntOp.xori (BitVec.ofNat 32 b.val) 1#32))
    = if a.val = 2 * (b.val / 2) + (1 - b.val % 2) then 1#32 else 0#32 := by decide +kernel

theorem mask_apply (x c : Fin 512) :
    (FloatOps.sitofp FTy.f32 (BitVec.setWidth 32 (IntOp.cmpi CmpIPredicate.eq (IntOp.shrui ArithUnit.vector (BitVec.ofNat 32 x.val) 6#32)
      (IntOp.xori (IntOp.shrui ArithUnit.vector (BitVec.ofNat 32 c.val) 6#32) 1#32))) : Ideal .f32)
    = ((if x.val / 64 = (mate c).val then 1 else 0 : ℝ) : EReal) := by
  rw [shr6, shr6]
  have hx := x.isLt
  have hc := c.isLt
  have h := mate_bits ⟨x.val / 64, by omega⟩ ⟨c.val / 64, by omega⟩
  dsimp only at h
  rw [h, show (mate c).val = 2 * (c.val / 64 / 2) + (1 - c.val / 64 % 2) by unfold mate; dsimp only; omega]
  split_ifs
  · show (((1#32 : BitVec 32).toInt : ℝ) : EReal) = _
    norm_num
  · show (((0#32 : BitVec 32).toInt : ℝ) : EReal) = _
    norm_num

/-- A sum under the mask of one block of 64 lanes is the sum over the block. -/
theorem sum_mask (f : Fin 512 → ℝ) (h : Fin 8) :
    ∑ x : Fin 512, f x * (if x.val / 64 = h.val then 1 else 0) = ∑ d : Fin 64, f ⟨h.val * 64 + d.val, by have := h.isLt; have := d.isLt; omega⟩ := by
  rw [Fin.sum_univ_tiles 8 64 rfl, Finset.sum_eq_single h]
  · refine Finset.sum_congr rfl fun d _ => ?_
    rw [if_pos (by have := d.isLt; dsimp only; omega), mul_one]
  · intro b _ hb
    refine Finset.sum_eq_zero fun d _ => ?_
    rw [if_neg (by have := d.isLt; have : b.val ≠ h.val := fun e => hb (Fin.ext e); dsimp only; omega), mul_zero]
  · intro h'; exact absurd (Finset.mem_univ _) h'

include hy hw ho in
theorem pay2_apply (r : Fin 512) (c : Fin 512) : k0_pay2 v36 w o (ix2 r c) =
    (((∑ d : Fin 64, (fun x : Fin 512 => (∑ k, Y r k * W ⟨512 + x.val, by have := x.isLt; omega⟩ k) * O r x)
      ⟨(mate c).val * 64 + d.val, by have := (mate c).isLt; have := d.isLt; omega⟩) * (-(1 / 64)) : ℝ) : EReal) := by
  pointwise [k0_pay2]
  simp only [pay1_apply Y W v36 w hy hw, ho, mask_apply, ofBits_neg_64th, ← EReal.coe_mul, ← EReal.coe_sub, sub_self, zero_mul, coe_sum, ← EReal.coe_add,
    Finset.sum_const_zero, add_zero]
  rw [sum_mask (fun x : Fin 512 => (∑ k, Y r k * W ⟨512 + x.val, by have := x.isLt; omega⟩ k) * O r x)]

end Cert.KernelIdeal.Mix
-- ==== Proof.MixOut.lean ====
/-
  What a grid point of the attention output's gradient kernel leaves in its four result blocks, as payloads of its
  input blocks; the norm weight's gradient is added up from point to point.
-/
module

public import proofs.«01_k».proof.Proof.MixPay

@[expose] public section

set_option maxRecDepth 16384

noncomputable section

open Idealize.ShloMosaic Idealize.ShloMosaic.TcCoe Idealize.SL.Sem
open Cert.Common

namespace Cert.KernelIdeal.Mix

open Cert.KernelIdeal Cert.KernelIdeal.Gen

variable (m : (ℓ : Loc nD τ sig) → Buf (Elt Ideal) ℓ)

theorem hz : (![0, 0] : Fin 2 → Nat) = fun _ => 0 := funext fun a => by fin_cases a <;> rfl

theorem out5 (c : Dev nD) (t : Fin cfg0.N) :
    (outsAt0 m c t.val t.isLt).1 = k0_pay8 (iblk m c 1 t) (iblk m c 0 t) (iblk m c 2 t) := by
  by_cases h : t.val % 8 = 0
  · rw [outsAt0_A m c t h]
    dsimp only
    unfold out0_A_5
    rw [View.read_writes_eq_canon _ _ _ (fun _ => cover0_A_5 ..)]
    unfold kernelRun0_A
    dsimp only
    sl_unfold_words
    rw [View.canon_unit_zero hz]
    simp only [View.readAt_eq_ld, Memref.IsWhole.read_unread, View.ld_unit_zero (S := S512x1024) hz, View.ld_unit_zero (S := S1x1024) hz,
      View.ld_unit_zero (S := S1024x1024) hz, View.ld_unit_zero (S := S512x512) hz]
  · rw [outsAt0_B m c t h]
    dsimp only
    unfold out0_B_5
    rw [View.read_writes_eq_canon _ _ _ (fun _ => cover0_B_5 ..)]
    unfold kernelRun0_B
    dsimp only
    sl_unfold_words
    rw [View.canon_unit_zero hz]
    simp only [View.readAt_eq_ld, Memref.IsWhole.read_unread, View.ld_unit_zero (S := S512x1024) hz, View.ld_unit_zero (S := S1x1024) hz,
      View.ld_unit_zero (S := S1024x1024) hz, View.ld_unit_zero (S := S512x512) hz]

theorem out6 (c : Dev nD) (t : Fin cfg0.N) :
    (outsAt0 m c t.val t.isLt).2.1 = k0_pay1 (k0_pay8 (iblk m c 1 t) (iblk m c 0 t) (iblk m c 2 t)) (iblk m c 3 t) := by
  by_cases h : t.val % 8 = 0
  · rw [outsAt0_A m c t h]
    dsimp only
    unfold out0_A_6
    rw [View.read_writes_eq_canon _ _ _ (fun _ => cover0_A_6 ..)]
    unfold kernelRun0_A
    dsimp only
    sl_unfold_words
    rw [View.canon_unit_zero hz]
    simp only [View.readAt_eq_ld, Memref.IsWhole.read_unread, View.ld_unit_zero (S := S512x1024) hz, View.ld_unit_zero (S := S1x1024) hz,
      View.ld_unit_zero (S := S1024x1024) hz, View.ld_unit_zero (S := S512x512) hz]
  · rw [outsAt0_B m c t h]
    dsimp only
    unfold out0_B_6
    rw [View.read_writes_eq_canon _ _ _ (fun _ => cover0_B_6 ..)]
    unfold kernelRun0_B
    dsimp only
    sl_unfold_words
    rw [View.canon_unit_zero hz]
    simp only [View.readAt_eq_ld, Memref.IsWhole.read_unread, View.ld_unit_zero (S := S512x1024) hz, View.ld_unit_zero (S := S1x1024) hz,
      View.ld_unit_zero (S := S1024x1024) hz, View.ld_unit_zero (S := S512x512) hz]

theorem out8 (c : Dev nD) (t : Fin cfg0.N) :
    (outsAt0 m c t.val t.isLt).2.2.2 = k0_pay2 (k0_pay8 (iblk m c 1 t) (iblk m c 0 t) (iblk m c 2 t)) (iblk m c 3 t) (iblk m c 4 t) := by
  by_cases h : t.val % 8 = 0
  · rw [outsAt0_A m c t h]
    dsimp only
    unfold out0_A_8
    rw [View.read_writes_eq_canon _ _ _ (fun _ => cover0_A_8 ..)]
    unfold kernelRun0_A
    dsimp only
    sl_unfold_words
    rw [View.canon_unit_zero hz]
    simp only [View.readAt_eq_ld, Memref.IsWhole.read_unread, View.ld_unit_zero (S := S512x1024) hz, View.ld_unit_zero (S := S1x1024) hz,
      View.ld_unit_zero (S := S1024x1024) hz, View.ld_unit_zero (S := S512x512) hz]
  · rw [outsAt0_B m c t h]
    dsimp only
    unfold out0_B_8
    rw [View.read_writes_eq_canon _ _ _ (fun _ => cover0_B_8 ..)]
    unfold kernelRun0_B
    dsimp only
    sl_unfold_words
    rw [View.canon_unit_zero hz]
    simp only [View.readAt_eq_ld, Memref.IsWhole.read_unread, View.ld_unit_zero (S := S512x1024) hz, View.ld_unit_zero (S := S1x1024) hz,
      View.ld_unit_zero (S := S1024x1024) hz, View.ld_unit_zero (S := S512x512) hz]

/-- The first point starts the weight's gradient from zero. -/
theorem out7_A (c : Dev nD) (t : Fin cfg0.N) (h : t.val % 8 = 0) :
    (outsAt0 m c t.val t.isLt).2.2.1 = k0_pay7 (iblk m c 1 t) (iblk m c 0 t) (k0_pay3 (F := Ideal)) := by
  rw [outsAt0_A m c t h]
  dsimp only
  unfold out0_A_7
  rw [View.read_writes_eq_canon _ _ _ (fun _ => cover0_A_7 ..)]
  unfold kernelRun0_A
  dsimp only
  sl_unfold_words
  rw [View.canon_cons_unit_zero (S := S1x1024) hz, View.readCov_unit_zero (S := S1x1024) _ hz]
  simp only [View.readAt_eq_ld, Memref.IsWhole.read_unread, View.ld_unit_zero (S := S512x1024) hz, View.ld_unit_zero (S := S1x1024) hz,
    View.ld_unit_zero (S := S1024x1024) hz, View.ld_unit_zero (S := S512x512) hz]

/-- A later point adds to what the point before left. -/
theorem out7_B (c : Dev nD) (t : Fin cfg0.N) (h : ¬t.val % 8 = 0) :
    (outsAt0 m c t.val t.isLt).2.2.1 = k0_pay7 (iblk m c 1 t) (iblk m c 0 t) (outsAt0 m c (t.val - 1) (Nat.lt_of_le_of_lt (Nat.sub_le _ _) t.isLt)).2.2.1 := by
  rw [outsAt0_B m c t h]
  dsimp only
  unfold out0_B_7
  rw [View.read_writes_eq_canon _ _ _ (fun _ => cover0_B_7 ..)]
  unfold kernelRun0_B
  dsimp only
  sl_unfold_words
  rw [View.canon_unit_zero hz]
  simp only [View.readAt_eq_ld, Memref.IsWhole.read_unread, View.ld_unit_zero (S := S512x1024) hz, View.ld_unit_zero (S := S1x1024) hz,
    View.ld_unit_zero (S := S1024x1024) hz, View.ld_unit_zero (S := S512x512) hz]

end Cert.KernelIdeal.Mix
-- ==== Proof.MixKernel.lean ====
/-
  The attention output's gradient kernel: its four result arrays after the run, as functions of the arguments over the
  reals.
-/
module

public import proofs.«01_k».proof.Proof.MixOut
public import Idealize.ShloMosaic.Lib.StableHlo.ReadAt

@[expose] public section

set_option maxRecDepth 16384

noncomputable section

open Idealize.ShloMosaic Idealize.ShloMosaic.TcCoe Idealize.SL.Sem
open Cert.Common

namespace Cert.KernelIdeal.Mix

open Cert.KernelIdeal Cert.KernelIdeal.Gen Cert.MixSpec

variable (m : (ℓ : Loc nD τ sig) → Buf (Elt Ideal) ℓ) (c : Dev nD)

/-! ## Where a block's index lies in its array -/

/-- Row `r` of point `t`'s block of rows. -/
def row (t : Fin cfg0.N) (r : Fin 512) : Fin 4096 := ⟨t.val * 512 + r.val, by have := t.isLt; have : cfg0.N = 8 := N_0; have := r.isLt; omega⟩

theorem emb0 (t : Fin cfg0.N) (r : Fin 512) (k : Fin 1024) : ((cfg0.win 0).blk t).view.emb (ix2 r k) = ix2 (row t r) k := by
  have e : win0_0.index t (0 : Fin 2) = t.val ∧ win0_0.index t (1 : Fin 2) = 0 :=
    (by decide +kernel : ∀ t : Fin grid0.N, win0_0.index t (0 : Fin 2) = t.val ∧ win0_0.index t (1 : Fin 2) = 0) t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (r : Fin 512) (k : Fin 1024) : ((cfg0.win 1).blk t).view.emb (ix2 r k) = ix2 (row t r) k := by
  have e : win0_1.index t (0 : Fin 2) = t.val ∧ win0_1.index t (1 : Fin 2) = 0 :=
    (by decide +kernel : ∀ t : Fin grid0.N, win0_1.index t (0 : Fin 2) = t.val ∧ win0_1.index t (1 : Fin 2) = 0) t
  funext a; apply Fin.ext
  match a with
  | ⟨0, _⟩ => show win0_1.index t (0 : Fin 2) * 512 + 1 * r.val = t.val * 512 + r.val; omega
  | ⟨1, _⟩ => show win0_1.index t (1 : Fin 2) * 1024 + 1 * k.val = k.val; omega

theorem emb2 (t : Fin cfg0.N) (r : Fin 1) (k : Fin 1024) : ((cfg0.win 2).blk t).view.emb (ix2 r k) = ix2 r k := by
  have e : win0_2.index t (0 : Fin 2) = 0 ∧ win0_2.index t (1 : Fin 2) = 0 :=
    (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 1 + 1 * r.val = r.val; omega
  | ⟨1, _⟩ => show win0_2.index t (1 : Fin 2) * 1024 + 1 * k.val = k.val; omega

theorem emb3 (t : Fin cfg0.N) (r : Fin 1024) (k : Fin 1024) : ((cfg0.win 3).blk t).view.emb (ix2 r k) = ix2 r k := by
  have e : win0_3.index t (0 : Fin 2) = 0 ∧ win0_3.index t (1 : Fin 2) = 0 :=
    (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 1024 + 1 * r.val = r.val; omega
  | ⟨1, _⟩ => show win0_3.index t (1 : Fin 2) * 1024 + 1 * k.val = k.val; omega

theorem emb4 (t : Fin cfg0.N) (r : Fin 512) (k : Fin 512) : ((cfg0.win 4).blk t).view.emb (ix2 r k) = ix2 (row t r) k := by
  have e : win0_4.index t (0 : Fin 2) = t.val ∧ win0_4.index t (1 : Fin 2) = 0 :=
    (by decide +kernel : ∀ t : Fin grid0.N, win0_4.index t (0 : Fin 2) = t.val ∧ win0_4.index t (1 : Fin 2) = 0) t
  funext a; apply Fin.ext
  match a with
  | ⟨0, _⟩ => show win0_4.index t (0 : Fin 2) * 512 + 1 * r.val = t.val * 512 + r.val; omega
  | ⟨1, _⟩ => show win0_4.index t (1 : Fin 2) * 512 + 1 * k.val = k.val; omega

theorem emb5 (t : Fin cfg0.N) (r : Fin 512) (k : Fin 1024) : ((cfg0.win 5).blk t).view.emb (ix2 r k) = ix2 (row t r) k := by
  have e : win0_5.index t (0 : Fin 2) = t.val ∧ win0_5.index t (1 : Fin 2) = 0 :=
    (by decide +kernel : ∀ t : Fin grid0.N, win0_5.index t (0 : Fin 2) = t.val ∧ win0_5.index t (1 : Fin 2) = 0) t
  funext a; apply Fin.ext
  match a with
  | ⟨0, _⟩ => show win0_5.index t (0 : Fin 2) * 512 + 1 * r.val = t.val * 512 + r.val; omega
  | ⟨1, _⟩ => show win0_5.index t (1 : Fin 2) * 1024 + 1 * k.val = k.val; omega

theorem emb6 (t : Fin cfg0.N) (r : Fin 512) (k : Fin 1024) : ((cfg0.win 6).blk t).view.emb (ix2 r k) = ix2 (row t r) k := by
  have e : win0_6.index t (0 : Fin 2) = t.val ∧ win0_6.index t (1 : Fin 2) = 0 :=
    (by decide +kernel : ∀ t : Fin grid0.N, win0_6.index t (0 : Fin 2) = t.val ∧ win0_6.index t (1 : Fin 2) = 0) t
  funext a; apply Fin.ext
  match a with
  | ⟨0, _⟩ => show win0_6.index t (0 : Fin 2) * 512 + 1 * r.val = t.val * 512 + r.val; omega
  | ⟨1, _⟩ => show win0_6.index t (1 : Fin 2) * 1024 + 1 * k.val = k.val; omega

theorem emb7 (t : Fin cfg0.N) (r : Fin 1) (k : Fin 1024) : ((cfg0.win 7).blk t).view.emb (ix2 r k) = ix2 r k := by
  have e : win0_7.index t (0 : Fin 2) = 0 ∧ win0_7.index t (1 : Fin 2) = 0 :=
    (by decide +kernel : ∀ t : Fin grid0.N, win0_7.index t (0 : Fin 2) = 0 ∧ win0_7.index t (1 : Fin 2) = 0) t
  funext a; apply Fin.ext
  match a with
  | ⟨0, _⟩ => show win0_7.index t (0 : Fin 2) * 1 + 1 * r.val = r.val; omega
  | ⟨1, _⟩ => show win0_7.index t (1 : Fin 2) * 1024 + 1 * k.val = k.val; omega

theorem emb8 (t : Fin cfg0.N) (r : Fin 512) (k : Fin 512) : ((cfg0.win 8).blk t).view.emb (ix2 r k) = ix2 (row t r) k := by
  have e : win0_8.index t (0 : Fin 2) = t.val ∧ win0_8.index t (1 : Fin 2) = 0 :=
    (by decide +kernel : ∀ t : Fin grid0.N, win0_8.index t (0 : Fin 2) = t.val ∧ win0_8.index t (1 : Fin 2) = 0) t
  funext a; apply Fin.ext
  match a with
  | ⟨0, _⟩ => show win0_8.index t (0 : Fin 2) * 512 + 1 * r.val = t.val * 512 + r.val; omega
  | ⟨1, _⟩ => show win0_8.index t (1 : Fin 2) * 512 + 1 * k.val = k.val; omega

/-! ## The arrays at region entry, and the points' input blocks -/

variable (D : Fin 4096 → Fin 1024 → ℝ) (A B : Fin 4096 → Fin 512 → ℝ) (W : Fin 1024 → Fin 1024 → ℝ) (G : Fin 1024 → ℝ)

/-- Device `c`'s arguments are these real arrays. -/
structure Args : Prop where
  h0 : ∀ i k, (m ((c : Thread nD τ).loc main_arg0) : FVec Ideal S4096x1024 .f32) (ix2 i k) = (D i k : EReal)
  h1 : ∀ i k, (m ((c : Thread nD τ).loc main_arg1) : FVec Ideal S4096x512 .f32) (ix2 i k) = (A i k : EReal)
  h2 : ∀ i k, (m ((c : Thread nD τ).loc main_arg2) : FVec Ideal S4096x512 .f32) (ix2 i k) = (B i k : EReal)
  h3 : ∀ i k, (m ((c : Thread nD τ).loc main_arg3) : FVec Ideal S1024x1024 .f32) (ix2 i k) = (W i k : EReal)
  h4 : ∀ k, (m ((c : Thread nD τ).loc main_arg4) : FVec Ideal S1x1024 .f32) (ix2 0 k) = (G k : EReal)

variable (h : Args m c D A B W G)

include h in
theorem mix_at (i : Fin 4096) (k : Fin 1024) : (V m c main_v3 : FVec Ideal S4096x1024 .f32) (ix2 i k) = (mix A B W i k : EReal) := by
  unfold V hostOps0
  after_reads_at
  after_reads_simp
  all_goals try simp -implicitDefEqProofs only [StableHlo.TRef.toBuf, StableHlo.TRef.ofBuf, cast_cast, cast_eq]
  all_goals clean_types
  unfold mix
  rw [EReal.coe_add, ← coe_sum, ← coe_sum]
  simp only [EReal.coe_mul]
  exact congrArg₂ _ (Finset.sum_congr rfl fun j _ => congrArg₂ _ (h.h1 i j) (h.h3 _ k)) (Finset.sum_congr rfl fun j _ => congrArg₂ _ (h.h2 i j) (h.h3 _ k))

include h in
theorem w_at (i : Fin 1024) (k : Fin 1024) : (V m c main_v0 : FVec Ideal S1024x1024 .bf16) (ix2 i k) = (W i k : EReal) := by
  unfold V hostOps0
  after_reads_at
  exact h.h3 _ _

include h in
theorem block0 (t : Fin cfg0.N) (r : Fin 512) (k : Fin 1024) : iblk m c 0 t (ix2 r k) = (D (row t r) k : EReal) := by
  show V m c main_arg0 (((cfg0.win 0).blk t).view.emb (ix2 r k)) = _
  rw [emb0, V_main_arg0]; exact h.h0 _ _

include h in
theorem block1 (t : Fin cfg0.N) (r : Fin 512) (k : Fin 1024) : iblk m c 1 t (ix2 r k) = (mix A B W (row t r) k : EReal) := by
  show V m c main_v3 (((cfg0.win 1).blk t).view.emb (ix2 r k)) = _
  rw [emb1]; exact mix_at m c D A B W G h _ _

include h in
theorem block2 (t : Fin cfg0.N) (k : Fin 1024) : iblk m c 2 t (ix2 0 k) = (G k : EReal) := by
  show V m c main_arg4 (((cfg0.win 2).blk t).view.emb (ix2 0 k)) = _
  rw [emb2, V_main_arg4]; exact h.h4 _

include h in
theorem block3 (t : Fin cfg0.N) (r : Fin 1024) (k : Fin 1024) : iblk m c 3 t (ix2 r k) = (W r k : EReal) := by
  show V m c main_v0 (((cfg0.win 3).blk t).view.emb (ix2 r k)) = _
  rw [emb3]; exact w_at m c D A B W G h _ _

include h in
theorem block4 (t : Fin cfg0.N) (r : Fin 512) (k : Fin 512) : iblk m c 4 t (ix2 r k) = (B (row t r) k : EReal) := by
  show V m c main_arg2 (((cfg0.win 4).blk t).view.emb (ix2 r k)) = _
  rw [emb4, V_main_arg2]; exact h.h2 _ _

/-! ## The blocks a point leaves -/

include h in
theorem left5 (t : Fin cfg0.N) (r : Fin 512) (k : Fin 1024) :
    (outsAt0 m c t.val t.isLt).1 (ix2 r k) = (dmix D A B W G (row t r) k : EReal) := by
  rw [out5]
  exact pay8_apply _ _ G _ _ _ (block1 m c D A B W G h t) (block0 m c D A B W G h t) (block2 m c D A B W G h t) r k

include h in
theorem left6 (t : Fin cfg0.N) (r : Fin 512) (j : Fin 1024) :
    (outsAt0 m c t.val t.isLt).2.1 (ix2 r j) = (doab D A B W G (row t r) j : EReal) := by
  rw [out6]
  exact pay1_apply (fun r k => dmix D A B W G (row t r) k) W _ _
    (fun r k => by rw [← out5]; exact left5 m c D A B W G h t r k) (block3 m c D A B W G h t) r j

include h in
theorem left8 (t : Fin cfg0.N) (r : Fin 512) (k : Fin 512) :
    (outsAt0 m c t.val t.isLt).2.2.2 (ix2 r k) = (nd D A B W G (row t r) k : EReal) := by
  rw [out8]
  exact pay2_apply (fun r k => dmix D A B W G (row t r) k) W (fun r k => B (row t r) k) _ _ _
    (fun r k => by rw [← out5]; exact left5 m c D A B W G h t r k) (block3 m c D A B W G h t) (block4 m c D A B W G h t) r k

/-- The weight's gradient after point `n`: the sum over the rows of the points so far. -/
def part (n : ℕ) (k : Fin 1024) : ℝ := ∑ s ∈ Finset.range (n + 1), if hs : s < cfg0.N then
  ∑ r : Fin 512, D (row ⟨s, hs⟩ r) k * (mix A B W (row ⟨s, hs⟩ r) k * rinv (mix A B W (row ⟨s, hs⟩ r))) else 0

include h in
theorem left7 : ∀ (n : ℕ) (hn : n < cfg0.N) (k : Fin 1024), (outsAt0 m c n hn).2.2.1 (ix2 0 k) = (part D A B W n k : EReal)
  | 0, hn, k => by
    have e := out7_A m c ⟨0, hn⟩ rfl
    dsimp only at e
    rw [e, pay7_apply _ _ _ _ (block1 m c D A B W G h _) (block0 m c D A B W G h _)]
    unfold part
    rw [Finset.sum_range_one, dif_pos hn]
    pointwise [k0_pay3]
  | n + 1, hn, k => by
    have hN : cfg0.N = 8 := N_0
    have e := out7_B m c ⟨n + 1, hn⟩ (by dsimp only; omega)
    dsimp only [Nat.add_sub_cancel] at e
    rw [e, pay7_apply _ _ _ _ (block1 m c D A B W G h _) (block0 m c D A B W G h _)]
    show (outsAt0 m c n _).2.2.1 (ix2 0 k) + _ = _
    rw [left7 n (by omega) k, ← EReal.coe_add]
    unfold part
    rw [Finset.sum_range_succ _ (n + 1), dif_pos hn]

/-- After the last point it is the sum over all rows. -/
theorem part_last (k : Fin 1024) : part D A B W 7 k = dgain D A B W k := by
  have hN : cfg0.N = 8 := N_0
  unfold part dgain
  rw [Fin.sum_univ_tiles 8 512 rfl, Finset.sum_range]
  refine Finset.sum_congr rfl fun s _ => ?_
  rw [dif_pos (by have := s.isLt; omega)]
  rfl

/-! ## The result arrays -/

/-- The point whose tile holds row `i`. -/
def tile (i : Fin 4096) : Fin cfg0.N := ⟨i.val / 512, by have hN : cfg0.N = 8 := N_0; have := i.isLt; omega⟩

/-- Row `i`'s place in its tile. -/
def inTile (i : Fin 4096) : Fin 512 := ⟨i.val % 512, by omega⟩

theorem row_tile (i : Fin 4096) : row (tile i) (inTile i) = i := by
  apply Fin.ext
  show i.val / 512 * 512 + i.val % 512 = i.val
  omega

/-- The last point. -/
def lastPt : Fin cfg0.N := ⟨7, by have hN : cfg0.N = 8 := N_0; omega⟩

include h in
theorem final5 : (dats m 0 c).arrAt 5 cfg0.N = fun i : S4096x1024.Idx => (dmix D A B W G (i 0) (i 1) : EReal) := by
  refine (dats m 0 c).arrAt_eq_of_cover 5 _ (fun t _ => ?_) fun i => ?_
  · rw [Value.flushed5]
    funext j
    obtain ⟨r, k, rfl⟩ : ∃ (r : Fin 512) (k : Fin 1024), j = ix2 r k := ⟨j 0, j 1, eq_ix2 j⟩
    refine (left5 m c D A B W G h t r k).trans ?_
    show _ = (fun i : S4096x1024.Idx => (dmix D A B W G (i 0) (i 1) : EReal)) (((cfg0.win 5).blk t).view.emb (ix2 r k))
    rw [emb5]
    rfl
  · obtain ⟨r, k, rfl⟩ : ∃ (r : Fin 4096) (k : Fin 1024), i = ix2 r k := ⟨i 0, i 1, eq_ix2 i⟩
    have e := ((cfg0.win 5).blk (tile r)).view.emb_mem_set (ix2 (inTile r) k)
    rw [emb5, row_tile] at e
    exact ⟨tile r, flush0_5 _, e⟩

include h in
theorem final6 : (dats m 0 c).arrAt 6 cfg0.N = fun i : S4096x1024.Idx => (doab D A B W G (i 0) (i 1) : EReal) := by
  refine (dats m 0 c).arrAt_eq_of_cover 6 _ (fun t _ => ?_) fun i => ?_
  · rw [Value.flushed6]
    funext j
    obtain ⟨r, k, rfl⟩ : ∃ (r : Fin 512) (k : Fin 1024), j = ix2 r k := ⟨j 0, j 1, eq_ix2 j⟩
    refine (left6 m c D A B W G h t r k).trans ?_
    show _ = (fun i : S4096x1024.Idx => (doab D A B W G (i 0) (i 1) : EReal)) (((cfg0.win 6).blk t).view.emb (ix2 r k))
    rw [emb6]
    rfl
  · obtain ⟨r, k, rfl⟩ : ∃ (r : Fin 4096) (k : Fin 1024), i = ix2 r k := ⟨i 0, i 1, eq_ix2 i⟩
    have e := ((cfg0.win 6).blk (tile r)).view.emb_mem_set (ix2 (inTile r) k)
    rw [emb6, row_tile] at e
    exact ⟨tile r, flush0_6 _, e⟩

include h in
theorem final8 : (dats m 0 c).arrAt 8 cfg0.N = fun i : S4096x512.Idx => (nd D A B W G (i 0) (i 1) : EReal) := by
  refine (dats m 0 c).arrAt_eq_of_cover 8 _ (fun t _ => ?_) fun i => ?_
  · rw [Value.flushed8]
    funext j
    obtain ⟨r, k, rfl⟩ : ∃ (r : Fin 512) (k : Fin 512), j = ix2 r k := ⟨j 0, j 1, eq_ix2 j⟩
    refine (left8 m c D A B W G h t r k).trans ?_
    show _ = (fun i : S4096x512.Idx => (nd D A B W G (i 0) (i 1) : EReal)) (((cfg0.win 8).blk t).view.emb (ix2 r k))
    rw [emb8]
    rfl
  · obtain ⟨r, k, rfl⟩ : ∃ (r : Fin 4096) (k : Fin 512), i = ix2 r k := ⟨i 0, i 1, eq_ix2 i⟩
    have e := ((cfg0.win 8).blk (tile r)).view.emb_mem_set (ix2 (inTile r) k)
    rw [emb8, row_tile] at e
    exact ⟨tile r, flush0_8 _, e⟩

include h in
theorem final7 : (dats m 0 c).arrAt 7 cfg0.N = fun i : S1x1024.Idx => (dgain D A B W (i 1) : EReal) := by
  refine (dats m 0 c).arrAt_eq_of_cover 7 _ (fun t ht => ?_) fun i => ?_
  · rw [Value.flushed7]
    have h7 : t = lastPt := by
      have hN : cfg0.N = 8 := N_0
      have := (flush0_7 t).mp ht
      have hl : t.val < cfg0.N := t.isLt
      apply Fin.ext
      show t.val = 7
      omega
    subst h7
    funext j
    obtain ⟨r, k, rfl⟩ : ∃ (r : Fin 1) (k : Fin 1024), j = ix2 r k := ⟨j 0, j 1, eq_ix2 j⟩
    obtain rfl : r = 0 := Subsingleton.elim _ _
    refine (left7 m c D A B W G h 7 lastPt.isLt k).trans ?_
    rw [part_last]
    show _ = (fun i : S1x1024.Idx => (dgain D A B W (i 1) : EReal)) (((cfg0.win 7).blk lastPt).view.emb (ix2 0 k))
    rw [emb7]
    rfl
  · obtain ⟨r, k, rfl⟩ : ∃ (r : Fin 1) (k : Fin 1024), i = ix2 r k := ⟨i 0, i 1, eq_ix2 i⟩
    have e := ((cfg0.win 7).blk lastPt).view.emb_mem_set (ix2 r k)
    rw [emb7] at e
    exact ⟨lastPt, (flush0_7 _).mpr rfl, e⟩

end Cert.KernelIdeal.Mix
-- ==== Proof.MixRef.lean ====
/-
  The reference of the attention output's gradient at real inputs: each result read at one index.
-/
module

public import proofs.«01_k».proof.Proof.MixSpec
public import proofs.«01_k».proof.Proof.Gen.ReferenceIdeal.Read

@[expose] public section

set_option maxRecDepth 16384

noncomputable section

open Idealize.ShloMosaic Idealize.ShloMosaic.TcCoe Idealize.SL.Sem
open Cert.Common

namespace Cert.ReferenceIdeal.Mix

open Cert.ReferenceIdeal Cert.ReferenceIdeal.Gen Cert.ReferenceIdeal.Read Cert.MixSpec

variable (x0 : FVec Ideal S4096x1024 .f32) (x1 x2 : FVec Ideal S4096x512 .f32) (x3 : FVec Ideal S1024x1024 .f32) (x4 : FVec Ideal S1x1024 .f32)
variable (D : Fin 4096 → Fin 1024 → ℝ) (A B : Fin 4096 → Fin 512 → ℝ) (W : Fin 1024 → Fin 1024 → ℝ) (G : Fin 1024 → ℝ)
variable (h0 : ∀ i k, x0 (ix2 i k) = (D i k : EReal)) (h1 : ∀ i k, x1 (ix2 i k) = (A i k : EReal)) (h2 : ∀ i k, x2 (ix2 i k) = (B i k : EReal))
  (h3 : ∀ i k, x3 (ix2 i k) = (W i k : EReal)) (h4 : ∀ k, x4 (ix2 0 k) = (G k : EReal))

include h1 h2 h3 in
theorem v1_at (i : Fin 4096) (k : Fin 1024) : val_main_v1 (F := Ideal) x1 x2 x3 (ix2 i k) = (mix A B W i k : EReal) := by
  pointwise [val_main_v1, val_main_v0]
  simp only [h1, h2, h3, ← EReal.coe_mul, coe_sum, ← EReal.coe_add, mix]

include h1 h2 h3 in
theorem v9_at (i : Fin 4096) : val_main_v9 (F := Ideal) x1 x2 x3 (ix2 i 0) = (ms (mix A B W i) : EReal) := by
  pointwise [val_main_v9, val_main_v8, val_main_v7, val_main_v6, val_main_v5, val_main_v4, val_main_v3, val_main_cst, val_main_cst_0, val_main_cst_1]
  simp only [v1_at x1 x2 x3 A B W h1 h2 h3, ← EReal.coe_mul, coe_sum, ofBits_1024, ofBits_eps, coe_div _ _ (by norm_num : (1024 : ℝ) ≠ 0), ← EReal.coe_add, ms]

include h1 h2 h3 in
theorem v10_at (i : Fin 4096) : val_main_v10 (F := Ideal) x1 x2 x3 (ix2 i 0) = (rinv (mix A B W i) : EReal) := by
  pointwise [val_main_v10]
  rw [v9_at x1 x2 x3 A B W h1 h2 h3]
  exact coe_rsqrt _ (ms_pos _)

include h1 h2 h3 in
theorem v13_at (i : Fin 4096) (z : Fin 1) : val_main_v13 (F := Ideal) x1 x2 x3 (ix2 i z) = ((-(1 / 2) * (rinv (mix A B W i) / ms (mix A B W i)) : ℝ) : EReal) := by
  obtain rfl : z = 0 := Subsingleton.elim _ _
  pointwise [val_main_v13, val_main_v12, val_main_v11, val_main_cst_2]
  simp only [v9_at x1 x2 x3 A B W h1 h2 h3, v10_at x1 x2 x3 A B W h1 h2 h3, ofBits_neg_half, coe_div _ _ (ms_pos _).ne', ← EReal.coe_mul]

include h0 h4 in
theorem v23_at (i : Fin 4096) (k : Fin 1024) : val_main_v23 (F := Ideal) x0 x4 (ix2 i k) = ((D i k * G k : ℝ) : EReal) := by
  pointwise [val_main_v23, val_main_v22, val_main_v16, val_main_v2]
  simp only [h0, h4, ← EReal.coe_mul]

include h0 h1 h2 h3 h4 in
theorem v38_at (i : Fin 4096) (k : Fin 1024) : val_main_v38 (F := Ideal) x0 x1 x2 x3 x4 (ix2 i k) = (dmix D A B W G i k : EReal) := by
  pointwise [val_main_v38, val_main_v37, val_main_v36, val_main_v35, val_main_v34, val_main_v33, val_main_v32, val_main_v31, val_main_v30, val_main_v29,
    val_main_v28, val_main_v27, val_main_v26, val_main_v25, val_main_cst_5, val_main_cst_6, val_main_cst_7]
  simp only [v1_at x1 x2 x3 A B W h1 h2 h3, v10_at x1 x2 x3 A B W h1 h2 h3, v13_at x1 x2 x3 A B W h1 h2 h3, v23_at x0 x4 D G h0 h4, ofBits_1024,
    ← EReal.coe_mul, coe_sum, coe_div _ _ (by norm_num : (1024 : ℝ) ≠ 0), ← EReal.coe_add, Finset.univ_unique, Finset.sum_singleton]
  rw [dmix, ← rms_vjp]

include h0 h1 h2 h3 h4 in
theorem v52_at (i : Fin 4096) (k : Fin 1024) : val_main_v52 (F := Ideal) x0 x1 x2 x3 x4 (ix2 i k) = (dmix D A B W G i k : EReal) := by
  pointwise [val_main_v52]
  exact v38_at x0 x1 x2 x3 x4 D A B W G h0 h1 h2 h3 h4 i k

include h0 h1 h2 h3 h4 in
theorem v40_at (i : Fin 4096) (j : Fin 1024) : val_main_v40 (F := Ideal) x0 x1 x2 x3 x4 (ix2 i j) = (doab D A B W G i j : EReal) := by
  pointwise [val_main_v40]
  simp only [v38_at x0 x1 x2 x3 x4 D A B W G h0 h1 h2 h3 h4, h3, ← EReal.coe_mul, coe_sum, doab]

include h0 h1 h2 h3 in
theorem v39_at (k : Fin 1024) : val_main_v39 (F := Ideal) x0 x1 x2 x3 (ix2 0 k) = (dgain D A B W k : EReal) := by
  pointwise [val_main_v39, val_main_v24, val_main_v21, val_main_v20, val_main_v19, val_main_v15, val_main_v14, val_main_cst_3, val_main_cst_4]
  simp only [v1_at x1 x2 x3 A B W h1 h2 h3, v10_at x1 x2 x3 A B W h1 h2 h3, h0, ← EReal.coe_mul, coe_sum, dgain, Finset.univ_unique, Finset.sum_singleton]
  exact congrArg _ (Finset.sum_congr rfl fun i _ => by ring)

include h0 h1 h2 h3 h4 in
theorem v51_at (i : Fin 4096) (c : Fin 512) : val_main_v51 (F := Ideal) x0 x1 x2 x3 x4 (ix2 i c) = (nd D A B W G i c : EReal) := by
  pointwise [val_main_v51, val_main_v50, val_main_v49, val_main_v48, val_main_v47, val_main_v46, val_main_v45, val_main_v44, val_main_v43, val_main_v42, val_main_v41, val_main_cst_8, val_main_cst_9]
  have e : c.val / 128 * 2 + (2 - (c.val / 64 % 2 + 1)) = (mate c).val := by unfold mate; dsimp only; omega
  simp only [List.mem_singleton, Fin.reduceEq, ↓reduceIte, Fin.val_rev, e]
  simp only [v40_at x0 x1 x2 x3 x4 D A B W G h0 h1 h2 h3 h4, h2, ← EReal.coe_mul, coe_sum, ofBits_64, ← EReal.coe_neg, coe_div _ _ (by norm_num : (64 : ℝ) ≠ 0), nd]
  exact congrArg _ (by ring)

end Cert.ReferenceIdeal.Mix
-- ==== Proof.MixPair.lean ====
/-
  The output projection's backward call and its `jax.vjp` reference end with the same four arrays: the frames of both
  programs, and the value claim under finite arguments.
-/
module

public import proofs.«01_k».proof.Defs
public import proofs.«01_k».proof.Proof.Gen.Kernel.Frame
public import proofs.«01_k».proof.Proof.Gen.Pre_finite1
public import proofs.«01_k».proof.Proof.MixKernel
public import proofs.«01_k».proof.Proof.MixRef

@[expose] public section

set_option maxRecDepth 16384

noncomputable section

namespace Cert.Mix

open Idealize.ShloMosaic Idealize.SL.Sem Cert.Common Cert.MixSpec

/-- Finite arguments are real ones. -/
theorem real_args (m : (ℓ : Loc KernelIdeal.nD KernelIdeal.τ KernelIdeal.sig) → Buf (Elt Ideal) ℓ) (hpre : Pre_KernelIdeal_finite1 m) (c : Dev KernelIdeal.nD) :
    ∃ D A B W G, KernelIdeal.Mix.Args m c D A B W G := by
  have e := congrFun (hpre c) (fun d : Fin 0 => d.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨D, hD⟩ := real_of_all _ _ _ _ _ _ e0
  obtain ⟨A, hA⟩ := real_of_all _ _ _ _ _ _ e1
  obtain ⟨B, hB⟩ := real_of_all _ _ _ _ _ _ e2
  obtain ⟨W, hW⟩ := real_of_all _ _ _ _ _ _ e3
  obtain ⟨G, hG⟩ := real_of_all _ _ _ _ _ _ e4
  exact ⟨fun i k => D (ix2 i k), fun i k => A (ix2 i k), fun i k => B (ix2 i k), fun i k => W (ix2 i k), fun k => G (ix2 0 k),
    fun i k => congrFun hD _, fun i k => congrFun hA _, fun i k => congrFun hB _, fun i k => congrFun hW _, fun k => congrFun hG _⟩

/-- The reference's frame. -/
theorem frame_reference : quiescent_ReferenceIdeal := fun m ρ _ =>
  (θ_run ReferenceIdeal.defs _ _).mono (fun r h => ⟨fun c => (h c).2.2.2.2, sem_eq_zero_of_no_sems (by decide) r.2⟩)
    (ReferenceIdeal.Value.run (F := Ideal) m ρ)

/-- The four results agree. -/
theorem value : algebraic_KernelIdeal_ReferenceIdeal_pre_finite1 := by
  intro m g m' g' hpre hargs
  choose D A B W G h using real_args m hpre
  refine ⟨fun c => fun i => (dmix (D c) (A c) (B c) (W c) (G c) (i 0) (i 1) : EReal), fun c => fun i => (doab (D c) (A c) (B c) (W c) (G c) (i 0) (i 1) : EReal),
    fun c => fun i => (dgain (D c) (A c) (B c) (W c) (i 1) : EReal), fun c => fun i => (nd (D c) (A c) (B c) (W c) (G c) (i 0) (i 1) : EReal), ?_, ?_⟩
  · refine (θ_run KernelIdeal.defs _ _).mono (fun r hr c => ?_) (KernelIdeal.Value.run_blocks (F := Ideal) m g)
    obtain ⟨h5, h6, h7, h8, hk⟩ := hr c
    exact ⟨h5.trans (KernelIdeal.Mix.final5 m c _ _ _ _ _ (h c)), h6.trans (KernelIdeal.Mix.final6 m c _ _ _ _ _ (h c)),
      h7.trans (KernelIdeal.Mix.final7 m c _ _ _ _ _ (h c)), h8.trans (KernelIdeal.Mix.final8 m c _ _ _ _ _ (h c)), hk⟩
  · refine (θ_run ReferenceIdeal.defs _ _).mono (fun r hr c => ?_) (ReferenceIdeal.Value.run (F := Ideal) m' g')
    obtain ⟨r0, r1, r2, r3, hk⟩ := hr c
    obtain ⟨a0, a1, a2, a3, a4⟩ := hargs c
    obtain ⟨h0, h1, h2, h3, h4⟩ := h c
    refine ⟨r0.trans ((ReferenceIdeal.Read.val_main_v52_eq m' c).trans ?_), r1.trans ((ReferenceIdeal.Read.val_main_v40_eq m' c).trans ?_),
      r2.trans ((ReferenceIdeal.Read.val_main_v39_eq _ _ _ _).trans ?_), r3.trans ((ReferenceIdeal.Read.val_main_v51_eq m' c).trans ?_), hk⟩
    · rw [a0, a1, a2, a3, a4]
      exact ext2 fun i k => ReferenceIdeal.Mix.v52_at _ _ _ _ _ _ _ _ _ _ h0 h1 h2 h3 h4 i k
    · rw [a0, a1, a2, a3, a4]
      exact ext2 fun i k => ReferenceIdeal.Mix.v40_at _ _ _ _ _ _ _ _ _ _ h0 h1 h2 h3 h4 i k
    · rw [a0, a1, a2, a3]
      refine ext2 fun i k => ?_
      obtain rfl : i = 0 := Subsingleton.elim _ _
      exact ReferenceIdeal.Mix.v39_at _ _ _ _ _ _ _ _ h0 h1 h2 h3 k
    · rw [a0, a1, a2, a3, a4]
      exact ext2 fun i k => ReferenceIdeal.Mix.v51_at _ _ _ _ _ _ _ _ _ _ h0 h1 h2 h3 h4 i k

end Cert.Mix
-- ==== Proof.ProjSpec.lean ====
/-
  The gradients of the mixer's input norm over the reals, and the column order of the fused projection: the first 2048
  columns, then the last 1536, then the eight between them, then zeros.
-/
module

public import proofs.«01_k».proof.Proof.Common

@[expose] public section

set_option maxRecDepth 16384

noncomputable section

namespace Cert.ProjSpec

open Cert.Common

variable (X : Fin 4096 → Fin 1024 → ℝ) (G : Fin 1024 → ℝ) (W : Fin 1024 → Fin 3592 → ℝ) (P : Fin 4096 → Fin 3592 → ℝ)

/-- The gradient of the normalised input, through the projection. -/
def dh (i : Fin 4096) (k : Fin 1024) : ℝ := ∑ j, P i j * W k j

/-- The input's gradient through the norm. -/
def dx (i : Fin 4096) (k : Fin 1024) : ℝ := rmsBwd (X i) (fun k => dh W P i k * G k) k

/-- The norm weight's gradient. -/
def dgain (k : Fin 1024) : ℝ := ∑ i, dh W P i k * (X i k * rinv (X i))

/-- A row in the fused order of columns. -/
def ordered (f : Fin 3592 → ℝ) (n : ℕ) : ℝ :=
  if h : n < 2048 then f ⟨n, by omega⟩ else if h : n < 3584 then f ⟨n + 8, by omega⟩ else if h : n < 3592 then f ⟨n - 1536, by omega⟩ else 0

/-- The product of two rows does not depend on the order of their columns. -/
theorem sum_ordered (f g : Fin 3592 → ℝ) : ∑ n ∈ Finset.range 3712, ordered f n * ordered g n = ∑ j, f j * g j := by
  let F : ℕ → ℝ := fun n => if h : n < 3592 then f ⟨n, h⟩ * g ⟨n, h⟩ else 0
  have hR : ∑ j, f j * g j = ∑ n ∈ Finset.range 3592, F n := by
    rw [Finset.sum_range]
    exact Finset.sum_congr rfl fun j _ => by simp only [F, dif_pos j.isLt]
  rw [hR, show 3712 = 2048 + 1536 + 8 + 120 from rfl, show 3592 = 2048 + 8 + 1536 from rfl]
  simp only [Finset.sum_range_add]
  have e1 : ∀ n ∈ Finset.range 2048, ordered f n * ordered g n = F n := fun n hn => by
    have hn := Finset.mem_range.1 hn
    simp only [ordered, F, dif_pos hn, dif_pos (show n < 3592 by omega)]
  have e2 : ∀ n ∈ Finset.range 1536, ordered f (2048 + n) * ordered g (2048 + n) = F (2048 + 8 + n) := fun n hn => by
    have hn := Finset.mem_range.1 hn
    simp only [ordered, F, dif_neg (show ¬2048 + n < 2048 by omega), dif_pos (show 2048 + n < 3584 by omega), dif_pos (show 2048 + 8 + n < 3592 by omega),
      show 2048 + n + 8 = 2048 + 8 + n by omega]
  have e3 : ∀ n ∈ Finset.range 8, ordered f (2048 + 1536 + n) * ordered g (2048 + 1536 + n) = F (2048 + n) := fun n hn => by
    have hn := Finset.mem_range.1 hn
    simp only [ordered, F, dif_neg (show ¬2048 + 1536 + n < 2048 by omega), dif_neg (show ¬2048 + 1536 + n < 3584 by omega), dif_pos (show 2048 + 1536 + n < 3592 by omega),
      dif_pos (show 2048 + n < 3592 by omega), show 2048 + 1536 + n - 1536 = 2048 + n by omega]
  have e4 : ∀ n ∈ Finset.range 120, ordered f (2048 + 1536 + 8 + n) * ordered g (2048 + 1536 + 8 + n) = 0 := fun n _ => by
    simp only [ordered, dif_neg (show ¬2048 + 1536 + 8 + n < 2048 by omega), dif_neg (show ¬2048 + 1536 + 8 + n < 3584 by omega),
      dif_neg (show ¬2048 + 1536 + 8 + n < 3592 by omega), mul_zero]
  rw [Finset.sum_congr rfl e1, Finset.sum_congr rfl e2, Finset.sum_congr rfl e3, Finset.sum_congr rfl e4, Finset.sum_const_zero]
  ring

/-- The product of two rows, added up in the six stretches of columns the kernel cuts. -/
theorem sum_segments (f g : Fin 3592 → ℝ) :
    (∑ j : Fin 1536, ordered f j * ordered g j) + (∑ j : Fin 512, ordered f (1536 + j) * ordered g (1536 + j)) + (∑ j : Fin 512, ordered f (2048 + j) * ordered g (2048 + j))
      + (∑ j : Fin 512, ordered f (2560 + j) * ordered g (2560 + j)) + (∑ j : Fin 512, ordered f (3072 + j) * ordered g (3072 + j))
      + (∑ j : Fin 128, ordered f (3584 + j) * ordered g (3584 + j)) = ∑ j, f j * g j := by
  rw [← sum_ordered, show 3712 = 1536 + 512 + 512 + 512 + 512 + 128 from rfl]
  simp only [Finset.sum_range_add]
  simp only [Finset.sum_range]

end Cert.ProjSpec
-- ==== Proof.ProjPay.lean ====
/-
  The payloads of the input norm's gradient kernel at real inputs, read at one index.
-/
module

public import proofs.«01_k».proof.Proof.ProjSpec
public import proofs.«01_k».proof.Proof.Gen.Kernel2Ideal.Value

@[expose] public section

set_option maxRecDepth 16384

noncomputable section

open Idealize.ShloMosaic Idealize.ShloMosaic.TcCoe Idealize.SL.Sem
open Cert.Common

namespace Cert.Kernel2Ideal.Proj

open Cert.Kernel2Ideal Cert.Kernel2Ideal.Gen Cert.ProjSpec

variable (X : Fin 512 → Fin 1024 → ℝ) (P : Fin 512 → Fin 3592 → ℝ) (W : Fin 1024 → Fin 3592 → ℝ) (G : Fin 1024 → ℝ)
variable (x : Vec Ideal S512x1024 .f32) (hx : ∀ r k, x (ix2 r k) = (X r k : EReal))

include hx in
theorem pay6_apply (r : Fin 512) : k0_pay6 x (ix2 r 0) = (rinv (X r) : EReal) := by
  pointwise [k0_pay6]
  simp only [hx, ← EReal.coe_mul, coe_sum, ofBits_1024, ofBits_eps, coe_div _ _ (by norm_num : (1024 : ℝ) ≠ 0), ← EReal.coe_add, rsqrt_ms]

include hx in
theorem pay7_apply (r : Fin 512) (k : Fin 1024) : k0_pay7 x (ix2 r k) = ((X r k * rinv (X r) : ℝ) : EReal) := by
  pointwise [k0_pay7]
  simp only [pay6_apply X x hx, hx, ← EReal.coe_mul]

/-- The tile of `dh`: six products, one per stretch of columns. -/
def dhTile (s0 : Vec Ideal S512x1536 .bf16) (s1 s2 s3 s4 : Vec Ideal S512x512 .bf16) (s5 : Vec Ideal S512x128 .bf16) (w : Vec Ideal S1024x3712 .bf16) : FVec Ideal S512x1024 .f32 :=
  k0_pay5 (k0_pay3 s0 (View.ld w (Rect.unit ![0, 0] ![1024, 1536] inb_S1024x3712_S1024x1536_0_0))
      s1 (View.ld w (Rect.unit ![0, 1536] ![1024, 512] inb_S1024x3712_S1024x512_0_1536))
      s2 (View.ld w (Rect.unit ![0, 2048] ![1024, 512] inb_S1024x3712_S1024x512_0_2048))
      s3 (View.ld w (Rect.unit ![0, 2560] ![1024, 512] inb_S1024x3712_S1024x512_0_2560)))
    (k0_pay4 s4) (View.ld w (Rect.unit ![0, 3072] ![1024, 512] inb_S1024x3712_S1024x512_0_3072)) s5
    (View.ld w (Rect.unit ![0, 3584] ![1024, 128] inb_S1024x3712_S1024x128_0_3584))

variable (s0 : Vec Ideal S512x1536 .bf16) (s1 s2 s3 s4 : Vec Ideal S512x512 .bf16) (s5 : Vec Ideal S512x128 .bf16) (w : Vec Ideal S1024x3712 .bf16)
  (h0 : ∀ r (j : Fin 1536), s0 (ix2 r j) = (ordered (P r) j : EReal)) (h1 : ∀ r (j : Fin 512), s1 (ix2 r j) = (ordered (P r) (1536 + j) : EReal))
  (h2 : ∀ r (j : Fin 512), s2 (ix2 r j) = (ordered (P r) (2048 + j) : EReal)) (h3 : ∀ r (j : Fin 512), s3 (ix2 r j) = (ordered (P r) (2560 + j) : EReal))
  (h4 : ∀ r (j : Fin 512), s4 (ix2 r j) = (ordered (P r) (3072 + j) : EReal)) (h5 : ∀ r (j : Fin 128), s5 (ix2 r j) = (ordered (P r) (3584 + j) : EReal))
  (hw : ∀ k (n : Fin 3712), w (ix2 k n) = (ordered (W k) n : EReal))

include h0 h1 h2 h3 h4 h5 hw in
theorem dhTile_apply (r : Fin 512) (k : Fin 1024) : dhTile s0 s1 s2 s3 s4 s5 w (ix2 r k) = ((∑ j, P r j * W k j : ℝ) : EReal) := by
  unfold dhTile
  pointwise [k0_pay5, k0_pay3, k0_pay4]
  simp only [h0, h1, h2, h3, h4, h5, hw, ← EReal.coe_mul, coe_sum, ← EReal.coe_add, sum_segments]

variable (T : Fin 512 → Fin 1024 → ℝ) (v27 : FVec Ideal S512x1024 .f32) (v29 : FVec Ideal S512x512 .bf16) (v30 : Vec Ideal S1024x512 .bf16) (v34 : Vec Ideal S512x128 .bf16) (v36 : Vec Ideal S1024x128 .bf16)
  (hT : ∀ r k, k0_pay5 v27 v29 v30 v34 v36 (ix2 r k) = (T r k : EReal))

include hT hx in
theorem pay1_apply (g : Vec Ideal S1x1024 .f32) (hg : ∀ k, g (ix2 0 k) = (G k : EReal)) (d : Vec Ideal S512x1024 .f32) (r : Fin 512) (k : Fin 1024) :
    k0_pay1 (k0_pay6 x) (k0_pay7 x) (k0_pay9 v27 v29 v30 v34 v36 g) d (k0_pay10 v27 v29 v30 v34 v36 x g) (ix2 r k)
      = d (ix2 r k) + (rmsBwd (X r) (fun k => T r k * G k) k : EReal) := by
  pointwise [k0_pay1, k0_pay9, k0_pay10]
  simp only [hT, pay6_apply X x hx, pay7_apply X x hx, hg, ← EReal.coe_mul, coe_sum, ofBits_1024, coe_div _ _ (by norm_num : (1024 : ℝ) ≠ 0), ← EReal.coe_sub, rmsBwd]

include hT hx in
theorem pay8_apply (a : Vec Ideal S1x1024 .f32) (k : Fin 1024) :
    k0_pay8 v27 v29 v30 v34 v36 x a (ix2 0 k) = a (ix2 0 k) + ((∑ r, T r k * (X r k * rinv (X r)) : ℝ) : EReal) := by
  pointwise [k0_pay8]
  simp only [hT, pay7_apply X x hx, ← EReal.coe_mul, coe_sum]

end Cert.Kernel2Ideal.Proj
-- ==== Proof.ProjKernel.lean ====
/-
  The input norm's gradient kernel: what a grid point leaves, and its two result arrays after the run.
-/
module

public import proofs.«01_k».proof.Proof.ProjPay
public import Idealize.ShloMosaic.Lib.StableHlo.ReadAt

@[expose] public section

set_option maxRecDepth 16384

noncomputable section

open Idealize.ShloMosaic Idealize.ShloMosaic.TcCoe Idealize.SL.Sem
open Cert.Common

namespace Cert.Kernel2Ideal.Proj

open Cert.Kernel2Ideal Cert.Kernel2Ideal.Gen Cert.ProjSpec

variable (m : (ℓ : Loc nD τ sig) → Buf (Elt Ideal) ℓ) (c : Dev nD)

/-! ## Where a block's index lies in its array -/

/-- Row `r` of point `t`'s block of rows. -/
def row (t : Fin cfg0.N) (r : Fin 512) : Fin 4096 := ⟨t.val * 512 + r.val, by have := t.isLt; have : cfg0.N = 8 := N_0; have := r.isLt; omega⟩

theorem emb0 (t : Fin cfg0.N) (r : Fin 512) (k : Fin 1024) : ((cfg0.win 0).blk t).view.emb (ix2 r k) = ix2 (row t r) k := by
  have e : win0_0.index t (0 : Fin 2) = t.val ∧ win0_0.index t (1 : Fin 2) = 0 :=
    (by decide +kernel : ∀ t : Fin grid0.N, win0_0.index t (0 : Fin 2) = t.val ∧ win0_0.index t (1 : Fin 2) = 0) t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

theorem emb1 (t : Fin cfg0.N) (r : Fin 512) (k : Fin 1024) : ((cfg0.win 1).blk t).view.emb (ix2 r k) = ix2 (row t r) k := by
  have e : win0_1.index t (0 : Fin 2) = t.val ∧ win0_1.index t (1 : Fin 2) = 0 :=
    (by decide +kernel : ∀ t : Fin grid0.N, win0_1.index t (0 : Fin 2) = t.val ∧ win0_1.index t (1 : Fin 2) = 0) t
  funext a; apply Fin.ext
  match a with
  | ⟨0, _⟩ => show win0_1.index t (0 : Fin 2) * 512 + 1 * r.val = t.val * 512 + r.val; omega
  | ⟨1, _⟩ => show win0_1.index t (1 : Fin 2) * 1024 + 1 * k.val = k.val; omega

theorem emb2 (t : Fin cfg0.N) (r : Fin 1) (k : Fin 1024) : ((cfg0.win 2).blk t).view.emb (ix2 r k) = ix2 r k := by
  have e : win0_2.index t (0 : Fin 2) = 0 ∧ win0_2.index t (1 : Fin 2) = 0 :=
    (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 1 + 1 * r.val = r.val; omega
  | ⟨1, _⟩ => show win0_2.index t (1 : Fin 2) * 1024 + 1 * k.val = k.val; omega

theorem emb3 (t : Fin cfg0.N) (r : Fin 1024) (k : Fin 3712) : ((cfg0.win 3).blk t).view.emb (ix2 r k) = ix2 r k := by
  have e : win0_3.index t (0 : Fin 2) = 0 ∧ win0_3.index t (1 : Fin 2) = 0 :=
    (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 1024 + 1 * r.val = r.val; omega
  | ⟨1, _⟩ => show win0_3.index t (1 : Fin 2) * 3712 + 1 * k.val = k.val; omega

theorem emb4 (t : Fin cfg0.N) (r : Fin 512) (k : Fin 1536) : ((cfg0.win 4).blk t).view.emb (ix2 r k) = ix2 (row t r) k := by
  have e : win0_4.index t (0 : Fin 2) = t.val ∧ win0_4.index t (1 : Fin 2) = 0 :=
    (by decide +kernel : ∀ t : Fin grid0.N, win0_4.index t (0 : Fin 2) = t.val ∧ win0_4.index t (1 : Fin 2) = 0) t
  funext a; apply Fin.ext
  match a with
  | ⟨0, _⟩ => show win0_4.index t (0 : Fin 2) * 512 + 1 * r.val = t.val * 512 + r.val; omega
  | ⟨1, _⟩ => show win0_4.index t (1 : Fin 2) * 1536 + 1 * k.val = k.val; omega

theorem emb5 (t : Fin cfg0.N) (r : Fin 512) (k : Fin 512) : ((cfg0.win 5).blk t).view.emb (ix2 r k) = ix2 (row t r) k := by
  have e : win0_5.index t (0 : Fin 2) = t.val ∧ win0_5.index t (1 : Fin 2) = 0 :=
    (by decide +kernel : ∀ t : Fin grid0.N, win0_5.index t (0 : Fin 2) = t.val ∧ win0_5.index t (1 : Fin 2) = 0) t
  funext a; apply Fin.ext
  match a with
  | ⟨0, _⟩ => show win0_5.index t (0 : Fin 2) * 512 + 1 * r.val = t.val * 512 + r.val; omega
  | ⟨1, _⟩ => show win0_5.index t (1 : Fin 2) * 512 + 1 * k.val = k.val; omega

theorem emb6 (t : Fin cfg0.N) (r : Fin 512) (k : Fin 512) : ((cfg0.win 6).blk t).view.emb (ix2 r k) = ix2 (row t r) k := by
  have e : win0_6.index t (0 : Fin 2) = t.val ∧ win0_6.index t (1 : Fin 2) = 0 :=
    (by decide +kernel : ∀ t : Fin grid0.N, win0_6.index t (0 : Fin 2) = t.val ∧ win0_6.index t (1 : Fin 2) = 0) t
  funext a; apply Fin.ext
  match a with
  | ⟨0, _⟩ => show win0_6.index t (0 : Fin 2) * 512 + 1 * r.val = t.val * 512 + r.val; omega
  | ⟨1, _⟩ => show win0_6.index t (1 : Fin 2) * 512 + 1 * k.val = k.val; omega

theorem emb7 (t : Fin cfg0.N) (r : Fin 512) (k : Fin 512) : ((cfg0.win 7).blk t).view.emb (ix2 r k) = ix2 (row t r) k := by
  have e : win0_7.index t (0 : Fin 2) = t.val ∧ win0_7.index t (1 : Fin 2) = 0 :=
    (by decide +kernel : ∀ t : Fin grid0.N, win0_7.index t (0 : Fin 2) = t.val ∧ win0_7.index t (1 : Fin 2) = 0) t
  funext a; apply Fin.ext
  match a with
  | ⟨0, _⟩ => show win0_7.index t (0 : Fin 2) * 512 + 1 * r.val = t.val * 512 + r.val; omega
  | ⟨1, _⟩ => show win0_7.index t (1 : Fin 2) * 512 + 1 * k.val = k.val; omega

theorem emb8 (t : Fin cfg0.N) (r : Fin 512) (k : Fin 512) : ((cfg0.win 8).blk t).view.emb (ix2 r k) = ix2 (row t r) k := by
  have e : win0_8.index t (0 : Fin 2) = t.val ∧ win0_8.index t (1 : Fin 2) = 0 :=
    (by decide +kernel : ∀ t : Fin grid0.N, win0_8.index t (0 : Fin 2) = t.val ∧ win0_8.index t (1 : Fin 2) = 0) t
  funext a; apply Fin.ext
  match a with
  | ⟨0, _⟩ => show win0_8.index t (0 : Fin 2) * 512 + 1 * r.val = t.val * 512 + r.val; omega
  | ⟨1, _⟩ => show win0_8.index t (1 : Fin 2) * 512 + 1 * k.val = k.val; omega

theorem emb9 (t : Fin cfg0.N) (r : Fin 512) (k : Fin 128) : ((cfg0.win 9).blk t).view.emb (ix2 r k) = ix2 (row t r) k := by
  have e : win0_9.index t (0 : Fin 2) = t.val ∧ win0_9.index t (1 : Fin 2) = 0 :=
    (by decide +kernel : ∀ t : Fin grid0.N, win0_9.index t (0 : Fin 2) = t.val ∧ win0_9.index t (1 : Fin 2) = 0) t
  funext a; apply Fin.ext
  match a with
  | ⟨0, _⟩ => show win0_9.index t (0 : Fin 2) * 512 + 1 * r.val = t.val * 512 + r.val; omega
  | ⟨1, _⟩ => show win0_9.index t (1 : Fin 2) * 128 + 1 * k.val = k.val; omega

theorem emb10 (t : Fin cfg0.N) (r : Fin 512) (k : Fin 1024) : ((cfg0.win 10).blk t).view.emb (ix2 r k) = ix2 (row t r) k := by
  have e : win0_10.index t (0 : Fin 2) = t.val ∧ win0_10.index t (1 : Fin 2) = 0 :=
    (by decide +kernel : ∀ t : Fin grid0.N, win0_10.index t (0 : Fin 2) = t.val ∧ win0_10.index t (1 : Fin 2) = 0) t
  funext a; apply Fin.ext
  match a with
  | ⟨0, _⟩ => show win0_10.index t (0 : Fin 2) * 512 + 1 * r.val = t.val * 512 + r.val; omega
  | ⟨1, _⟩ => show win0_10.index t (1 : Fin 2) * 1024 + 1 * k.val = k.val; omega

theorem emb11 (t : Fin cfg0.N) (r : Fin 1) (k : Fin 1024) : ((cfg0.win 11).blk t).view.emb (ix2 r k) = ix2 r k := by
  have e : win0_11.index t (0 : Fin 2) = 0 ∧ win0_11.index t (1 : Fin 2) = 0 :=
    (by decide +kernel : ∀ t : Fin grid0.N, win0_11.index t (0 : Fin 2) = 0 ∧ win0_11.index t (1 : Fin 2) = 0) t
  funext a; apply Fin.ext
  match a with
  | ⟨0, _⟩ => show win0_11.index t (0 : Fin 2) * 1 + 1 * r.val = r.val; omega
  | ⟨1, _⟩ => show win0_11.index t (1 : Fin 2) * 1024 + 1 * k.val = k.val; omega

/-! ## The points' input blocks -/

variable (X : Fin 4096 → Fin 1024 → ℝ) (G : Fin 1024 → ℝ) (W : Fin 1024 → Fin 3592 → ℝ) (P : Fin 4096 → Fin 3592 → ℝ)

/-- All of device `c`'s arguments but the second are these real arrays. -/
structure Args : Prop where
  h0 : ∀ i k, (m ((c : Thread nD τ).loc main_arg0) : FVec Ideal S4096x1024 .f32) (ix2 i k) = (X i k : EReal)
  h2 : ∀ k, (m ((c : Thread nD τ).loc main_arg2) : FVec Ideal S1x1024 .f32) (ix2 0 k) = (G k : EReal)
  h3 : ∀ i k, (m ((c : Thread nD τ).loc main_arg3) : FVec Ideal S1024x3592 .f32) (ix2 i k) = (W i k : EReal)
  h4 : ∀ i k, (m ((c : Thread nD τ).loc main_arg4) : FVec Ideal S4096x3592 .f32) (ix2 i k) = (P i k : EReal)

variable (h : Args m c X G W P)

/-- The host's cut of a row into the fused order. -/
theorem ordered_cut (f : Fin 3592 → EReal) (g : Fin 3592 → ℝ) (hf : ∀ j, f j = (g j : EReal)) (n : Fin 3712) :
    (if h : n.val < 2048 then f ⟨n.val, by omega⟩ else if h : n.val - 2048 < 1536 then f ⟨2056 + (n.val - 2048), by omega⟩
      else if h : n.val - 2048 - 1536 < 8 then f ⟨2048 + (n.val - 2048 - 1536), by omega⟩ else 0) = (ordered g n : EReal) := by
  unfold ordered
  simp only [hf]
  by_cases h1 : n.val < 2048
  · rw [dif_pos h1, dif_pos h1]
  · rw [dif_neg h1, dif_neg h1]
    by_cases h2 : n.val < 3584
    · rw [dif_pos (show n.val - 2048 < 1536 by omega), dif_pos h2]
      exact congrArg (fun j => (g j : EReal)) (Fin.ext (by show 2056 + (n.val - 2048) = n.val + 8; omega))
    · rw [dif_neg (show ¬n.val - 2048 < 1536 by omega), dif_neg h2]
      by_cases h3 : n.val < 3592
      · rw [dif_pos (show n.val - 2048 - 1536 < 8 by omega), dif_pos h3]
        exact congrArg (fun j => (g j : EReal)) (Fin.ext (by show 2048 + (n.val - 2048 - 1536) = n.val - 1536; omega))
      · rw [dif_neg (show ¬n.val - 2048 - 1536 < 8 by omega), dif_neg h3]
        rfl

include h in
theorem w_at (k : Fin 1024) (n : Fin 3712) : (V m c main_v5 : FVec Ideal S1024x3712 .bf16) (ix2 k n) = (ordered (W k) n : EReal) := by
  unfold V hostOps0
  after_reads_at
  after_reads_at
  exact ordered_cut (fun j => m (c, Proc.tc.devRef main_arg3) (ix2 k j)) (W k) (h.h3 k) n

include h in
theorem p_at (k : Fin 4096) (n : Fin 3712) : (V m c main_v11 : FVec Ideal S4096x3712 .bf16) (ix2 k n) = (ordered (P k) n : EReal) := by
  unfold V hostOps0
  after_reads_at
  after_reads_at
  exact ordered_cut (fun j => m (c, Proc.tc.devRef main_arg4) (ix2 k j)) (P k) (h.h4 k) n

theorem cut4 (i : Fin 4096) (j : Fin 1536) : (V m c main_v12 : FVec Ideal S4096x1536 .bf16) (ix2 i j) = (V m c main_v11 : FVec Ideal S4096x3712 .bf16) (ix2 i ⟨j, by omega⟩) := by
  unfold V hostOps0
  after_reads_at

theorem cut5 (i : Fin 4096) (j : Fin 512) : (V m c main_v13 : FVec Ideal S4096x512 .bf16) (ix2 i j) = (V m c main_v11 : FVec Ideal S4096x3712 .bf16) (ix2 i ⟨1536 + j, by omega⟩) := by
  unfold V hostOps0
  after_reads_at

theorem cut6 (i : Fin 4096) (j : Fin 512) : (V m c main_v14 : FVec Ideal S4096x512 .bf16) (ix2 i j) = (V m c main_v11 : FVec Ideal S4096x3712 .bf16) (ix2 i ⟨2048 + j, by omega⟩) := by
  unfold V hostOps0
  after_reads_at

theorem cut7 (i : Fin 4096) (j : Fin 512) : (V m c main_v15 : FVec Ideal S4096x512 .bf16) (ix2 i j) = (V m c main_v11 : FVec Ideal S4096x3712 .bf16) (ix2 i ⟨2560 + j, by omega⟩) := by
  unfold V hostOps0
  after_reads_at

theorem cut8 (i : Fin 4096) (j : Fin 512) : (V m c main_v16 : FVec Ideal S4096x512 .bf16) (ix2 i j) = (V m c main_v11 : FVec Ideal S4096x3712 .bf16) (ix2 i ⟨3072 + j, by omega⟩) := by
  unfold V hostOps0
  after_reads_at

theorem cut9 (i : Fin 4096) (j : Fin 128) : (V m c main_v17 : FVec Ideal S4096x128 .bf16) (ix2 i j) = (V m c main_v11 : FVec Ideal S4096x3712 .bf16) (ix2 i ⟨3584 + j, by omega⟩) := by
  unfold V hostOps0
  after_reads_at

/-- The residual's cotangent, the second argument. -/
def residual : FVec Ideal S4096x1024 .f32 := m ((c : Thread nD τ).loc main_arg1)

theorem block1 (t : Fin cfg0.N) (r : Fin 512) (k : Fin 1024) : iblk m c 1 t (ix2 r k) = residual m c (ix2 (row t r) k) := by
  show V m c main_arg1 (((cfg0.win 1).blk t).view.emb (ix2 r k)) = _
  rw [emb1, V_main_arg1]
  rfl

include h

theorem block0 (t : Fin cfg0.N) (r : Fin 512) (k : Fin 1024) : iblk m c 0 t (ix2 r k) = (X (row t r) k : EReal) := by
  show V m c main_arg0 (((cfg0.win 0).blk t).view.emb (ix2 r k)) = _
  rw [emb0, V_main_arg0]; exact h.h0 _ _

theorem block2 (t : Fin cfg0.N) (k : Fin 1024) : iblk m c 2 t (ix2 0 k) = (G k : EReal) := by
  show V m c main_arg2 (((cfg0.win 2).blk t).view.emb (ix2 0 k)) = _
  rw [emb2, V_main_arg2]; exact h.h2 _

theorem block3 (t : Fin cfg0.N) (k : Fin 1024) (n : Fin 3712) : iblk m c 3 t (ix2 k n) = (ordered (W k) n : EReal) := by
  show V m c main_v5 (((cfg0.win 3).blk t).view.emb (ix2 k n)) = _
  rw [emb3]; exact w_at m c X G W P h _ _

theorem block4 (t : Fin cfg0.N) (r : Fin 512) (j : Fin 1536) : iblk m c 4 t (ix2 r j) = (ordered (P (row t r)) j : EReal) := by
  show V m c main_v12 (((cfg0.win 4).blk t).view.emb (ix2 r j)) = _
  rw [emb4, cut4]; exact p_at m c X G W P h _ _

theorem block5 (t : Fin cfg0.N) (r : Fin 512) (j : Fin 512) : iblk m c 5 t (ix2 r j) = (ordered (P (row t r)) (1536 + j) : EReal) := by
  show V m c main_v13 (((cfg0.win 5).blk t).view.emb (ix2 r j)) = _
  rw [emb5, cut5]; exact p_at m c X G W P h _ _

theorem block6 (t : Fin cfg0.N) (r : Fin 512) (j : Fin 512) : iblk m c 6 t (ix2 r j) = (ordered (P (row t r)) (2048 + j) : EReal) := by
  show V m c main_v14 (((cfg0.win 6).blk t).view.emb (ix2 r j)) = _
  rw [emb6, cut6]; exact p_at m c X G W P h _ _

theorem block7 (t : Fin cfg0.N) (r : Fin 512) (j : Fin 512) : iblk m c 7 t (ix2 r j) = (ordered (P (row t r)) (2560 + j) : EReal) := by
  show V m c main_v15 (((cfg0.win 7).blk t).view.emb (ix2 r j)) = _
  rw [emb7, cut7]; exact p_at m c X G W P h _ _

theorem block8 (t : Fin cfg0.N) (r : Fin 512) (j : Fin 512) : iblk m c 8 t (ix2 r j) = (ordered (P (row t r)) (3072 + j) : EReal) := by
  show V m c main_v16 (((cfg0.win 8).blk t).view.emb (ix2 r j)) = _
  rw [emb8, cut8]; exact p_at m c X G W P h _ _

theorem block9 (t : Fin cfg0.N) (r : Fin 512) (j : Fin 128) : iblk m c 9 t (ix2 r j) = (ordered (P (row t r)) (3584 + j) : EReal) := by
  show V m c main_v17 (((cfg0.win 9).blk t).view.emb (ix2 r j)) = _
  rw [emb9, cut9]; exact p_at m c X G W P h _ _

/-! ## The blocks a point leaves -/

theorem tile_apply (t : Fin cfg0.N) (r : Fin 512) (k : Fin 1024) :
    dhTile (iblk m c 4 t) (iblk m c 5 t) (iblk m c 6 t) (iblk m c 7 t) (iblk m c 8 t) (iblk m c 9 t) (iblk m c 3 t) (ix2 r k) = (dh W P (row t r) k : EReal) :=
  dhTile_apply (fun r => P (row t r)) W _ _ _ _ _ _ _ (block4 m c X G W P h t) (block5 m c X G W P h t) (block6 m c X G W P h t) (block7 m c X G W P h t)
    (block8 m c X G W P h t) (block9 m c X G W P h t) (block3 m c X G W P h t) r k

/-- Each point writes its rows of the input's gradient. -/
theorem left10 (t : Fin cfg0.N) (r : Fin 512) (k : Fin 1024) :
    (outsAt0 m c t.val t.isLt).1 (ix2 r k) = residual m c (ix2 (row t r) k) + (dx X G W P (row t r) k : EReal) := by
  rw [← block1]
  refine Eq.trans (congrFun ?_ (ix2 r k)) (pay1_apply (fun r => X (row t r)) G (iblk m c 0 t) (block0 m c X G W P h t) (fun r => dh W P (row t r)) _ _ _ _ _ (tile_apply m c X G W P h t)
    (iblk m c 2 t) (block2 m c X G W P h t) (iblk m c 1 t) r k)
  by_cases h : t.val % 8 = 0
  · rw [outsAt0_A m c t h]
    dsimp only
    unfold out0_A_10
    rw [View.read_writes_eq_canon _ _ _ (fun _ => cover0_A_10 ..)]
    unfold kernelRun0_A
    dsimp only
    sl_unfold_words
    rw [View.canon_unit_zero zero2]
    simp only [View.readAt_eq_ld, Memref.IsWhole.read_unread, View.ld_unit_zero (S := S512x1024) zero2, View.ld_unit_zero (S := S1x1024) zero2, View.ld_unit_zero (S := S512x1536) zero2, View.ld_unit_zero (S := S512x512) zero2,
      View.ld_unit_zero (S := S512x128) zero2]
  · rw [outsAt0_B m c t h]
    dsimp only
    unfold out0_B_10
    rw [View.read_writes_eq_canon _ _ _ (fun _ => cover0_B_10 ..)]
    unfold kernelRun0_B
    dsimp only
    sl_unfold_words
    rw [View.canon_unit_zero zero2]
    simp only [View.readAt_eq_ld, Memref.IsWhole.read_unread, View.ld_unit_zero (S := S512x1024) zero2, View.ld_unit_zero (S := S1x1024) zero2, View.ld_unit_zero (S := S512x1536) zero2, View.ld_unit_zero (S := S512x512) zero2,
      View.ld_unit_zero (S := S512x128) zero2]

/-- The first point starts the weight gradient from zero. -/
theorem left11_A (t : Fin cfg0.N) (k : Fin 1024) (h0 : t.val % 8 = 0) : (outsAt0 m c t.val t.isLt).2 (ix2 0 k)
    = (k0_pay2 (F := Ideal)) (ix2 0 k) + ((∑ r, dh W P (row t r) k * (X (row t r) k * rinv (X (row t r))) : ℝ) : EReal) := by
  refine Eq.trans (congrFun ?_ (ix2 0 k)) (pay8_apply (fun r => X (row t r)) (iblk m c 0 t) (block0 m c X G W P h t) (fun r => dh W P (row t r)) _ _ _ _ _ (tile_apply m c X G W P h t) _ k)
  rw [outsAt0_A m c t h0]
  dsimp only
  unfold out0_A_11
  rw [View.read_writes_eq_canon _ _ _ (fun _ => cover0_A_11 ..)]
  unfold kernelRun0_A
  dsimp only
  sl_unfold_words
  rw [View.canon_cons_unit_zero (S := S1x1024) zero2, View.readCov_unit_zero (S := S1x1024) _ zero2]
  simp only [View.readAt_eq_ld, Memref.IsWhole.read_unread, View.ld_unit_zero (S := S512x1024) zero2, View.ld_unit_zero (S := S1x1024) zero2, View.ld_unit_zero (S := S512x1536) zero2, View.ld_unit_zero (S := S512x512) zero2,
      View.ld_unit_zero (S := S512x128) zero2]

/-- A later point adds to what the point before left. -/
theorem left11_B (t : Fin cfg0.N) (k : Fin 1024) (h0 : ¬t.val % 8 = 0) : (outsAt0 m c t.val t.isLt).2 (ix2 0 k)
    = ((outsAt0 m c (t.val - 1) (Nat.lt_of_le_of_lt (Nat.sub_le _ _) t.isLt)).2) (ix2 0 k) + ((∑ r, dh W P (row t r) k * (X (row t r) k * rinv (X (row t r))) : ℝ) : EReal) := by
  refine Eq.trans (congrFun ?_ (ix2 0 k)) (pay8_apply (fun r => X (row t r)) (iblk m c 0 t) (block0 m c X G W P h t) (fun r => dh W P (row t r)) _ _ _ _ _ (tile_apply m c X G W P h t) _ k)
  rw [outsAt0_B m c t h0]
  dsimp only
  unfold out0_B_11
  rw [View.read_writes_eq_canon _ _ _ (fun _ => cover0_B_11 ..)]
  unfold kernelRun0_B
  dsimp only
  sl_unfold_words
  rw [View.canon_unit_zero zero2]
  simp only [View.readAt_eq_ld, Memref.IsWhole.read_unread, View.ld_unit_zero (S := S512x1024) zero2, View.ld_unit_zero (S := S1x1024) zero2, View.ld_unit_zero (S := S512x1536) zero2, View.ld_unit_zero (S := S512x512) zero2,
      View.ld_unit_zero (S := S512x128) zero2]

/-- The weight's gradient after point `n`: the sum over the rows of the points so far. -/
def part (n : ℕ) (k : Fin 1024) : ℝ := ∑ s ∈ Finset.range (n + 1), if hs : s < cfg0.N then
  ∑ r : Fin 512, dh W P (row ⟨s, hs⟩ r) k * (X (row ⟨s, hs⟩ r) k * rinv (X (row ⟨s, hs⟩ r))) else 0

theorem left11 : ∀ (n : ℕ) (hn : n < cfg0.N) (k : Fin 1024), (outsAt0 m c n hn).2 (ix2 0 k) = (part X W P n k : EReal)
  | 0, hn, k => by
    refine (left11_A m c X G W P h ⟨0, hn⟩ k rfl).trans ?_
    unfold part
    rw [Finset.sum_range_one, dif_pos hn]
    pointwise [k0_pay2]
  | n + 1, hn, k => by
    have hN : cfg0.N = 8 := N_0
    refine (left11_B m c X G W P h ⟨n + 1, hn⟩ k (by dsimp only; omega)).trans ?_
    show (outsAt0 m c n _).2 (ix2 0 k) + _ = _
    rw [left11 n (by omega) k, ← EReal.coe_add]
    unfold part
    rw [Finset.sum_range_succ _ (n + 1), dif_pos hn]

omit h in
/-- After the last point it is the sum over all rows. -/
theorem part_last (k : Fin 1024) : part X W P 7 k = dgain X W P k := by
  have hN : cfg0.N = 8 := N_0
  unfold part dgain
  rw [Fin.sum_univ_tiles 8 512 rfl, Finset.sum_range]
  refine Finset.sum_congr rfl fun s _ => ?_
  rw [dif_pos (by have := s.isLt; omega)]
  rfl

/-! ## The result arrays -/

/-- The point whose tile holds row `i`. -/
def tile (i : Fin 4096) : Fin cfg0.N := ⟨i.val / 512, by have hN : cfg0.N = 8 := N_0; have := i.isLt; omega⟩

/-- Row `i`'s place in its tile. -/
def inTile (i : Fin 4096) : Fin 512 := ⟨i.val % 512, by omega⟩

omit h in
theorem row_tile (i : Fin 4096) : row (tile i) (inTile i) = i := by
  apply Fin.ext
  show i.val / 512 * 512 + i.val % 512 = i.val
  omega

/-- The last point. -/
def lastPt : Fin cfg0.N := ⟨7, by have hN : cfg0.N = 8 := N_0; omega⟩

/-- The input's gradient: the cotangent of the residual plus the norm's gradient. -/
theorem final10 : (dats m 0 c).arrAt 10 cfg0.N
    = fun i : S4096x1024.Idx => residual m c i + (dx X G W P (i 0) (i 1) : EReal) := by
  refine (dats m 0 c).arrAt_eq_of_cover 10 _ (fun t _ => ?_) fun i => ?_
  · rw [Value.flushed10]
    funext j
    obtain ⟨r, k, rfl⟩ : ∃ (r : Fin 512) (k : Fin 1024), j = ix2 r k := ⟨j 0, j 1, eq_ix2 j⟩
    refine (left10 m c X G W P h t r k).trans ?_
    show _ = (fun i : S4096x1024.Idx => residual m c i + (dx X G W P (i 0) (i 1) : EReal)) (((cfg0.win 10).blk t).view.emb (ix2 r k))
    rw [emb10]
    rfl
  · obtain ⟨r, k, rfl⟩ : ∃ (r : Fin 4096) (k : Fin 1024), i = ix2 r k := ⟨i 0, i 1, eq_ix2 i⟩
    have e := ((cfg0.win 10).blk (tile r)).view.emb_mem_set (ix2 (inTile r) k)
    rw [emb10, row_tile] at e
    exact ⟨tile r, flush0_10 _, e⟩

theorem final11 : (dats m 0 c).arrAt 11 cfg0.N = fun i : S1x1024.Idx => (dgain X W P (i 1) : EReal) := by
  refine (dats m 0 c).arrAt_eq_of_cover 11 _ (fun t ht => ?_) fun i => ?_
  · rw [Value.flushed11]
    have h7 : t = lastPt := by
      have hN : cfg0.N = 8 := N_0
      have := (flush0_11 t).mp ht
      have hl : t.val < cfg0.N := t.isLt
      apply Fin.ext
      show t.val = 7
      omega
    subst h7
    funext j
    obtain ⟨r, k, rfl⟩ : ∃ (r : Fin 1) (k : Fin 1024), j = ix2 r k := ⟨j 0, j 1, eq_ix2 j⟩
    obtain rfl : r = 0 := Subsingleton.elim _ _
    refine (left11 m c X G W P h 7 lastPt.isLt k).trans ?_
    rw [part_last]
    show _ = (fun i : S1x1024.Idx => (dgain X W P (i 1) : EReal)) (((cfg0.win 11).blk lastPt).view.emb (ix2 0 k))
    rw [emb11]
    rfl
  · obtain ⟨r, k, rfl⟩ : ∃ (r : Fin 1) (k : Fin 1024), i = ix2 r k := ⟨i 0, i 1, eq_ix2 i⟩
    have e := ((cfg0.win 11).blk lastPt).view.emb_mem_set (ix2 r k)
    rw [emb11] at e
    exact ⟨lastPt, (flush0_11 _).mpr rfl, e⟩

end Cert.Kernel2Ideal.Proj
-- ==== Proof.ProjRef.lean ====
/-
  The reference of the input norm's gradient, its stages read at one index.
-/
module

public import proofs.«01_k».proof.Proof.ProjSpec
public import proofs.«01_k».proof.Proof.Gen.Reference2Ideal.Read

@[expose] public section

set_option maxRecDepth 16384

noncomputable section

open Idealize.ShloMosaic Idealize.ShloMosaic.TcCoe Idealize.SL.Sem
open Cert.Common

namespace Cert.Reference2Ideal.Proj

open Cert.Reference2Ideal Cert.Reference2Ideal.Gen Cert.Reference2Ideal.Read Cert.ProjSpec

variable (x0 x1 : FVec Ideal S4096x1024 .f32) (x2 : FVec Ideal S1x1024 .f32) (x3 : FVec Ideal S1024x3592 .f32) (x4 : FVec Ideal S4096x3592 .f32)
variable (X : Fin 4096 → Fin 1024 → ℝ) (G : Fin 1024 → ℝ) (W : Fin 1024 → Fin 3592 → ℝ) (P : Fin 4096 → Fin 3592 → ℝ)
variable (h0 : ∀ i k, x0 (ix2 i k) = (X i k : EReal)) (h2 : ∀ k, x2 (ix2 0 k) = (G k : EReal))
  (h3 : ∀ i k, x3 (ix2 i k) = (W i k : EReal)) (h4 : ∀ i k, x4 (ix2 i k) = (P i k : EReal))

include h0 in
theorem v7_at (i : Fin 4096) : val_main_v7 (F := Ideal) x0 (ix2 i 0) = (ms (X i) : EReal) := by
  pointwise [val_main_v7, val_main_v6, val_main_v5, val_main_v4, val_main_v3, val_main_v2, val_main_v1, val_main_cst, val_main_cst_0, val_main_cst_1]
  simp only [h0, ← EReal.coe_mul, coe_sum, ofBits_1024, ofBits_eps, coe_div _ _ (by norm_num : (1024 : ℝ) ≠ 0), ← EReal.coe_add, ms]

include h0 in
theorem v8_at (i : Fin 4096) : val_main_v8 (F := Ideal) x0 (ix2 i 0) = (rinv (X i) : EReal) := by
  pointwise [val_main_v8]
  rw [v7_at x0 X h0]
  exact coe_rsqrt _ (ms_pos _)

include h0 in
theorem v11_at (i : Fin 4096) (z : Fin 1) : val_main_v11 (F := Ideal) x0 (ix2 i z) = ((-(1 / 2) * (rinv (X i) / ms (X i)) : ℝ) : EReal) := by
  obtain rfl : z = 0 := Subsingleton.elim _ _
  pointwise [val_main_v11, val_main_v10, val_main_v9, val_main_cst_2]
  simp only [v7_at x0 X h0, v8_at x0 X h0, ofBits_neg_half, coe_div _ _ (ms_pos _).ne', ← EReal.coe_mul]

include h3 h4 in
theorem v18_at (i : Fin 4096) (k : Fin 1024) : val_main_v18 (F := Ideal) x3 x4 (ix2 i k) = (dh W P i k : EReal) := by
  pointwise [val_main_v18]
  simp only [h3, h4, ← EReal.coe_mul, coe_sum, dh]

include h2 h3 h4 in
theorem v23_at (i : Fin 4096) (k : Fin 1024) : val_main_v23 (F := Ideal) x2 x3 x4 (ix2 i k) = ((dh W P i k * G k : ℝ) : EReal) := by
  pointwise [val_main_v23, val_main_v22, val_main_v14, val_main_v0]
  simp only [h2, v18_at x3 x4 W P h3 h4, ← EReal.coe_mul]

include h0 h2 h3 h4 in
theorem v39_at (i : Fin 4096) (k : Fin 1024) : val_main_v39 (F := Ideal) x0 x1 x2 x3 x4 (ix2 i k) = x1 (ix2 i k) + (dx X G W P i k : EReal) := by
  pointwise [val_main_v39, val_main_v38, val_main_v37, val_main_v36, val_main_v35, val_main_v34, val_main_v33, val_main_v32, val_main_v31, val_main_v30, val_main_v29,
    val_main_v28, val_main_v27, val_main_v26, val_main_v25, val_main_cst_5, val_main_cst_6, val_main_cst_7]
  simp only [h0, v8_at x0 X h0, v11_at x0 X h0, v23_at x2 x3 x4 G W P h2 h3 h4, ofBits_1024,
    ← EReal.coe_mul, coe_sum, coe_div _ _ (by norm_num : (1024 : ℝ) ≠ 0), Finset.univ_unique, Finset.sum_singleton]
  rw [add_assoc, add_assoc, ← EReal.coe_add, ← EReal.coe_add, dx, ← rms_vjp, add_assoc]

include h0 h3 h4 in
theorem v40_at (k : Fin 1024) : val_main_v40 (F := Ideal) x0 x3 x4 (ix2 0 k) = (dgain X W P k : EReal) := by
  pointwise [val_main_v40, val_main_v24, val_main_v21, val_main_v20, val_main_v19, val_main_v13, val_main_v12, val_main_cst_3, val_main_cst_4]
  simp only [h0, v8_at x0 X h0, v18_at x3 x4 W P h3 h4, ← EReal.coe_mul, coe_sum, dgain, Finset.univ_unique, Finset.sum_singleton]
  exact congrArg _ (Finset.sum_congr rfl fun i _ => by ring)

end Cert.Reference2Ideal.Proj
-- ==== Proof.ProjPair.lean ====
/-
  The input norm's backward call and its `jax.vjp` reference end with the same two arrays: the frames of both
  programs, and the value claim under finite arguments but for the residual's cotangent, which is only added.
-/
module

public import proofs.«01_k».proof.Defs
public import proofs.«01_k».proof.Proof.Gen.Kernel2.Frame
public import proofs.«01_k».proof.Proof.Gen.Pre_finite2
public import proofs.«01_k».proof.Proof.ProjKernel
public import proofs.«01_k».proof.Proof.ProjRef

@[expose] public section

set_option maxRecDepth 16384

noncomputable section

namespace Cert.Proj

open Idealize.ShloMosaic Idealize.SL.Sem Cert.Common Cert.ProjSpec

/-- Finite arguments are real ones. -/
theorem real_args (m : (ℓ : Loc Kernel2Ideal.nD Kernel2Ideal.τ Kernel2Ideal.sig) → Buf (Elt Ideal) ℓ) (hpre : Pre_Kernel2Ideal_finite2 m) (c : Dev Kernel2Ideal.nD) :
    ∃ X G W P, Kernel2Ideal.Proj.Args m c X G W P := by
  have e := congrFun (hpre c) (fun d : Fin 0 => d.elim0)
  obtain ⟨e, e3⟩ := IntOp.andi_eq_one.1 e
  obtain ⟨e, e2⟩ := IntOp.andi_eq_one.1 e
  obtain ⟨e0, e1⟩ := IntOp.andi_eq_one.1 e
  obtain ⟨X, hX⟩ := real_of_all _ _ _ _ _ _ e0
  obtain ⟨G, hG⟩ := real_of_all _ _ _ _ _ _ e1
  obtain ⟨W, hW⟩ := real_of_all _ _ _ _ _ _ e2
  obtain ⟨P, hP⟩ := real_of_all _ _ _ _ _ _ e3
  exact ⟨fun i k => X (ix2 i k), fun k => G (ix2 0 k), fun i k => W (ix2 i k), fun i k => P (ix2 i k),
    fun i k => congrFun hX _, fun k => congrFun hG _, fun i k => congrFun hW _, fun i k => congrFun hP _⟩

/-- The reference's frame. -/
theorem frame_reference : quiescent_Reference2Ideal := fun m ρ _ =>
  (θ_run Reference2Ideal.defs _ _).mono (fun r h => ⟨fun c => (h c).2.2, sem_eq_zero_of_no_sems (by decide) r.2⟩)
    (Reference2Ideal.Value.run (F := Ideal) m ρ)

/-- The results agree. -/
theorem value : algebraic_Kernel2Ideal_Reference2Ideal_pre_finite2 := by
  intro m g m' g' hpre hargs
  choose X G W P h using real_args m hpre
  refine ⟨fun c => fun i => Kernel2Ideal.Proj.residual m c i + (dx (X c) (G c) (W c) (P c) (i 0) (i 1) : EReal),
    fun c => fun i => (dgain (X c) (W c) (P c) (i 1) : EReal), ?_, ?_⟩
  · refine (θ_run Kernel2Ideal.defs _ _).mono (fun r hr c => ?_) (Kernel2Ideal.Value.run_blocks (F := Ideal) m g)
    obtain ⟨k0, k1, hk⟩ := hr c
    exact ⟨k0.trans (Kernel2Ideal.Proj.final10 m c _ _ _ _ (h c)),
      k1.trans (Kernel2Ideal.Proj.final11 m c _ _ _ _ (h c)), hk⟩
  · refine (θ_run Reference2Ideal.defs _ _).mono (fun r hr c => ?_) (Reference2Ideal.Value.run (F := Ideal) m' g')
    obtain ⟨r0, r1, hk⟩ := hr c
    obtain ⟨a0, a1, a2, a3, a4⟩ := hargs c
    obtain ⟨h0, h2, h3, h4⟩ := h c
    refine ⟨r0.trans ((Reference2Ideal.Read.val_main_v39_eq m' c).trans ?_),
      r1.trans ((Reference2Ideal.Read.val_main_v40_eq _ _ _).trans ?_), hk⟩
    · rw [a0, a1, a2, a3, a4]
      exact ext2 fun i k => Reference2Ideal.Proj.v39_at _ _ _ _ _ _ _ _ _ h0 h2 h3 h4 i k
    · rw [a0, a3, a4]
      refine ext2 fun i k => ?_
      obtain rfl : i = 0 := Subsingleton.elim _ _
      exact Reference2Ideal.Proj.v40_at _ _ _ _ _ _ h0 h3 h4 k

end Cert.Proj
-- ==== Proof.FfnSpec.lean ====
/-
  The feed-forward layer of the step over the reals: its forward values, its loss and its gradients, one row at a time.
-/
module

public import proofs.«01_k».proof.Proof.Common

@[expose] public section

set_option maxRecDepth 16384

noncomputable section

open Cert.Common
open Idealize.ShloMosaic

namespace Cert.FfnSpec

/-- One row of the residual stream and of the target, with the two gains and the three weights. -/
structure Row where
  x : Fin 1024 → ℝ
  tgt : Fin 1024 → ℝ
  gp : Fin 1024 → ℝ
  gq : Fin 1024 → ℝ
  wg : Fin 1024 → Fin 2816 → ℝ
  wu : Fin 1024 → Fin 2816 → ℝ
  wd : Fin 2816 → Fin 1024 → ℝ

/-- The logistic function. -/
def sg (z : ℝ) : ℝ := 1 / (1 + Real.exp (-z))

variable (R : Row)

/-- The normed row. -/
def hid (k : Fin 1024) : ℝ := R.x k * rinv R.x * R.gp k

def gate (j : Fin 2816) : ℝ := ∑ k, hid R k * R.wg k j

def up (j : Fin 2816) : ℝ := ∑ k, hid R k * R.wu k j

def act (j : Fin 2816) : ℝ := gate R j * sg (gate R j) * up R j

/-- The layer's output before its norm. -/
def out (k : Fin 1024) : ℝ := ∑ j, act R j * R.wd j k

/-- The difference from the target. -/
def err (k : Fin 1024) : ℝ := R.x k + out R k * rinv (out R) * R.gq k - R.tgt k

/-- The row's share of the loss, not yet halved. -/
def loss : ℝ := (∑ k, err R k * err R k) / 1024

def dy (k : Fin 1024) : ℝ := err R k / 1024

def dout (k : Fin 1024) : ℝ := rmsBwd (out R) (fun k => dy R k * R.gq k) k

def dact (j : Fin 2816) : ℝ := ∑ k, dout R k * R.wd j k

def dup (j : Fin 2816) : ℝ := dact R j * gate R j * sg (gate R j)

def dgate (j : Fin 2816) : ℝ := dact R j * up R j * (sg (gate R j) * (1 + gate R j * (1 - sg (gate R j))))

def dhid (k : Fin 1024) : ℝ := ∑ j, (dgate R j * R.wg k j + dup R j * R.wu k j)

def dx (k : Fin 1024) : ℝ := dy R k + rmsBwd R.x (fun k => dhid R k * R.gp k) k

/-- The row's share of the second gain's gradient, -/
def dgq (k : Fin 1024) : ℝ := dy R k * (out R k * rinv (out R))

/-- and of the first gain's. -/
def dgp (k : Fin 1024) : ℝ := dhid R k * (R.x k * rinv R.x)

theorem sg_tanh (z : ℝ) : 1 / 2 * Real.tanh (1 / 2 * z) + 1 / 2 = sg z := by
  unfold sg
  rw [Real.tanh_eq_sinh_div_cosh, Real.sinh_eq, Real.cosh_eq]
  have e : Real.exp (-z) = Real.exp (-(1 / 2 * z)) * Real.exp (-(1 / 2 * z)) := by
    rw [← Real.exp_add]
    congr 1
    ring
  have p : Real.exp (1 / 2 * z) * Real.exp (-(1 / 2 * z)) = 1 := by rw [← Real.exp_add, add_neg_cancel, Real.exp_zero]
  have h := Real.exp_pos (1 / 2 * z)
  have h' := Real.exp_pos (-(1 / 2 * z))
  rw [e]
  generalize Real.exp (1 / 2 * z) = a at *
  generalize Real.exp (-(1 / 2 * z)) = b at *
  field_simp
  linear_combination (2 * b) * p

/-- A column of the lower half, -/
def lo (j : Fin 1408) : Fin 2816 := ⟨j, by omega⟩

/-- and of the upper. -/
def hi (j : Fin 1408) : Fin 2816 := ⟨1408 + j, by omega⟩

theorem sum_halves (f : Fin 2816 → ℝ) : ∑ j, f (lo j) + ∑ j, f (hi j) = ∑ j, f j :=
  (Fin.sum_univ_add (a := 1408) (b := 1408) f).symm

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

end Cert.FfnSpec
-- ==== Proof.FfnPay.lean ====
/-
  The payloads of the feed-forward kernel at real inputs, read at one index.
-/
module

public import proofs.«01_k».proof.Proof.FfnSpec
public import proofs.«01_k».proof.Proof.Gen.Kernel3Ideal.Value

@[expose] public section

set_option maxRecDepth 16384

noncomputable section

open Idealize.ShloMosaic Idealize.ShloMosaic.TcCoe Idealize.SL.Sem
open Cert.Common

namespace Cert.Kernel3Ideal.Ffn

open Cert.Kernel3Ideal Cert.Kernel3Ideal.Gen Cert.FfnSpec

/-- The arrays a grid point works on. -/
structure Blocks where
  x : Vec Ideal S256x1024 .f32
  tgt : Vec Ideal S256x1024 .f32
  gp : Vec Ideal S1x1024 .f32
  gq : Vec Ideal S1x1024 .f32
  wg : Vec Ideal S2816x1024 .bf16
  wu : Vec Ideal S2816x1024 .bf16
  wd : Vec Ideal S2816x1024 .bf16

/-- A weight's upper rows, -/
def rows0 (w : Vec Ideal S2816x1024 .bf16) : Vec Ideal S1408x1024 .bf16 := View.ld w (Rect.unit ![0, 0] ![1408, 1024] inb_S2816x1024_S1408x1024_0_0)

/-- and its lower rows. -/
def rows1 (w : Vec Ideal S2816x1024 .bf16) : Vec Ideal S1408x1024 .bf16 := View.ld w (Rect.unit ![1408, 0] ![1408, 1024] inb_S2816x1024_S1408x1024_1408_0)

namespace Blocks

variable (B : Blocks)

/-! The kernel's intermediate tiles; each of the two halves of the columns by itself. -/

def gate0 : FVec Ideal S256x1408 .f32 := k0_pay8 B.x B.gp (rows0 B.wg)
def gate1 : FVec Ideal S256x1408 .f32 := k0_pay10 (k0_pay7 B.x B.gp) (rows1 B.wg)
def up0 : FVec Ideal S256x1408 .f32 := k0_pay9 B.x B.gp (rows0 B.wu)
def up1 : FVec Ideal S256x1408 .f32 := k0_pay11 (k0_pay7 B.x B.gp) (rows1 B.wu)
def act0 : FVec Ideal S256x1408 .bf16 := k0_pay12 B.gate0 B.up0
def act1 : FVec Ideal S256x1408 .bf16 := k0_pay14 B.gate1 (k0_pay13 B.gate1) B.up1
def out : FVec Ideal S256x1024 .f32 := k0_pay15 B.act0 B.gate1 (k0_pay13 B.gate1) B.up1 (rows0 B.wd) (rows1 B.wd)
def scale : FVec Ideal S256x1 .f32 := k0_pay16 B.act0 B.gate1 (k0_pay13 B.gate1) B.up1 (rows0 B.wd) (rows1 B.wd)
def normed : FVec Ideal S256x1024 .f32 := k0_pay17 B.act0 B.gate1 (k0_pay13 B.gate1) B.up1 (rows0 B.wd) (rows1 B.wd)
def err : FVec Ideal S256x1024 .f32 := k0_pay18 B.x B.gq B.act0 B.gate1 (k0_pay13 B.gate1) B.up1 (rows0 B.wd) (rows1 B.wd) B.tgt
def dout : FVec Ideal S256x1024 .bf16 := k0_pay24 B.gq B.scale B.normed B.err
def dact0 : FVec Ideal S256x1408 .f32 := k0_pay25 B.gq B.scale B.normed B.err (rows0 B.wd)
def dact1 : FVec Ideal S256x1408 .f32 := k0_pay26 B.gq B.scale B.normed B.err (rows1 B.wd)
def dup0 : FVec Ideal S256x1408 .bf16 := k0_pay29 B.dact0 B.gate0 (k0_pay27 B.gate0)
def dup1 : FVec Ideal S256x1408 .bf16 := k0_pay32 B.dact1 B.gate1
def dgate0 : FVec Ideal S256x1408 .bf16 := k0_pay30 B.dact0 B.gate0 (k0_pay27 B.gate0) B.up0
def dgate1 : FVec Ideal S256x1408 .f32 := k0_pay33 B.dact1 B.gate1 B.up1
def dhid : FVec Ideal S256x1024 .f32 := k0_pay35 B.dup0 B.dgate0 B.dup1 B.dgate1 (rows0 B.wg) (rows0 B.wu) (rows1 B.wg) (rows1 B.wu)
def dhidg : FVec Ideal S256x1024 .f32 := k0_pay37 B.gp B.dup0 B.dgate0 B.dup1 B.dgate1 (rows0 B.wg) (rows0 B.wu) (rows1 B.wg) (rows1 B.wu)
def proj : FVec Ideal S256x1024 .f32 := k0_pay38 B.gp (k0_pay6 B.x) B.dup0 B.dgate0 B.dup1 B.dgate1 (rows0 B.wg) (rows0 B.wu) (rows1 B.wg) (rows1 B.wu)
def dx : FVec Ideal S256x1024 .f32 := k0_pay1 (k0_pay5 B.x) (k0_pay22 B.err) B.dhidg B.proj
def lossAcc (a : Vec Ideal S1x128 .f32) : FVec Ideal S1x128 .f32 := k0_pay21 (k0_pay19 a) (k0_pay20 B.x B.gq B.act0 B.gate1 (k0_pay13 B.gate1) B.up1 (rows0 B.wd) (rows1 B.wd) B.tgt)
def dgqAcc (a : Vec Ideal S1x1024 .f32) : FVec Ideal S1x1024 .f32 := k0_pay23 B.normed B.err a
def dgpAcc (a : Vec Ideal S1x1024 .f32) : FVec Ideal S1x1024 .f32 := k0_pay36 (k0_pay6 B.x) B.dup0 B.dgate0 B.dup1 B.dgate1 (rows0 B.wg) (rows0 B.wu) (rows1 B.wg) (rows1 B.wu) a

/-- The blocks hold these rows of reals. -/
structure Holds (R : Fin 256 → Row) : Prop where
  x : ∀ r k, B.x (ix2 r k) = ((R r).x k : EReal)
  tgt : ∀ r k, B.tgt (ix2 r k) = ((R r).tgt k : EReal)
  gp : ∀ r k, B.gp (ix2 0 k) = ((R r).gp k : EReal)
  gq : ∀ r k, B.gq (ix2 0 k) = ((R r).gq k : EReal)
  wg : ∀ r k j, B.wg (ix2 j k) = ((R r).wg k j : EReal)
  wu : ∀ r k j, B.wu (ix2 j k) = ((R r).wu k j : EReal)
  wd : ∀ r k j, B.wd (ix2 j k) = ((R r).wd j k : EReal)

end Blocks

theorem rows0_apply (w : Vec Ideal S2816x1024 .bf16) (j : Fin 1408) (k : Fin 1024) : rows0 w (ix2 j k) = w (ix2 (lo j) k) := by
  pointwise [rows0]
  congr 2
theorem rows1_apply (w : Vec Ideal S2816x1024 .bf16) (j : Fin 1408) (k : Fin 1024) : rows1 w (ix2 j k) = w (ix2 (hi j) k) := by
  pointwise [rows1]
  rfl

theorem ofBits_1024th : Ideal.ofBits .f32 0x3A800000#32 = ((1 / 1024 : ℝ) : EReal) := by
  simp [Ideal.ofBits, Ideal.ieee, -EReal.coe_mul]; norm_num

variable {B : Blocks} {R : Fin 256 → Row} (h : B.Holds R)

include h

theorem scale_apply (r : Fin 256) : k0_pay5 B.x (ix2 r 0) = (rinv (R r).x : EReal) := by
  pointwise [k0_pay5]
  simp only [h.x, ← EReal.coe_mul, coe_sum, ofBits_1024, ofBits_eps, coe_div _ _ (by norm_num : (1024 : ℝ) ≠ 0), ← EReal.coe_add, rsqrt_ms]

theorem normed0_apply (r : Fin 256) (k : Fin 1024) : k0_pay6 B.x (ix2 r k) = (((R r).x k * rinv (R r).x : ℝ) : EReal) := by
  pointwise [k0_pay6]
  simp only [scale_apply h, h.x, ← EReal.coe_mul]

theorem hid_apply (r : Fin 256) (k : Fin 1024) : k0_pay7 B.x B.gp (ix2 r k) = (hid (R r) k : EReal) := by
  pointwise [k0_pay7]
  simp only [normed0_apply h, h.gp r, ← EReal.coe_mul]
  rfl

theorem gate0_apply (r : Fin 256) (j : Fin 1408) : B.gate0 (ix2 r j) = (gate (R r) (lo j) : EReal) := by
  pointwise [Blocks.gate0, k0_pay8]
  simp only [hid_apply h, rows0_apply, h.wg r, ← EReal.coe_mul, coe_sum]
  rfl

theorem gate1_apply (r : Fin 256) (j : Fin 1408) : B.gate1 (ix2 r j) = (gate (R r) (hi j) : EReal) := by
  pointwise [Blocks.gate1, k0_pay10]
  simp only [hid_apply h, rows1_apply, h.wg r, ← EReal.coe_mul, coe_sum]
  rfl

theorem up0_apply (r : Fin 256) (j : Fin 1408) : B.up0 (ix2 r j) = (up (R r) (lo j) : EReal) := by
  pointwise [Blocks.up0, k0_pay9]
  simp only [hid_apply h, rows0_apply, h.wu r, ← EReal.coe_mul, coe_sum]
  rfl

theorem up1_apply (r : Fin 256) (j : Fin 1408) : B.up1 (ix2 r j) = (up (R r) (hi j) : EReal) := by
  pointwise [Blocks.up1, k0_pay11]
  simp only [hid_apply h, rows1_apply, h.wu r, ← EReal.coe_mul, coe_sum]
  rfl

theorem sg0_apply (r : Fin 256) (j : Fin 1408) : k0_pay28 (F := Ideal) (k0_pay27 B.gate0) (ix2 r j) = (sg (gate (R r) (lo j)) : EReal) := by
  pointwise [k0_pay28, k0_pay27]
  simp only [gate0_apply h, ofBits_half, ← EReal.coe_mul, Ideal.tanh_coe, ← EReal.coe_add, sg_tanh]

theorem sg1_apply (r : Fin 256) (j : Fin 1408) : k0_pay31 (F := Ideal) B.gate1 (ix2 r j) = (sg (gate (R r) (hi j)) : EReal) := by
  pointwise [k0_pay31]
  simp only [gate1_apply h, ofBits_half, ← EReal.coe_mul, Ideal.tanh_coe, ← EReal.coe_add, sg_tanh]

theorem act0_apply (r : Fin 256) (j : Fin 1408) : B.act0 (ix2 r j) = (act (R r) (lo j) : EReal) := by
  pointwise [Blocks.act0, k0_pay12]
  simp only [gate0_apply h, up0_apply h, ofBits_half, ← EReal.coe_mul, Ideal.tanh_coe, ← EReal.coe_add, sg_tanh]
  rfl

theorem act1_apply (r : Fin 256) (j : Fin 1408) : B.act1 (ix2 r j) = (act (R r) (hi j) : EReal) := by
  pointwise [Blocks.act1, k0_pay14, k0_pay13]
  simp only [gate1_apply h, up1_apply h, ofBits_half, ← EReal.coe_mul, Ideal.tanh_coe, ← EReal.coe_add, sg_tanh]
  rfl

theorem out_apply (r : Fin 256) (k : Fin 1024) : B.out (ix2 r k) = (FfnSpec.out (R r) k : EReal) := by
  have e : ∀ r j, k0_pay14 (F := Ideal) B.gate1 (k0_pay13 B.gate1) B.up1 (ix2 r j) = (act (R r) (hi j) : EReal) := act1_apply h
  pointwise [Blocks.out, k0_pay15]
  simp only [act0_apply h, e, rows0_apply, rows1_apply, h.wd r, ← EReal.coe_mul, coe_sum, ← EReal.coe_add, sum_halves (fun j => act (R r) j * (R r).wd j k)]
  rfl

theorem scale1_apply (r : Fin 256) : B.scale (ix2 r 0) = (rinv (FfnSpec.out (R r)) : EReal) := by
  have e : ∀ r k, k0_pay15 B.act0 B.gate1 (k0_pay13 B.gate1) B.up1 (rows0 B.wd) (rows1 B.wd) (ix2 r k) = (FfnSpec.out (R r) k : EReal) := out_apply h
  pointwise [Blocks.scale, k0_pay16]
  simp only [e, ← EReal.coe_mul, coe_sum, ofBits_1024, ofBits_eps, coe_div _ _ (by norm_num : (1024 : ℝ) ≠ 0), ← EReal.coe_add, rsqrt_ms]

theorem normed_apply (r : Fin 256) (k : Fin 1024) : B.normed (ix2 r k) = ((FfnSpec.out (R r) k * rinv (FfnSpec.out (R r)) : ℝ) : EReal) := by
  have e : ∀ r k, k0_pay15 B.act0 B.gate1 (k0_pay13 B.gate1) B.up1 (rows0 B.wd) (rows1 B.wd) (ix2 r k) = (FfnSpec.out (R r) k : EReal) := out_apply h
  have e' : ∀ r, k0_pay16 B.act0 B.gate1 (k0_pay13 B.gate1) B.up1 (rows0 B.wd) (rows1 B.wd) (ix2 r 0) = (rinv (FfnSpec.out (R r)) : EReal) := scale1_apply h
  pointwise [Blocks.normed, k0_pay17]
  simp only [e, e', ← EReal.coe_mul]

theorem err_apply (r : Fin 256) (k : Fin 1024) : B.err (ix2 r k) = (FfnSpec.err (R r) k : EReal) := by
  have e : ∀ r k, k0_pay17 B.act0 B.gate1 (k0_pay13 B.gate1) B.up1 (rows0 B.wd) (rows1 B.wd) (ix2 r k) = ((FfnSpec.out (R r) k * rinv (FfnSpec.out (R r)) : ℝ) : EReal) := normed_apply h
  pointwise [Blocks.err, k0_pay18]
  simp only [e, h.x, h.gq r, h.tgt, ← EReal.coe_mul, ← EReal.coe_add, ← EReal.coe_sub]
  rfl

theorem dy_apply (r : Fin 256) (k : Fin 1024) : k0_pay22 B.err (ix2 r k) = (FfnSpec.dy (R r) k : EReal) := by
  pointwise [k0_pay22]
  simp only [err_apply h, ofBits_1024th, ← EReal.coe_mul, FfnSpec.dy, mul_one_div]

theorem dout_apply (r : Fin 256) (k : Fin 1024) : B.dout (ix2 r k) = (FfnSpec.dout (R r) k : EReal) := by
  pointwise [Blocks.dout, k0_pay24]
  simp only [dy_apply h, normed_apply h, scale1_apply h, h.gq r, ← EReal.coe_mul, coe_sum, ofBits_1024, coe_div _ _ (by norm_num : (1024 : ℝ) ≠ 0), ← EReal.coe_sub]
  rfl

theorem dact0_apply (r : Fin 256) (j : Fin 1408) : B.dact0 (ix2 r j) = (dact (R r) (lo j) : EReal) := by
  have e : ∀ r k, k0_pay24 B.gq B.scale B.normed B.err (ix2 r k) = (FfnSpec.dout (R r) k : EReal) := dout_apply h
  pointwise [Blocks.dact0, k0_pay25]
  simp only [e, rows0_apply, h.wd r, ← EReal.coe_mul, coe_sum]
  rfl

theorem dact1_apply (r : Fin 256) (j : Fin 1408) : B.dact1 (ix2 r j) = (dact (R r) (hi j) : EReal) := by
  have e : ∀ r k, k0_pay24 B.gq B.scale B.normed B.err (ix2 r k) = (FfnSpec.dout (R r) k : EReal) := dout_apply h
  pointwise [Blocks.dact1, k0_pay26]
  simp only [e, rows1_apply, h.wd r, ← EReal.coe_mul, coe_sum]
  rfl

theorem dup0_apply (r : Fin 256) (j : Fin 1408) : B.dup0 (ix2 r j) = (dup (R r) (lo j) : EReal) := by
  pointwise [Blocks.dup0, k0_pay29]
  simp only [dact0_apply h, gate0_apply h, sg0_apply h, ← EReal.coe_mul]
  rfl

theorem dup1_apply (r : Fin 256) (j : Fin 1408) : B.dup1 (ix2 r j) = (dup (R r) (hi j) : EReal) := by
  pointwise [Blocks.dup1, k0_pay32]
  simp only [dact1_apply h, gate1_apply h, sg1_apply h, ← EReal.coe_mul]
  rfl

theorem dgate0_apply (r : Fin 256) (j : Fin 1408) : B.dgate0 (ix2 r j) = (dgate (R r) (lo j) : EReal) := by
  pointwise [Blocks.dgate0, k0_pay30]
  simp only [dact0_apply h, gate0_apply h, up0_apply h, sg0_apply h, ofBits_one, ← EReal.coe_sub, ← EReal.coe_mul, ← EReal.coe_add]
  rfl

theorem dgate1_apply (r : Fin 256) (j : Fin 1408) : B.dgate1 (ix2 r j) = (dgate (R r) (hi j) : EReal) := by
  pointwise [Blocks.dgate1, k0_pay33]
  simp only [dact1_apply h, gate1_apply h, up1_apply h, sg1_apply h, ofBits_one, ← EReal.coe_sub, ← EReal.coe_mul, ← EReal.coe_add]
  rfl

theorem dhid_apply (r : Fin 256) (k : Fin 1024) : B.dhid (ix2 r k) = (FfnSpec.dhid (R r) k : EReal) := by
  pointwise [Blocks.dhid, k0_pay35, k0_pay34]
  simp only [dup0_apply h, dup1_apply h, dgate0_apply h, dgate1_apply h, rows0_apply, rows1_apply, h.wg r, h.wu r, ← EReal.coe_mul, coe_sum, ← EReal.coe_add,
    ← Finset.sum_add_distrib, sum_halves (fun j => dgate (R r) j * (R r).wg k j + dup (R r) j * (R r).wu k j)]
  rfl

theorem dx_apply (r : Fin 256) (k : Fin 1024) : B.dx (ix2 r k) = (FfnSpec.dx (R r) k : EReal) := by
  have e : ∀ r k, k0_pay35 B.dup0 B.dgate0 B.dup1 B.dgate1 (rows0 B.wg) (rows0 B.wu) (rows1 B.wg) (rows1 B.wu) (ix2 r k) = (FfnSpec.dhid (R r) k : EReal) := dhid_apply h
  pointwise [Blocks.dx, Blocks.dhidg, Blocks.proj, k0_pay1, k0_pay37, k0_pay38]
  simp only [e, dy_apply h, scale_apply h, normed0_apply h, h.gp r, ← EReal.coe_mul, coe_sum, ofBits_1024, coe_div _ _ (by norm_num : (1024 : ℝ) ≠ 0), ← EReal.coe_sub, ← EReal.coe_add]
  rfl

theorem lossAcc_apply (a : Vec Ideal S1x128 .f32) (k : Fin 128) : B.lossAcc a (ix2 0 k) = a (ix2 0 k) + ((1 / 2 * ∑ r, FfnSpec.loss (R r) : ℝ) : EReal) := by
  have e : ∀ r k, k0_pay18 B.x B.gq B.act0 B.gate1 (k0_pay13 B.gate1) B.up1 (rows0 B.wd) (rows1 B.wd) B.tgt (ix2 r k) = (FfnSpec.err (R r) k : EReal) := err_apply h
  pointwise [Blocks.lossAcc, k0_pay21, k0_pay19, k0_pay20]
  simp only [e, ← EReal.coe_mul, coe_sum, ofBits_1024, ofBits_half, coe_div _ _ (by norm_num : (1024 : ℝ) ≠ 0), ← EReal.coe_add]
  rfl

theorem dgqAcc_apply (a : Vec Ideal S1x1024 .f32) (k : Fin 1024) : B.dgqAcc a (ix2 0 k) = a (ix2 0 k) + ((∑ r, FfnSpec.dgq (R r) k : ℝ) : EReal) := by
  pointwise [Blocks.dgqAcc, k0_pay23]
  simp only [dy_apply h, normed_apply h, ← EReal.coe_mul, coe_sum]
  rfl

theorem dgpAcc_apply (a : Vec Ideal S1x1024 .f32) (k : Fin 1024) : B.dgpAcc a (ix2 0 k) = a (ix2 0 k) + ((∑ r, FfnSpec.dgp (R r) k : ℝ) : EReal) := by
  have e : ∀ r k, k0_pay35 B.dup0 B.dgate0 B.dup1 B.dgate1 (rows0 B.wg) (rows0 B.wu) (rows1 B.wg) (rows1 B.wu) (ix2 r k) = (FfnSpec.dhid (R r) k : EReal) := dhid_apply h
  pointwise [Blocks.dgpAcc, k0_pay36]
  simp only [e, normed0_apply h, ← EReal.coe_mul, coe_sum]
  rfl

end Cert.Kernel3Ideal.Ffn
-- ==== Proof.FfnKernel.lean ====
/-
  The feed-forward kernel run at real arguments: the blocks its points read and leave, and the arrays it writes.
-/
module

public import proofs.«01_k».proof.Proof.FfnPay
public import Idealize.ShloMosaic.Lib.StableHlo.ReadAt

@[expose] public section

set_option maxRecDepth 16384

noncomputable section

open Idealize.ShloMosaic Idealize.ShloMosaic.TcCoe Idealize.SL.Sem
open Cert.Common

namespace Cert.Kernel3Ideal.Ffn

open Cert.Kernel3Ideal Cert.Kernel3Ideal.Gen Cert.FfnSpec

/-! ## Two halves of the columns -/

abbrev left : Rect S256x2816 := Rect.unit ![0, 0] ![256, 1408] inb_S256x2816_S256x1408_0_0

abbrev right : Rect S256x2816 := Rect.unit ![0, 1408] ![256, 1408] inb_S256x2816_S256x1408_0_1408

theorem left_emb (r : Fin 256) (j : Fin 1408) : left.emb (ix2 r j) = ix2 r (lo j) := by
  funext a; apply Fin.ext
  match a with
  | ⟨0, _⟩ => show 0 + 1 * r.val = r.val; omega
  | ⟨1, _⟩ => show 0 + 1 * j.val = j.val; omega

theorem right_emb (r : Fin 256) (j : Fin 1408) : right.emb (ix2 r j) = ix2 r (hi j) := by
  funext a; apply Fin.ext
  match a with
  | ⟨0, _⟩ => show 0 + 1 * r.val = r.val; omega
  | ⟨1, _⟩ => show 1408 + 1 * j.val = 1408 + j.val; omega

theorem left_not_right (x : left.shape.Idx) : left.emb x ∉ right.set := by
  intro h
  obtain ⟨y, hy⟩ := right.exists_idx_of_mem h
  obtain ⟨r, j, rfl⟩ : ∃ (r : Fin 256) (j : Fin 1408), x = ix2 r j := ⟨x 0, x 1, eq_ix2 x⟩
  obtain ⟨r', j', rfl⟩ : ∃ (r : Fin 256) (j : Fin 1408), y = ix2 r j := ⟨y 0, y 1, eq_ix2 y⟩
  have e : ix2 r' (hi j') = ix2 r (lo j) := (right_emb r' j').symm.trans (hy.trans (left_emb r j))
  have e' : 1408 + j'.val = j.val := congrArg (fun i : S256x2816.Idx => (i 1).val) e
  have := j.isLt
  omega

/-- A load of the half stored last reads what was stored, -/
theorem read_right {κ : Kind} {sp : Space} (v : View sig κ sp S256x2816 .f32) (p1 : Vec Ideal S256x1408 .f32) (L : List (View.Piece (Elt Ideal) S256x2816 .f32)) :
    v.readCov ((⟨right, p1⟩ : View.Piece (Elt Ideal) S256x2816 .f32) :: L) right.toLoadRect = p1 := by
  rw [View.readCov_eq_canon']
  exact funext fun x => View.canon_cons_emb right p1 L x

/-- and a load of the other half what was stored before. -/
theorem read_left {κ : Kind} {sp : Space} (v : View sig κ sp S256x2816 .f32) (p1 p0 : Vec Ideal S256x1408 .f32) :
    v.readCov [(⟨right, p1⟩ : View.Piece (Elt Ideal) S256x2816 .f32), ⟨left, p0⟩] left.toLoadRect = p0 := by
  rw [View.readCov_eq_canon']
  exact funext fun x => (View.canon_cons_of_not_mem (⟨right, p1⟩ : View.Piece (Elt Ideal) S256x2816 .f32) [⟨left, p0⟩] (y := left.emb x) (left_not_right x)).trans (View.canon_cons_emb left p0 [] x)

/-- Two stored halves make the whole tile. -/
theorem halves (p1 p0 : Vec Ideal S256x1408 .bf16) (A : Fin 256 → Fin 2816 → ℝ) (h0 : ∀ r j, p0 (ix2 r j) = (A r (lo j) : EReal)) (h1 : ∀ r j, p1 (ix2 r j) = (A r (hi j) : EReal))
    (r : Fin 256) (k : Fin 2816) : (View.canon [(⟨right, p1⟩ : View.Piece (Elt Ideal) S256x2816 .bf16), ⟨left, p0⟩] : Vec Ideal S256x2816 .bf16) (ix2 r k) = (A r k : EReal) := by
  by_cases hk : k.val < 1408
  · have e : ix2 r k = left.emb (ix2 r ⟨k, hk⟩) := (left_emb r ⟨k, hk⟩).symm
    rw [e]
    exact (View.canon_cons_of_not_mem (⟨right, p1⟩ : View.Piece (Elt Ideal) S256x2816 .bf16) [⟨left, p0⟩] (y := left.emb _) (left_not_right _)).trans ((View.canon_cons_emb left p0 [] _).trans (h0 r _))
  · have e : ix2 r k = right.emb (ix2 r ⟨k - 1408, by omega⟩) := by
      rw [right_emb]
      exact congrArg (ix2 r) (Fin.ext (by show k.val = 1408 + (k.val - 1408); omega))
    have e' : hi ⟨k - 1408, by omega⟩ = k := Fin.ext (by show 1408 + (k.val - 1408) = k.val; omega)
    rw [e]
    refine (View.canon_cons_emb right p1 _ _).trans ((h1 r _).trans ?_)
    rw [e']

variable (m : (ℓ : Loc nD τ sig) → Buf (Elt Ideal) ℓ) (c : Dev nD)

/-! ## Where a block's index lies in its array -/

/-- Row `r` of point `t`'s block of rows. -/
def row (t : Fin cfg0.N) (r : Fin 256) : Fin 4096 := ⟨t.val * 256 + r.val, by have := t.isLt; have : cfg0.N = 16 := N_0; have := r.isLt; omega⟩

theorem emb0 (t : Fin cfg0.N) (r : Fin 256) (k : Fin 1024) : ((cfg0.win 0).blk t).view.emb (ix2 r k) = ix2 (row t r) k := by
  have e : win0_0.index t (0 : Fin 2) = t.val ∧ win0_0.index t (1 : Fin 2) = 0 :=
    (by decide +kernel : ∀ t : Fin grid0.N, win0_0.index t (0 : Fin 2) = t.val ∧ win0_0.index t (1 : Fin 2) = 0) t
  funext a; apply Fin.ext
  match a with
  | ⟨0, _⟩ => show win0_0.index t (0 : Fin 2) * 256 + 1 * r.val = t.val * 256 + r.val; omega
  | ⟨1, _⟩ => show win0_0.index t (1 : Fin 2) * 1024 + 1 * k.val = k.val; omega

theorem emb1 (t : Fin cfg0.N) (r : Fin 256) (k : Fin 1024) : ((cfg0.win 1).blk t).view.emb (ix2 r k) = ix2 (row t r) k := by
  have e : win0_1.index t (0 : Fin 2) = t.val ∧ win0_1.index t (1 : Fin 2) = 0 :=
    (by decide +kernel : ∀ t : Fin grid0.N, win0_1.index t (0 : Fin 2) = t.val ∧ win0_1.index t (1 : Fin 2) = 0) t
  funext a; apply Fin.ext
  match a with
  | ⟨0, _⟩ => show win0_1.index t (0 : Fin 2) * 256 + 1 * r.val = t.val * 256 + r.val; omega
  | ⟨1, _⟩ => show win0_1.index t (1 : Fin 2) * 1024 + 1 * k.val = k.val; omega

theorem emb2 (t : Fin cfg0.N) (r : Fin 1) (k : Fin 1024) : ((cfg0.win 2).blk t).view.emb (ix2 r k) = ix2 r k := by
  have e : win0_2.index t (0 : Fin 2) = 0 ∧ win0_2.index t (1 : Fin 2) = 0 :=
    (by decide +kernel : ∀ t : Fin grid0.N, win0_2.index t (0 : Fin 2) = 0 ∧ win0_2.index t (1 : Fin 2) = 0) t
  funext a; apply Fin.ext
  match a with
  | ⟨0, _⟩ => show win0_2.index t (0 : Fin 2) * 1 + 1 * r.val = r.val; omega
  | ⟨1, _⟩ => show win0_2.index t (1 : Fin 2) * 1024 + 1 * k.val = k.val; omega

theorem emb3 (t : Fin cfg0.N) (r : Fin 1) (k : Fin 1024) : ((cfg0.win 3).blk t).view.emb (ix2 r k) = ix2 r k := by
  have e : win0_3.index t (0 : Fin 2) = 0 ∧ win0_3.index t (1 : Fin 2) = 0 :=
    (by decide +kernel : ∀ t : Fin grid0.N, win0_3.index t (0 : Fin 2) = 0 ∧ win0_3.index t (1 : Fin 2) = 0) t
  funext a; apply Fin.ext
  match a with
  | ⟨0, _⟩ => show win0_3.index t (0 : Fin 2) * 1 + 1 * r.val = r.val; omega
  | ⟨1, _⟩ => show win0_3.index t (1 : Fin 2) * 1024 + 1 * k.val = k.val; omega

theorem emb4 (t : Fin cfg0.N) (r : Fin 2816) (k : Fin 1024) : ((cfg0.win 4).blk t).view.emb (ix2 r k) = ix2 r k := by
  have e : win0_4.index t (0 : Fin 2) = 0 ∧ win0_4.index t (1 : Fin 2) = 0 :=
    (by decide +kernel : ∀ t : Fin grid0.N, win0_4.index t (0 : Fin 2) = 0 ∧ win0_4.index t (1 : Fin 2) = 0) t
  funext a; apply Fin.ext
  match a with
  | ⟨0, _⟩ => show win0_4.index t (0 : Fin 2) * 2816 + 1 * r.val = r.val; omega
  | ⟨1, _⟩ => show win0_4.index t (1 : Fin 2) * 1024 + 1 * k.val = k.val; omega

theorem emb5 (t : Fin cfg0.N) (r : Fin 2816) (k : Fin 1024) : ((cfg0.win 5).blk t).view.emb (ix2 r k) = ix2 r k := by
  have e : win0_5.index t (0 : Fin 2) = 0 ∧ win0_5.index t (1 : Fin 2) = 0 :=
    (by decide +kernel : ∀ t : Fin grid0.N, win0_5.index t (0 : Fin 2) = 0 ∧ win0_5.index t (1 : Fin 2) = 0) t
  funext a; apply Fin.ext
  match a with
  | ⟨0, _⟩ => show win0_5.index t (0 : Fin 2) * 2816 + 1 * r.val = r.val; omega
  | ⟨1, _⟩ => show win0_5.index t (1 : Fin 2) * 1024 + 1 * k.val = k.val; omega

theorem emb6 (t : Fin cfg0.N) (r : Fin 2816) (k : Fin 1024) : ((cfg0.win 6).blk t).view.emb (ix2 r k) = ix2 r k := by
  have e : win0_6.index t (0 : Fin 2) = 0 ∧ win0_6.index t (1 : Fin 2) = 0 :=
    (by decide +kernel : ∀ t : Fin grid0.N, win0_6.index t (0 : Fin 2) = 0 ∧ win0_6.index t (1 : Fin 2) = 0) t
  funext a; apply Fin.ext
  match a with
  | ⟨0, _⟩ => show win0_6.index t (0 : Fin 2) * 2816 + 1 * r.val = r.val; omega
  | ⟨1, _⟩ => show win0_6.index t (1 : Fin 2) * 1024 + 1 * k.val = k.val; omega

theorem emb7 (t : Fin cfg0.N) (r : Fin 256) (k : Fin 1024) : ((cfg0.win 7).blk t).view.emb (ix2 r k) = ix2 (row t r) k := by
  have e : win0_7.index t (0 : Fin 2) = t.val ∧ win0_7.index t (1 : Fin 2) = 0 :=
    (by decide +kernel : ∀ t : Fin grid0.N, win0_7.index t (0 : Fin 2) = t.val ∧ win0_7.index t (1 : Fin 2) = 0) t
  funext a; apply Fin.ext
  match a with
  | ⟨0, _⟩ => show win0_7.index t (0 : Fin 2) * 256 + 1 * r.val = t.val * 256 + r.val; omega
  | ⟨1, _⟩ => show win0_7.index t (1 : Fin 2) * 1024 + 1 * k.val = k.val; omega

theorem emb8 (t : Fin cfg0.N) (r : Fin 256) (k : Fin 1024) : ((cfg0.win 8).blk t).view.emb (ix2 r k) = ix2 (row t r) k := by
  have e : win0_8.index t (0 : Fin 2) = t.val ∧ win0_8.index t (1 : Fin 2) = 0 :=
    (by decide +kernel : ∀ t : Fin grid0.N, win0_8.index t (0 : Fin 2) = t.val ∧ win0_8.index t (1 : Fin 2) = 0) t
  funext a; apply Fin.ext
  match a with
  | ⟨0, _⟩ => show win0_8.index t (0 : Fin 2) * 256 + 1 * r.val = t.val * 256 + r.val; omega
  | ⟨1, _⟩ => show win0_8.index t (1 : Fin 2) * 1024 + 1 * k.val = k.val; omega

theorem emb9 (t : Fin cfg0.N) (r : Fin 256) (k : Fin 2816) : ((cfg0.win 9).blk t).view.emb (ix2 r k) = ix2 (row t r) k := by
  have e : win0_9.index t (0 : Fin 2) = t.val ∧ win0_9.index t (1 : Fin 2) = 0 :=
    (by decide +kernel : ∀ t : Fin grid0.N, win0_9.index t (0 : Fin 2) = t.val ∧ win0_9.index t (1 : Fin 2) = 0) t
  funext a; apply Fin.ext
  match a with
  | ⟨0, _⟩ => show win0_9.index t (0 : Fin 2) * 256 + 1 * r.val = t.val * 256 + r.val; omega
  | ⟨1, _⟩ => show win0_9.index t (1 : Fin 2) * 2816 + 1 * k.val = k.val; omega

theorem emb10 (t : Fin cfg0.N) (r : Fin 256) (k : Fin 2816) : ((cfg0.win 10).blk t).view.emb (ix2 r k) = ix2 (row t r) k := by
  have e : win0_10.index t (0 : Fin 2) = t.val ∧ win0_10.index t (1 : Fin 2) = 0 :=
    (by decide +kernel : ∀ t : Fin grid0.N, win0_10.index t (0 : Fin 2) = t.val ∧ win0_10.index t (1 : Fin 2) = 0) t
  funext a; apply Fin.ext
  match a with
  | ⟨0, _⟩ => show win0_10.index t (0 : Fin 2) * 256 + 1 * r.val = t.val * 256 + r.val; omega
  | ⟨1, _⟩ => show win0_10.index t (1 : Fin 2) * 2816 + 1 * k.val = k.val; omega

theorem emb11 (t : Fin cfg0.N) (r : Fin 256) (k : Fin 2816) : ((cfg0.win 11).blk t).view.emb (ix2 r k) = ix2 (row t r) k := by
  have e : win0_11.index t (0 : Fin 2) = t.val ∧ win0_11.index t (1 : Fin 2) = 0 :=
    (by decide +kernel : ∀ t : Fin grid0.N, win0_11.index t (0 : Fin 2) = t.val ∧ win0_11.index t (1 : Fin 2) = 0) t
  funext a; apply Fin.ext
  match a with
  | ⟨0, _⟩ => show win0_11.index t (0 : Fin 2) * 256 + 1 * r.val = t.val * 256 + r.val; omega
  | ⟨1, _⟩ => show win0_11.index t (1 : Fin 2) * 2816 + 1 * k.val = k.val; omega

theorem emb12 (t : Fin cfg0.N) (r : Fin 256) (k : Fin 1024) : ((cfg0.win 12).blk t).view.emb (ix2 r k) = ix2 (row t r) k := by
  have e : win0_12.index t (0 : Fin 2) = t.val ∧ win0_12.index t (1 : Fin 2) = 0 :=
    (by decide +kernel : ∀ t : Fin grid0.N, win0_12.index t (0 : Fin 2) = t.val ∧ win0_12.index t (1 : Fin 2) = 0) t
  funext a; apply Fin.ext
  match a with
  | ⟨0, _⟩ => show win0_12.index t (0 : Fin 2) * 256 + 1 * r.val = t.val * 256 + r.val; omega
  | ⟨1, _⟩ => show win0_12.index t (1 : Fin 2) * 1024 + 1 * k.val = k.val; omega

theorem emb13 (t : Fin cfg0.N) (r : Fin 1) (k : Fin 128) : ((cfg0.win 13).blk t).view.emb (ix2 r k) = ix2 r k := by
  have e : win0_13.index t (0 : Fin 2) = 0 ∧ win0_13.index t (1 : Fin 2) = 0 :=
    (by decide +kernel : ∀ t : Fin grid0.N, win0_13.index t (0 : Fin 2) = 0 ∧ win0_13.index t (1 : Fin 2) = 0) t
  funext a; apply Fin.ext
  match a with
  | ⟨0, _⟩ => show win0_13.index t (0 : Fin 2) * 1 + 1 * r.val = r.val; omega
  | ⟨1, _⟩ => show win0_13.index t (1 : Fin 2) * 128 + 1 * k.val = k.val; omega

theorem emb14 (t : Fin cfg0.N) (r : Fin 1) (k : Fin 1024) : ((cfg0.win 14).blk t).view.emb (ix2 r k) = ix2 r k := by
  have e : win0_14.index t (0 : Fin 2) = 0 ∧ win0_14.index t (1 : Fin 2) = 0 :=
    (by decide +kernel : ∀ t : Fin grid0.N, win0_14.index t (0 : Fin 2) = 0 ∧ win0_14.index t (1 : Fin 2) = 0) t
  funext a; apply Fin.ext
  match a with
  | ⟨0, _⟩ => show win0_14.index t (0 : Fin 2) * 1 + 1 * r.val = r.val; omega
  | ⟨1, _⟩ => show win0_14.index t (1 : Fin 2) * 1024 + 1 * k.val = k.val; omega

theorem emb15 (t : Fin cfg0.N) (r : Fin 1) (k : Fin 1024) : ((cfg0.win 15).blk t).view.emb (ix2 r k) = ix2 r k := by
  have e : win0_15.index t (0 : Fin 2) = 0 ∧ win0_15.index t (1 : Fin 2) = 0 :=
    (by decide +kernel : ∀ t : Fin grid0.N, win0_15.index t (0 : Fin 2) = 0 ∧ win0_15.index t (1 : Fin 2) = 0) t
  funext a; apply Fin.ext
  match a with
  | ⟨0, _⟩ => show win0_15.index t (0 : Fin 2) * 1 + 1 * r.val = r.val; omega
  | ⟨1, _⟩ => show win0_15.index t (1 : Fin 2) * 1024 + 1 * k.val = k.val; omega

/-! ## The points' input blocks -/

variable (R : Fin 4096 → Row)

/-- Device `c`'s arguments are these real arrays. -/
structure Args : Prop where
  h0 : ∀ i k, (m ((c : Thread nD τ).loc main_arg0) : FVec Ideal S4096x1024 .f32) (ix2 i k) = ((R i).x k : EReal)
  h1 : ∀ i k, (m ((c : Thread nD τ).loc main_arg1) : FVec Ideal S4096x1024 .f32) (ix2 i k) = ((R i).tgt k : EReal)
  h2 : ∀ i k, (m ((c : Thread nD τ).loc main_arg2) : FVec Ideal S1x1024 .f32) (ix2 0 k) = ((R i).gp k : EReal)
  h3 : ∀ i k, (m ((c : Thread nD τ).loc main_arg3) : FVec Ideal S1x1024 .f32) (ix2 0 k) = ((R i).gq k : EReal)
  h4 : ∀ i k j, (m ((c : Thread nD τ).loc main_arg4) : FVec Ideal S1024x2816 .f32) (ix2 k j) = ((R i).wg k j : EReal)
  h5 : ∀ i k j, (m ((c : Thread nD τ).loc main_arg5) : FVec Ideal S1024x2816 .f32) (ix2 k j) = ((R i).wu k j : EReal)
  h6 : ∀ i k j, (m ((c : Thread nD τ).loc main_arg6) : FVec Ideal S2816x1024 .f32) (ix2 j k) = ((R i).wd j k : EReal)

/-- The blocks point `t` reads. -/
def blocks (t : Fin cfg0.N) : Blocks := ⟨iblk m c 0 t, iblk m c 1 t, iblk m c 2 t, iblk m c 3 t, iblk m c 4 t, iblk m c 5 t, iblk m c 6 t⟩

variable (h : Args m c R)

include h

theorem wg_at (i : Fin 4096) (k : Fin 1024) (j : Fin 2816) : (V m c main_v1 : FVec Ideal S2816x1024 .bf16) (ix2 j k) = ((R i).wg k j : EReal) := by
  unfold V hostOps0
  after_reads_at
  exact h.h4 i k j

theorem wu_at (i : Fin 4096) (k : Fin 1024) (j : Fin 2816) : (V m c main_v3 : FVec Ideal S2816x1024 .bf16) (ix2 j k) = ((R i).wu k j : EReal) := by
  unfold V hostOps0
  after_reads_at
  exact h.h5 i k j

theorem wd_at (i : Fin 4096) (k : Fin 1024) (j : Fin 2816) : (V m c main_v4 : FVec Ideal S2816x1024 .bf16) (ix2 j k) = ((R i).wd j k : EReal) := by
  unfold V hostOps0
  after_reads_at
  exact h.h6 i k j

theorem holds (t : Fin cfg0.N) : (blocks m c t).Holds fun r => R (row t r) where
  x r k := by
    show V m c main_arg0 (((cfg0.win 0).blk t).view.emb (ix2 r k)) = _
    rw [emb0, V_main_arg0]; exact h.h0 _ _
  tgt r k := by
    show V m c main_arg1 (((cfg0.win 1).blk t).view.emb (ix2 r k)) = _
    rw [emb1, V_main_arg1]; exact h.h1 _ _
  gp r k := by
    show V m c main_arg2 (((cfg0.win 2).blk t).view.emb (ix2 0 k)) = _
    rw [emb2, V_main_arg2]; exact h.h2 _ _
  gq r k := by
    show V m c main_arg3 (((cfg0.win 3).blk t).view.emb (ix2 0 k)) = _
    rw [emb3, V_main_arg3]; exact h.h3 _ _
  wg r k j := by
    show V m c main_v1 (((cfg0.win 4).blk t).view.emb (ix2 j k)) = _
    rw [emb4]; exact wg_at m c R h _ k j
  wu r k j := by
    show V m c main_v3 (((cfg0.win 5).blk t).view.emb (ix2 j k)) = _
    rw [emb5]; exact wu_at m c R h _ k j
  wd r k j := by
    show V m c main_v4 (((cfg0.win 6).blk t).view.emb (ix2 j k)) = _
    rw [emb6]; exact wd_at m c R h _ k j

/-! ## The blocks a point leaves -/

omit h in
theorem read_x (t : Fin cfg0.N) : iblk m c 0 t = (blocks m c t).x := rfl
omit h in
theorem read_tgt (t : Fin cfg0.N) : iblk m c 1 t = (blocks m c t).tgt := rfl
omit h in
theorem read_gp (t : Fin cfg0.N) : iblk m c 2 t = (blocks m c t).gp := rfl
omit h in
theorem read_gq (t : Fin cfg0.N) : iblk m c 3 t = (blocks m c t).gq := rfl
omit h in
theorem read_wg (t : Fin cfg0.N) : iblk m c 4 t = (blocks m c t).wg := rfl
omit h in
theorem read_wu (t : Fin cfg0.N) : iblk m c 5 t = (blocks m c t).wu := rfl
omit h in
theorem read_wd (t : Fin cfg0.N) : iblk m c 6 t = (blocks m c t).wd := rfl

/-- A point leaves its rows of the input gradient. -/
theorem left7 (t : Fin cfg0.N) (r : Fin 256) (k : Fin 1024) : (outsAt0 m c t.val t.isLt).1 (ix2 r k) = (FfnSpec.dx (R (row t r)) k : EReal) := by
  refine Eq.trans (congrFun ?_ (ix2 r k)) (dx_apply (holds m c R h t) r k)
  by_cases h0 : t.val % 16 = 0
  · rw [outsAt0_A m c t h0]
    dsimp only
    unfold out0_A_7
    rw [View.read_writes_eq_canon _ _ _ (fun _ => cover0_A_7 ..)]
    unfold kernelRun0_A
    dsimp only
    sl_unfold_words
    rw [View.canon_unit_zero zero2]
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
    simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
    rfl
  · rw [outsAt0_B m c t h0]
    dsimp only
    unfold out0_B_7
    rw [View.read_writes_eq_canon _ _ _ (fun _ => cover0_B_7 ..)]
    unfold kernelRun0_B
    dsimp only
    sl_unfold_words
    rw [View.canon_unit_zero zero2]
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
    simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
    rfl

/-- A point leaves the normed rows. -/
theorem left8 (t : Fin cfg0.N) (r : Fin 256) (k : Fin 1024) : (outsAt0 m c t.val t.isLt).2.1 (ix2 r k) = (FfnSpec.hid (R (row t r)) k : EReal) := by
  refine Eq.trans (congrFun ?_ (ix2 r k)) (hid_apply (holds m c R h t) r k)
  by_cases h0 : t.val % 16 = 0
  · rw [outsAt0_A m c t h0]
    dsimp only
    unfold out0_A_8
    rw [View.read_writes_eq_canon _ _ _ (fun _ => cover0_A_8 ..)]
    unfold kernelRun0_A
    dsimp only
    sl_unfold_words
    rw [View.canon_unit_zero zero2]
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
  · rw [outsAt0_B m c t h0]
    dsimp only
    unfold out0_B_8
    rw [View.read_writes_eq_canon _ _ _ (fun _ => cover0_B_8 ..)]
    unfold kernelRun0_B
    dsimp only
    sl_unfold_words
    rw [View.canon_unit_zero zero2]
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]

/-- A point leaves the gradient at the layer's output. -/
theorem left12 (t : Fin cfg0.N) (r : Fin 256) (k : Fin 1024) : (outsAt0 m c t.val t.isLt).2.2.2.2.2.1 (ix2 r k) = (FfnSpec.dout (R (row t r)) k : EReal) := by
  refine Eq.trans (congrFun ?_ (ix2 r k)) (dout_apply (holds m c R h t) r k)
  by_cases h0 : t.val % 16 = 0
  · rw [outsAt0_A m c t h0]
    dsimp only
    unfold out0_A_12
    rw [View.read_writes_eq_canon _ _ _ (fun _ => cover0_A_12 ..)]
    unfold kernelRun0_A
    dsimp only
    sl_unfold_words
    rw [View.canon_unit_zero zero2]
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
    simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
    rfl
  · rw [outsAt0_B m c t h0]
    dsimp only
    unfold out0_B_12
    rw [View.read_writes_eq_canon _ _ _ (fun _ => cover0_B_12 ..)]
    unfold kernelRun0_B
    dsimp only
    sl_unfold_words
    rw [View.canon_unit_zero zero2]
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
    simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
    rfl

/-- A point leaves the activations. -/
theorem left9 (t : Fin cfg0.N) (r : Fin 256) (k : Fin 2816) : (outsAt0 m c t.val t.isLt).2.2.1 (ix2 r k) = (FfnSpec.act (R (row t r)) k : EReal) := by
  refine Eq.trans (congrFun ?_ (ix2 r k)) (halves _ _ (fun r => FfnSpec.act (R (row t r))) (act0_apply (holds m c R h t)) (act1_apply (holds m c R h t)) r k)
  by_cases h0 : t.val % 16 = 0
  · rw [outsAt0_A m c t h0]
    dsimp only
    unfold out0_A_9
    rw [View.read_writes_eq_canon _ _ _ (fun _ => cover0_A_9 ..)]
    unfold kernelRun0_A
    dsimp only
    sl_unfold_words
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
    simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
    rfl
  · rw [outsAt0_B m c t h0]
    dsimp only
    unfold out0_B_9
    rw [View.read_writes_eq_canon _ _ _ (fun _ => cover0_B_9 ..)]
    unfold kernelRun0_B
    dsimp only
    sl_unfold_words
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
    simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
    rfl

/-- A point leaves the gate's gradient. -/
theorem left10 (t : Fin cfg0.N) (r : Fin 256) (k : Fin 2816) : (outsAt0 m c t.val t.isLt).2.2.2.1 (ix2 r k) = (FfnSpec.dgate (R (row t r)) k : EReal) := by
  refine Eq.trans (congrFun ?_ (ix2 r k)) (halves _ _ (fun r => FfnSpec.dgate (R (row t r))) (dgate0_apply (holds m c R h t)) (dgate1_apply (holds m c R h t)) r k)
  by_cases h0 : t.val % 16 = 0
  · rw [outsAt0_A m c t h0]
    dsimp only
    unfold out0_A_10
    rw [View.read_writes_eq_canon _ _ _ (fun _ => cover0_A_10 ..)]
    unfold kernelRun0_A
    dsimp only
    sl_unfold_words
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
    simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
    rfl
  · rw [outsAt0_B m c t h0]
    dsimp only
    unfold out0_B_10
    rw [View.read_writes_eq_canon _ _ _ (fun _ => cover0_B_10 ..)]
    unfold kernelRun0_B
    dsimp only
    sl_unfold_words
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
    simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
    rfl

/-- A point leaves the other factor's gradient. -/
theorem left11 (t : Fin cfg0.N) (r : Fin 256) (k : Fin 2816) : (outsAt0 m c t.val t.isLt).2.2.2.2.1 (ix2 r k) = (FfnSpec.dup (R (row t r)) k : EReal) := by
  refine Eq.trans (congrFun ?_ (ix2 r k)) (halves _ _ (fun r => FfnSpec.dup (R (row t r))) (dup0_apply (holds m c R h t)) (dup1_apply (holds m c R h t)) r k)
  by_cases h0 : t.val % 16 = 0
  · rw [outsAt0_A m c t h0]
    dsimp only
    unfold out0_A_11
    rw [View.read_writes_eq_canon _ _ _ (fun _ => cover0_A_11 ..)]
    unfold kernelRun0_A
    dsimp only
    sl_unfold_words
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
    simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
  · rw [outsAt0_B m c t h0]
    dsimp only
    unfold out0_B_11
    rw [View.read_writes_eq_canon _ _ _ (fun _ => cover0_B_11 ..)]
    unfold kernelRun0_B
    dsimp only
    sl_unfold_words
    simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
    simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]

/-- The first point starts the loss from zero, -/
theorem left13_A (t : Fin cfg0.N) (k : Fin 128) (h0 : t.val % 16 = 0) : (outsAt0 m c t.val t.isLt).2.2.2.2.2.2.1 (ix2 0 k)
    = (k0_pay2 (F := Ideal)) (ix2 0 k) + ((1 / 2 * ∑ r, FfnSpec.loss (R (row t r)) : ℝ) : EReal) := by
  refine Eq.trans (congrFun ?_ (ix2 0 k)) (lossAcc_apply (holds m c R h t) _ k)
  rw [outsAt0_A m c t h0]
  dsimp only
  unfold out0_A_13
  rw [View.read_writes_eq_canon _ _ _ (fun _ => cover0_A_13 ..)]
  unfold kernelRun0_A
  dsimp only
  sl_unfold_words
  rw [View.canon_cons_unit_zero (S := S1x128) zero2, View.readCov_unit_zero (S := S1x128) _ zero2]
  simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
  simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
  rfl

/-- and a later one adds to what the point before left. -/
theorem left13_B (t : Fin cfg0.N) (k : Fin 128) (h0 : ¬t.val % 16 = 0) : (outsAt0 m c t.val t.isLt).2.2.2.2.2.2.1 (ix2 0 k)
    = (outsAt0 m c (t.val - 1) (Nat.lt_of_le_of_lt (Nat.sub_le _ _) t.isLt)).2.2.2.2.2.2.1 (ix2 0 k) + ((1 / 2 * ∑ r, FfnSpec.loss (R (row t r)) : ℝ) : EReal) := by
  refine Eq.trans (congrFun ?_ (ix2 0 k)) (lossAcc_apply (holds m c R h t) _ k)
  rw [outsAt0_B m c t h0]
  dsimp only
  unfold out0_B_13
  rw [View.read_writes_eq_canon _ _ _ (fun _ => cover0_B_13 ..)]
  unfold kernelRun0_B
  dsimp only
  sl_unfold_words
  rw [View.canon_unit_zero zero2]
  simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
  simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
  rfl

/-- The first point starts the first gain's gradient from zero, -/
theorem left14_A (t : Fin cfg0.N) (k : Fin 1024) (h0 : t.val % 16 = 0) : (outsAt0 m c t.val t.isLt).2.2.2.2.2.2.2.1 (ix2 0 k)
    = (k0_pay3 (F := Ideal)) (ix2 0 k) + ((∑ r, FfnSpec.dgp (R (row t r)) k : ℝ) : EReal) := by
  refine Eq.trans (congrFun ?_ (ix2 0 k)) (dgpAcc_apply (holds m c R h t) _ k)
  rw [outsAt0_A m c t h0]
  dsimp only
  unfold out0_A_14
  rw [View.read_writes_eq_canon _ _ _ (fun _ => cover0_A_14 ..)]
  unfold kernelRun0_A
  dsimp only
  sl_unfold_words
  rw [View.canon_cons_unit_zero (S := S1x1024) zero2, View.readCov_unit_zero (S := S1x1024) _ zero2]
  simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
  simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
  rfl

/-- and a later one adds to what the point before left. -/
theorem left14_B (t : Fin cfg0.N) (k : Fin 1024) (h0 : ¬t.val % 16 = 0) : (outsAt0 m c t.val t.isLt).2.2.2.2.2.2.2.1 (ix2 0 k)
    = (outsAt0 m c (t.val - 1) (Nat.lt_of_le_of_lt (Nat.sub_le _ _) t.isLt)).2.2.2.2.2.2.2.1 (ix2 0 k) + ((∑ r, FfnSpec.dgp (R (row t r)) k : ℝ) : EReal) := by
  refine Eq.trans (congrFun ?_ (ix2 0 k)) (dgpAcc_apply (holds m c R h t) _ k)
  rw [outsAt0_B m c t h0]
  dsimp only
  unfold out0_B_14
  rw [View.read_writes_eq_canon _ _ _ (fun _ => cover0_B_14 ..)]
  unfold kernelRun0_B
  dsimp only
  sl_unfold_words
  rw [View.canon_unit_zero zero2]
  simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
  simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
  rfl

/-- The first point starts the second gain's gradient from zero, -/
theorem left15_A (t : Fin cfg0.N) (k : Fin 1024) (h0 : t.val % 16 = 0) : (outsAt0 m c t.val t.isLt).2.2.2.2.2.2.2.2 (ix2 0 k)
    = (k0_pay4 (F := Ideal)) (ix2 0 k) + ((∑ r, FfnSpec.dgq (R (row t r)) k : ℝ) : EReal) := by
  refine Eq.trans (congrFun ?_ (ix2 0 k)) (dgqAcc_apply (holds m c R h t) _ k)
  rw [outsAt0_A m c t h0]
  dsimp only
  unfold out0_A_15
  rw [View.read_writes_eq_canon _ _ _ (fun _ => cover0_A_15 ..)]
  unfold kernelRun0_A
  dsimp only
  sl_unfold_words
  rw [View.canon_cons_unit_zero (S := S1x1024) zero2, View.readCov_unit_zero (S := S1x1024) _ zero2]
  simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
  simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
  rfl

/-- and a later one adds to what the point before left. -/
theorem left15_B (t : Fin cfg0.N) (k : Fin 1024) (h0 : ¬t.val % 16 = 0) : (outsAt0 m c t.val t.isLt).2.2.2.2.2.2.2.2 (ix2 0 k)
    = (outsAt0 m c (t.val - 1) (Nat.lt_of_le_of_lt (Nat.sub_le _ _) t.isLt)).2.2.2.2.2.2.2.2 (ix2 0 k) + ((∑ r, FfnSpec.dgq (R (row t r)) k : ℝ) : EReal) := by
  refine Eq.trans (congrFun ?_ (ix2 0 k)) (dgqAcc_apply (holds m c R h t) _ k)
  rw [outsAt0_B m c t h0]
  dsimp only
  unfold out0_B_15
  rw [View.read_writes_eq_canon _ _ _ (fun _ => cover0_B_15 ..)]
  unfold kernelRun0_B
  dsimp only
  sl_unfold_words
  rw [View.canon_unit_zero zero2]
  simp only [View.readAt_eq_ld, Memref.IsWhole.read_unread, read_right, read_left, View.ld_unit_zero (S := S256x1024) zero2, View.ld_unit_zero (S := S1x1024) zero2, View.ld_unit_zero (S := S1x128) zero2, read_x m c t, read_tgt m c t, read_gp m c t, read_gq m c t, read_wg m c t, read_wu m c t, read_wd m c t, ← rows0.eq_1, ← rows1.eq_1]
  simp only [← Blocks.gate0.eq_1, ← Blocks.gate1.eq_1, ← Blocks.up0.eq_1, ← Blocks.up1.eq_1, ← Blocks.act0.eq_1, ← Blocks.scale.eq_1, ← Blocks.normed.eq_1, ← Blocks.err.eq_1, ← Blocks.dact0.eq_1, ← Blocks.dact1.eq_1, ← Blocks.dup0.eq_1, ← Blocks.dup1.eq_1, ← Blocks.dgate0.eq_1, ← Blocks.dgate1.eq_1, ← Blocks.dhidg.eq_1, ← Blocks.proj.eq_1]
  rfl

/-- A quantity of every row, summed over the rows of the points up to the `n`th. -/
def part (f : Row → ℝ) (n : ℕ) : ℝ := ∑ s ∈ Finset.range (n + 1), if hs : s < cfg0.N then ∑ r : Fin 256, f (R (row ⟨s, hs⟩ r)) else 0

omit h in
theorem part_zero (f : Row → ℝ) (hn : 0 < cfg0.N) : part R f 0 = ∑ r : Fin 256, f (R (row ⟨0, hn⟩ r)) := by
  unfold part
  rw [Finset.sum_range_one, dif_pos hn]

omit h in
theorem part_succ (f : Row → ℝ) (n : ℕ) (hn : n + 1 < cfg0.N) : part R f (n + 1) = part R f n + ∑ r : Fin 256, f (R (row ⟨n + 1, hn⟩ r)) := by
  unfold part
  rw [Finset.sum_range_succ _ (n + 1), dif_pos hn]

omit h in
/-- After the last point it is the sum over all rows. -/
theorem part_last (f : Row → ℝ) : part R f 15 = ∑ i, f (R i) := by
  have hN : cfg0.N = 16 := N_0
  unfold part
  rw [Fin.sum_univ_tiles 16 256 rfl, Finset.sum_range]
  refine Finset.sum_congr rfl fun s _ => ?_
  rw [dif_pos (by have := s.isLt; omega)]
  rfl

theorem left13 : ∀ (n : ℕ) (hn : n < cfg0.N) (k : Fin 128), (outsAt0 m c n hn).2.2.2.2.2.2.1 (ix2 0 k) = ((1 / 2 * part R FfnSpec.loss n : ℝ) : EReal)
  | 0, hn, k => by
    refine (left13_A m c R h ⟨0, hn⟩ k rfl).trans ?_
    rw [part_zero R FfnSpec.loss hn]
    pointwise [k0_pay2]
  | n + 1, hn, k => by
    have hN : cfg0.N = 16 := N_0
    refine (left13_B m c R h ⟨n + 1, hn⟩ k (by dsimp only; omega)).trans ?_
    show (outsAt0 m c n _).2.2.2.2.2.2.1 (ix2 0 k) + _ = _
    rw [left13 n (by omega) k, ← EReal.coe_add, part_succ R FfnSpec.loss n hn, mul_add]

theorem left14 : ∀ (n : ℕ) (hn : n < cfg0.N) (k : Fin 1024), (outsAt0 m c n hn).2.2.2.2.2.2.2.1 (ix2 0 k) = ((part R (fun R => FfnSpec.dgp R k) n : ℝ) : EReal)
  | 0, hn, k => by
    refine (left14_A m c R h ⟨0, hn⟩ k rfl).trans ?_
    rw [part_zero R (fun R => FfnSpec.dgp R k) hn]
    pointwise [k0_pay3]
  | n + 1, hn, k => by
    have hN : cfg0.N = 16 := N_0
    refine (left14_B m c R h ⟨n + 1, hn⟩ k (by dsimp only; omega)).trans ?_
    show (outsAt0 m c n _).2.2.2.2.2.2.2.1 (ix2 0 k) + _ = _
    rw [left14 n (by omega) k, ← EReal.coe_add, part_succ R (fun R => FfnSpec.dgp R k) n hn]

theorem left15 : ∀ (n : ℕ) (hn : n < cfg0.N) (k : Fin 1024), (outsAt0 m c n hn).2.2.2.2.2.2.2.2 (ix2 0 k) = ((part R (fun R => FfnSpec.dgq R k) n : ℝ) : EReal)
  | 0, hn, k => by
    refine (left15_A m c R h ⟨0, hn⟩ k rfl).trans ?_
    rw [part_zero R (fun R => FfnSpec.dgq R k) hn]
    pointwise [k0_pay4]
  | n + 1, hn, k => by
    have hN : cfg0.N = 16 := N_0
    refine (left15_B m c R h ⟨n + 1, hn⟩ k (by dsimp only; omega)).trans ?_
    show (outsAt0 m c n _).2.2.2.2.2.2.2.2 (ix2 0 k) + _ = _
    rw [left15 n (by omega) k, ← EReal.coe_add, part_succ R (fun R => FfnSpec.dgq R k) n hn]

/-! ## The result arrays -/

/-- The point whose tile holds row `i`. -/
def tile (i : Fin 4096) : Fin cfg0.N := ⟨i.val / 256, by have hN : cfg0.N = 16 := N_0; have := i.isLt; omega⟩

/-- Row `i`'s place in its tile. -/
def inTile (i : Fin 4096) : Fin 256 := ⟨i.val % 256, by omega⟩

omit h in
theorem row_tile (i : Fin 4096) : row (tile i) (inTile i) = i := by
  apply Fin.ext
  show i.val / 256 * 256 + i.val % 256 = i.val
  omega

/-- The last point. -/
def lastPt : Fin cfg0.N := ⟨15, by have hN : cfg0.N = 16 := N_0; omega⟩

omit h in
theorem eq_lastPt (t : Fin cfg0.N) (ht : t.val % 16 = 15) : t = lastPt := by
  have hN : cfg0.N = 16 := N_0
  have hl : t.val < cfg0.N := t.isLt
  apply Fin.ext
  show t.val = 15
  omega

theorem final7 : (dats m 0 c).arrAt 7 cfg0.N = fun i : S4096x1024.Idx => (FfnSpec.dx (R (i 0)) (i 1) : EReal) := by
  refine (dats m 0 c).arrAt_eq_of_cover 7 _ (fun t _ => ?_) fun i => ?_
  · rw [Value.flushed7]
    funext j
    obtain ⟨r, k, rfl⟩ : ∃ (r : Fin 256) (k : Fin 1024), j = ix2 r k := ⟨j 0, j 1, eq_ix2 j⟩
    refine (left7 m c R h t r k).trans ?_
    show _ = (fun i : S4096x1024.Idx => (FfnSpec.dx (R (i 0)) (i 1) : EReal)) (((cfg0.win 7).blk t).view.emb (ix2 r k))
    rw [emb7]
    rfl
  · obtain ⟨r, k, rfl⟩ : ∃ (r : Fin 4096) (k : Fin 1024), i = ix2 r k := ⟨i 0, i 1, eq_ix2 i⟩
    have e := ((cfg0.win 7).blk (tile r)).view.emb_mem_set (ix2 (inTile r) k)
    rw [emb7, row_tile] at e
    exact ⟨tile r, flush0_7 _, e⟩

theorem final8 : (dats m 0 c).arrAt 8 cfg0.N = fun i : S4096x1024.Idx => (FfnSpec.hid (R (i 0)) (i 1) : EReal) := by
  refine (dats m 0 c).arrAt_eq_of_cover 8 _ (fun t _ => ?_) fun i => ?_
  · rw [Value.flushed8]
    funext j
    obtain ⟨r, k, rfl⟩ : ∃ (r : Fin 256) (k : Fin 1024), j = ix2 r k := ⟨j 0, j 1, eq_ix2 j⟩
    refine (left8 m c R h t r k).trans ?_
    show _ = (fun i : S4096x1024.Idx => (FfnSpec.hid (R (i 0)) (i 1) : EReal)) (((cfg0.win 8).blk t).view.emb (ix2 r k))
    rw [emb8]
    rfl
  · obtain ⟨r, k, rfl⟩ : ∃ (r : Fin 4096) (k : Fin 1024), i = ix2 r k := ⟨i 0, i 1, eq_ix2 i⟩
    have e := ((cfg0.win 8).blk (tile r)).view.emb_mem_set (ix2 (inTile r) k)
    rw [emb8, row_tile] at e
    exact ⟨tile r, flush0_8 _, e⟩

theorem final9 : (dats m 0 c).arrAt 9 cfg0.N = fun i : S4096x2816.Idx => (FfnSpec.act (R (i 0)) (i 1) : EReal) := by
  refine (dats m 0 c).arrAt_eq_of_cover 9 _ (fun t _ => ?_) fun i => ?_
  · rw [Value.flushed9]
    funext j
    obtain ⟨r, k, rfl⟩ : ∃ (r : Fin 256) (k : Fin 2816), j = ix2 r k := ⟨j 0, j 1, eq_ix2 j⟩
    refine (left9 m c R h t r k).trans ?_
    show _ = (fun i : S4096x2816.Idx => (FfnSpec.act (R (i 0)) (i 1) : EReal)) (((cfg0.win 9).blk t).view.emb (ix2 r k))
    rw [emb9]
    rfl
  · obtain ⟨r, k, rfl⟩ : ∃ (r : Fin 4096) (k : Fin 2816), i = ix2 r k := ⟨i 0, i 1, eq_ix2 i⟩
    have e := ((cfg0.win 9).blk (tile r)).view.emb_mem_set (ix2 (inTile r) k)
    rw [emb9, row_tile] at e
    exact ⟨tile r, flush0_9 _, e⟩

theorem final10 : (dats m 0 c).arrAt 10 cfg0.N = fun i : S4096x2816.Idx => (FfnSpec.dgate (R (i 0)) (i 1) : EReal) := by
  refine (dats m 0 c).arrAt_eq_of_cover 10 _ (fun t _ => ?_) fun i => ?_
  · rw [Value.flushed10]
    funext j
    obtain ⟨r, k, rfl⟩ : ∃ (r : Fin 256) (k : Fin 2816), j = ix2 r k := ⟨j 0, j 1, eq_ix2 j⟩
    refine (left10 m c R h t r k).trans ?_
    show _ = (fun i : S4096x2816.Idx => (FfnSpec.dgate (R (i 0)) (i 1) : EReal)) (((cfg0.win 10).blk t).view.emb (ix2 r k))
    rw [emb10]
    rfl
  · obtain ⟨r, k, rfl⟩ : ∃ (r : Fin 4096) (k : Fin 2816), i = ix2 r k := ⟨i 0, i 1, eq_ix2 i⟩
    have e := ((cfg0.win 10).blk (tile r)).view.emb_mem_set (ix2 (inTile r) k)
    rw [emb10, row_tile] at e
    exact ⟨tile r, flush0_10 _, e⟩

theorem final11 : (dats m 0 c).arrAt 11 cfg0.N = fun i : S4096x2816.Idx => (FfnSpec.dup (R (i 0)) (i 1) : EReal) := by
  refine (dats m 0 c).arrAt_eq_of_cover 11 _ (fun t _ => ?_) fun i => ?_
  · rw [Value.flushed11]
    funext j
    obtain ⟨r, k, rfl⟩ : ∃ (r : Fin 256) (k : Fin 2816), j = ix2 r k := ⟨j 0, j 1, eq_ix2 j⟩
    refine (left11 m c R h t r k).trans ?_
    show _ = (fun i : S4096x2816.Idx => (FfnSpec.dup (R (i 0)) (i 1) : EReal)) (((cfg0.win 11).blk t).view.emb (ix2 r k))
    rw [emb11]
    rfl
  · obtain ⟨r, k, rfl⟩ : ∃ (r : Fin 4096) (k : Fin 2816), i = ix2 r k := ⟨i 0, i 1, eq_ix2 i⟩
    have e := ((cfg0.win 11).blk (tile r)).view.emb_mem_set (ix2 (inTile r) k)
    rw [emb11, row_tile] at e
    exact ⟨tile r, flush0_11 _, e⟩

theorem final12 : (dats m 0 c).arrAt 12 cfg0.N = fun i : S4096x1024.Idx => (FfnSpec.dout (R (i 0)) (i 1) : EReal) := by
  refine (dats m 0 c).arrAt_eq_of_cover 12 _ (fun t _ => ?_) fun i => ?_
  · rw [Value.flushed12]
    funext j
    obtain ⟨r, k, rfl⟩ : ∃ (r : Fin 256) (k : Fin 1024), j = ix2 r k := ⟨j 0, j 1, eq_ix2 j⟩
    refine (left12 m c R h t r k).trans ?_
    show _ = (fun i : S4096x1024.Idx => (FfnSpec.dout (R (i 0)) (i 1) : EReal)) (((cfg0.win 12).blk t).view.emb (ix2 r k))
    rw [emb12]
    rfl
  · obtain ⟨r, k, rfl⟩ : ∃ (r : Fin 4096) (k : Fin 1024), i = ix2 r k := ⟨i 0, i 1, eq_ix2 i⟩
    have e := ((cfg0.win 12).blk (tile r)).view.emb_mem_set (ix2 (inTile r) k)
    rw [emb12, row_tile] at e
    exact ⟨tile r, flush0_12 _, e⟩

theorem final13 : (dats m 0 c).arrAt 13 cfg0.N = fun j : S1x128.Idx => ((1 / 2 * ∑ i, FfnSpec.loss (R i) : ℝ) : EReal) := by
  refine (dats m 0 c).arrAt_eq_of_cover 13 _ (fun t ht => ?_) fun i => ?_
  · rw [Value.flushed13]
    obtain rfl := eq_lastPt t ((flush0_13 t).mp ht)
    funext j
    obtain ⟨r, k, rfl⟩ : ∃ (r : Fin 1) (k : Fin 128), j = ix2 r k := ⟨j 0, j 1, eq_ix2 j⟩
    obtain rfl : r = 0 := Subsingleton.elim _ _
    refine (left13 m c R h 15 lastPt.isLt k).trans ?_
    rw [part_last]
    show _ = (fun j : S1x128.Idx => ((1 / 2 * ∑ i, FfnSpec.loss (R i) : ℝ) : EReal)) (((cfg0.win 13).blk lastPt).view.emb (ix2 0 k))
    rw [emb13]
  · obtain ⟨r, k, rfl⟩ : ∃ (r : Fin 1) (k : Fin 128), i = ix2 r k := ⟨i 0, i 1, eq_ix2 i⟩
    have e := ((cfg0.win 13).blk lastPt).view.emb_mem_set (ix2 r k)
    rw [emb13] at e
    exact ⟨lastPt, (flush0_13 _).mpr rfl, e⟩

theorem final14 : (dats m 0 c).arrAt 14 cfg0.N = fun j : S1x1024.Idx => ((∑ i, FfnSpec.dgp (R i) (j 1) : ℝ) : EReal) := by
  refine (dats m 0 c).arrAt_eq_of_cover 14 _ (fun t ht => ?_) fun i => ?_
  · rw [Value.flushed14]
    obtain rfl := eq_lastPt t ((flush0_14 t).mp ht)
    funext j
    obtain ⟨r, k, rfl⟩ : ∃ (r : Fin 1) (k : Fin 1024), j = ix2 r k := ⟨j 0, j 1, eq_ix2 j⟩
    obtain rfl : r = 0 := Subsingleton.elim _ _
    refine (left14 m c R h 15 lastPt.isLt k).trans ?_
    rw [part_last]
    show _ = (fun j : S1x1024.Idx => ((∑ i, FfnSpec.dgp (R i) (j 1) : ℝ) : EReal)) (((cfg0.win 14).blk lastPt).view.emb (ix2 0 k))
    rw [emb14]
    rfl
  · obtain ⟨r, k, rfl⟩ : ∃ (r : Fin 1) (k : Fin 1024), i = ix2 r k := ⟨i 0, i 1, eq_ix2 i⟩
    have e := ((cfg0.win 14).blk lastPt).view.emb_mem_set (ix2 r k)
    rw [emb14] at e
    exact ⟨lastPt, (flush0_14 _).mpr rfl, e⟩

theorem final15 : (dats m 0 c).arrAt 15 cfg0.N = fun j : S1x1024.Idx => ((∑ i, FfnSpec.dgq (R i) (j 1) : ℝ) : EReal) := by
  refine (dats m 0 c).arrAt_eq_of_cover 15 _ (fun t ht => ?_) fun i => ?_
  · rw [Value.flushed15]
    obtain rfl := eq_lastPt t ((flush0_15 t).mp ht)
    funext j
    obtain ⟨r, k, rfl⟩ : ∃ (r : Fin 1) (k : Fin 1024), j = ix2 r k := ⟨j 0, j 1, eq_ix2 j⟩
    obtain rfl : r = 0 := Subsingleton.elim _ _
    refine (left15 m c R h 15 lastPt.isLt k).trans ?_
    rw [part_last]
    show _ = (fun j : S1x1024.Idx => ((∑ i, FfnSpec.dgq (R i) (j 1) : ℝ) : EReal)) (((cfg0.win 15).blk lastPt).view.emb (ix2 0 k))
    rw [emb15]
    rfl
  · obtain ⟨r, k, rfl⟩ : ∃ (r : Fin 1) (k : Fin 1024), i = ix2 r k := ⟨i 0, i 1, eq_ix2 i⟩
    have e := ((cfg0.win 15).blk lastPt).view.emb_mem_set (ix2 r k)
    rw [emb15] at e
    exact ⟨lastPt, (flush0_15 _).mpr rfl, e⟩

end Cert.Kernel3Ideal.Ffn
-- ==== Proof.FfnRef.lean ====
/-
  The feed-forward reference, its stages read at one index.
-/
module

public import proofs.«01_k».proof.Proof.FfnSpec
public import proofs.«01_k».proof.Proof.Gen.Reference3Ideal.Read

@[expose] public section

set_option maxRecDepth 16384

noncomputable section

open Idealize.ShloMosaic Idealize.ShloMosaic.TcCoe Idealize.SL.Sem
open Cert.Common

namespace Cert.Reference3Ideal.Ffn

open Cert.Reference3Ideal Cert.Reference3Ideal.Gen Cert.Reference3Ideal.Read Cert.FfnSpec

variable (x0 x1 : FVec Ideal S4096x1024 .f32) (x2 x3 : FVec Ideal S1x1024 .f32) (x4 x5 : FVec Ideal S1024x2816 .f32) (x6 : FVec Ideal S2816x1024 .f32)
variable (R : Fin 4096 → Row)

/-- The arguments are these real arrays. -/
structure Args : Prop where
  h0 : ∀ i k, x0 (ix2 i k) = ((R i).x k : EReal)
  h1 : ∀ i k, x1 (ix2 i k) = ((R i).tgt k : EReal)
  h2 : ∀ i k, x2 (ix2 0 k) = ((R i).gp k : EReal)
  h3 : ∀ i k, x3 (ix2 0 k) = ((R i).gq k : EReal)
  h4 : ∀ i k j, x4 (ix2 k j) = ((R i).wg k j : EReal)
  h5 : ∀ i k j, x5 (ix2 k j) = ((R i).wu k j : EReal)
  h6 : ∀ i k j, x6 (ix2 j k) = ((R i).wd j k : EReal)

variable (h : Args x0 x1 x2 x3 x4 x5 x6 R)

include h

/-! ## Forward -/

theorem ms_at (i : Fin 4096) : val_main_v7 (F := Ideal) x0 (ix2 i 0) = (ms (R i).x : EReal) := by
  pointwise [val_main_v7, val_main_v6, val_main_v5, val_main_v4, val_main_v3, val_main_v2, val_main_v1, val_main_cst, val_main_cst_0, val_main_cst_1]
  simp only [h.h0, ← EReal.coe_mul, coe_sum, ofBits_1024, ofBits_eps, coe_div _ _ (by norm_num : (1024 : ℝ) ≠ 0), ← EReal.coe_add, ms]

theorem rinv_at (i : Fin 4096) : val_main_v8 (F := Ideal) x0 (ix2 i 0) = (rinv (R i).x : EReal) := by
  pointwise [val_main_v8]
  rw [ms_at x0 x1 x2 x3 x4 x5 x6 R h]
  exact coe_rsqrt _ (ms_pos _)

theorem slope_at (i : Fin 4096) (z : Fin 1) : val_main_v11 (F := Ideal) x0 (ix2 i z) = ((-(1 / 2) * (rinv (R i).x / ms (R i).x) : ℝ) : EReal) := by
  obtain rfl : z = 0 := Subsingleton.elim _ _
  pointwise [val_main_v11, val_main_v10, val_main_v9, val_main_cst_2]
  simp only [ms_at x0 x1 x2 x3 x4 x5 x6 R h, rinv_at x0 x1 x2 x3 x4 x5 x6 R h, ofBits_neg_half, coe_div _ _ (ms_pos _).ne', ← EReal.coe_mul]

theorem hid_at (i : Fin 4096) (k : Fin 1024) : val_main_v16 (F := Ideal) x0 x2 (ix2 i k) = (hid (R i) k : EReal) := by
  pointwise [val_main_v16, val_main_v15, val_main_v14, val_main_v13, val_main_v12, val_main_v0]
  simp only [h.h0, h.h2 i, rinv_at x0 x1 x2 x3 x4 x5 x6 R h, ← EReal.coe_mul]
  rfl

theorem gate_at (i : Fin 4096) (j : Fin 2816) : val_main_v17 (F := Ideal) x0 x2 x4 (ix2 i j) = (gate (R i) j : EReal) := by
  pointwise [val_main_v17]
  simp only [hid_at x0 x1 x2 x3 x4 x5 x6 R h, h.h4 i, ← EReal.coe_mul, coe_sum]
  rfl

theorem up_at (i : Fin 4096) (j : Fin 2816) : val_main_v18 (F := Ideal) x0 x2 x5 (ix2 i j) = (up (R i) j : EReal) := by
  pointwise [val_main_v18]
  simp only [hid_at x0 x1 x2 x3 x4 x5 x6 R h, h.h5 i, ← EReal.coe_mul, coe_sum]
  rfl

theorem sg_at (i : Fin 4096) (j : Fin 2816) : val_main_v19_2 (F := Ideal) x0 x2 x4 (ix2 i j) = (sg (gate (R i) j) : EReal) := by
  pointwise [val_main_v19_2, val_main_call0_v4, val_main_call0_v3, val_main_call0_v2, val_main_call0_v1, val_main_call0_v0, val_main_call0_cst, val_main_call0_cst_0]
  rw [gate_at x0 x1 x2 x3 x4 x5 x6 R h, ← EReal.coe_neg, Ideal.exp_coe, ← EReal.coe_one, ← EReal.coe_add, coe_div _ _ (by positivity)]
  rfl

theorem silu_at (i : Fin 4096) (j : Fin 2816) : val_main_v19_0 (F := Ideal) x0 x2 x4 (ix2 i j) = ((gate (R i) j * sg (gate (R i) j) : ℝ) : EReal) := by
  pointwise [val_main_v19_0]
  rw [gate_at x0 x1 x2 x3 x4 x5 x6 R h, sg_at x0 x1 x2 x3 x4 x5 x6 R h, ← EReal.coe_mul]

theorem act_at (i : Fin 4096) (j : Fin 2816) : val_main_v20 (F := Ideal) x0 x2 x4 x5 (ix2 i j) = (act (R i) j : EReal) := by
  pointwise [val_main_v20]
  rw [silu_at x0 x1 x2 x3 x4 x5 x6 R h, up_at x0 x1 x2 x3 x4 x5 x6 R h, ← EReal.coe_mul]
  rfl

theorem out_at (i : Fin 4096) (k : Fin 1024) : val_main_v21 (F := Ideal) x0 x2 x4 x5 x6 (ix2 i k) = (FfnSpec.out (R i) k : EReal) := by
  pointwise [val_main_v21]
  simp only [act_at x0 x1 x2 x3 x4 x5 x6 R h, h.h6 i, ← EReal.coe_mul, coe_sum]
  rfl

theorem ms1_at (i : Fin 4096) : val_main_v29 (F := Ideal) x0 x2 x4 x5 x6 (ix2 i 0) = (ms (FfnSpec.out (R i)) : EReal) := by
  pointwise [val_main_v29, val_main_v28, val_main_v27, val_main_v26, val_main_v25, val_main_v24, val_main_v23, val_main_cst_3, val_main_cst_4, val_main_cst_5]
  simp only [out_at x0 x1 x2 x3 x4 x5 x6 R h, ← EReal.coe_mul, coe_sum, ofBits_1024, ofBits_eps, coe_div _ _ (by norm_num : (1024 : ℝ) ≠ 0), ← EReal.coe_add, ms]

theorem rinv1_at (i : Fin 4096) : val_main_v30 (F := Ideal) x0 x2 x4 x5 x6 (ix2 i 0) = (rinv (FfnSpec.out (R i)) : EReal) := by
  pointwise [val_main_v30]
  rw [ms1_at x0 x1 x2 x3 x4 x5 x6 R h]
  exact coe_rsqrt _ (ms_pos _)

theorem slope1_at (i : Fin 4096) (z : Fin 1) : val_main_v33 (F := Ideal) x0 x2 x4 x5 x6 (ix2 i z) = ((-(1 / 2) * (rinv (FfnSpec.out (R i)) / ms (FfnSpec.out (R i))) : ℝ) : EReal) := by
  obtain rfl : z = 0 := Subsingleton.elim _ _
  pointwise [val_main_v33, val_main_v32, val_main_v31, val_main_cst_6]
  simp only [ms1_at x0 x1 x2 x3 x4 x5 x6 R h, rinv1_at x0 x1 x2 x3 x4 x5 x6 R h, ofBits_neg_half, coe_div _ _ (ms_pos _).ne', ← EReal.coe_mul]

theorem normed1_at (i : Fin 4096) (k : Fin 1024) : val_main_v35 (F := Ideal) x0 x2 x4 x5 x6 (ix2 i k) = ((FfnSpec.out (R i) k * rinv (FfnSpec.out (R i)) : ℝ) : EReal) := by
  pointwise [val_main_v35, val_main_v34]
  simp only [out_at x0 x1 x2 x3 x4 x5 x6 R h, rinv1_at x0 x1 x2 x3 x4 x5 x6 R h, ← EReal.coe_mul]

theorem err_at (i : Fin 4096) (k : Fin 1024) : val_main_v40 (F := Ideal) x0 x1 x2 x3 x4 x5 x6 (ix2 i k) = (FfnSpec.err (R i) k : EReal) := by
  pointwise [val_main_v40, val_main_v39, val_main_v38, val_main_v37, val_main_v36, val_main_v22]
  simp only [normed1_at x0 x1 x2 x3 x4 x5 x6 R h, h.h0, h.h1, h.h3 i, ← EReal.coe_mul, ← EReal.coe_add, ← EReal.coe_sub]
  rfl

theorem loss_at (k : Fin 128) : val_main_v110 (F := Ideal) x0 x1 x2 x3 x4 x5 x6 (ix2 0 k) = ((1 / 2 * ∑ i, FfnSpec.loss (R i) : ℝ) : EReal) := by
  pointwise [val_main_v110, val_main_v48, val_main_v47, val_main_v46, val_main_v45, val_main_v44, val_main_v41, val_main_cst_8, val_main_cst_9, val_main_cst_10, val_main_cst_11]
  simp only [err_at x0 x1 x2 x3 x4 x5 x6 R h, ← EReal.coe_mul, coe_sum, ofBits_1024, ofBits_half, coe_div _ _ (by norm_num : (1024 : ℝ) ≠ 0)]
  rfl

/-! ## Backward -/

theorem dy_at (i : Fin 4096) (k : Fin 1024) : val_main_v54 (F := Ideal) x0 x1 x2 x3 x4 x5 x6 (ix2 i k) = (FfnSpec.dy (R i) k : EReal) := by
  pointwise [val_main_v54, val_main_v53, val_main_v52, val_main_v51, val_main_v50, val_main_v49, val_main_v43, val_main_v42, val_main_cst_7, val_main_cst_12, val_main_cst_13, val_main_cst_14]
  simp only [err_at x0 x1 x2 x3 x4 x5 x6 R h, ofBits_1024, ofBits_half, ofBits_one, ofBits_two, ← EReal.coe_mul, coe_div _ _ (by norm_num : (1024 : ℝ) ≠ 0)]
  refine congrArg _ ?_
  unfold FfnSpec.dy
  ring

theorem dyg_at (i : Fin 4096) (k : Fin 1024) : val_main_v59 (F := Ideal) x0 x1 x2 x3 x4 x5 x6 (ix2 i k) = ((FfnSpec.dy (R i) k * (R i).gq k : ℝ) : EReal) := by
  pointwise [val_main_v59, val_main_v58, val_main_v36, val_main_v22]
  simp only [dy_at x0 x1 x2 x3 x4 x5 x6 R h, h.h3 i, ← EReal.coe_mul]

theorem dgq_at (k : Fin 1024) : val_main_v75 (F := Ideal) x0 x1 x2 x3 x4 x5 x6 (ix2 0 k) = ((∑ i, FfnSpec.dgq (R i) k : ℝ) : EReal) := by
  pointwise [val_main_v75, val_main_v60, val_main_v57, val_main_v56, val_main_v55, val_main_cst_15, val_main_cst_16]
  simp only [normed1_at x0 x1 x2 x3 x4 x5 x6 R h, dy_at x0 x1 x2 x3 x4 x5 x6 R h, ← EReal.coe_mul, coe_sum, Finset.univ_unique, Finset.sum_singleton]
  exact congrArg _ (Finset.sum_congr rfl fun i _ => by unfold FfnSpec.dgq; ring)

theorem dout_at (i : Fin 4096) (k : Fin 1024) : val_main_v74 (F := Ideal) x0 x1 x2 x3 x4 x5 x6 (ix2 i k) = (FfnSpec.dout (R i) k : EReal) := by
  pointwise [val_main_v74, val_main_v73, val_main_v72, val_main_v71, val_main_v70, val_main_v69, val_main_v68, val_main_v67, val_main_v66, val_main_v65, val_main_v64, val_main_v63,
    val_main_v62, val_main_v61, val_main_cst_17, val_main_cst_18, val_main_cst_19]
  simp only [out_at x0 x1 x2 x3 x4 x5 x6 R h, rinv1_at x0 x1 x2 x3 x4 x5 x6 R h, slope1_at x0 x1 x2 x3 x4 x5 x6 R h, dyg_at x0 x1 x2 x3 x4 x5 x6 R h, ofBits_1024,
    ← EReal.coe_mul, coe_sum, coe_div _ _ (by norm_num : (1024 : ℝ) ≠ 0), Finset.univ_unique, Finset.sum_singleton]
  rw [← EReal.coe_add, ← EReal.coe_add, FfnSpec.dout, ← rms_vjp]

theorem dact_at (i : Fin 4096) (j : Fin 2816) : val_main_v76 (F := Ideal) x0 x1 x2 x3 x4 x5 x6 (ix2 i j) = (dact (R i) j : EReal) := by
  pointwise [val_main_v76]
  simp only [dout_at x0 x1 x2 x3 x4 x5 x6 R h, h.h6 i, ← EReal.coe_mul, coe_sum]
  rfl

theorem dup_at (i : Fin 4096) (j : Fin 2816) : val_main_v77 (F := Ideal) x0 x1 x2 x3 x4 x5 x6 (ix2 i j) = (dup (R i) j : EReal) := by
  pointwise [val_main_v77]
  rw [silu_at x0 x1 x2 x3 x4 x5 x6 R h, dact_at x0 x1 x2 x3 x4 x5 x6 R h, ← EReal.coe_mul]
  exact congrArg _ (by unfold dup; ring)

theorem dgate_at (i : Fin 4096) (j : Fin 2816) : val_main_v79 (F := Ideal) x0 x1 x2 x3 x4 x5 x6 (ix2 i j) = (dgate (R i) j : EReal) := by
  pointwise [val_main_v79, val_main_call1_v2, val_main_call1_v1, val_main_call1_v0, val_main_v78, val_main_v19_1, val_main_call0_v7, val_main_call0_v6, val_main_call0_cst_1]
  simp only [dact_at x0 x1 x2 x3 x4 x5 x6 R h, up_at x0 x1 x2 x3 x4 x5 x6 R h, sg_at x0 x1 x2 x3 x4 x5 x6 R h, gate_at x0 x1 x2 x3 x4 x5 x6 R h]
  rw [← EReal.coe_one]
  simp only [← EReal.coe_sub, ← EReal.coe_mul, ← EReal.coe_add]
  refine congrArg _ ?_
  unfold dgate
  ring

theorem dhid_at (i : Fin 4096) (k : Fin 1024) : val_main_v82 (F := Ideal) x0 x1 x2 x3 x4 x5 x6 (ix2 i k) = (dhid (R i) k : EReal) := by
  pointwise [val_main_v82, val_main_v81, val_main_v80]
  simp only [dup_at x0 x1 x2 x3 x4 x5 x6 R h, dgate_at x0 x1 x2 x3 x4 x5 x6 R h, h.h4 i, h.h5 i, ← EReal.coe_mul, coe_sum, ← EReal.coe_add]
  rw [← Finset.sum_add_distrib]
  exact congrArg _ (Finset.sum_congr rfl fun j _ => add_comm _ _)

theorem dhidg_at (i : Fin 4096) (k : Fin 1024) : val_main_v87 (F := Ideal) x0 x1 x2 x3 x4 x5 x6 (ix2 i k) = ((dhid (R i) k * (R i).gp k : ℝ) : EReal) := by
  pointwise [val_main_v87, val_main_v86, val_main_v14, val_main_v0]
  simp only [dhid_at x0 x1 x2 x3 x4 x5 x6 R h, h.h2 i, ← EReal.coe_mul]

theorem dgp_at (k : Fin 1024) : val_main_v103 (F := Ideal) x0 x1 x2 x3 x4 x5 x6 (ix2 0 k) = ((∑ i, FfnSpec.dgp (R i) k : ℝ) : EReal) := by
  pointwise [val_main_v103, val_main_v88, val_main_v85, val_main_v84, val_main_v83, val_main_v13, val_main_v12, val_main_cst_20, val_main_cst_21]
  simp only [h.h0, rinv_at x0 x1 x2 x3 x4 x5 x6 R h, dhid_at x0 x1 x2 x3 x4 x5 x6 R h, ← EReal.coe_mul, coe_sum, Finset.univ_unique, Finset.sum_singleton]
  exact congrArg _ (Finset.sum_congr rfl fun i _ => by unfold FfnSpec.dgp; ring)

theorem dx_at (i : Fin 4096) (k : Fin 1024) : val_main_v104 (F := Ideal) x0 x1 x2 x3 x4 x5 x6 (ix2 i k) = (FfnSpec.dx (R i) k : EReal) := by
  pointwise [val_main_v104, val_main_v102, val_main_v101, val_main_v100, val_main_v99, val_main_v98, val_main_v97, val_main_v96, val_main_v95, val_main_v94, val_main_v93, val_main_v92, val_main_v91,
    val_main_v90, val_main_v89, val_main_cst_22, val_main_cst_23, val_main_cst_24]
  simp only [h.h0, rinv_at x0 x1 x2 x3 x4 x5 x6 R h, slope_at x0 x1 x2 x3 x4 x5 x6 R h, dhidg_at x0 x1 x2 x3 x4 x5 x6 R h, dy_at x0 x1 x2 x3 x4 x5 x6 R h, ofBits_1024,
    ← EReal.coe_mul, coe_sum, coe_div _ _ (by norm_num : (1024 : ℝ) ≠ 0), Finset.univ_unique, Finset.sum_singleton, ← EReal.coe_add]
  rw [FfnSpec.dx, ← rms_vjp]

/-! ## The results that only drop precision -/

theorem hid_cast (i : Fin 4096) (k : Fin 1024) : val_main_v105 (F := Ideal) x0 x2 (ix2 i k) = (hid (R i) k : EReal) := hid_at x0 x1 x2 x3 x4 x5 x6 R h i k

theorem act_cast (i : Fin 4096) (j : Fin 2816) : val_main_v106 (F := Ideal) x0 x2 x4 x5 (ix2 i j) = (act (R i) j : EReal) := act_at x0 x1 x2 x3 x4 x5 x6 R h i j

theorem dgate_cast (i : Fin 4096) (j : Fin 2816) : val_main_v107 (F := Ideal) x0 x1 x2 x3 x4 x5 x6 (ix2 i j) = (dgate (R i) j : EReal) := dgate_at x0 x1 x2 x3 x4 x5 x6 R h i j

theorem dup_cast (i : Fin 4096) (j : Fin 2816) : val_main_v108 (F := Ideal) x0 x1 x2 x3 x4 x5 x6 (ix2 i j) = (dup (R i) j : EReal) := dup_at x0 x1 x2 x3 x4 x5 x6 R h i j

theorem dout_cast (i : Fin 4096) (k : Fin 1024) : val_main_v109 (F := Ideal) x0 x1 x2 x3 x4 x5 x6 (ix2 i k) = (FfnSpec.dout (R i) k : EReal) := dout_at x0 x1 x2 x3 x4 x5 x6 R h i k

end Cert.Reference3Ideal.Ffn
-- ==== Proof.FfnPair.lean ====
/-
  The feed-forward layer with its loss and gradients, and its `jax.vjp` reference, end with the same nine arrays:
  the frames of both programs, and the value claim under finite arguments.
-/
module

public import proofs.«01_k».proof.Defs
public import proofs.«01_k».proof.Proof.Gen.Kernel3.Frame
public import proofs.«01_k».proof.Proof.Gen.Pre_finite3
public import proofs.«01_k».proof.Proof.FfnKernel
public import proofs.«01_k».proof.Proof.FfnRef

@[expose] public section

set_option maxRecDepth 16384

noncomputable section

namespace Cert.Ffn

open Idealize.ShloMosaic Idealize.SL.Sem Cert.Common Cert.FfnSpec

/-- Finite arguments are real ones. -/
theorem real_args (m : (ℓ : Loc Kernel3Ideal.nD Kernel3Ideal.τ Kernel3Ideal.sig) → Buf (Elt Ideal) ℓ) (hpre : Pre_Kernel3Ideal_finite3 m) (c : Dev Kernel3Ideal.nD) :
    ∃ R, Kernel3Ideal.Ffn.Args m c R := by
  have e := congrFun (hpre c) (fun d : Fin 0 => d.elim0)
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨X, hX⟩ := real_of_all _ _ _ _ _ _ e0
  obtain ⟨T, hT⟩ := real_of_all _ _ _ _ _ _ e1
  obtain ⟨P, hP⟩ := real_of_all _ _ _ _ _ _ e2
  obtain ⟨Q, hQ⟩ := real_of_all _ _ _ _ _ _ e3
  obtain ⟨G, hG⟩ := real_of_all _ _ _ _ _ _ e4
  obtain ⟨U, hU⟩ := real_of_all _ _ _ _ _ _ e5
  obtain ⟨D, hD⟩ := real_of_all _ _ _ _ _ _ e6
  exact ⟨fun i => ⟨fun k => X (ix2 i k), fun k => T (ix2 i k), fun k => P (ix2 0 k), fun k => Q (ix2 0 k), fun k j => G (ix2 k j), fun k j => U (ix2 k j), fun j k => D (ix2 j k)⟩,
    fun i k => congrFun hX _, fun i k => congrFun hT _, fun i k => congrFun hP _, fun i k => congrFun hQ _, fun i k j => congrFun hG _, fun i k j => congrFun hU _, fun i k j => congrFun hD _⟩

/-- The reference's frame. -/
theorem frame_reference : quiescent_Reference3Ideal := fun m ρ _ =>
  (θ_run Reference3Ideal.defs _ _).mono (fun r h => ⟨fun c => (h c).2.2.2.2.2.2.2.2.2, sem_eq_zero_of_no_sems (by decide) r.2⟩)
    (Reference3Ideal.Value.run (F := Ideal) m ρ)

/-- The results agree. -/
theorem value : algebraic_Kernel3Ideal_Reference3Ideal_pre_finite3 := by
  intro m g m' g' hpre hargs
  choose R h using real_args m hpre
  refine ⟨fun c => fun i => (FfnSpec.dx (R c (i 0)) (i 1) : EReal),
    fun c => fun i => (FfnSpec.hid (R c (i 0)) (i 1) : EReal),
    fun c => fun i => (FfnSpec.act (R c (i 0)) (i 1) : EReal),
    fun c => fun i => (FfnSpec.dgate (R c (i 0)) (i 1) : EReal),
    fun c => fun i => (FfnSpec.dup (R c (i 0)) (i 1) : EReal),
    fun c => fun i => (FfnSpec.dout (R c (i 0)) (i 1) : EReal),
    fun c => fun _ => ((1 / 2 * ∑ i, FfnSpec.loss (R c i) : ℝ) : EReal),
    fun c => fun j => ((∑ i, FfnSpec.dgp (R c i) (j 1) : ℝ) : EReal),
    fun c => fun j => ((∑ i, FfnSpec.dgq (R c i) (j 1) : ℝ) : EReal), ?_, ?_⟩
  · refine (θ_run Kernel3Ideal.defs _ _).mono (fun r hr c => ?_) (Kernel3Ideal.Value.run_blocks (F := Ideal) m g)
    obtain ⟨k0, k1, k2, k3, k4, k5, k6, k7, k8, hk⟩ := hr c
    exact ⟨k0.trans (Kernel3Ideal.Ffn.final7 m c _ (h c)),
      k1.trans (Kernel3Ideal.Ffn.final8 m c _ (h c)),
      k2.trans (Kernel3Ideal.Ffn.final9 m c _ (h c)),
      k3.trans (Kernel3Ideal.Ffn.final10 m c _ (h c)),
      k4.trans (Kernel3Ideal.Ffn.final11 m c _ (h c)),
      k5.trans (Kernel3Ideal.Ffn.final12 m c _ (h c)),
      k6.trans (Kernel3Ideal.Ffn.final13 m c _ (h c)),
      k7.trans (Kernel3Ideal.Ffn.final14 m c _ (h c)),
      k8.trans (Kernel3Ideal.Ffn.final15 m c _ (h c)), hk⟩
  · refine (θ_run Reference3Ideal.defs _ _).mono (fun r hr c => ?_) (Reference3Ideal.Value.run (F := Ideal) m' g')
    obtain ⟨r0, r1, r2, r3, r4, r5, r6, r7, r8, hk⟩ := hr c
    obtain ⟨a0, a1, a2, a3, a4, a5, a6⟩ := hargs c
    obtain ⟨h0, h1, h2, h3, h4, h5, h6⟩ := h c
    have h : Reference3Ideal.Ffn.Args _ _ _ _ _ _ _ (R c) := ⟨h0, h1, h2, h3, h4, h5, h6⟩
    rw [← a0, ← a1, ← a2, ← a3, ← a4, ← a5, ← a6] at h
    exact ⟨r0.trans ((Reference3Ideal.Read.val_main_v104_eq _).trans (ext2 fun i k => Reference3Ideal.Ffn.dx_at _ _ _ _ _ _ _ _ h i k)),
      r1.trans ((Reference3Ideal.Read.val_main_v105_eq _).trans (ext2 fun i k => Reference3Ideal.Ffn.hid_cast _ _ _ _ _ _ _ _ h i k)),
      r2.trans ((Reference3Ideal.Read.val_main_v106_eq _).trans (ext2 fun i k => Reference3Ideal.Ffn.act_cast _ _ _ _ _ _ _ _ h i k)),
      r3.trans ((Reference3Ideal.Read.val_main_v107_eq _).trans (ext2 fun i k => Reference3Ideal.Ffn.dgate_cast _ _ _ _ _ _ _ _ h i k)),
      r4.trans ((Reference3Ideal.Read.val_main_v108_eq _).trans (ext2 fun i k => Reference3Ideal.Ffn.dup_cast _ _ _ _ _ _ _ _ h i k)),
      r5.trans ((Reference3Ideal.Read.val_main_v109_eq _).trans (ext2 fun i k => Reference3Ideal.Ffn.dout_cast _ _ _ _ _ _ _ _ h i k)),
      r6.trans ((Reference3Ideal.Read.val_main_v110_eq _).trans (ext2 fun i k => by obtain rfl : i = 0 := Subsingleton.elim _ _; exact Reference3Ideal.Ffn.loss_at _ _ _ _ _ _ _ _ h k)),
      r7.trans ((Reference3Ideal.Read.val_main_v103_eq _).trans (ext2 fun i k => by obtain rfl : i = 0 := Subsingleton.elim _ _; exact Reference3Ideal.Ffn.dgp_at _ _ _ _ _ _ _ _ h k)),
      r8.trans ((Reference3Ideal.Read.val_main_v75_eq _).trans (ext2 fun i k => by obtain rfl : i = 0 := Subsingleton.elim _ _; exact Reference3Ideal.Ffn.dgq_at _ _ _ _ _ _ _ _ h k)), hk⟩

end Cert.Ffn
-- ==== Proof.PrepRun.lean ====
/-
  The run of the convolution's gradient: what one point's body leaves in the two output blocks, and the frame.

  The body keeps the padded input and the gradient before the gate in two scratch buffers it fills anew at every point.
  The loops read them whole, so a point's run is stated at the contents the second one has on entry, and it is shown
  that these contents do not matter.
-/
module

public import proofs.«01_k».proof.Proof.Gen.Kernel4Ideal.Frame.Runs
public import Idealize.ShloMosaic.Lib.Quiescent

@[expose] public section

set_option maxRecDepth 16384

noncomputable section

namespace Cert.Kernel4Ideal.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

set_option maxHeartbeats 4000000 in
/-- The body at a point of case A, its second scratch buffer holding `f8` on entry. -/
def runA (c : Dev nD) (i : grid0.Coords) (a2 : Memref sig .tc .vmem S4096x128 .f32) (h2 : a2.IsWhole) (a3 : Memref sig .tc .vmem S4x128 .f32) (h3 : a3.IsWhole) (a4 : Memref sig .tc .vmem S1x64x1x64x128 .f32) (h4 : a4.IsWhole) (a5 : Memref sig .tc .vmem S4096x128 .bf16) (h5 : a5.IsWhole) (a6 : Memref sig .tc .vmem S4x128 .f32) (h6 : a6.IsWhole) (a7 : Memref sig .tc .vmem S4104x128 .f32) (h7 : a7.IsWhole) (a8 : Memref sig .tc .vmem S4104x128 .f32) (h8 : a8.IsWhole)
    (hc0 : cond0_0 i) (hc1 : ¬cond0_1 i) (x0 : Vec F S4096x128 .f32) (x1 : Vec F S4x128 .f32) (x2 : Vec F S1x64x1x64x128 .f32)
    (f8 : BufTy.Contents (Elt F) a8.view.ty) :
    Σ' (L3 : List (View.Piece (Elt F) S4096x128 .bf16)), { L4 : List (View.Piece (Elt F) S4x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d) ∗ (∃ d, owns (c : Thread nD τ) a7 fullShare d)
            ∗ (a8.view.loc (c : Thread nD τ) ↦[a8.view.set]{fullShare} f8)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ f, a6.view.loc (c : Thread nD τ) ↦[a6.view.set]{fullShare} a6.view.writes (Elt F) f L4)
                ∗ (∃ d, owns (c : Thread nD τ) a7 fullShare d) ∗ (∃ d, owns (c : Thread nD τ) a8 fullShare d)) -∗ K ⟨⟩))
          ⊢ wp frame (wpE (defs₀ (F := F)) Variants.none c none) E (cc0_gdn_prep_bwd i a2 h2 a3 h3 a4 h4 a5 h5 a6 h6 a7 h7 a8 h8) K } := by
  refine ⟨?_, ?_, fun E K => ?run⟩
  case run =>
    simp only [cc0_gdn_prep_bwd_eq_skeleton]; unfold cc0_gdn_prep_bwd_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, HS1, Hk⟩
    obtain rfl := h2.eq_unread hf0; obtain rfl := h3.eq_unread hf1; obtain rfl := h4.eq_unread hf2
    sl_exec (disch := first | sl_exact hc0 | sl_exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]; · iexists _; iexact H4
    isplitl [HS0]
    · iexists _, _; isplitr; swap; · iexact HS0
      ipureintro; rfl
    iexists _, _; isplitr; swap; · iexact HS1
    ipureintro; rfl

set_option maxHeartbeats 4000000 in
/-- The body at a point of case B, its second scratch buffer holding `f8` on entry. -/
def runB (c : Dev nD) (i : grid0.Coords) (a2 : Memref sig .tc .vmem S4096x128 .f32) (h2 : a2.IsWhole) (a3 : Memref sig .tc .vmem S4x128 .f32) (h3 : a3.IsWhole) (a4 : Memref sig .tc .vmem S1x64x1x64x128 .f32) (h4 : a4.IsWhole) (a5 : Memref sig .tc .vmem S4096x128 .bf16) (h5 : a5.IsWhole) (a6 : Memref sig .tc .vmem S4x128 .f32) (h6 : a6.IsWhole) (a7 : Memref sig .tc .vmem S4104x128 .f32) (h7 : a7.IsWhole) (a8 : Memref sig .tc .vmem S4104x128 .f32) (h8 : a8.IsWhole)
    (hc0 : ¬cond0_0 i) (hc1 : cond0_1 i) (x0 : Vec F S4096x128 .f32) (x1 : Vec F S4x128 .f32) (x2 : Vec F S1x64x1x64x128 .f32)
    (f8 : BufTy.Contents (Elt F) a8.view.ty) :
    Σ' (L3 : List (View.Piece (Elt F) S4096x128 .bf16)), { L4 : List (View.Piece (Elt F) S4x128 .f32) //
      ∀ (E : Set ℕ) (K : PUnit → sProp 𝕄),
        iprop(owns (c : Thread nD τ) a2 fullShare x0 ∗ owns (c : Thread nD τ) a3 fullShare x1 ∗ owns (c : Thread nD τ) a4 fullShare x2
            ∗ (∃ d, owns (c : Thread nD τ) a5 fullShare d) ∗ (∃ d, owns (c : Thread nD τ) a6 fullShare d) ∗ (∃ d, owns (c : Thread nD τ) a7 fullShare d)
            ∗ (a8.view.loc (c : Thread nD τ) ↦[a8.view.set]{fullShare} f8)
            ∗ (iprop(owns (c : Thread nD τ) a2 fullShare x0 ∗ owns (c : Thread nD τ) a3 fullShare x1 ∗ owns (c : Thread nD τ) a4 fullShare x2
                ∗ (∃ f, a5.view.loc (c : Thread nD τ) ↦[a5.view.set]{fullShare} a5.view.writes (Elt F) f L3)
                ∗ (∃ f, a6.view.loc (c : Thread nD τ) ↦[a6.view.set]{fullShare} a6.view.writes (Elt F) f L4)
                ∗ (∃ d, owns (c : Thread nD τ) a7 fullShare d) ∗ (∃ d, owns (c : Thread nD τ) a8 fullShare d)) -∗ K ⟨⟩))
          ⊢ wp frame (wpE (defs₀ (F := F)) Variants.none c none) E (cc0_gdn_prep_bwd i a2 h2 a3 h3 a4 h4 a5 h5 a6 h6 a7 h7 a8 h8) K } := by
  refine ⟨?_, ?_, fun E K => ?run⟩
  case run =>
    simp only [cc0_gdn_prep_bwd_eq_skeleton]; unfold cc0_gdn_prep_bwd_skel
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, HS1, Hk⟩
    obtain rfl := h2.eq_unread hf0; obtain rfl := h3.eq_unread hf1; obtain rfl := h4.eq_unread hf2
    sl_exec (disch := first | sl_exact hc0 | sl_exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]; · iexists _; iexact H3
    isplitl [H4]; · iexists _; iexact H4
    isplitl [HS0]
    · iexists _, _; isplitr; swap; · iexact HS0
      ipureintro; rfl
    iexists _, _; isplitr; swap; · iexact HS1
    ipureintro; rfl

end Cert.Kernel4Ideal.Prep
end
-- ==== Proof.PrepOut.lean ====
/-
  What one point of the convolution's gradient writes, without its buffers: the rows the loops store and carry, as plain
  recursions over the tiles, and that the runs of both cases leave exactly these.
-/
module

public import proofs.«01_k».proof.Proof.PrepRun
public import Idealize.ShloMosaic.Lib.Pipeline.Value

@[expose] public section

set_option maxRecDepth 16384

noncomputable section

namespace Cert.Kernel4Ideal.Prep

open Idealize.ShloMosaic Idealize.ShloMosaic.TcCoe Idealize.SL.Sem
open Cert.Kernel4Ideal Cert.Kernel4Ideal.Gen

variable {F : FTy → Type} [FloatOps F]

/-- A load depends on its rectangle's offsets only. -/
theorem ld_off {S : Shape} {e : EltTy} (z : S.Idx → Elt F e) {off off' size : Fin S.rank → ℕ} (h : off = off') (inb inb') :
    View.ld z (Rect.unit off size inb) = View.ld z (Rect.unit off' size inb') := by
  subst h; rfl

theorem rowsIn {n r : ℕ} (h : r + 256 ≤ n) : ∀ a, (![r, 0] : Fin 2 → ℕ) a + S256x128.size a ≤ (⟨2, ![n, 128]⟩ : Shape).size a
  | ⟨0, _⟩ => h
  | ⟨1, _⟩ => le_rfl

theorem chunkIn {q : ℕ} (h : q < 64) : ∀ a, (![0, q, 0, 0, 0] : Fin 5 → ℕ) a + S1x1x1x64x128.size a ≤ S1x64x1x64x128.size a
  | ⟨0, _⟩ => le_rfl
  | ⟨1, _⟩ => h
  | ⟨2, _⟩ => le_rfl
  | ⟨3, _⟩ => le_rfl
  | ⟨4, _⟩ => le_rfl

/-- `256` rows of a padded buffer, from row `r`. -/
def rowsAt (z : Vec F S4104x128 .f32) (r : ℕ) (h : r + 256 ≤ 4104) : Vec F S256x128 .f32 :=
  View.ld z (Rect.unit (s := S4104x128) ![r, 0] S256x128.size (rowsIn h))

/-- Tile `k`'s tap `j` of the padded input. -/
def tap (z : Vec F S4104x128 .f32) (k : Fin 16) (j : Fin 4) : Vec F S256x128 .f32 :=
  rowsAt z (256 * k.val + 5 + j.val) (by omega)

/-- The cotangent's chunk `4 k + j`. -/
def cot (g : Vec F S1x64x1x64x128 .f32) (k : Fin 16) (j : Fin 4) : Vec F S1x1x1x64x128 .f32 :=
  View.ld g (Rect.unit (s := S1x64x1x64x128) ![0, 4 * k.val + j.val, 0, 0, 0] S1x1x1x64x128.size (chunkIn (by omega)))

/-- The constant one half. -/
def half : F .f32 := Scalar.ofBits .f32 0x3F000000#32

/-- The gradient before the activation from four taps and the cotangent's chunks, where the convolution's output is normalised. -/
def gradOfA (i : grid0.Coords) (w : Vec F S4x128 .f32) (t0 t1 t2 t3 : Vec F S256x128 .f32) (c0 c1 c2 c3 : Vec F S1x1x1x64x128 .f32) : FVec F S256x128 .f32 :=
  k0_pay5 i (k0_pay18 w t0 t1 t2 t3) (k0_pay20 (k0_pay19 w t0 t1 t2 t3) half) (k0_pay21 c0 c1 c2 c3) (k0_pay22 (k0_pay18 w t0 t1 t2 t3) (k0_pay19 w t0 t1 t2 t3) half)
    (k0_pay23 (k0_pay18 w t0 t1 t2 t3) (k0_pay19 w t0 t1 t2 t3) half) (k0_pay24 (k0_pay18 w t0 t1 t2 t3) (k0_pay19 w t0 t1 t2 t3) half)

/-- The same where it is not. -/
def gradOfB (w : Vec F S4x128 .f32) (t0 t1 t2 t3 : Vec F S256x128 .f32) (c0 c1 c2 c3 : Vec F S1x1x1x64x128 .f32) : FVec F S256x128 .f32 :=
  k0_pay27 (k0_pay25 w t0 t1 t2 t3) (k0_pay26 w t0 t1 t2 t3) half c0 c1 c2 c3

/-- The two at tile `k`. -/
def gradA (i : grid0.Coords) (w : Vec F S4x128 .f32) (z : Vec F S4104x128 .f32) (g : Vec F S1x64x1x64x128 .f32) (k : Fin 16) : FVec F S256x128 .f32 :=
  gradOfA i w (tap z k 0) (tap z k 1) (tap z k 2) (tap z k 3) (cot g k 0) (cot g k 1) (cot g k 2) (cot g k 3)

def gradB (w : Vec F S4x128 .f32) (z : Vec F S4104x128 .f32) (g : Vec F S1x64x1x64x128 .f32) (k : Fin 16) : FVec F S256x128 .f32 :=
  gradOfB w (tap z k 0) (tap z k 1) (tap z k 2) (tap z k 3) (cot g k 0) (cot g k 1) (cot g k 2) (cot g k 3)

/-- A weight row's running sum after one more tile. -/
def addRows (acc : FVec F S1x128 .f32) (gr tp : FVec F S256x128 .f32) : FVec F S1x128 .f32 := k0_pay13 acc tp gr

/-- A tile of the gradient, stored. -/
def tileRows (gr : FVec F S256x128 .f32) (k : Fin 16) : View.Piece (Elt F) S4104x128 .f32 :=
  ⟨Rect.unit (s := S4104x128) ![256 * k.val, 0] S256x128.size (rowsIn (by omega)), k0_pay12 gr⟩

theorem tile_off (gr : FVec F S256x128 .f32) (k : Fin 16) {off : Fin 2 → ℕ} (h : off = ![256 * k.val, 0]) (inb) :
    (⟨Rect.unit (s := S4104x128) off S256x128.size inb, k0_pay12 gr⟩ : View.Piece (Elt F) S4104x128 .f32) = tileRows gr k := by
  subst h; rfl

/-- The four weight rows' running sums. -/
abbrev Acc (F : FTy → Type) [FloatOps F] : Type := FVec F S1x128 .f32 × FVec F S1x128 .f32 × FVec F S1x128 .f32 × FVec F S1x128 .f32

/-- The first loop: the four weight rows' sums and the stored tiles, after `n` of them. -/
def first (gr : Fin 16 → FVec F S256x128 .f32) (tp : Fin 16 → Fin 4 → Vec F S256x128 .f32) : ℕ → Acc F × List (View.Piece (Elt F) S4104x128 .f32)
  | 0 => ((k0_pay4, k0_pay4, k0_pay4, k0_pay4), [])
  | n + 1 =>
    if h : n < 16 then
      let s := first gr tp n
      let k : Fin 16 := ⟨n, h⟩
      ((addRows s.1.1 (gr k) (tp k 0), addRows s.1.2.1 (gr k) (tp k 1), addRows s.1.2.2.1 (gr k) (tp k 2), addRows s.1.2.2.2 (gr k) (tp k 3)), tileRows (gr k) k :: s.2)
    else first gr tp n

theorem first_succ (gr : Fin 16 → FVec F S256x128 .f32) (tp : Fin 16 → Fin 4 → Vec F S256x128 .f32) (k : Fin 16) :
    first gr tp (k.val + 1) = ((addRows (first gr tp k.val).1.1 (gr k) (tp k 0), addRows (first gr tp k.val).1.2.1 (gr k) (tp k 1),
      addRows (first gr tp k.val).1.2.2.1 (gr k) (tp k 2), addRows (first gr tp k.val).1.2.2.2 (gr k) (tp k 3)), tileRows (gr k) k :: (first gr tp k.val).2) := by
  rw [first.eq_2]; exact dif_pos k.isLt

/-- The four weight rows, stored. -/
def rowPieces (a : Acc F) : List (View.Piece (Elt F) S4x128 .f32) :=
  [⟨Rect.unit ![3, 0] S1x128.size inb_S4x128_S1x128_3_0, a.2.2.2⟩, ⟨Rect.unit ![2, 0] S1x128.size inb_S4x128_S1x128_2_0, a.2.2.1⟩,
    ⟨Rect.unit ![1, 0] S1x128.size inb_S4x128_S1x128_1_0, a.2.1⟩, ⟨Rect.unit ![0, 0] S1x128.size inb_S4x128_S1x128_0_0, a.1⟩]

/-- The padded gradient's stores: the tiles, over eight zero rows behind them. -/
def padPieces (gr : Fin 16 → FVec F S256x128 .f32) (tp : Fin 16 → Fin 4 → Vec F S256x128 .f32) : List (View.Piece (Elt F) S4104x128 .f32) :=
  (first gr tp 16).2 ++ [⟨Rect.unit ![4096, 0] S8x128.size inb_S4104x128_S8x128_4096_0, k0_pay3⟩]

/-- The padded gradient. -/
def padded (gr : Fin 16 → FVec F S256x128 .f32) (tp : Fin 16 → Fin 4 → Vec F S256x128 .f32) : Vec F S4104x128 .f32 := View.canon (padPieces gr tp)

/-- The padded input's stores: the rows, under eight zero rows before them. -/
def inPieces (x : Vec F S4096x128 .f32) : List (View.Piece (Elt F) S4104x128 .f32) :=
  [⟨Rect.unit ![8, 0] S4096x128.size inb_S4104x128_S4096x128_8_0, k0_pay2 x⟩, ⟨Rect.unit ![0, 0] S8x128.size inb_S4104x128_S8x128_0_0, k0_pay1⟩]

/-- The padded input. -/
def inPadded (x : Vec F S4096x128 .f32) : Vec F S4104x128 .f32 := View.canon (inPieces x)

/-- A tile of the input's gradient, stored. -/
def outRows (w : Vec F S4x128 .f32) (d : Vec F S4104x128 .f32) (k : Fin 16) : View.Piece (Elt F) S4096x128 .bf16 :=
  ⟨Rect.unit (s := S4096x128) ![256 * k.val, 0] S256x128.size (rowsIn (by omega)),
    k0_pay17 w (rowsAt d (256 * k.val) (by omega)) (rowsAt d (256 * k.val + 3) (by omega)) (rowsAt d (256 * k.val + 2) (by omega)) (rowsAt d (256 * k.val + 1) (by omega))⟩

theorem out_off (w : Vec F S4x128 .f32) (d : Vec F S4104x128 .f32) (k : Fin 16) {off : Fin 2 → ℕ} (h : off = ![256 * k.val, 0]) (inb) :
    (⟨Rect.unit (s := S4096x128) off S256x128.size inb, k0_pay17 w (rowsAt d (256 * k.val) (by omega)) (rowsAt d (256 * k.val + 3) (by omega))
      (rowsAt d (256 * k.val + 2) (by omega)) (rowsAt d (256 * k.val + 1) (by omega))⟩ : View.Piece (Elt F) S4096x128 .bf16) = outRows w d k := by
  subst h; rfl

/-- The second loop's stores after `n` tiles. -/
def second (w : Vec F S4x128 .f32) (d : Vec F S4104x128 .f32) : ℕ → List (View.Piece (Elt F) S4096x128 .bf16)
  | 0 => []
  | n + 1 => if h : n < 16 then outRows w d ⟨n, h⟩ :: second w d n else second w d n

theorem second_succ (w : Vec F S4x128 .f32) (d : Vec F S4104x128 .f32) (k : Fin 16) : second w d (k.val + 1) = outRows w d k :: second w d k.val := by
  rw [second.eq_2]; exact dif_pos k.isLt

/-! ## Every row is stored -/

theorem mem_rows {n r : ℕ} (h : r + 256 ≤ n) (y : (⟨2, ![n, 128]⟩ : Shape).Idx) (h0 : r ≤ (y 0).val) (h1 : (y 0).val < r + 256) :
    y ∈ (Rect.unit (s := (⟨2, ![n, 128]⟩ : Shape)) ![r, 0] S256x128.size (rowsIn h)).set := by
  refine Rect.mem_set_unit.mpr fun a => ?_
  match a with
  | ⟨0, _⟩ => exact ⟨h0, h1⟩
  | ⟨1, _⟩ => exact ⟨Nat.zero_le _, (Nat.zero_add _).symm ▸ (y 1).isLt⟩

theorem first_mem (gr : Fin 16 → FVec F S256x128 .f32) (tp : Fin 16 → Fin 4 → Vec F S256x128 .f32) (k : Fin 16) :
    ∀ n, k.val < n → n ≤ 16 → tileRows (gr k) k ∈ (first gr tp n).2 := by
  intro n
  induction n with
  | zero => intro h; exact absurd h (Nat.not_lt_zero _)
  | succ n ih =>
    intro h hn
    rw [first_succ gr tp ⟨n, hn⟩]
    by_cases e : k.val = n
    · obtain rfl : k = ⟨n, hn⟩ := Fin.ext e
      exact List.mem_cons_self
    · exact List.mem_cons_of_mem _ (ih (by omega) (by omega))

theorem second_mem (w : Vec F S4x128 .f32) (d : Vec F S4104x128 .f32) (k : Fin 16) : ∀ n, k.val < n → n ≤ 16 → outRows w d k ∈ second w d n := by
  intro n
  induction n with
  | zero => intro h; exact absurd h (Nat.not_lt_zero _)
  | succ n ih =>
    intro h hn
    rw [second_succ w d ⟨n, hn⟩]
    by_cases e : k.val = n
    · obtain rfl : k = ⟨n, hn⟩ := Fin.ext e
      exact List.mem_cons_self
    · exact List.mem_cons_of_mem _ (ih (by omega) (by omega))

/-- A row lies in the band a store of whole rows covers. -/
theorem mem_band {n r l : ℕ} (inb : ∀ a, (![r, 0] : Fin 2 → ℕ) a + (![l, 128] : Fin 2 → ℕ) a ≤ (⟨2, ![n, 128]⟩ : Shape).size a) (y : (⟨2, ![n, 128]⟩ : Shape).Idx)
    (h0 : r ≤ (y 0).val) (h1 : (y 0).val < r + l) : y ∈ (Rect.unit (s := (⟨2, ![n, 128]⟩ : Shape)) ![r, 0] ![l, 128] inb).set := by
  refine Rect.mem_set_unit.mpr fun a => ?_
  match a with
  | ⟨0, _⟩ => exact ⟨h0, h1⟩
  | ⟨1, _⟩ => exact ⟨Nat.zero_le _, (Nat.zero_add _).symm ▸ (y 1).isLt⟩

theorem padPieces_cover (gr : Fin 16 → FVec F S256x128 .f32) (tp : Fin 16 → Fin 4 → Vec F S256x128 .f32) (y : S4104x128.Idx) : ∃ p ∈ padPieces gr tp, y ∈ p.1.set := by
  by_cases h : (y 0).val < 4096
  · have hk : (y 0).val / 256 < 16 := by omega
    exact ⟨_, List.mem_append_left _ (first_mem gr tp ⟨(y 0).val / 256, hk⟩ 16 hk le_rfl),
      mem_rows (n := 4104) (r := 256 * ((y 0).val / 256)) (by omega) y (by omega) (by omega)⟩
  · exact ⟨_, List.mem_append_right _ List.mem_cons_self, mem_band (n := 4104) (l := 8) inb_S4104x128_S8x128_4096_0 y (Nat.not_lt.mp h) (y 0).isLt⟩

theorem inPieces_cover (x : Vec F S4096x128 .f32) (y : S4104x128.Idx) : ∃ p ∈ inPieces x, y ∈ p.1.set := by
  by_cases h : 8 ≤ (y 0).val
  · exact ⟨_, List.mem_cons_self, mem_band (n := 4104) (l := 4096) inb_S4104x128_S4096x128_8_0 y h (y 0).isLt⟩
  · exact ⟨_, List.mem_cons_of_mem _ List.mem_cons_self, mem_band (n := 4104) (l := 8) inb_S4104x128_S8x128_0_0 y (Nat.zero_le _) (by omega)⟩

theorem second_cover (w : Vec F S4x128 .f32) (d : Vec F S4104x128 .f32) (y : S4096x128.Idx) : ∃ p ∈ second w d 16, y ∈ p.1.set := by
  have hk : (y 0).val / 256 < 16 := by have := (y 0).isLt; change (y 0).val < 4096 at this; omega
  exact ⟨_, second_mem w d ⟨(y 0).val / 256, hk⟩ 16 hk le_rfl,
    mem_rows (n := 4096) (r := 256 * ((y 0).val / 256)) (by omega) y (by omega) (by omega)⟩

theorem rowPieces_cover (a : Acc F) (y : S4x128.Idx) : ∃ p ∈ rowPieces a, y ∈ p.1.set :=
  View.cover_of_tiledL (rowPieces a) S1x128.size (by sl_kernel_rfl) y

/-! ## The loops' recursions are these -/

theorem off1_eq : ∀ (k : Fin k0_t1_loop.trips) (j : Fin 4), k0_off1 k (BitVec.ofNat 32 j.val) = ![256 * k.val + 5 + j.val, 0] := by decide +kernel
theorem off2_eq : ∀ (k : Fin k0_t1_loop.trips) (j : Fin 4), k0_off2 k (BitVec.ofNat 32 j.val) = ![0, 4 * k.val + j.val, 0, 0, 0] := by decide +kernel
theorem off3_eq : ∀ k : Fin k0_t1_loop.trips, k0_off3 k = ![256 * k.val, 0] := by decide +kernel
theorem off4_eq : ∀ (k : Fin k0_t2_loop.trips) (j : Fin 4), k0_off4 k (BitVec.ofNat 32 j.val) = ![256 * k.val + 5 + j.val, 0] := by decide +kernel
theorem off5_eq : ∀ (k : Fin k0_t2_loop.trips) (j : Fin 4), k0_off5 k (BitVec.ofNat 32 j.val) = ![0, 4 * k.val + j.val, 0, 0, 0] := by decide +kernel
theorem off6_eq : ∀ k : Fin k0_t2_loop.trips, k0_off6 k = ![256 * k.val, 0] := by decide +kernel
theorem off7_eq : ∀ k : Fin k0_t3_loop.trips, k0_off7 k = ![256 * k.val, 0] := by decide +kernel
theorem off8_eq : ∀ (k : Fin k0_t3_loop.trips) (j : Fin 3), k0_off8 k (BitVec.ofNat 32 j.val) = ![256 * k.val + 3 - j.val, 0] := by decide +kernel
theorem off9_eq : ∀ k : Fin k0_t3_loop.trips, k0_off9 k = ![256 * k.val, 0] := by decide +kernel

section caseA

variable (𝒱 : Variants) (c : Dev nD) (bd : Option 𝒱.V) (i : grid0.Coords) (a2 : Memref sig .tc .vmem S4096x128 .f32) (h2 : a2.IsWhole) (a3 : Memref sig .tc .vmem S4x128 .f32) (h3 : a3.IsWhole) (a4 : Memref sig .tc .vmem S1x64x1x64x128 .f32) (h4 : a4.IsWhole) (a5 : Memref sig .tc .vmem S4096x128 .bf16) (h5 : a5.IsWhole) (a6 : Memref sig .tc .vmem S4x128 .f32) (h6 : a6.IsWhole) (a7 : Memref sig .tc .vmem S4104x128 .f32) (h7 : a7.IsWhole) (a8 : Memref sig .tc .vmem S4104x128 .f32) (h8 : a8.IsWhole)
  (w : Vec F S4x128 .f32) (z : Vec F S4104x128 .f32) (g : Vec F S1x64x1x64x128 .f32) (hc : cond0_0 i)

theorem loadA (k : Fin k0_t1_loop.trips) (j : Fin 4) :
    View.readAt (Elt F) a7.view (Rect.unit (s := S4104x128) (k0_off1 k (BitVec.ofNat 32 j.val)) S256x128.size (k0_off1_inb i k hc j)).toLoadRect (h7.unread z) = tap z k j := by
  rw [View.readAt_eq_ld, h7.read_unread]
  exact ld_off z (off1_eq k j) _ _

theorem chunkA (k : Fin k0_t1_loop.trips) (j : Fin 4) :
    View.readAt (Elt F) a4.view (Rect.unit (s := S1x64x1x64x128) (k0_off2 k (BitVec.ofNat 32 j.val)) S1x1x1x64x128.size (k0_off2_inb i k hc j)).toLoadRect (h4.unread g) = cot g k j := by
  rw [View.readAt_eq_ld, h4.read_unread]
  exact ld_off g (off2_eq k j) _ _

/-- The gradient of one trip, its loads read. -/
theorem gradA_eq (k : Fin k0_t1_loop.trips) : (gradOfA i w (View.readAt (Elt F) a7.view (Rect.unit (s := S4104x128) (k0_off1 k 0#32) S256x128.size (k0_off1_inb i k hc 0)).toLoadRect (h7.unread z)) (View.readAt (Elt F) a7.view (Rect.unit (s := S4104x128) (k0_off1 k 1#32) S256x128.size (k0_off1_inb i k hc 1)).toLoadRect (h7.unread z)) (View.readAt (Elt F) a7.view (Rect.unit (s := S4104x128) (k0_off1 k 2#32) S256x128.size (k0_off1_inb i k hc 2)).toLoadRect (h7.unread z)) (View.readAt (Elt F) a7.view (Rect.unit (s := S4104x128) (k0_off1 k 3#32) S256x128.size (k0_off1_inb i k hc 3)).toLoadRect (h7.unread z)) (View.readAt (Elt F) a4.view (Rect.unit (s := S1x64x1x64x128) (k0_off2 k 0#32) S1x1x1x64x128.size (k0_off2_inb i k hc 0)).toLoadRect (h4.unread g)) (View.readAt (Elt F) a4.view (Rect.unit (s := S1x64x1x64x128) (k0_off2 k 1#32) S1x1x1x64x128.size (k0_off2_inb i k hc 1)).toLoadRect (h4.unread g)) (View.readAt (Elt F) a4.view (Rect.unit (s := S1x64x1x64x128) (k0_off2 k 2#32) S1x1x1x64x128.size (k0_off2_inb i k hc 2)).toLoadRect (h4.unread g)) (View.readAt (Elt F) a4.view (Rect.unit (s := S1x64x1x64x128) (k0_off2 k 3#32) S1x1x1x64x128.size (k0_off2_inb i k hc 3)).toLoadRect (h4.unread g))) = gradA i w z g k := by
  rw [show (View.readAt (Elt F) a7.view (Rect.unit (s := S4104x128) (k0_off1 k 0#32) S256x128.size (k0_off1_inb i k hc 0)).toLoadRect (h7.unread z)) = tap z k 0 from loadA i a7 h7 z hc k 0, show (View.readAt (Elt F) a7.view (Rect.unit (s := S4104x128) (k0_off1 k 1#32) S256x128.size (k0_off1_inb i k hc 1)).toLoadRect (h7.unread z)) = tap z k 1 from loadA i a7 h7 z hc k 1, show (View.readAt (Elt F) a7.view (Rect.unit (s := S4104x128) (k0_off1 k 2#32) S256x128.size (k0_off1_inb i k hc 2)).toLoadRect (h7.unread z)) = tap z k 2 from loadA i a7 h7 z hc k 2, show (View.readAt (Elt F) a7.view (Rect.unit (s := S4104x128) (k0_off1 k 3#32) S256x128.size (k0_off1_inb i k hc 3)).toLoadRect (h7.unread z)) = tap z k 3 from loadA i a7 h7 z hc k 3, show (View.readAt (Elt F) a4.view (Rect.unit (s := S1x64x1x64x128) (k0_off2 k 0#32) S1x1x1x64x128.size (k0_off2_inb i k hc 0)).toLoadRect (h4.unread g)) = cot g k 0 from chunkA i a4 h4 g hc k 0, show (View.readAt (Elt F) a4.view (Rect.unit (s := S1x64x1x64x128) (k0_off2 k 1#32) S1x1x1x64x128.size (k0_off2_inb i k hc 1)).toLoadRect (h4.unread g)) = cot g k 1 from chunkA i a4 h4 g hc k 1, show (View.readAt (Elt F) a4.view (Rect.unit (s := S1x64x1x64x128) (k0_off2 k 2#32) S1x1x1x64x128.size (k0_off2_inb i k hc 2)).toLoadRect (h4.unread g)) = cot g k 2 from chunkA i a4 h4 g hc k 2, show (View.readAt (Elt F) a4.view (Rect.unit (s := S1x64x1x64x128) (k0_off2 k 3#32) S1x1x1x64x128.size (k0_off2_inb i k hc 3)).toLoadRect (h4.unread g)) = cot g k 3 from chunkA i a4 h4 g hc k 3]
  rfl

theorem tripA_rows (k : Fin 16) (acc : Acc F) :
    (trip_k0_t1 (F := F) 𝒱 c bd i a2 h2 a3 h3 a4 h4 a5 h5 a6 h6 a7 h7 a8 h8 w hc (h4.unread g) (h7.unread z) k).1 acc = (addRows acc.1 (gradA i w z g k) (tap z k 0), addRows acc.2.1 (gradA i w z g k) (tap z k 1), addRows acc.2.2.1 (gradA i w z g k) (tap z k 2), addRows acc.2.2.2 (gradA i w z g k) (tap z k 3)) := by
  unfold trip_k0_t1
  refine Eq.trans (b := (addRows acc.1 (gradOfA i w (View.readAt (Elt F) a7.view (Rect.unit (s := S4104x128) (k0_off1 k 0#32) S256x128.size (k0_off1_inb i k hc 0)).toLoadRect (h7.unread z)) (View.readAt (Elt F) a7.view (Rect.unit (s := S4104x128) (k0_off1 k 1#32) S256x128.size (k0_off1_inb i k hc 1)).toLoadRect (h7.unread z)) (View.readAt (Elt F) a7.view (Rect.unit (s := S4104x128) (k0_off1 k 2#32) S256x128.size (k0_off1_inb i k hc 2)).toLoadRect (h7.unread z)) (View.readAt (Elt F) a7.view (Rect.unit (s := S4104x128) (k0_off1 k 3#32) S256x128.size (k0_off1_inb i k hc 3)).toLoadRect (h7.unread z)) (View.readAt (Elt F) a4.view (Rect.unit (s := S1x64x1x64x128) (k0_off2 k 0#32) S1x1x1x64x128.size (k0_off2_inb i k hc 0)).toLoadRect (h4.unread g)) (View.readAt (Elt F) a4.view (Rect.unit (s := S1x64x1x64x128) (k0_off2 k 1#32) S1x1x1x64x128.size (k0_off2_inb i k hc 1)).toLoadRect (h4.unread g)) (View.readAt (Elt F) a4.view (Rect.unit (s := S1x64x1x64x128) (k0_off2 k 2#32) S1x1x1x64x128.size (k0_off2_inb i k hc 2)).toLoadRect (h4.unread g)) (View.readAt (Elt F) a4.view (Rect.unit (s := S1x64x1x64x128) (k0_off2 k 3#32) S1x1x1x64x128.size (k0_off2_inb i k hc 3)).toLoadRect (h4.unread g))) (View.readAt (Elt F) a7.view (Rect.unit (s := S4104x128) (k0_off1 k 0#32) S256x128.size (k0_off1_inb i k hc 0)).toLoadRect (h7.unread z)), addRows acc.2.1 (gradOfA i w (View.readAt (Elt F) a7.view (Rect.unit (s := S4104x128) (k0_off1 k 0#32) S256x128.size (k0_off1_inb i k hc 0)).toLoadRect (h7.unread z)) (View.readAt (Elt F) a7.view (Rect.unit (s := S4104x128) (k0_off1 k 1#32) S256x128.size (k0_off1_inb i k hc 1)).toLoadRect (h7.unread z)) (View.readAt (Elt F) a7.view (Rect.unit (s := S4104x128) (k0_off1 k 2#32) S256x128.size (k0_off1_inb i k hc 2)).toLoadRect (h7.unread z)) (View.readAt (Elt F) a7.view (Rect.unit (s := S4104x128) (k0_off1 k 3#32) S256x128.size (k0_off1_inb i k hc 3)).toLoadRect (h7.unread z)) (View.readAt (Elt F) a4.view (Rect.unit (s := S1x64x1x64x128) (k0_off2 k 0#32) S1x1x1x64x128.size (k0_off2_inb i k hc 0)).toLoadRect (h4.unread g)) (View.readAt (Elt F) a4.view (Rect.unit (s := S1x64x1x64x128) (k0_off2 k 1#32) S1x1x1x64x128.size (k0_off2_inb i k hc 1)).toLoadRect (h4.unread g)) (View.readAt (Elt F) a4.view (Rect.unit (s := S1x64x1x64x128) (k0_off2 k 2#32) S1x1x1x64x128.size (k0_off2_inb i k hc 2)).toLoadRect (h4.unread g)) (View.readAt (Elt F) a4.view (Rect.unit (s := S1x64x1x64x128) (k0_off2 k 3#32) S1x1x1x64x128.size (k0_off2_inb i k hc 3)).toLoadRect (h4.unread g))) (View.readAt (Elt F) a7.view (Rect.unit (s := S4104x128) (k0_off1 k 1#32) S256x128.size (k0_off1_inb i k hc 1)).toLoadRect (h7.unread z)), addRows acc.2.2.1 (gradOfA i w (View.readAt (Elt F) a7.view (Rect.unit (s := S4104x128) (k0_off1 k 0#32) S256x128.size (k0_off1_inb i k hc 0)).toLoadRect (h7.unread z)) (View.readAt (Elt F) a7.view (Rect.unit (s := S4104x128) (k0_off1 k 1#32) S256x128.size (k0_off1_inb i k hc 1)).toLoadRect (h7.unread z)) (View.readAt (Elt F) a7.view (Rect.unit (s := S4104x128) (k0_off1 k 2#32) S256x128.size (k0_off1_inb i k hc 2)).toLoadRect (h7.unread z)) (View.readAt (Elt F) a7.view (Rect.unit (s := S4104x128) (k0_off1 k 3#32) S256x128.size (k0_off1_inb i k hc 3)).toLoadRect (h7.unread z)) (View.readAt (Elt F) a4.view (Rect.unit (s := S1x64x1x64x128) (k0_off2 k 0#32) S1x1x1x64x128.size (k0_off2_inb i k hc 0)).toLoadRect (h4.unread g)) (View.readAt (Elt F) a4.view (Rect.unit (s := S1x64x1x64x128) (k0_off2 k 1#32) S1x1x1x64x128.size (k0_off2_inb i k hc 1)).toLoadRect (h4.unread g)) (View.readAt (Elt F) a4.view (Rect.unit (s := S1x64x1x64x128) (k0_off2 k 2#32) S1x1x1x64x128.size (k0_off2_inb i k hc 2)).toLoadRect (h4.unread g)) (View.readAt (Elt F) a4.view (Rect.unit (s := S1x64x1x64x128) (k0_off2 k 3#32) S1x1x1x64x128.size (k0_off2_inb i k hc 3)).toLoadRect (h4.unread g))) (View.readAt (Elt F) a7.view (Rect.unit (s := S4104x128) (k0_off1 k 2#32) S256x128.size (k0_off1_inb i k hc 2)).toLoadRect (h7.unread z)), addRows acc.2.2.2 (gradOfA i w (View.readAt (Elt F) a7.view (Rect.unit (s := S4104x128) (k0_off1 k 0#32) S256x128.size (k0_off1_inb i k hc 0)).toLoadRect (h7.unread z)) (View.readAt (Elt F) a7.view (Rect.unit (s := S4104x128) (k0_off1 k 1#32) S256x128.size (k0_off1_inb i k hc 1)).toLoadRect (h7.unread z)) (View.readAt (Elt F) a7.view (Rect.unit (s := S4104x128) (k0_off1 k 2#32) S256x128.size (k0_off1_inb i k hc 2)).toLoadRect (h7.unread z)) (View.readAt (Elt F) a7.view (Rect.unit (s := S4104x128) (k0_off1 k 3#32) S256x128.size (k0_off1_inb i k hc 3)).toLoadRect (h7.unread z)) (View.readAt (Elt F) a4.view (Rect.unit (s := S1x64x1x64x128) (k0_off2 k 0#32) S1x1x1x64x128.size (k0_off2_inb i k hc 0)).toLoadRect (h4.unread g)) (View.readAt (Elt F) a4.view (Rect.unit (s := S1x64x1x64x128) (k0_off2 k 1#32) S1x1x1x64x128.size (k0_off2_inb i k hc 1)).toLoadRect (h4.unread g)) (View.readAt (Elt F) a4.view (Rect.unit (s := S1x64x1x64x128) (k0_off2 k 2#32) S1x1x1x64x128.size (k0_off2_inb i k hc 2)).toLoadRect (h4.unread g)) (View.readAt (Elt F) a4.view (Rect.unit (s := S1x64x1x64x128) (k0_off2 k 3#32) S1x1x1x64x128.size (k0_off2_inb i k hc 3)).toLoadRect (h4.unread g))) (View.readAt (Elt F) a7.view (Rect.unit (s := S4104x128) (k0_off1 k 3#32) S256x128.size (k0_off1_inb i k hc 3)).toLoadRect (h7.unread z)))) rfl ?_
  rw [gradA_eq (F := F) i a4 h4 a7 h7 w z g hc k, show (View.readAt (Elt F) a7.view (Rect.unit (s := S4104x128) (k0_off1 k 0#32) S256x128.size (k0_off1_inb i k hc 0)).toLoadRect (h7.unread z)) = tap z k 0 from loadA i a7 h7 z hc k 0, show (View.readAt (Elt F) a7.view (Rect.unit (s := S4104x128) (k0_off1 k 1#32) S256x128.size (k0_off1_inb i k hc 1)).toLoadRect (h7.unread z)) = tap z k 1 from loadA i a7 h7 z hc k 1, show (View.readAt (Elt F) a7.view (Rect.unit (s := S4104x128) (k0_off1 k 2#32) S256x128.size (k0_off1_inb i k hc 2)).toLoadRect (h7.unread z)) = tap z k 2 from loadA i a7 h7 z hc k 2, show (View.readAt (Elt F) a7.view (Rect.unit (s := S4104x128) (k0_off1 k 3#32) S256x128.size (k0_off1_inb i k hc 3)).toLoadRect (h7.unread z)) = tap z k 3 from loadA i a7 h7 z hc k 3]

theorem tripA_tile (k : Fin 16) (acc : Acc F) : (trip_k0_t1 (F := F) 𝒱 c bd i a2 h2 a3 h3 a4 h4 a5 h5 a6 h6 a7 h7 a8 h8 w hc (h4.unread g) (h7.unread z) k).2.1 acc = [tileRows (gradA i w z g k) k] := by
  unfold trip_k0_t1
  refine Eq.trans (b := [(⟨Rect.unit (s := S4104x128) (k0_off3 k) S256x128.size (k0_off3_inb i k hc), k0_pay12 (gradOfA i w (View.readAt (Elt F) a7.view (Rect.unit (s := S4104x128) (k0_off1 k 0#32) S256x128.size (k0_off1_inb i k hc 0)).toLoadRect (h7.unread z)) (View.readAt (Elt F) a7.view (Rect.unit (s := S4104x128) (k0_off1 k 1#32) S256x128.size (k0_off1_inb i k hc 1)).toLoadRect (h7.unread z)) (View.readAt (Elt F) a7.view (Rect.unit (s := S4104x128) (k0_off1 k 2#32) S256x128.size (k0_off1_inb i k hc 2)).toLoadRect (h7.unread z)) (View.readAt (Elt F) a7.view (Rect.unit (s := S4104x128) (k0_off1 k 3#32) S256x128.size (k0_off1_inb i k hc 3)).toLoadRect (h7.unread z)) (View.readAt (Elt F) a4.view (Rect.unit (s := S1x64x1x64x128) (k0_off2 k 0#32) S1x1x1x64x128.size (k0_off2_inb i k hc 0)).toLoadRect (h4.unread g)) (View.readAt (Elt F) a4.view (Rect.unit (s := S1x64x1x64x128) (k0_off2 k 1#32) S1x1x1x64x128.size (k0_off2_inb i k hc 1)).toLoadRect (h4.unread g)) (View.readAt (Elt F) a4.view (Rect.unit (s := S1x64x1x64x128) (k0_off2 k 2#32) S1x1x1x64x128.size (k0_off2_inb i k hc 2)).toLoadRect (h4.unread g)) (View.readAt (Elt F) a4.view (Rect.unit (s := S1x64x1x64x128) (k0_off2 k 3#32) S1x1x1x64x128.size (k0_off2_inb i k hc 3)).toLoadRect (h4.unread g)))⟩ : View.Piece (Elt F) S4104x128 .f32)]) rfl ?_
  rw [gradA_eq (F := F) i a4 h4 a7 h7 w z g hc k]
  exact congrArg (fun p => [p]) (tile_off (gradA i w z g k) k (off3_eq k) _)

theorem stA_eq : ∀ n, n ≤ 16 → st_k0_t1 (F := F) 𝒱 c bd i a2 h2 a3 h3 a4 h4 a5 h5 a6 h6 a7 h7 a8 h8 w hc (h4.unread g) (h7.unread z) (k0_pay4, k0_pay4, k0_pay4, k0_pay4) n = first (gradA i w z g) (tap z) n := by
  intro n
  induction n with
  | zero => intro _; rfl
  | succ n ih =>
    intro hn
    refine (st_k0_t1_succ (F := F) 𝒱 c bd i a2 h2 a3 h3 a4 h4 a5 h5 a6 h6 a7 h7 a8 h8 w hc (h4.unread g) (h7.unread z) _ ⟨n, hn⟩).trans ?_
    rw [tripR_k0_t1, tripL_k0_t1, ih (Nat.le_of_succ_le hn), first_succ _ _ ⟨n, hn⟩]
    exact congrArg₂ Prod.mk (tripA_rows (F := F) 𝒱 c bd i a2 h2 a3 h3 a4 h4 a5 h5 a6 h6 a7 h7 a8 h8 w z g hc ⟨n, hn⟩ _)
      (congrArg (· ++ _) (tripA_tile (F := F) 𝒱 c bd i a2 h2 a3 h3 a4 h4 a5 h5 a6 h6 a7 h7 a8 h8 w z g hc ⟨n, hn⟩ _))

end caseA

section caseB

variable (𝒱 : Variants) (c : Dev nD) (bd : Option 𝒱.V) (i : grid0.Coords) (a2 : Memref sig .tc .vmem S4096x128 .f32) (h2 : a2.IsWhole) (a3 : Memref sig .tc .vmem S4x128 .f32) (h3 : a3.IsWhole) (a4 : Memref sig .tc .vmem S1x64x1x64x128 .f32) (h4 : a4.IsWhole) (a5 : Memref sig .tc .vmem S4096x128 .bf16) (h5 : a5.IsWhole) (a6 : Memref sig .tc .vmem S4x128 .f32) (h6 : a6.IsWhole) (a7 : Memref sig .tc .vmem S4104x128 .f32) (h7 : a7.IsWhole) (a8 : Memref sig .tc .vmem S4104x128 .f32) (h8 : a8.IsWhole)
  (w : Vec F S4x128 .f32) (z : Vec F S4104x128 .f32) (g : Vec F S1x64x1x64x128 .f32) (hc : cond0_1 i)

theorem loadB (k : Fin k0_t2_loop.trips) (j : Fin 4) :
    View.readAt (Elt F) a7.view (Rect.unit (s := S4104x128) (k0_off4 k (BitVec.ofNat 32 j.val)) S256x128.size (k0_off4_inb i k hc j)).toLoadRect (h7.unread z) = tap z k j := by
  rw [View.readAt_eq_ld, h7.read_unread]
  exact ld_off z (off4_eq k j) _ _

theorem chunkB (k : Fin k0_t2_loop.trips) (j : Fin 4) :
    View.readAt (Elt F) a4.view (Rect.unit (s := S1x64x1x64x128) (k0_off5 k (BitVec.ofNat 32 j.val)) S1x1x1x64x128.size (k0_off5_inb i k hc j)).toLoadRect (h4.unread g) = cot g k j := by
  rw [View.readAt_eq_ld, h4.read_unread]
  exact ld_off g (off5_eq k j) _ _

/-- The gradient of one trip, its loads read. -/
theorem gradB_eq (k : Fin k0_t2_loop.trips) : (gradOfB w (View.readAt (Elt F) a7.view (Rect.unit (s := S4104x128) (k0_off4 k 0#32) S256x128.size (k0_off4_inb i k hc 0)).toLoadRect (h7.unread z)) (View.readAt (Elt F) a7.view (Rect.unit (s := S4104x128) (k0_off4 k 1#32) S256x128.size (k0_off4_inb i k hc 1)).toLoadRect (h7.unread z)) (View.readAt (Elt F) a7.view (Rect.unit (s := S4104x128) (k0_off4 k 2#32) S256x128.size (k0_off4_inb i k hc 2)).toLoadRect (h7.unread z)) (View.readAt (Elt F) a7.view (Rect.unit (s := S4104x128) (k0_off4 k 3#32) S256x128.size (k0_off4_inb i k hc 3)).toLoadRect (h7.unread z)) (View.readAt (Elt F) a4.view (Rect.unit (s := S1x64x1x64x128) (k0_off5 k 0#32) S1x1x1x64x128.size (k0_off5_inb i k hc 0)).toLoadRect (h4.unread g)) (View.readAt (Elt F) a4.view (Rect.unit (s := S1x64x1x64x128) (k0_off5 k 1#32) S1x1x1x64x128.size (k0_off5_inb i k hc 1)).toLoadRect (h4.unread g)) (View.readAt (Elt F) a4.view (Rect.unit (s := S1x64x1x64x128) (k0_off5 k 2#32) S1x1x1x64x128.size (k0_off5_inb i k hc 2)).toLoadRect (h4.unread g)) (View.readAt (Elt F) a4.view (Rect.unit (s := S1x64x1x64x128) (k0_off5 k 3#32) S1x1x1x64x128.size (k0_off5_inb i k hc 3)).toLoadRect (h4.unread g))) = gradB w z g k := by
  rw [show (View.readAt (Elt F) a7.view (Rect.unit (s := S4104x128) (k0_off4 k 0#32) S256x128.size (k0_off4_inb i k hc 0)).toLoadRect (h7.unread z)) = tap z k 0 from loadB i a7 h7 z hc k 0, show (View.readAt (Elt F) a7.view (Rect.unit (s := S4104x128) (k0_off4 k 1#32) S256x128.size (k0_off4_inb i k hc 1)).toLoadRect (h7.unread z)) = tap z k 1 from loadB i a7 h7 z hc k 1, show (View.readAt (Elt F) a7.view (Rect.unit (s := S4104x128) (k0_off4 k 2#32) S256x128.size (k0_off4_inb i k hc 2)).toLoadRect (h7.unread z)) = tap z k 2 from loadB i a7 h7 z hc k 2, show (View.readAt (Elt F) a7.view (Rect.unit (s := S4104x128) (k0_off4 k 3#32) S256x128.size (k0_off4_inb i k hc 3)).toLoadRect (h7.unread z)) = tap z k 3 from loadB i a7 h7 z hc k 3, show (View.readAt (Elt F) a4.view (Rect.unit (s := S1x64x1x64x128) (k0_off5 k 0#32) S1x1x1x64x128.size (k0_off5_inb i k hc 0)).toLoadRect (h4.unread g)) = cot g k 0 from chunkB i a4 h4 g hc k 0, show (View.readAt (Elt F) a4.view (Rect.unit (s := S1x64x1x64x128) (k0_off5 k 1#32) S1x1x1x64x128.size (k0_off5_inb i k hc 1)).toLoadRect (h4.unread g)) = cot g k 1 from chunkB i a4 h4 g hc k 1, show (View.readAt (Elt F) a4.view (Rect.unit (s := S1x64x1x64x128) (k0_off5 k 2#32) S1x1x1x64x128.size (k0_off5_inb i k hc 2)).toLoadRect (h4.unread g)) = cot g k 2 from chunkB i a4 h4 g hc k 2, show (View.readAt (Elt F) a4.view (Rect.unit (s := S1x64x1x64x128) (k0_off5 k 3#32) S1x1x1x64x128.size (k0_off5_inb i k hc 3)).toLoadRect (h4.unread g)) = cot g k 3 from chunkB i a4 h4 g hc k 3]
  rfl

theorem tripB_rows (k : Fin 16) (acc : Acc F) :
    (trip_k0_t2 (F := F) 𝒱 c bd i a2 h2 a3 h3 a4 h4 a5 h5 a6 h6 a7 h7 a8 h8 w hc (h4.unread g) (h7.unread z) k).1 acc = (addRows acc.1 (gradB w z g k) (tap z k 0), addRows acc.2.1 (gradB w z g k) (tap z k 1), addRows acc.2.2.1 (gradB w z g k) (tap z k 2), addRows acc.2.2.2 (gradB w z g k) (tap z k 3)) := by
  unfold trip_k0_t2
  refine Eq.trans (b := (addRows acc.1 (gradOfB w (View.readAt (Elt F) a7.view (Rect.unit (s := S4104x128) (k0_off4 k 0#32) S256x128.size (k0_off4_inb i k hc 0)).toLoadRect (h7.unread z)) (View.readAt (Elt F) a7.view (Rect.unit (s := S4104x128) (k0_off4 k 1#32) S256x128.size (k0_off4_inb i k hc 1)).toLoadRect (h7.unread z)) (View.readAt (Elt F) a7.view (Rect.unit (s := S4104x128) (k0_off4 k 2#32) S256x128.size (k0_off4_inb i k hc 2)).toLoadRect (h7.unread z)) (View.readAt (Elt F) a7.view (Rect.unit (s := S4104x128) (k0_off4 k 3#32) S256x128.size (k0_off4_inb i k hc 3)).toLoadRect (h7.unread z)) (View.readAt (Elt F) a4.view (Rect.unit (s := S1x64x1x64x128) (k0_off5 k 0#32) S1x1x1x64x128.size (k0_off5_inb i k hc 0)).toLoadRect (h4.unread g)) (View.readAt (Elt F) a4.view (Rect.unit (s := S1x64x1x64x128) (k0_off5 k 1#32) S1x1x1x64x128.size (k0_off5_inb i k hc 1)).toLoadRect (h4.unread g)) (View.readAt (Elt F) a4.view (Rect.unit (s := S1x64x1x64x128) (k0_off5 k 2#32) S1x1x1x64x128.size (k0_off5_inb i k hc 2)).toLoadRect (h4.unread g)) (View.readAt (Elt F) a4.view (Rect.unit (s := S1x64x1x64x128) (k0_off5 k 3#32) S1x1x1x64x128.size (k0_off5_inb i k hc 3)).toLoadRect (h4.unread g))) (View.readAt (Elt F) a7.view (Rect.unit (s := S4104x128) (k0_off4 k 0#32) S256x128.size (k0_off4_inb i k hc 0)).toLoadRect (h7.unread z)), addRows acc.2.1 (gradOfB w (View.readAt (Elt F) a7.view (Rect.unit (s := S4104x128) (k0_off4 k 0#32) S256x128.size (k0_off4_inb i k hc 0)).toLoadRect (h7.unread z)) (View.readAt (Elt F) a7.view (Rect.unit (s := S4104x128) (k0_off4 k 1#32) S256x128.size (k0_off4_inb i k hc 1)).toLoadRect (h7.unread z)) (View.readAt (Elt F) a7.view (Rect.unit (s := S4104x128) (k0_off4 k 2#32) S256x128.size (k0_off4_inb i k hc 2)).toLoadRect (h7.unread z)) (View.readAt (Elt F) a7.view (Rect.unit (s := S4104x128) (k0_off4 k 3#32) S256x128.size (k0_off4_inb i k hc 3)).toLoadRect (h7.unread z)) (View.readAt (Elt F) a4.view (Rect.unit (s := S1x64x1x64x128) (k0_off5 k 0#32) S1x1x1x64x128.size (k0_off5_inb i k hc 0)).toLoadRect (h4.unread g)) (View.readAt (Elt F) a4.view (Rect.unit (s := S1x64x1x64x128) (k0_off5 k 1#32) S1x1x1x64x128.size (k0_off5_inb i k hc 1)).toLoadRect (h4.unread g)) (View.readAt (Elt F) a4.view (Rect.unit (s := S1x64x1x64x128) (k0_off5 k 2#32) S1x1x1x64x128.size (k0_off5_inb i k hc 2)).toLoadRect (h4.unread g)) (View.readAt (Elt F) a4.view (Rect.unit (s := S1x64x1x64x128) (k0_off5 k 3#32) S1x1x1x64x128.size (k0_off5_inb i k hc 3)).toLoadRect (h4.unread g))) (View.readAt (Elt F) a7.view (Rect.unit (s := S4104x128) (k0_off4 k 1#32) S256x128.size (k0_off4_inb i k hc 1)).toLoadRect (h7.unread z)), addRows acc.2.2.1 (gradOfB w (View.readAt (Elt F) a7.view (Rect.unit (s := S4104x128) (k0_off4 k 0#32) S256x128.size (k0_off4_inb i k hc 0)).toLoadRect (h7.unread z)) (View.readAt (Elt F) a7.view (Rect.unit (s := S4104x128) (k0_off4 k 1#32) S256x128.size (k0_off4_inb i k hc 1)).toLoadRect (h7.unread z)) (View.readAt (Elt F) a7.view (Rect.unit (s := S4104x128) (k0_off4 k 2#32) S256x128.size (k0_off4_inb i k hc 2)).toLoadRect (h7.unread z)) (View.readAt (Elt F) a7.view (Rect.unit (s := S4104x128) (k0_off4 k 3#32) S256x128.size (k0_off4_inb i k hc 3)).toLoadRect (h7.unread z)) (View.readAt (Elt F) a4.view (Rect.unit (s := S1x64x1x64x128) (k0_off5 k 0#32) S1x1x1x64x128.size (k0_off5_inb i k hc 0)).toLoadRect (h4.unread g)) (View.readAt (Elt F) a4.view (Rect.unit (s := S1x64x1x64x128) (k0_off5 k 1#32) S1x1x1x64x128.size (k0_off5_inb i k hc 1)).toLoadRect (h4.unread g)) (View.readAt (Elt F) a4.view (Rect.unit (s := S1x64x1x64x128) (k0_off5 k 2#32) S1x1x1x64x128.size (k0_off5_inb i k hc 2)).toLoadRect (h4.unread g)) (View.readAt (Elt F) a4.view (Rect.unit (s := S1x64x1x64x128) (k0_off5 k 3#32) S1x1x1x64x128.size (k0_off5_inb i k hc 3)).toLoadRect (h4.unread g))) (View.readAt (Elt F) a7.view (Rect.unit (s := S4104x128) (k0_off4 k 2#32) S256x128.size (k0_off4_inb i k hc 2)).toLoadRect (h7.unread z)), addRows acc.2.2.2 (gradOfB w (View.readAt (Elt F) a7.view (Rect.unit (s := S4104x128) (k0_off4 k 0#32) S256x128.size (k0_off4_inb i k hc 0)).toLoadRect (h7.unread z)) (View.readAt (Elt F) a7.view (Rect.unit (s := S4104x128) (k0_off4 k 1#32) S256x128.size (k0_off4_inb i k hc 1)).toLoadRect (h7.unread z)) (View.readAt (Elt F) a7.view (Rect.unit (s := S4104x128) (k0_off4 k 2#32) S256x128.size (k0_off4_inb i k hc 2)).toLoadRect (h7.unread z)) (View.readAt (Elt F) a7.view (Rect.unit (s := S4104x128) (k0_off4 k 3#32) S256x128.size (k0_off4_inb i k hc 3)).toLoadRect (h7.unread z)) (View.readAt (Elt F) a4.view (Rect.unit (s := S1x64x1x64x128) (k0_off5 k 0#32) S1x1x1x64x128.size (k0_off5_inb i k hc 0)).toLoadRect (h4.unread g)) (View.readAt (Elt F) a4.view (Rect.unit (s := S1x64x1x64x128) (k0_off5 k 1#32) S1x1x1x64x128.size (k0_off5_inb i k hc 1)).toLoadRect (h4.unread g)) (View.readAt (Elt F) a4.view (Rect.unit (s := S1x64x1x64x128) (k0_off5 k 2#32) S1x1x1x64x128.size (k0_off5_inb i k hc 2)).toLoadRect (h4.unread g)) (View.readAt (Elt F) a4.view (Rect.unit (s := S1x64x1x64x128) (k0_off5 k 3#32) S1x1x1x64x128.size (k0_off5_inb i k hc 3)).toLoadRect (h4.unread g))) (View.readAt (Elt F) a7.view (Rect.unit (s := S4104x128) (k0_off4 k 3#32) S256x128.size (k0_off4_inb i k hc 3)).toLoadRect (h7.unread z)))) rfl ?_
  rw [gradB_eq (F := F) i a4 h4 a7 h7 w z g hc k, show (View.readAt (Elt F) a7.view (Rect.unit (s := S4104x128) (k0_off4 k 0#32) S256x128.size (k0_off4_inb i k hc 0)).toLoadRect (h7.unread z)) = tap z k 0 from loadB i a7 h7 z hc k 0, show (View.readAt (Elt F) a7.view (Rect.unit (s := S4104x128) (k0_off4 k 1#32) S256x128.size (k0_off4_inb i k hc 1)).toLoadRect (h7.unread z)) = tap z k 1 from loadB i a7 h7 z hc k 1, show (View.readAt (Elt F) a7.view (Rect.unit (s := S4104x128) (k0_off4 k 2#32) S256x128.size (k0_off4_inb i k hc 2)).toLoadRect (h7.unread z)) = tap z k 2 from loadB i a7 h7 z hc k 2, show (View.readAt (Elt F) a7.view (Rect.unit (s := S4104x128) (k0_off4 k 3#32) S256x128.size (k0_off4_inb i k hc 3)).toLoadRect (h7.unread z)) = tap z k 3 from loadB i a7 h7 z hc k 3]

theorem tripB_tile (k : Fin 16) (acc : Acc F) : (trip_k0_t2 (F := F) 𝒱 c bd i a2 h2 a3 h3 a4 h4 a5 h5 a6 h6 a7 h7 a8 h8 w hc (h4.unread g) (h7.unread z) k).2.1 acc = [tileRows (gradB w z g k) k] := by
  unfold trip_k0_t2
  refine Eq.trans (b := [(⟨Rect.unit (s := S4104x128) (k0_off6 k) S256x128.size (k0_off6_inb i k hc), k0_pay12 (gradOfB w (View.readAt (Elt F) a7.view (Rect.unit (s := S4104x128) (k0_off4 k 0#32) S256x128.size (k0_off4_inb i k hc 0)).toLoadRect (h7.unread z)) (View.readAt (Elt F) a7.view (Rect.unit (s := S4104x128) (k0_off4 k 1#32) S256x128.size (k0_off4_inb i k hc 1)).toLoadRect (h7.unread z)) (View.readAt (Elt F) a7.view (Rect.unit (s := S4104x128) (k0_off4 k 2#32) S256x128.size (k0_off4_inb i k hc 2)).toLoadRect (h7.unread z)) (View.readAt (Elt F) a7.view (Rect.unit (s := S4104x128) (k0_off4 k 3#32) S256x128.size (k0_off4_inb i k hc 3)).toLoadRect (h7.unread z)) (View.readAt (Elt F) a4.view (Rect.unit (s := S1x64x1x64x128) (k0_off5 k 0#32) S1x1x1x64x128.size (k0_off5_inb i k hc 0)).toLoadRect (h4.unread g)) (View.readAt (Elt F) a4.view (Rect.unit (s := S1x64x1x64x128) (k0_off5 k 1#32) S1x1x1x64x128.size (k0_off5_inb i k hc 1)).toLoadRect (h4.unread g)) (View.readAt (Elt F) a4.view (Rect.unit (s := S1x64x1x64x128) (k0_off5 k 2#32) S1x1x1x64x128.size (k0_off5_inb i k hc 2)).toLoadRect (h4.unread g)) (View.readAt (Elt F) a4.view (Rect.unit (s := S1x64x1x64x128) (k0_off5 k 3#32) S1x1x1x64x128.size (k0_off5_inb i k hc 3)).toLoadRect (h4.unread g)))⟩ : View.Piece (Elt F) S4104x128 .f32)]) rfl ?_
  rw [gradB_eq (F := F) i a4 h4 a7 h7 w z g hc k]
  exact congrArg (fun p => [p]) (tile_off (gradB w z g k) k (off6_eq k) _)

theorem stB_eq : ∀ n, n ≤ 16 → st_k0_t2 (F := F) 𝒱 c bd i a2 h2 a3 h3 a4 h4 a5 h5 a6 h6 a7 h7 a8 h8 w hc (h4.unread g) (h7.unread z) (k0_pay11, k0_pay11, k0_pay11, k0_pay11) n = first (gradB w z g) (tap z) n := by
  intro n
  induction n with
  | zero => intro _; rfl
  | succ n ih =>
    intro hn
    refine (st_k0_t2_succ (F := F) 𝒱 c bd i a2 h2 a3 h3 a4 h4 a5 h5 a6 h6 a7 h7 a8 h8 w hc (h4.unread g) (h7.unread z) _ ⟨n, hn⟩).trans ?_
    rw [tripR_k0_t2, tripL_k0_t2, ih (Nat.le_of_succ_le hn), first_succ _ _ ⟨n, hn⟩]
    exact congrArg₂ Prod.mk (tripB_rows (F := F) 𝒱 c bd i a2 h2 a3 h3 a4 h4 a5 h5 a6 h6 a7 h7 a8 h8 w z g hc ⟨n, hn⟩ _)
      (congrArg (· ++ _) (tripB_tile (F := F) 𝒱 c bd i a2 h2 a3 h3 a4 h4 a5 h5 a6 h6 a7 h7 a8 h8 w z g hc ⟨n, hn⟩ _))

end caseB

section store

variable (𝒱 : Variants) (c : Dev nD) (bd : Option 𝒱.V) (i : grid0.Coords) (a2 : Memref sig .tc .vmem S4096x128 .f32) (h2 : a2.IsWhole) (a3 : Memref sig .tc .vmem S4x128 .f32) (h3 : a3.IsWhole) (a4 : Memref sig .tc .vmem S1x64x1x64x128 .f32) (h4 : a4.IsWhole) (a5 : Memref sig .tc .vmem S4096x128 .bf16) (h5 : a5.IsWhole) (a6 : Memref sig .tc .vmem S4x128 .f32) (h6 : a6.IsWhole) (a7 : Memref sig .tc .vmem S4104x128 .f32) (h7 : a7.IsWhole) (a8 : Memref sig .tc .vmem S4104x128 .f32) (h8 : a8.IsWhole)
  (w : Vec F S4x128 .f32) (d : Vec F S4104x128 .f32)

theorem trip_out (k : Fin 16) : (trip_k0_t3 (F := F) 𝒱 c bd i a2 h2 a3 h3 a4 h4 a5 h5 a6 h6 a7 h7 a8 h8 w (h8.unread d) k).1 = [outRows w d k] := by
  unfold trip_k0_t3
  have t : View.readAt (Elt F) a8.view (Rect.unit (s := S4104x128) (k0_off7 k) S256x128.size (k0_off7_inb k)).toLoadRect (h8.unread d) = rowsAt d (256 * k.val) (by omega) := by
    rw [View.readAt_eq_ld, h8.read_unread]; exact ld_off d (off7_eq k) _ _
  have t0 : View.readAt (Elt F) a8.view (Rect.unit (s := S4104x128) (k0_off8 k 0#32) S256x128.size (k0_off8_inb k 0)).toLoadRect (h8.unread d) = rowsAt d (256 * k.val + 3) (by omega) := by
    rw [View.readAt_eq_ld, h8.read_unread]; exact ld_off d (off8_eq k 0) _ _
  have t1 : View.readAt (Elt F) a8.view (Rect.unit (s := S4104x128) (k0_off8 k 1#32) S256x128.size (k0_off8_inb k 1)).toLoadRect (h8.unread d) = rowsAt d (256 * k.val + 2) (by omega) := by
    rw [View.readAt_eq_ld, h8.read_unread]; exact ld_off d (off8_eq k 1) _ _
  have t2 : View.readAt (Elt F) a8.view (Rect.unit (s := S4104x128) (k0_off8 k 2#32) S256x128.size (k0_off8_inb k 2)).toLoadRect (h8.unread d) = rowsAt d (256 * k.val + 1) (by omega) := by
    rw [View.readAt_eq_ld, h8.read_unread]; exact ld_off d (off8_eq k 2) _ _
  dsimp only
  rw [t, t0, t1, t2]
  exact congrArg (fun p => [p]) (out_off w d k (off9_eq k) _)

theorem store_eq : ∀ n, n ≤ 16 → pb_k0_t3 (F := F) 𝒱 c bd i a2 h2 a3 h3 a4 h4 a5 h5 a6 h6 a7 h7 a8 h8 w (h8.unread d) n = second w d n := by
  intro n
  induction n with
  | zero => intro _; rfl
  | succ n ih =>
    intro hn
    refine (pb_k0_t3_succ (F := F) 𝒱 c bd i a2 h2 a3 h3 a4 h4 a5 h5 a6 h6 a7 h7 a8 h8 w (h8.unread d) ⟨n, hn⟩).trans ?_
    rw [ih (Nat.le_of_succ_le hn), second_succ _ _ ⟨n, hn⟩]
    exact congrArg (· ++ _) (trip_out (F := F) 𝒱 c bd i a2 h2 a3 h3 a4 h4 a5 h5 a6 h6 a7 h7 a8 h8 w d ⟨n, hn⟩)

end store

section run

variable (c : Dev nD) (i : grid0.Coords) (a2 : Memref sig .tc .vmem S4096x128 .f32) (h2 : a2.IsWhole) (a3 : Memref sig .tc .vmem S4x128 .f32) (h3 : a3.IsWhole) (a4 : Memref sig .tc .vmem S1x64x1x64x128 .f32) (h4 : a4.IsWhole) (a5 : Memref sig .tc .vmem S4096x128 .bf16) (h5 : a5.IsWhole) (a6 : Memref sig .tc .vmem S4x128 .f32) (h6 : a6.IsWhole) (a7 : Memref sig .tc .vmem S4104x128 .f32) (h7 : a7.IsWhole) (a8 : Memref sig .tc .vmem S4104x128 .f32) (h8 : a8.IsWhole)
  (x0 : Vec F S4096x128 .f32) (x1 : Vec F S4x128 .f32) (x2 : Vec F S1x64x1x64x128 .f32) (f8 : BufTy.Contents (Elt F) a8.view.ty)

theorem zeros : (![0, 0] : Fin 2 → ℕ) = fun _ => 0 := by decide

theorem read0 : View.readAt (Elt F) a2.view (Rect.unit (s := S4096x128) ![0, 0] S4096x128.size inb_S4096x128_S4096x128_0_0).toLoadRect (h2.unread x0) = x0 := by
  rw [View.readAt_eq_ld, h2.read_unread]
  exact View.ld_unit_zero (S := S4096x128) zeros _ x0

theorem read1 : View.readAt (Elt F) a3.view (Rect.unit (s := S4x128) ![0, 0] S4x128.size inb_S4x128_S4x128_0_0).toLoadRect (h3.unread x1) = x1 := by
  rw [View.readAt_eq_ld, h3.read_unread]
  exact View.ld_unit_zero (S := S4x128) zeros _ x1

/-- The padded input as the loops find it. -/
theorem in_eq : a7.view.writes (Elt F) a7.view.junk (inPieces x0) = h7.unread (inPadded x0) :=
  h7.eq_unread (View.read_writes_eq_canon a7.view _ _ (inPieces_cover x0))

/-- The padded gradient as the last loop finds it. -/
theorem pad_eq (gr : Fin 16 → FVec F S256x128 .f32) (tp : Fin 16 → Fin 4 → Vec F S256x128 .f32) :
    a8.view.writes (Elt F) f8 (padPieces gr tp) = h8.unread (padded gr tp) :=
  h8.eq_unread (View.read_writes_eq_canon a8.view _ _ (padPieces_cover gr tp))

theorem trips1 : Scf.trips k0_t1_loop.lb k0_t1_loop.ub k0_t1_loop.st = 16 := by decide
theorem trips2 : Scf.trips k0_t2_loop.lb k0_t2_loop.ub k0_t2_loop.st = 16 := by decide

theorem rowsA (hc0 : cond0_0 i) (hc1 : ¬cond0_1 i) :
    (runA (F := F) c i a2 h2 a3 h3 a4 h4 a5 h5 a6 h6 a7 h7 a8 h8 hc0 hc1 x0 x1 x2 f8).2.1 = rowPieces (first (gradA i x1 (inPadded x0) x2) (tap (inPadded x0)) 16).1 := by
  unfold runA
  dsimp only
  sl_unfold_words
  rw [trips1]
  rw [read0 a2 h2 x0, read1 a3 h3 x1]
  rw [← inPieces.eq_1, in_eq a7 h7 x0, stA_eq (F := F) Variants.none c none i a2 h2 a3 h3 a4 h4 a5 h5 a6 h6 a7 h7 a8 h8 x1 (inPadded x0) x2 hc0 16 le_rfl]
  rfl

theorem outA (hc0 : cond0_0 i) (hc1 : ¬cond0_1 i) :
    (runA (F := F) c i a2 h2 a3 h3 a4 h4 a5 h5 a6 h6 a7 h7 a8 h8 hc0 hc1 x0 x1 x2 f8).1 = second x1 (padded (gradA i x1 (inPadded x0) x2) (tap (inPadded x0))) 16 := by
  unfold runA
  dsimp only
  sl_unfold_words
  rw [trips1]
  rw [read0 a2 h2 x0, read1 a3 h3 x1]
  rw [← inPieces.eq_1, in_eq a7 h7 x0, stA_eq (F := F) Variants.none c none i a2 h2 a3 h3 a4 h4 a5 h5 a6 h6 a7 h7 a8 h8 x1 (inPadded x0) x2 hc0 16 le_rfl]
  refine Eq.trans (congrArg (fun X => pb_k0_t3 (F := F) Variants.none c none i a2 h2 a3 h3 a4 h4 a5 h5 a6 h6 a7 h7 a8 h8 x1 X 16) (pad_eq a8 h8 f8 (gradA i x1 (inPadded x0) x2) (tap (inPadded x0)))) ?_
  exact store_eq (F := F) Variants.none c none i a2 h2 a3 h3 a4 h4 a5 h5 a6 h6 a7 h7 a8 h8 x1 _ 16 le_rfl

theorem rowsB (hc0 : ¬cond0_0 i) (hc1 : cond0_1 i) :
    (runB (F := F) c i a2 h2 a3 h3 a4 h4 a5 h5 a6 h6 a7 h7 a8 h8 hc0 hc1 x0 x1 x2 f8).2.1 = rowPieces (first (gradB x1 (inPadded x0) x2) (tap (inPadded x0)) 16).1 := by
  unfold runB
  dsimp only
  sl_unfold_words
  rw [trips2]
  rw [read0 a2 h2 x0, read1 a3 h3 x1]
  rw [← inPieces.eq_1, in_eq a7 h7 x0, stB_eq (F := F) Variants.none c none i a2 h2 a3 h3 a4 h4 a5 h5 a6 h6 a7 h7 a8 h8 x1 (inPadded x0) x2 hc1 16 le_rfl]
  rfl

theorem outB (hc0 : ¬cond0_0 i) (hc1 : cond0_1 i) :
    (runB (F := F) c i a2 h2 a3 h3 a4 h4 a5 h5 a6 h6 a7 h7 a8 h8 hc0 hc1 x0 x1 x2 f8).1 = second x1 (padded (gradB x1 (inPadded x0) x2) (tap (inPadded x0))) 16 := by
  unfold runB
  dsimp only
  sl_unfold_words
  rw [trips2]
  rw [read0 a2 h2 x0, read1 a3 h3 x1]
  rw [← inPieces.eq_1, in_eq a7 h7 x0, stB_eq (F := F) Variants.none c none i a2 h2 a3 h3 a4 h4 a5 h5 a6 h6 a7 h7 a8 h8 x1 (inPadded x0) x2 hc1 16 le_rfl]
  refine Eq.trans (congrArg (fun X => pb_k0_t3 (F := F) Variants.none c none i a2 h2 a3 h3 a4 h4 a5 h5 a6 h6 a7 h7 a8 h8 x1 X 16) (pad_eq a8 h8 f8 (gradB x1 (inPadded x0) x2) (tap (inPadded x0)))) ?_
  exact store_eq (F := F) Variants.none c none i a2 h2 a3 h3 a4 h4 a5 h5 a6 h6 a7 h7 a8 h8 x1 _ 16 le_rfl

end run

end Cert.Kernel4Ideal.Prep
end
-- ==== Proof.PrepFrame.lean ====
/-
  The frame of the convolution's gradient: every point leaves in its two blocks what the plain recursions say, whatever
  its scratch buffers held, and the program ends with its arguments unchanged.
-/
module

public import proofs.«01_k».proof.Proof.PrepOut
public import proofs.«01_k».proof.Defs
public import proofs.«01_k».proof.Proof.Gen.Kernel4
public import Idealize.ShloMosaic.Lib.Claim

@[expose] public section

set_option maxRecDepth 16384

noncomputable section

namespace Cert.Kernel4Ideal.Prep

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A point's gradient before the activation, by its case. -/
def gradAt (i : grid0.Coords) (w : Vec F S4x128 .f32) (z : Vec F S4104x128 .f32) (g : Vec F S1x64x1x64x128 .f32) : Fin 16 → FVec F S256x128 .f32 :=
  open Classical in if cond0_0 i then gradA i w z g else gradB w z g

theorem gradAt_A {i : grid0.Coords} (h : cond0_0 i) (w : Vec F S4x128 .f32) (z : Vec F S4104x128 .f32) (g : Vec F S1x64x1x64x128 .f32) : gradAt i w z g = gradA i w z g :=
  if_pos h

theorem gradAt_B {i : grid0.Coords} (h : ¬cond0_0 i) (w : Vec F S4x128 .f32) (z : Vec F S4104x128 .f32) (g : Vec F S1x64x1x64x128 .f32) : gradAt i w z g = gradB w z g :=
  if_neg h

/-- What a point leaves in the input gradient's block, -/
def outIn (i : grid0.Coords) (x : Vec F S4096x128 .f32) (w : Vec F S4x128 .f32) (g : Vec F S1x64x1x64x128 .f32) : Vec F S4096x128 .bf16 :=
  View.canon (second w (padded (gradAt i w (inPadded x) g) (tap (inPadded x))) 16)

/-- and in the weight gradient's. -/
def outW (i : grid0.Coords) (x : Vec F S4096x128 .f32) (w : Vec F S4x128 .f32) (g : Vec F S1x64x1x64x128 .f32) : Vec F S4x128 .f32 :=
  View.canon (rowPieces (first (gradAt i w (inPadded x) g) (tap (inPadded x)) 16).1)

/-- The pipeline's data: the inputs' buffers hold their blocks, the outputs' what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outIn (grid0.coords t) (iblk m c 0 t) (iblk m c 1 t) (iblk m c 2 t)
    | ⟨4, _⟩ => outW (grid0.coords t) (iblk m c 0 t) (iblk m c 1 t) (iblk m c 2 t)
  Φ _ := Pipeline.ΦA spec0 c
  q _ := fullShare
  owed _ := 0

theorem dats_A (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = outIn (grid0.coords t) (iblk m c 0 t) (iblk m c 1 t) (iblk m c 2 t) := by dsimp only [dats]
theorem left4 (c : Dev nD) (t : Fin cfg0.N) : (dats m 0 c).after 4 t = outW (grid0.coords t) (iblk m c 0 t) (iblk m c 1 t) (iblk m c 2 t) := by dsimp only [dats]

theorem staged0 (c : Dev nD) (t : Fin cfg0.N) (d) : (dats m 0 c).before 0 t d = iblk m c 0 t := before0_0_of m (dats m 0 c) (dats_A m c 0) (left0 m c) t d
theorem staged1 (c : Dev nD) (t : Fin cfg0.N) (d) : (dats m 0 c).before 1 t d = iblk m c 1 t := before0_1_of m (dats m 0 c) (dats_A m c 1) (left1 m c) t d
theorem staged2 (c : Dev nD) (t : Fin cfg0.N) (d) : (dats m 0 c).before 2 t d = iblk m c 2 t := before0_2_of m (dats m 0 c) (dats_A m c 2) (left2 m c) t d

/-- What the body holds at point `t`, -/
def held (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it gives back. -/
def given (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

theorem gives0 (c : Dev nD) (t : Fin cfg0.N) : (dats m 0 c).leavesExact 0 t = owns (c : Thread nD τ) (ms0_0 t) fullShare (iblk m c 0 t) := by
  unfold Dat.leavesExact; rw [liveAt0_0 t, left0]
theorem gives1 (c : Dev nD) (t : Fin cfg0.N) : (dats m 0 c).leavesExact 1 t = owns (c : Thread nD τ) (ms0_1 t) fullShare (iblk m c 1 t) := by
  unfold Dat.leavesExact; rw [liveAt0_1 t, left1]
theorem gives2 (c : Dev nD) (t : Fin cfg0.N) : (dats m 0 c).leavesExact 2 t = owns (c : Thread nD τ) (ms0_2 t) fullShare (iblk m c 2 t) := by
  unfold Dat.leavesExact; rw [liveAt0_2 t, left2]
theorem gives3 (c : Dev nD) (t : Fin cfg0.N) : (dats m 0 c).leavesExact 3 t
    = owns (c : Thread nD τ) (ms0_3 t) fullShare (outIn (grid0.coords t) (iblk m c 0 t) (iblk m c 1 t) (iblk m c 2 t)) := by
  unfold Dat.leavesExact; rw [liveAt0_3 t, left3]
theorem gives4 (c : Dev nD) (t : Fin cfg0.N) : (dats m 0 c).leavesExact 4 t
    = owns (c : Thread nD τ) (ms0_4 t) fullShare (outW (grid0.coords t) (iblk m c 0 t) (iblk m c 1 t) (iblk m c 2 t)) := by
  have hN : t.val < 12 := lt_of_lt_of_eq t.isLt (show cfg0.N = 12 from N_0)
  unfold Dat.leavesExact
  by_cases h : t.val < 8
  · rw [liveAt0_4_A t ((hcond0_0 t).mpr h) (fun k => absurd ((hcond0_1 t).mp k) (by omega)), left4]
  · rw [liveAt0_4_B t (fun k => h ((hcond0_0 t).mp k)) ((hcond0_1 t).mpr (by omega)), left4]

set_option maxHeartbeats 800000 in
/-- The body at any point. -/
theorem body_runs (c : Dev nD) (t : Fin cfg0.N) :
    held m c t ⊢ wp frame (wpE (defs₀ (F := F)) Variants.none c none) Set.univ (bodyAt0 t) (fun _ => given m c t) := by
  unfold held given bodyAt0
  simp only [staged0, staged1, staged2, gives0, gives1, gives2, gives3, gives4]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 12 := lt_of_lt_of_eq t.isLt (show cfg0.N = 12 from N_0)
  iintro ⟨⟨⟨HS0, ⟨%e8, HS1⟩⟩, Hg⟩, Ho, ⟨%d0, H0⟩, ⟨%d1, H1⟩, ⟨%d2, H2⟩, ⟨%d3, H3⟩, ⟨%d4, H4⟩⟩
  unfold owns
  icases HS1 with ⟨%f8, -, HS1⟩
  by_cases h : t.val < 8
  · iapply ((runA c (grid0.coords t) _ _ _ _ _ _ _ _ _ _ _ _ _ _ ((hcond0_0 t).mpr h) (fun k => absurd ((hcond0_1 t).mp k) (by omega)) (iblk m c 0 t) (iblk m c 1 t) (iblk m c 2 t) f8).2.2 Set.univ _)
    unfold owns
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]
    · iexists _; isplitr
      swap; · iexact H3
      ipureintro
      rw [outA, outIn, (gradAt_A ((hcond0_0 t).mpr h) _ _ _)]
      exact View.read_writes_eq_canon _ _ _ (second_cover _ _)
    iexists _; isplitr
    swap; · iexact H4
    ipureintro
    rw [rowsA, outW, (gradAt_A ((hcond0_0 t).mpr h) _ _ _)]
    exact View.read_writes_eq_canon _ _ _ (rowPieces_cover _)
  · iapply ((runB c (grid0.coords t) _ _ _ _ _ _ _ _ _ _ _ _ _ _ (fun k => h ((hcond0_0 t).mp k)) ((hcond0_1 t).mpr (by omega)) (iblk m c 0 t) (iblk m c 1 t) (iblk m c 2 t) f8).2.2 Set.univ _)
    unfold owns
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]
    · iexists _; isplitr
      swap; · iexact H3
      ipureintro
      rw [outB, outIn, (gradAt_B (fun k => h ((hcond0_0 t).mp k)) _ _ _)]
      exact View.read_writes_eq_canon _ _ _ (second_cover _ _)
    iexists _; isplitr
    swap; · iexact H4
    ipureintro
    rw [rowsB, outW, (gradAt_B (fun k => h ((hcond0_0 t).mp k)) _ _ _)]
    exact View.read_writes_eq_canon _ _ _ (rowPieces_cover _)

theorem body_row (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_row]
  exact triple_restated (body_runs m c t) rfl .rfl fun _ => .rfl

set_option backward.isDefEq.respectTransparency.types false in
/-- The launch: every array of the pipeline ends as the data says, every counter at zero. -/
theorem launched : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_ok m c).loose) (hshare := fun c => (dats m 0 c).share_full fun _ => rfl)
    (howed := fun _ _ => rfl) (V := V m) (hmain := hmain m Variants.none) (hA := dats_A m) (hΦ := fun _ _ => rfl)

theorem arrays : θ_run defs (onTc (τ := τ) (main (F := F))) (s₀ m ρ) (Pipeline.FramePost cfgs (dats m) 0 (V m)) :=
  (θ_run defs _ _).mono (fun _ h => h.1) (launched m ρ)

/-- The program ends, its arguments unchanged and its counters at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (dats_A m) (arrays m ρ)) ((θ_run defs _ _).mono (fun _ h => h.2) (launched m ρ))

end Cert.Kernel4Ideal.Prep

namespace Cert.Prep

open Idealize.ShloMosaic Idealize.SL.Sem

theorem frame_kernelIdeal : Cert.quiescent_Kernel4Ideal := fun m ρ _ => Cert.Kernel4Ideal.Prep.frame_any m ρ

/-- The frame of the idealized program's text over the machine's words, -/
def FrameBits : Prop :=
  ∀ (m : (ℓ : Loc Cert.Kernel4Ideal.nD Cert.Kernel4Ideal.τ Cert.Kernel4Ideal.sig) → Buf (Elt Bits) ℓ) (g : Dev Cert.Kernel4Ideal.nD → PrngReg), Pre_Kernel4 m →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

/-- which is the kernel's: nothing was rewritten. -/
theorem same_text : Cert.quiescent_Kernel4 = FrameBits := by sl_kernel_rfl

theorem frame_kernel : Cert.quiescent_Kernel4 := by
  rw [same_text]
  exact fun m ρ _ => Cert.Kernel4Ideal.Prep.frame_any (F := Bits) m ρ

end Cert.Prep
end
-- ==== Proof.PrepSpec.lean ====
/-
  The gradient of the short convolution, its gate and the norms of queries and keys, over the reals: one block of 128 columns.
-/
module

public import proofs.«01_k».proof.Proof.FfnSpec

@[expose] public section

set_option maxRecDepth 16384

noncomputable section

open Cert.Common Cert.FfnSpec
open Idealize.ShloMosaic

namespace Cert.PrepSpec

/-- The queries' factor, the float next to one over the root of 128. -/
def qscale : ℝ := (2 ^ 23 + 3474675 : ℕ) * (2 : ℝ) ^ (-27 : ℤ)

theorem ofBits_qscale : Ideal.ofBits .f32 0x3DB504F3#32 = (qscale : EReal) := by
  simp [Ideal.ofBits, Ideal.ieee, -EReal.coe_mul, qscale]

/-! ## One row -/

/-- The gate and its derivative. -/
def gated (u : ℝ) : ℝ := u * sg u
def slope (u : ℝ) : ℝ := sg u * (1 + u * (1 - sg u))

variable (u d : Fin 128 → ℝ) (sc : ℝ)

/-- The norm's square with its constant, -/
def sq : ℝ := (∑ j, gated (u j) * gated (u j)) + eps

theorem sq_pos : 0 < sq u := add_pos_of_nonneg_of_pos (Finset.sum_nonneg fun _ _ => mul_self_nonneg _) eps_pos

/-- and one over its root. -/
def rn : ℝ := (Real.sqrt (sq u))⁻¹

theorem rn_sq : rn u * rn u = 1 / sq u := by
  unfold rn
  rw [← mul_inv, Real.mul_self_sqrt (sq_pos u).le, one_div]

/-- The gradient through gate and norm, -/
def normGrad (l : Fin 128) : ℝ :=
  rn u * (d l * sc - gated (u l) * rn u * ∑ j, d j * sc * (gated (u j) * rn u)) * slope (u l)

/-- and through the gate alone. -/
def gateGrad (l : Fin 128) : ℝ := d l * slope (u l)

/-- The derivative of a sum of squares' root enters the reference twice. -/
theorem norm_vjp (l : Fin 128) :
    (sc * d l * rn u + gated (u l) * ((∑ j, gated (u j) * (sc * d j)) * (-(1 / 2) * (rn u / sq u))) + (∑ j, gated (u j) * (sc * d j)) * (-(1 / 2) * (rn u / sq u)) * gated (u l)) * sg (u l)
      + u l * (sc * d l * rn u + gated (u l) * ((∑ j, gated (u j) * (sc * d j)) * (-(1 / 2) * (rn u / sq u))) + (∑ j, gated (u j) * (sc * d j)) * (-(1 / 2) * (rn u / sq u)) * gated (u l))
        * (sg (u l) * (1 - sg (u l)))
      = normGrad u d sc l := by
  unfold normGrad slope
  have h := rn_sq u
  have e : ∑ j, d j * sc * (gated (u j) * rn u) = rn u * ∑ j, gated (u j) * (sc * d j) := by
    rw [Finset.mul_sum]; exact Finset.sum_congr rfl fun j _ => by ring
  rw [e, show rn u / sq u = rn u * (rn u * rn u) by rw [h]; ring]
  ring

theorem gate_vjp (l : Fin 128) : d l * sg (u l) + u l * d l * (sg (u l) * (1 - sg (u l))) = gateGrad u d l := by
  unfold gateGrad slope; ring

/-! ## The block's columns -/

variable (x : Fin 4096 → Fin 128 → ℝ) (w : Fin 4 → Fin 128 → ℝ) (g : Fin 4096 → Fin 128 → ℝ)

/-- Row `n` of the input behind three zero rows. -/
def behind (n : ℕ) (l : Fin 128) : ℝ := if h : 3 ≤ n ∧ n < 4099 then x ⟨n - 3, by omega⟩ l else 0

/-- Row `n` of a gradient before zero rows. -/
def before (n : ℕ) (l : Fin 128) : ℝ := if h : n < 4096 then g ⟨n, h⟩ l else 0

/-- The convolution's output. -/
def conv (i : Fin 4096) (l : Fin 128) : ℝ :=
  behind x i.val l * w 0 l + behind x (i.val + 1) l * w 1 l + behind x (i.val + 2) l * w 2 l + behind x (i.val + 3) l * w 3 l

/-- The weights' gradient, -/
def dw (j : Fin 4) (l : Fin 128) : ℝ := ∑ i : Fin 4096, g i l * behind x (i.val + j.val) l

/-- and the input's. -/
def dx (i : Fin 4096) (l : Fin 128) : ℝ :=
  before g i.val l * w 3 l + before g (i.val + 3) l * w 0 l + before g (i.val + 2) l * w 1 l + before g (i.val + 1) l * w 2 l

/-- The gradient before the gate: queries and keys, -/
def gradN (sc : ℝ) (x : Fin 4096 → Fin 128 → ℝ) (w : Fin 4 → Fin 128 → ℝ) (d : Fin 4096 → Fin 128 → ℝ) (i : Fin 4096) (l : Fin 128) : ℝ := normGrad (conv x w i) (d i) sc l

/-- values. -/
def gradG (x : Fin 4096 → Fin 128 → ℝ) (w : Fin 4 → Fin 128 → ℝ) (d : Fin 4096 → Fin 128 → ℝ) (i : Fin 4096) (l : Fin 128) : ℝ := gateGrad (conv x w i) (d i) l

/-! ## All columns: four heads of queries, four of keys, four of values -/

/-- The projections, the convolution's weights and the three cotangents. -/
structure Data where
  x : Fin 4096 → Fin 3592 → ℝ
  w : Fin 4 → Fin 1536 → ℝ
  q : Fin 4096 → Fin 4 → Fin 128 → ℝ
  k : Fin 4096 → Fin 4 → Fin 128 → ℝ
  v : Fin 4096 → Fin 4 → Fin 128 → ℝ

namespace Data

variable (R : Data) (b : Fin 12)

def xs (i : Fin 4096) (l : Fin 128) : ℝ := R.x i ⟨128 * b.val + l.val, by omega⟩
def ws (j : Fin 4) (l : Fin 128) : ℝ := R.w j ⟨128 * b.val + l.val, by omega⟩
def ds (i : Fin 4096) (l : Fin 128) : ℝ :=
  if h : b.val < 4 then R.q i ⟨b.val, h⟩ l else if h : b.val < 8 then R.k i ⟨b.val - 4, by omega⟩ l else R.v i ⟨b.val - 8, by omega⟩ l

/-- The gradient before the gate in block `b`. -/
def grad : Fin 4096 → Fin 128 → ℝ :=
  if b.val < 8 then gradN (if b.val < 4 then qscale else 1) (R.xs b) (R.ws b) (R.ds b) else gradG (R.xs b) (R.ws b) (R.ds b)

/-- The two results. -/
def dxs (i : Fin 4096) (n : Fin 1536) : ℝ := dx (R.ws ⟨n.val / 128, by omega⟩) (R.grad ⟨n.val / 128, by omega⟩) i ⟨n.val % 128, by omega⟩
def dws (j : Fin 4) (n : Fin 1536) : ℝ := dw (R.xs ⟨n.val / 128, by omega⟩) (R.grad ⟨n.val / 128, by omega⟩) j ⟨n.val % 128, by omega⟩

end Data

end Cert.PrepSpec
end
-- ==== Proof.PrepPay.lean ====
/-
  The payloads of the convolution's gradient at real inputs, read at one index.
-/
module

public import proofs.«01_k».proof.Proof.PrepSpec
public import proofs.«01_k».proof.Proof.PrepFrame

@[expose] public section

set_option maxRecDepth 16384

noncomputable section

open Idealize.ShloMosaic Idealize.ShloMosaic.TcCoe Idealize.SL.Sem
open Cert.Common

namespace Cert.Kernel4Ideal.Prep

open Cert.Kernel4Ideal Cert.Kernel4Ideal.Gen Cert.PrepSpec Cert.FfnSpec

/-! ## One tile of 256 rows -/

section tile

variable (w : Vec Ideal S4x128 .f32) (W : Fin 4 → Fin 128 → ℝ) (hw : ∀ j l, w (ix2 j l) = (W j l : EReal))
  (t0 t1 t2 t3 : Vec Ideal S256x128 .f32) (T : Fin 4 → Fin 256 → Fin 128 → ℝ)
  (h0 : ∀ r l, t0 (ix2 r l) = (T 0 r l : EReal)) (h1 : ∀ r l, t1 (ix2 r l) = (T 1 r l : EReal))
  (h2 : ∀ r l, t2 (ix2 r l) = (T 2 r l : EReal)) (h3 : ∀ r l, t3 (ix2 r l) = (T 3 r l : EReal))

/-- The tile's convolution. -/
def mixed (W : Fin 4 → Fin 128 → ℝ) (T : Fin 4 → Fin 256 → Fin 128 → ℝ) (r : Fin 256) (l : Fin 128) : ℝ :=
  T 0 r l * W 0 l + T 1 r l * W 1 l + T 2 r l * W 2 l + T 3 r l * W 3 l

include hw h0 h1 h2 h3

theorem pay18_apply (r : Fin 256) (l : Fin 128) : k0_pay18 (F := Ideal) w t0 t1 t2 t3 (ix2 r l) = (mixed W T r l : EReal) := by
  pointwise [k0_pay18]
  simp only [hw, h0, h1, h2, h3, ← EReal.coe_mul, ← EReal.coe_add]
  rfl

theorem pay25_apply (r : Fin 256) (l : Fin 128) : k0_pay25 (F := Ideal) w t0 t1 t2 t3 (ix2 r l) = (mixed W T r l : EReal) := by
  pointwise [k0_pay25]
  simp only [hw, h0, h1, h2, h3, ← EReal.coe_mul, ← EReal.coe_add]
  rfl

theorem pay19_apply (r : Fin 256) (l : Fin 128) : k0_pay19 (F := Ideal) w t0 t1 t2 t3 (ix2 r l) = (Real.tanh (1 / 2 * mixed W T r l) : EReal) := by
  pointwise [k0_pay19]
  simp only [pay18_apply w W hw t0 t1 t2 t3 T h0 h1 h2 h3, ofBits_half, ← EReal.coe_mul, Ideal.tanh_coe]

theorem pay26_apply (r : Fin 256) (l : Fin 128) : k0_pay26 (F := Ideal) w t0 t1 t2 t3 (ix2 r l) = (Real.tanh (1 / 2 * mixed W T r l) : EReal) := by
  pointwise [k0_pay26]
  simp only [pay25_apply w W hw t0 t1 t2 t3 T h0 h1 h2 h3, ofBits_half, ← EReal.coe_mul, Ideal.tanh_coe]

end tile

section gate

variable (p q : FVec Ideal S256x128 .f32) (u : Fin 256 → Fin 128 → ℝ) (hp : ∀ r l, p (ix2 r l) = (u r l : EReal))
  (hq : ∀ r l, q (ix2 r l) = (Real.tanh (1 / 2 * u r l) : EReal))

include hq in
theorem pay20_apply (r : Fin 256) (l : Fin 128) : k0_pay20 (F := Ideal) q half (ix2 r l) = (sg (u r l) : EReal) := by
  pointwise [k0_pay20, half]
  simp only [hq, ofBits_half, ← EReal.coe_mul, ← EReal.coe_add, sg_tanh]

include hp hq

theorem pay22_apply (r : Fin 256) (l : Fin 128) : k0_pay22 (F := Ideal) p q half (ix2 r l) = (gated (u r l) : EReal) := by
  pointwise [k0_pay22]
  simp only [hp, pay20_apply q u hq, ← EReal.coe_mul]
  rfl

theorem pay23_apply (r : Fin 256) : k0_pay23 (F := Ideal) p q half (ix2 r 0) = (rn (u r) : EReal) := by
  pointwise [k0_pay23]
  simp only [pay22_apply p q u hp hq, ofBits_eps, ← EReal.coe_mul, coe_sum, ← EReal.coe_add]
  exact coe_rsqrt _ (sq_pos (u r))

theorem pay24_apply (r : Fin 256) (l : Fin 128) : k0_pay24 (F := Ideal) p q half (ix2 r l) = (rn (u r) : EReal) := by
  pointwise [k0_pay24]
  exact pay23_apply p q u hp hq r

end gate

section chunks

variable (c0 c1 c2 c3 : Vec Ideal S1x1x1x64x128 .f32) (D : Fin 256 → Fin 128 → ℝ)
  (h0 : ∀ (r : Fin 64) l, c0 (ix5 0 0 0 r l) = (D ⟨0 + r.val, by omega⟩ l : EReal)) (h1 : ∀ (r : Fin 64) l, c1 (ix5 0 0 0 r l) = (D ⟨64 + r.val, by omega⟩ l : EReal))
  (h2 : ∀ (r : Fin 64) l, c2 (ix5 0 0 0 r l) = (D ⟨128 + r.val, by omega⟩ l : EReal)) (h3 : ∀ (r : Fin 64) l, c3 (ix5 0 0 0 r l) = (D ⟨192 + r.val, by omega⟩ l : EReal))

include h0 h1 h2 h3

theorem pay21_apply (r : Fin 256) (l : Fin 128) : k0_pay21 (F := Ideal) c0 c1 c2 c3 (ix2 r l) = (D r l : EReal) := by
  pointwise [k0_pay21]
  by_cases e0 : r.val < 64
  · rw [dif_pos e0]; exact (h0 _ l).trans (congrArg (fun k => (D k l : EReal)) (Fin.ext (Nat.zero_add r.val)))
  rw [dif_neg e0]
  by_cases e1 : r.val - 64 < 64
  · rw [dif_pos e1]; exact (h1 _ l).trans (congrArg (fun k => (D k l : EReal)) (Fin.ext (show 64 + (r.val - 64) = r.val by omega)))
  rw [dif_neg e1]
  by_cases e2 : r.val - 64 - 64 < 64
  · rw [dif_pos e2]; exact (h2 _ l).trans (congrArg (fun k => (D k l : EReal)) (Fin.ext (show 128 + (r.val - 64 - 64) = r.val by omega)))
  rw [dif_neg e2]
  exact (h3 _ l).trans (congrArg (fun k => (D k l : EReal)) (Fin.ext (show 192 + (r.val - 64 - 64 - 64) = r.val by omega)))

end chunks

/-! ## The gradient before the activation -/

/-- The point's factor: the queries' or one. -/
def factor (i : grid0.Coords) : ℝ := if (i 0).val = 0 then qscale else 1

theorem factor_eq (i : grid0.Coords) :
    Scalar.select (Scalar.cmpi .eq (BitVec.ofNat 32 (i 0).val) 0#32) (Ideal.ofBits .f32 0x3DB504F3#32) (1 : EReal) = (factor i : EReal) := by
  unfold factor
  have h : (i 0).val < 3 := (i 0).isLt
  generalize (i 0).val = a at h ⊢
  match a, h with
  | 0, _ => exact ofBits_qscale
  | 1, _ => exact EReal.coe_one.symm
  | 2, _ => exact EReal.coe_one.symm

section whole

variable (i : grid0.Coords) (w : Vec Ideal S4x128 .f32) (W : Fin 4 → Fin 128 → ℝ) (hw : ∀ j l, w (ix2 j l) = (W j l : EReal))
  (t0 t1 t2 t3 : Vec Ideal S256x128 .f32) (T : Fin 4 → Fin 256 → Fin 128 → ℝ)
  (h0 : ∀ r l, t0 (ix2 r l) = (T 0 r l : EReal)) (h1 : ∀ r l, t1 (ix2 r l) = (T 1 r l : EReal))
  (h2 : ∀ r l, t2 (ix2 r l) = (T 2 r l : EReal)) (h3 : ∀ r l, t3 (ix2 r l) = (T 3 r l : EReal))
  (c0 c1 c2 c3 : Vec Ideal S1x1x1x64x128 .f32) (D : Fin 256 → Fin 128 → ℝ)
  (k0 : ∀ (r : Fin 64) l, c0 (ix5 0 0 0 r l) = (D ⟨0 + r.val, by omega⟩ l : EReal)) (k1 : ∀ (r : Fin 64) l, c1 (ix5 0 0 0 r l) = (D ⟨64 + r.val, by omega⟩ l : EReal))
  (k2 : ∀ (r : Fin 64) l, c2 (ix5 0 0 0 r l) = (D ⟨128 + r.val, by omega⟩ l : EReal)) (k3 : ∀ (r : Fin 64) l, c3 (ix5 0 0 0 r l) = (D ⟨192 + r.val, by omega⟩ l : EReal))

include hw h0 h1 h2 h3 k0 k1 k2 k3

theorem gradOfA_apply (r : Fin 256) (l : Fin 128) :
    gradOfA (F := Ideal) i w t0 t1 t2 t3 c0 c1 c2 c3 (ix2 r l) = (normGrad (mixed W T r) (D r) (factor i) l : EReal) := by
  have hp := pay18_apply w W hw t0 t1 t2 t3 T h0 h1 h2 h3
  have hq := pay19_apply w W hw t0 t1 t2 t3 T h0 h1 h2 h3
  pointwise [gradOfA, k0_pay5]
  simp only [factor_eq, hp, pay20_apply _ _ hq, pay21_apply c0 c1 c2 c3 D k0 k1 k2 k3, pay22_apply _ _ _ hp hq, pay23_apply _ _ _ hp hq, pay24_apply _ _ _ hp hq]
  simp only [← EReal.coe_one,
    ← EReal.coe_mul, coe_sum, ← EReal.coe_sub, ← EReal.coe_add]
  rfl

theorem gradOfB_apply (r : Fin 256) (l : Fin 128) :
    gradOfB (F := Ideal) w t0 t1 t2 t3 c0 c1 c2 c3 (ix2 r l) = (gateGrad (mixed W T r) (D r) l : EReal) := by
  have hp := pay25_apply w W hw t0 t1 t2 t3 T h0 h1 h2 h3
  have hq := pay26_apply w W hw t0 t1 t2 t3 T h0 h1 h2 h3
  have e : k0_pay27 (F := Ideal) (k0_pay25 w t0 t1 t2 t3) (k0_pay26 w t0 t1 t2 t3) half c0 c1 c2 c3
      = mulf (k0_pay21 c0 c1 c2 c3) (mulf (k0_pay20 (k0_pay26 w t0 t1 t2 t3) half) (addf (broadcast S256x128 (Scalar.ofBits .f32 0x3F800000#32))
        (mulf (k0_pay25 w t0 t1 t2 t3) (subf (broadcast S256x128 (Scalar.ofBits .f32 0x3F800000#32)) (k0_pay20 (k0_pay26 w t0 t1 t2 t3) half))))) := rfl
  unfold gradOfB
  rw [e]
  pointwise []
  simp only [hp, pay20_apply _ _ hq, pay21_apply c0 c1 c2 c3 D k0 k1 k2 k3, ← EReal.coe_one, ← EReal.coe_mul, ← EReal.coe_sub, ← EReal.coe_add]
  rfl

end whole

theorem addRows_apply (a : FVec Ideal S1x128 .f32) (gr tp : FVec Ideal S256x128 .f32) (G T : Fin 256 → Fin 128 → ℝ)
    (hg : ∀ r l, gr (ix2 r l) = (G r l : EReal)) (ht : ∀ r l, tp (ix2 r l) = (T r l : EReal)) (l : Fin 128) :
    addRows a gr tp (ix2 0 l) = a (ix2 0 l) + ((∑ r, G r l * T r l : ℝ) : EReal) := by
  pointwise [addRows, k0_pay13]
  simp only [hg, ht, ← EReal.coe_mul, coe_sum]

theorem pay17_apply (w : Vec Ideal S4x128 .f32) (W : Fin 4 → Fin 128 → ℝ) (hw : ∀ j l, w (ix2 j l) = (W j l : EReal))
    (a0 a1 a2 a3 : Vec Ideal S256x128 .f32) (A0 A1 A2 A3 : Fin 256 → Fin 128 → ℝ) (h0 : ∀ r l, a0 (ix2 r l) = (A0 r l : EReal)) (h1 : ∀ r l, a1 (ix2 r l) = (A1 r l : EReal))
    (h2 : ∀ r l, a2 (ix2 r l) = (A2 r l : EReal)) (h3 : ∀ r l, a3 (ix2 r l) = (A3 r l : EReal)) (r : Fin 256) (l : Fin 128) :
    k0_pay17 (F := Ideal) w a0 a1 a2 a3 (ix2 r l) = ((A0 r l * W 3 l + A1 r l * W 0 l + A2 r l * W 1 l + A3 r l * W 2 l : ℝ) : EReal) := by
  pointwise [k0_pay17]
  simp only [hw, h0, h1, h2, h3, ← EReal.coe_mul, ← EReal.coe_add]

end Cert.Kernel4Ideal.Prep
end
-- ==== Proof.PrepPoint.lean ====
/-
  What one point of the convolution's gradient leaves in its two blocks, at real inputs.
-/
module

public import proofs.«01_k».proof.Proof.PrepPay
public import Idealize.ShloMosaic.Lib.Pipeline.CanonAppend

@[expose] public section

set_option maxRecDepth 16384

noncomputable section

open Idealize.ShloMosaic Idealize.ShloMosaic.TcCoe Idealize.SL.Sem
open Cert.Common

namespace Cert.Kernel4Ideal.Prep

open Cert.Kernel4Ideal Cert.Kernel4Ideal.Gen Cert.PrepSpec Cert.FfnSpec

/-- Row `r` of tile `k`. -/
def at_ (k : Fin 16) (r : Fin 256) : Fin 4096 := ⟨256 * k.val + r.val, by omega⟩

/-- A band of whole rows holds its rows, -/
theorem emb_band {n a l : ℕ} (inb : ∀ d, (![a, 0] : Fin 2 → ℕ) d + (![l, 128] : Fin 2 → ℕ) d ≤ (⟨2, ![n, 128]⟩ : Shape).size d) (r : Fin l) (c : Fin 128) (h : a + r.val < n) :
    (Rect.unit (s := (⟨2, ![n, 128]⟩ : Shape)) ![a, 0] ![l, 128] inb).emb (ix2 r c) = (ix2 ⟨a + r.val, h⟩ c : (⟨2, ![n, 128]⟩ : Shape).Idx) := by
  funext d; apply Fin.ext
  match d with
  | ⟨0, _⟩ => show a + 1 * r.val = a + r.val; omega
  | ⟨1, _⟩ => show 0 + 1 * c.val = c.val; omega

theorem band_emb {n a l : ℕ} (inb : ∀ d, (![a, 0] : Fin 2 → ℕ) d + (![l, 128] : Fin 2 → ℕ) d ≤ (⟨2, ![n, 128]⟩ : Shape).size d) (i : Fin n) (c : Fin 128) (h0 : a ≤ i.val) (h1 : i.val - a < l) :
    (ix2 i c : (⟨2, ![n, 128]⟩ : Shape).Idx) = (Rect.unit (s := (⟨2, ![n, 128]⟩ : Shape)) ![a, 0] ![l, 128] inb).emb (ix2 ⟨i.val - a, h1⟩ c) := by
  rw [emb_band inb ⟨i.val - a, h1⟩ c (by dsimp only; omega)]
  exact congrArg (fun k => ix2 k c) (Fin.ext (show i.val = a + (i.val - a) by omega))

/-- and no other. -/
theorem not_band {n a l : ℕ} (inb : ∀ d, (![a, 0] : Fin 2 → ℕ) d + (![l, 128] : Fin 2 → ℕ) d ≤ (⟨2, ![n, 128]⟩ : Shape).size d) (i : Fin n) (c : Fin 128) (h : i.val < a ∨ a + l ≤ i.val) :
    (ix2 i c : (⟨2, ![n, 128]⟩ : Shape).Idx) ∉ (Rect.unit (s := (⟨2, ![n, 128]⟩ : Shape)) ![a, 0] ![l, 128] inb).set := by
  intro hm
  have := Rect.mem_set_unit.mp hm 0
  have e0 : (![a, 0] : Fin 2 → ℕ) 0 ≤ i.val := this.1
  have e1 : i.val < (![a, 0] : Fin 2 → ℕ) 0 + (![l, 128] : Fin 2 → ℕ) 0 := this.2
  change a ≤ i.val at e0
  change i.val < a + l at e1
  omega

/-- A store of another band leaves an element, -/
theorem canon_skip {n a l : ℕ} (inb : ∀ d, (![a, 0] : Fin 2 → ℕ) d + (![l, 128] : Fin 2 → ℕ) d ≤ (⟨2, ![n, 128]⟩ : Shape).size d) {e : EltTy}
    (v : (Rect.unit (s := (⟨2, ![n, 128]⟩ : Shape)) ![a, 0] ![l, 128] inb).shape.Idx → Elt Ideal e) (L : List (View.Piece (Elt Ideal) (⟨2, ![n, 128]⟩ : Shape) e)) (i : Fin n) (c : Fin 128)
    (h : i.val < a ∨ a + l ≤ i.val) : View.canon (⟨Rect.unit (s := (⟨2, ![n, 128]⟩ : Shape)) ![a, 0] ![l, 128] inb, v⟩ :: L) (ix2 i c) = View.canon L (ix2 i c) :=
  View.canon_cons_of_not_mem ⟨Rect.unit (s := (⟨2, ![n, 128]⟩ : Shape)) ![a, 0] ![l, 128] inb, v⟩ L (not_band inb i c h)

/-- and of its own writes it. -/
theorem canon_take {n a l : ℕ} (inb : ∀ d, (![a, 0] : Fin 2 → ℕ) d + (![l, 128] : Fin 2 → ℕ) d ≤ (⟨2, ![n, 128]⟩ : Shape).size d) {e : EltTy}
    (v : (Rect.unit (s := (⟨2, ![n, 128]⟩ : Shape)) ![a, 0] ![l, 128] inb).shape.Idx → Elt Ideal e) (L : List (View.Piece (Elt Ideal) (⟨2, ![n, 128]⟩ : Shape) e)) (i : Fin n) (c : Fin 128)
    (h0 : a ≤ i.val) (h1 : i.val - a < l) : View.canon (⟨Rect.unit (s := (⟨2, ![n, 128]⟩ : Shape)) ![a, 0] ![l, 128] inb, v⟩ :: L) (ix2 i c) = v (ix2 ⟨i.val - a, h1⟩ c) := by
  rw [band_emb inb i c h0 h1, View.canon_cons_emb]

theorem rowsAt_apply (z : Vec Ideal S4104x128 .f32) (a : ℕ) (h : a + 256 ≤ 4104) (r : Fin 256) (l : Fin 128) :
    rowsAt z a h (ix2 r l) = z (ix2 ⟨a + r.val, by omega⟩ l) :=
  congrArg z (emb_band (n := 4104) (l := 256) (rowsIn h) r l (by omega))

theorem chunk_row (q r : Fin 64) : 64 * q.val + r.val < 4096 := by omega

section point

variable (x : Vec Ideal S4096x128 .f32) (X : Fin 4096 → Fin 128 → ℝ) (hx : ∀ i l, x (ix2 i l) = (X i l : EReal))
  (w : Vec Ideal S4x128 .f32) (W : Fin 4 → Fin 128 → ℝ) (hw : ∀ j l, w (ix2 j l) = (W j l : EReal))
  (g : Vec Ideal S1x64x1x64x128 .f32) (D : Fin 4096 → Fin 128 → ℝ)
  (hg : ∀ (q r : Fin 64) l, g (ix5 0 q 0 r l) = (D ⟨64 * q.val + r.val, chunk_row q r⟩ l : EReal))

include hx in
theorem inPadded_apply (n : ℕ) (h5 : 5 ≤ n) (hn : n < 4104) (l : Fin 128) : inPadded x (ix2 ⟨n, hn⟩ l) = (behind X (n - 5) l : EReal) := by
  unfold inPadded inPieces behind
  by_cases h : 8 ≤ n
  · rw [dif_pos (show 3 ≤ n - 5 ∧ n - 5 < 4099 by omega)]
    refine (canon_take (n := 4104) (a := 8) (l := 4096) inb_S4104x128_S4096x128_8_0 _ _ ⟨n, hn⟩ l h (show n - 8 < 4096 by omega)).trans ?_
    refine Eq.trans (b := x (ix2 ⟨n - 8, by omega⟩ l)) ?_ ((hx _ l).trans (congrArg (fun k => (X k l : EReal)) (Fin.ext (show n - 8 = n - 5 - 3 by omega))))
    pointwise [k0_pay2]
  · rw [dif_neg (by omega)]
    refine (canon_skip (n := 4104) (a := 8) (l := 4096) inb_S4104x128_S4096x128_8_0 _ _ ⟨n, hn⟩ l (Or.inl (show n < 8 by omega))).trans ?_
    refine (canon_take (n := 4104) (a := 0) (l := 8) inb_S4104x128_S8x128_0_0 _ _ ⟨n, hn⟩ l (Nat.zero_le _) (show n - 0 < 8 by omega)).trans ?_
    pointwise [k0_pay1]
    exact EReal.coe_zero.symm

include hx in
theorem tap_apply (k : Fin 16) (j : Fin 4) (r : Fin 256) (l : Fin 128) : tap (inPadded x) k j (ix2 r l) = (behind X ((at_ k r).val + j.val) l : EReal) := by
  unfold tap
  rw [rowsAt_apply, inPadded_apply x X hx _ (by omega)]
  exact congrArg (fun n => (behind X n l : EReal)) (show 256 * k.val + 5 + j.val + r.val - 5 = 256 * k.val + r.val + j.val by omega)

include hg in
theorem cot_apply (k : Fin 16) (j : Fin 4) (b : ℕ) (hb : b = 64 * j.val) (r : Fin 64) (l : Fin 128) :
    cot g k j (ix5 0 0 0 r l) = (D ⟨256 * k.val + (b + r.val), by omega⟩ l : EReal) := by
  subst hb
  unfold cot
  refine Eq.trans (congrArg g ?_) ((hg ⟨4 * k.val + j.val, by omega⟩ r l).trans (congrArg (fun n => (D n l : EReal)) (Fin.ext (show 64 * (4 * k.val + j.val) + r.val = 256 * k.val + (64 * j.val + r.val) by omega))))
  funext d; apply Fin.ext
  match d with
  | ⟨0, _⟩ => rfl
  | ⟨1, _⟩ => show 4 * k.val + j.val + 1 * 0 = 4 * k.val + j.val; omega
  | ⟨2, _⟩ => rfl
  | ⟨3, _⟩ => show 0 + 1 * r.val = r.val; omega
  | ⟨4, _⟩ => show 0 + 1 * l.val = l.val; omega

include hx hw hg in
theorem gradA_apply (i : grid0.Coords) (k : Fin 16) (r : Fin 256) (l : Fin 128) : gradA i w (inPadded x) g k (ix2 r l) = (gradN (factor i) X W D (at_ k r) l : EReal) :=
  gradOfA_apply i w W hw _ _ _ _ (fun j r l => behind X ((at_ k r).val + j.val) l) (tap_apply x X hx k 0) (tap_apply x X hx k 1) (tap_apply x X hx k 2) (tap_apply x X hx k 3)
    _ _ _ _ (fun r l => D (at_ k r) l) (cot_apply g D hg k 0 0 rfl) (cot_apply g D hg k 1 64 rfl) (cot_apply g D hg k 2 128 rfl) (cot_apply g D hg k 3 192 rfl) r l

include hx hw hg in
theorem gradB_apply (k : Fin 16) (r : Fin 256) (l : Fin 128) : gradB w (inPadded x) g k (ix2 r l) = (gradG X W D (at_ k r) l : EReal) :=
  gradOfB_apply w W hw _ _ _ _ (fun j r l => behind X ((at_ k r).val + j.val) l) (tap_apply x X hx k 0) (tap_apply x X hx k 1) (tap_apply x X hx k 2) (tap_apply x X hx k 3)
    _ _ _ _ (fun r l => D (at_ k r) l) (cot_apply g D hg k 0 0 rfl) (cot_apply g D hg k 1 64 rfl) (cot_apply g D hg k 2 128 rfl) (cot_apply g D hg k 3 192 rfl) r l

end point

section out

variable (gr : Fin 16 → FVec Ideal S256x128 .f32) (tp : Fin 16 → Fin 4 → Vec Ideal S256x128 .f32) (G : Fin 4096 → Fin 128 → ℝ) (X : Fin 4096 → Fin 128 → ℝ)
  (hG : ∀ k r l, gr k (ix2 r l) = (G (at_ k r) l : EReal)) (hT : ∀ k j r l, tp k j (ix2 r l) = (behind X ((at_ k r).val + j.val) l : EReal))

/-- The stored pieces are the tiles. -/
theorem first_form : ∀ n, n ≤ 16 → ∀ p ∈ (first gr tp n).2, ∃ k : Fin 16, p = tileRows (gr k) k := by
  intro n
  induction n with
  | zero => intro _ p hp; exact absurd hp List.not_mem_nil
  | succ n ih =>
    intro hn p hp
    rw [first_succ gr tp ⟨n, hn⟩] at hp
    rcases List.mem_cons.mp hp with rfl | hp
    · exact ⟨_, rfl⟩
    · exact ih (Nat.le_of_succ_le hn) p hp

/-- Later stores elsewhere leave an element as it was. -/
theorem canon_append_of_not_mem {S : Shape} {e : EltTy} (L' : List (View.Piece (Elt Ideal) S e)) (y : S.Idx) :
    ∀ (L : List (View.Piece (Elt Ideal) S e)), (∀ p ∈ L, y ∉ p.1.set) → View.canon (L ++ L') y = View.canon L' y
  | [], _ => rfl
  | p :: L, h => (View.canon_cons_of_not_mem p (L ++ L') (h p List.mem_cons_self)).trans (canon_append_of_not_mem L' y L fun q hq => h q (List.mem_cons_of_mem _ hq))

theorem split (y : S256x128.Idx) : ∃ r l, y = (ix2 r l : S256x128.Idx) :=
  ⟨y 0, y 1, by funext a; match a with | ⟨0, _⟩ => rfl | ⟨1, _⟩ => rfl⟩

include hG in
theorem padded_apply (n : ℕ) (hn : n < 4104) (l : Fin 128) : padded gr tp (ix2 ⟨n, hn⟩ l) = (before G n l : EReal) := by
  unfold padded padPieces
  by_cases h : n < 4096
  · refine View.canon_append_of_pieces (fun q : S4104x128.Idx => ((before G (q 0).val (q 1) : ℝ) : EReal)) _ _ (fun p hp y => ?_) _
      ⟨_, first_mem gr tp ⟨n / 256, by omega⟩ 16 (by dsimp only; omega) le_rfl, mem_rows (n := 4104) (r := 256 * (n / 256)) (by omega) _ (show 256 * (n / 256) ≤ n by omega) (show n < 256 * (n / 256) + 256 by omega)⟩
    obtain ⟨k, rfl⟩ := first_form gr tp 16 le_rfl p hp
    obtain ⟨r, l, rfl⟩ := split y
    unfold tileRows
    dsimp only
    refine Eq.trans (b := gr k (ix2 r l)) ?_ ((hG _ r l).trans ?_)
    · pointwise [k0_pay12]
    · rw [emb_band (n := 4104) (a := 256 * k.val) (l := 256) (rowsIn (by omega)) r l (by omega)]
      show _ = ((before G (256 * k.val + r.val) l : ℝ) : EReal)
      unfold before
      rw [dif_pos (show 256 * k.val + r.val < 4096 by omega)]
      rfl
  · rw [show before G n l = 0 from dif_neg h, canon_append_of_not_mem]
    · rw [band_emb (n := 4104) (a := 4096) (l := 8) inb_S4104x128_S8x128_4096_0 ⟨n, hn⟩ l (show 4096 ≤ n by omega) (show n - 4096 < 8 by omega), View.canon_cons_emb]
      pointwise [k0_pay3]
      exact EReal.coe_zero.symm
    · intro p hp
      obtain ⟨k, rfl⟩ := first_form gr tp 16 le_rfl p hp
      exact not_band (n := 4104) (l := 256) (rowsIn (by omega)) ⟨n, hn⟩ l (Or.inr (show 256 * k.val + 256 ≤ n by omega))

/-- The second loop's pieces are its tiles. -/
theorem second_form (w : Vec Ideal S4x128 .f32) (d : Vec Ideal S4104x128 .f32) : ∀ n, n ≤ 16 → ∀ p ∈ second w d n, ∃ k : Fin 16, p = outRows w d k := by
  intro n
  induction n with
  | zero => intro _ p hp; exact absurd hp List.not_mem_nil
  | succ n ih =>
    intro hn p hp
    rw [second_succ w d ⟨n, hn⟩] at hp
    rcases List.mem_cons.mp hp with rfl | hp
    · exact ⟨_, rfl⟩
    · exact ih (Nat.le_of_succ_le hn) p hp

include hG in
/-- The input's gradient. -/
theorem second_apply (w : Vec Ideal S4x128 .f32) (W : Fin 4 → Fin 128 → ℝ) (hw : ∀ j l, w (ix2 j l) = (W j l : EReal)) (i : Fin 4096) (l : Fin 128) :
    View.canon (second w (padded gr tp) 16) (ix2 i l) = (PrepSpec.dx W G i l : EReal) := by
  rw [← List.append_nil (second w (padded gr tp) 16)]
  refine View.canon_append_of_pieces (fun q : S4096x128.Idx => ((PrepSpec.dx W G (q 0) (q 1) : ℝ) : EReal)) _ _ (fun p hp y => ?_) _ (second_cover w _ _)
  obtain ⟨k, rfl⟩ := second_form w _ 16 le_rfl p hp
  obtain ⟨r, l, rfl⟩ := split y
  have hr : ∀ (a : ℕ) (h : a + 256 ≤ 4104) (r : Fin 256) (l : Fin 128), rowsAt (padded gr tp) a h (ix2 r l) = (before G (a + r.val) l : EReal) :=
    fun a h r l => (rowsAt_apply _ a h r l).trans (padded_apply gr tp G hG _ _ l)
  unfold outRows
  dsimp only
  refine (pay17_apply w W hw _ _ _ _ _ _ _ _ (hr _ _) (hr _ _) (hr _ _) (hr _ _) r l).trans ?_
  rw [emb_band (n := 4096) (a := 256 * k.val) (l := 256) (rowsIn (by omega)) r l (by omega)]
  show _ = ((PrepSpec.dx W G ⟨256 * k.val + r.val, _⟩ l : ℝ) : EReal)
  unfold PrepSpec.dx
  dsimp only
  rw [show 256 * k.val + 3 + r.val = 256 * k.val + r.val + 3 by omega, show 256 * k.val + 2 + r.val = 256 * k.val + r.val + 2 by omega, show 256 * k.val + 1 + r.val = 256 * k.val + r.val + 1 by omega]

include hG hT in
/-- The weight rows' sums so far. -/
theorem first_rows : ∀ n, n ≤ 16 → ∀ l : Fin 128,
    (first gr tp n).1.1 (ix2 0 l) = ((∑ k ∈ Finset.range n, if h : k < 16 then ∑ r, G (at_ ⟨k, h⟩ r) l * behind X ((at_ ⟨k, h⟩ r).val + 0) l else 0 : ℝ) : EReal)
    ∧ (first gr tp n).1.2.1 (ix2 0 l) = ((∑ k ∈ Finset.range n, if h : k < 16 then ∑ r, G (at_ ⟨k, h⟩ r) l * behind X ((at_ ⟨k, h⟩ r).val + 1) l else 0 : ℝ) : EReal)
    ∧ (first gr tp n).1.2.2.1 (ix2 0 l) = ((∑ k ∈ Finset.range n, if h : k < 16 then ∑ r, G (at_ ⟨k, h⟩ r) l * behind X ((at_ ⟨k, h⟩ r).val + 2) l else 0 : ℝ) : EReal)
    ∧ (first gr tp n).1.2.2.2 (ix2 0 l) = ((∑ k ∈ Finset.range n, if h : k < 16 then ∑ r, G (at_ ⟨k, h⟩ r) l * behind X ((at_ ⟨k, h⟩ r).val + 3) l else 0 : ℝ) : EReal) := by
  intro n
  induction n with
  | zero =>
    intro _ l
    refine ⟨?_, ?_, ?_, ?_⟩ <;> (show k0_pay4 (F := Ideal) (ix2 0 l) = _; rw [Finset.sum_range_zero]; pointwise [k0_pay4]; exact EReal.coe_zero.symm)
  | succ n ih =>
    intro hn l
    obtain ⟨i0, i1, i2, i3⟩ := ih (Nat.le_of_succ_le hn) l
    rw [first_succ gr tp ⟨n, hn⟩]
    dsimp only
    have hr := fun (a : FVec Ideal S1x128 .f32) (j : Fin 4) => addRows_apply a (gr ⟨n, hn⟩) (tp ⟨n, hn⟩ j) _ _ (hG ⟨n, hn⟩) (hT ⟨n, hn⟩ j) l
    simp only [Finset.sum_range_succ _ n, dif_pos (show n < 16 from hn), EReal.coe_add]
    rw [← i0, ← i1, ← i2, ← i3]
    exact ⟨hr _ 0, hr _ 1, hr _ 2, hr _ 3⟩

omit hG hT in
/-- The tiles' sums are the sum over all rows. -/
theorem all_rows (j : Fin 4) (l : Fin 128) :
    (∑ k ∈ Finset.range 16, if h : k < 16 then ∑ r, G (at_ ⟨k, h⟩ r) l * behind X ((at_ ⟨k, h⟩ r).val + j.val) l else 0) = dw X G j l := by
  unfold dw
  rw [Fin.sum_univ_tiles 16 256 rfl, Finset.sum_range]
  refine Finset.sum_congr rfl fun k _ => ?_
  rw [dif_pos k.isLt]
  refine Finset.sum_congr rfl fun r _ => ?_
  rw [show at_ ⟨k.val, k.isLt⟩ r = ⟨k.val * 256 + r.val, by omega⟩ from Fin.ext (show 256 * k.val + r.val = k.val * 256 + r.val by omega)]

include hG hT in
/-- The weights' gradient. -/
theorem rows_apply (j : Fin 4) (l : Fin 128) : View.canon (rowPieces (first gr tp 16).1) (ix2 j l) = (dw X G j l : EReal) := by
  obtain ⟨h0, h1, h2, h3⟩ := first_rows gr tp G X hG hT 16 le_rfl l
  rw [← all_rows]
  unfold rowPieces
  match j with
  | 3 => exact (canon_take (n := 4) (a := 3) (l := 1) inb_S4x128_S1x128_3_0 _ _ 3 l (by decide) (by decide)).trans h3
  | 2 => exact (canon_skip (n := 4) (a := 3) (l := 1) inb_S4x128_S1x128_3_0 _ _ 2 l (by decide)).trans <|
    (canon_take (n := 4) (a := 2) (l := 1) inb_S4x128_S1x128_2_0 _ _ 2 l (by decide) (by decide)).trans h2
  | 1 => exact (canon_skip (n := 4) (a := 3) (l := 1) inb_S4x128_S1x128_3_0 _ _ 1 l (by decide)).trans <|
    (canon_skip (n := 4) (a := 2) (l := 1) inb_S4x128_S1x128_2_0 _ _ 1 l (by decide)).trans <|
    (canon_take (n := 4) (a := 1) (l := 1) inb_S4x128_S1x128_1_0 _ _ 1 l (by decide) (by decide)).trans h1
  | 0 => exact (canon_skip (n := 4) (a := 3) (l := 1) inb_S4x128_S1x128_3_0 _ _ 0 l (by decide)).trans <|
    (canon_skip (n := 4) (a := 2) (l := 1) inb_S4x128_S1x128_2_0 _ _ 0 l (by decide)).trans <|
    (canon_skip (n := 4) (a := 1) (l := 1) inb_S4x128_S1x128_1_0 _ _ 0 l (by decide)).trans <|
    (canon_take (n := 4) (a := 0) (l := 1) inb_S4x128_S1x128_0_0 _ _ 0 l (by decide) (by decide)).trans h0

end out

end Cert.Kernel4Ideal.Prep
end
-- ==== Proof.PrepKernel.lean ====
/-
  The convolution's gradient: the points' blocks, and the two result arrays after the run.
-/
module

public import proofs.«01_k».proof.Proof.PrepPoint
public import Idealize.ShloMosaic.Lib.StableHlo.ReadAt

@[expose] public section

set_option maxRecDepth 16384

noncomputable section

open Idealize.ShloMosaic Idealize.ShloMosaic.TcCoe Idealize.SL.Sem
open Cert.Common

namespace Cert.Kernel4Ideal.Prep

open Cert.Kernel4Ideal Cert.Kernel4Ideal.Gen Cert.PrepSpec

variable (m : (ℓ : Loc nD τ sig) → Buf (Elt Ideal) ℓ) (c : Dev nD)

/-! ## Where a block's index lies in its array -/

/-- Point `t`'s block of columns. -/
def blockOf (t : Fin cfg0.N) : Fin 12 := ⟨t.val, lt_of_lt_of_eq t.isLt (show cfg0.N = 12 from N_0)⟩

theorem lt_cols {n : ℕ} (hn : 1536 ≤ n) (t : Fin cfg0.N) (l : Fin 128) : 128 * (blockOf t).val + l.val < n := by have := (blockOf t).isLt; omega

theorem emb0 (t : Fin cfg0.N) (r : Fin 4096) (k : Fin 128) : ((cfg0.win 0).blk t).view.emb (ix2 r k) = ix2 r ⟨128 * (blockOf t).val + k.val, lt_cols (by norm_num) t k⟩ := by
  have e : win0_0.index t (0 : Fin 2) = 0 ∧ win0_0.index t (1 : Fin 2) = t.val :=
    (by decide +kernel : ∀ t : Fin grid0.N, win0_0.index t (0 : Fin 2) = 0 ∧ win0_0.index t (1 : Fin 2) = t.val) t
  funext a; apply Fin.ext
  match a with
  | ⟨0, _⟩ => show win0_0.index t (0 : Fin 2) * 4096 + 1 * r.val = r.val; omega
  | ⟨1, _⟩ => show win0_0.index t (1 : Fin 2) * 128 + 1 * k.val = 128 * t.val + k.val; omega

theorem emb1 (t : Fin cfg0.N) (r : Fin 4) (k : Fin 128) : ((cfg0.win 1).blk t).view.emb (ix2 r k) = ix2 r ⟨128 * (blockOf t).val + k.val, lt_cols (by norm_num) t k⟩ := by
  have e : win0_1.index t (0 : Fin 2) = 0 ∧ win0_1.index t (1 : Fin 2) = t.val :=
    (by decide +kernel : ∀ t : Fin grid0.N, win0_1.index t (0 : Fin 2) = 0 ∧ win0_1.index t (1 : Fin 2) = t.val) t
  funext a; apply Fin.ext
  match a with
  | ⟨0, _⟩ => show win0_1.index t (0 : Fin 2) * 4 + 1 * r.val = r.val; omega
  | ⟨1, _⟩ => show win0_1.index t (1 : Fin 2) * 128 + 1 * k.val = 128 * t.val + k.val; omega

theorem emb2 (t : Fin cfg0.N) (q r : Fin 64) (k : Fin 128) :
    ((cfg0.win 2).blk t).view.emb (ix5 0 q 0 r k) = ix5 (⟨(blockOf t).val / 4, by omega⟩ : Fin 3) q (⟨(blockOf t).val % 4, by omega⟩ : Fin 4) r k := by
  have e : win0_2.index t (0 : Fin 5) = t.val / 4 ∧ win0_2.index t (1 : Fin 5) = 0 ∧ win0_2.index t (2 : Fin 5) = t.val % 4 ∧ win0_2.index t (3 : Fin 5) = 0 ∧ win0_2.index t (4 : Fin 5) = 0 :=
    (by decide +kernel : ∀ t : Fin grid0.N, win0_2.index t (0 : Fin 5) = t.val / 4 ∧ win0_2.index t (1 : Fin 5) = 0 ∧ win0_2.index t (2 : Fin 5) = t.val % 4 ∧ win0_2.index t (3 : Fin 5) = 0 ∧ win0_2.index t (4 : Fin 5) = 0) t
  obtain ⟨e0, e1, e2, e3, e4⟩ := e
  funext a; apply Fin.ext
  match a with
  | ⟨0, _⟩ => show win0_2.index t (0 : Fin 5) * 1 + 1 * 0 = t.val / 4; omega
  | ⟨1, _⟩ => show win0_2.index t (1 : Fin 5) * 64 + 1 * q.val = q.val; omega
  | ⟨2, _⟩ => show win0_2.index t (2 : Fin 5) * 1 + 1 * 0 = t.val % 4; omega
  | ⟨3, _⟩ => show win0_2.index t (3 : Fin 5) * 64 + 1 * r.val = r.val; omega
  | ⟨4, _⟩ => show win0_2.index t (4 : Fin 5) * 128 + 1 * k.val = k.val; omega

theorem emb3 (t : Fin cfg0.N) (r : Fin 4096) (k : Fin 128) : ((cfg0.win 3).blk t).view.emb (ix2 r k) = ix2 r ⟨128 * (blockOf t).val + k.val, lt_cols (by norm_num) t k⟩ := by
  have e : win0_3.index t (0 : Fin 2) = 0 ∧ win0_3.index t (1 : Fin 2) = t.val :=
    (by decide +kernel : ∀ t : Fin grid0.N, win0_3.index t (0 : Fin 2) = 0 ∧ win0_3.index t (1 : Fin 2) = t.val) t
  funext a; apply Fin.ext
  match a with
  | ⟨0, _⟩ => show win0_3.index t (0 : Fin 2) * 4096 + 1 * r.val = r.val; omega
  | ⟨1, _⟩ => show win0_3.index t (1 : Fin 2) * 128 + 1 * k.val = 128 * t.val + k.val; omega

theorem emb4 (t : Fin cfg0.N) (r : Fin 4) (k : Fin 128) : ((cfg0.win 4).blk t).view.emb (ix2 r k) = ix2 r ⟨128 * (blockOf t).val + k.val, lt_cols (by norm_num) t k⟩ := by
  have e : win0_4.index t (0 : Fin 2) = 0 ∧ win0_4.index t (1 : Fin 2) = t.val :=
    (by decide +kernel : ∀ t : Fin grid0.N, win0_4.index t (0 : Fin 2) = 0 ∧ win0_4.index t (1 : Fin 2) = t.val) t
  funext a; apply Fin.ext
  match a with
  | ⟨0, _⟩ => show win0_4.index t (0 : Fin 2) * 4 + 1 * r.val = r.val; omega
  | ⟨1, _⟩ => show win0_4.index t (1 : Fin 2) * 128 + 1 * k.val = 128 * t.val + k.val; omega

/-! ## The points' input blocks -/

/-- Device `c`'s arguments are these real arrays. -/
structure Args (R : Data) : Prop where
  h0 : ∀ i n, (m ((c : Thread nD τ).loc main_arg0) : FVec Ideal S4096x3592 .f32) (ix2 i n) = (R.x i n : EReal)
  h1 : ∀ j n, (m ((c : Thread nD τ).loc main_arg1) : FVec Ideal S4x1536 .f32) (ix2 j n) = (R.w j n : EReal)
  h2 : ∀ i h l, (m ((c : Thread nD τ).loc main_arg2) : FVec Ideal S4096x4x128 .f32) (ix3 i h l) = (R.q i h l : EReal)
  h3 : ∀ i h l, (m ((c : Thread nD τ).loc main_arg3) : FVec Ideal S4096x4x128 .f32) (ix3 i h l) = (R.k i h l : EReal)
  h4 : ∀ i h l, (m ((c : Thread nD τ).loc main_arg4) : FVec Ideal S4096x4x128 .f32) (ix3 i h l) = (R.v i h l : EReal)

variable (R : Data) (h : Args m c R)

include h

theorem x_at (i : Fin 4096) (n : Fin 3712) (hn : n.val < 1536) : (V m c main_v4 : FVec Ideal S4096x3712 .f32) (ix2 i n) = (R.x i ⟨n.val, by omega⟩ : EReal) := by
  unfold V hostOps0
  after_reads_at
  after_reads_at
  rw [dif_pos (show n.val < 2048 by omega)]
  exact h.h0 i _

theorem d_at (a : Fin 3) (q : Fin 64) (e : Fin 4) (r : Fin 64) (l : Fin 128) :
    (V m c main_v14 : FVec Ideal S3x64x4x64x128 .f32) (ix5 a q e r l) = (R.ds ⟨4 * a.val + e.val, by omega⟩ ⟨64 * q.val + r.val, by omega⟩ l : EReal) := by
  unfold V hostOps0
  after_reads_at
  after_reads_at
  have er : (⟨q.val * 64 + r.val, by omega⟩ : Fin 4096) = ⟨64 * q.val + r.val, by omega⟩ := Fin.ext (by dsimp only; omega)
  unfold Data.ds
  by_cases e0 : a.val < 1
  · rw [dif_pos e0, dif_pos (show 4 * a.val + e.val < 4 by omega), er]
    exact (h.h2 _ e l).trans (congrArg (fun k => (R.q _ k l : EReal)) (Fin.ext (show e.val = 4 * a.val + e.val by omega)))
  rw [dif_neg e0, dif_neg (show ¬4 * a.val + e.val < 4 by omega)]
  by_cases e1 : a.val - 1 < 1
  · rw [dif_pos e1, dif_pos (show 4 * a.val + e.val < 8 by omega), er]
    exact (h.h3 _ e l).trans (congrArg (fun k => (R.k _ k l : EReal)) (Fin.ext (show e.val = 4 * a.val + e.val - 4 by omega)))
  rw [dif_neg e1, dif_neg (show ¬4 * a.val + e.val < 8 by omega), er]
  exact (h.h4 _ e l).trans (congrArg (fun k => (R.v _ k l : EReal)) (Fin.ext (show e.val = 4 * a.val + e.val - 8 by omega)))

theorem block0 (t : Fin cfg0.N) (r : Fin 4096) (k : Fin 128) : iblk m c 0 t (ix2 r k) = (R.xs (blockOf t) r k : EReal) := by
  show V m c main_v4 (((cfg0.win 0).blk t).view.emb (ix2 r k)) = _
  rw [emb0]; exact x_at m c R h r _ (lt_cols le_rfl t k)

theorem block1 (t : Fin cfg0.N) (r : Fin 4) (k : Fin 128) : iblk m c 1 t (ix2 r k) = (R.ws (blockOf t) r k : EReal) := by
  show V m c main_arg1 (((cfg0.win 1).blk t).view.emb (ix2 r k)) = _
  rw [emb1, V_main_arg1]; exact h.h1 r _

theorem block2 (t : Fin cfg0.N) (q r : Fin 64) (k : Fin 128) : iblk m c 2 t (ix5 0 q 0 r k) = (R.ds (blockOf t) ⟨64 * q.val + r.val, by omega⟩ k : EReal) := by
  show V m c main_v14 (((cfg0.win 2).blk t).view.emb (ix5 0 q 0 r k)) = _
  rw [emb2]
  refine (d_at m c R h _ q _ r k).trans (congrArg (fun b => (R.ds b _ k : EReal)) (Fin.ext ?_))
  show 4 * (t.val / 4) + t.val % 4 = t.val
  omega

/-! ## The blocks a point leaves -/

omit h in
theorem coord0 (t : Fin cfg0.N) : ((grid0.coords t) 0).val = t.val / 4 :=
  (by decide +kernel : ∀ t : Fin grid0.N, ((grid0.coords t) 0).val = t.val / 4) t

theorem grad_apply (t : Fin cfg0.N) (k : Fin 16) (r : Fin 256) (l : Fin 128) :
    gradAt (grid0.coords t) (iblk m c 1 t) (inPadded (iblk m c 0 t)) (iblk m c 2 t) k (ix2 r l) = (R.grad (blockOf t) (at_ k r) l : EReal) := by
  unfold Data.grad
  by_cases h8 : t.val < 8
  · rw [gradAt_A ((hcond0_0 t).mpr h8), if_pos (show (blockOf t).val < 8 from h8)]
    refine (gradA_apply _ _ (block0 m c R h t) _ _ (block1 m c R h t) _ _ (block2 m c R h t) _ k r l).trans ?_
    have e : factor (grid0.coords t) = if (blockOf t).val < 4 then qscale else 1 := by
      unfold factor
      rw [coord0]
      exact if_congr (show t.val / 4 = 0 ↔ t.val < 4 by omega) rfl rfl
    rw [e]
  · rw [gradAt_B (fun k => h8 ((hcond0_0 t).mp k)), if_neg (show ¬(blockOf t).val < 8 from h8)]
    exact gradB_apply _ _ (block0 m c R h t) _ _ (block1 m c R h t) _ _ (block2 m c R h t) k r l

theorem out3 (t : Fin cfg0.N) (r : Fin 4096) (k : Fin 128) :
    (dats m 0 c).after 3 t (ix2 r k) = (dx (R.ws (blockOf t)) (R.grad (blockOf t)) r k : EReal) := by
  rw [left3]
  exact second_apply _ _ _ (grad_apply m c R h t) _ _ (block1 m c R h t) r k

theorem out4 (t : Fin cfg0.N) (j : Fin 4) (k : Fin 128) :
    (dats m 0 c).after 4 t (ix2 j k) = (dw (R.xs (blockOf t)) (R.grad (blockOf t)) j k : EReal) := by
  rw [left4]
  exact rows_apply _ _ _ _ (grad_apply m c R h t) (tap_apply _ _ (block0 m c R h t)) j k

/-! ## The result arrays -/

/-- The point that writes column `n`. -/
def pointOf (n : Fin 1536) : Fin cfg0.N := ⟨n.val / 128, by have hN : cfg0.N = 12 := N_0; have := n.isLt; omega⟩

omit h in
theorem col_eq (n : Fin 1536) : (⟨128 * (blockOf (pointOf n)).val + n.val % 128, by have := (blockOf (pointOf n)).isLt; omega⟩ : Fin 1536) = n := by
  apply Fin.ext
  show 128 * (n.val / 128) + n.val % 128 = n.val
  omega

omit h in
theorem split_col (b : Fin 12) (k : Fin 128) : (⟨(128 * b.val + k.val) / 128, by omega⟩ : Fin 12) = b ∧ (⟨(128 * b.val + k.val) % 128, by omega⟩ : Fin 128) = k :=
  ⟨Fin.ext (show (128 * b.val + k.val) / 128 = b.val by omega), Fin.ext (show (128 * b.val + k.val) % 128 = k.val by omega)⟩

theorem final3 : (dats m 0 c).arrAt 3 cfg0.N = fun i : S4096x1536.Idx => (R.dxs (i 0) (i 1) : EReal) := by
  refine (dats m 0 c).arrAt_eq_of_cover 3 _ (fun t _ => ?_) fun i => ?_
  · show (cfg0.win 3).cut (grid0.coords t) ((dats m 0 c).after 3 t) = _
    funext j
    obtain ⟨r, k, rfl⟩ : ∃ (r : Fin 4096) (k : Fin 128), j = ix2 r k := ⟨j 0, j 1, eq_ix2 j⟩
    refine (out3 m c R h t r k).trans ?_
    show _ = (fun i : S4096x1536.Idx => (R.dxs (i 0) (i 1) : EReal)) (((cfg0.win 3).blk t).view.emb (ix2 r k))
    rw [emb3]
    show _ = (R.dxs r ⟨128 * (blockOf t).val + k.val, _⟩ : EReal)
    unfold Data.dxs
    dsimp only
    rw [(split_col (blockOf t) k).1, (split_col (blockOf t) k).2]
  · obtain ⟨r, n, rfl⟩ : ∃ (r : Fin 4096) (n : Fin 1536), i = ix2 r n := ⟨i 0, i 1, eq_ix2 i⟩
    have e := ((cfg0.win 3).blk (pointOf n)).view.emb_mem_set (ix2 r (⟨n.val % 128, by omega⟩ : Fin 128))
    rw [emb3] at e
    rw [show (⟨128 * (blockOf (pointOf n)).val + (⟨n.val % 128, by omega⟩ : Fin 128).val, lt_cols (by norm_num) (pointOf n) ⟨n.val % 128, by omega⟩⟩ : Fin 1536) = n from col_eq n] at e
    exact ⟨pointOf n, flush0_3 _, e⟩

theorem final4 : (dats m 0 c).arrAt 4 cfg0.N = fun i : S4x1536.Idx => (R.dws (i 0) (i 1) : EReal) := by
  refine (dats m 0 c).arrAt_eq_of_cover 4 _ (fun t _ => ?_) fun i => ?_
  · show (cfg0.win 4).cut (grid0.coords t) ((dats m 0 c).after 4 t) = _
    funext j
    obtain ⟨r, k, rfl⟩ : ∃ (r : Fin 4) (k : Fin 128), j = ix2 r k := ⟨j 0, j 1, eq_ix2 j⟩
    refine (out4 m c R h t r k).trans ?_
    show _ = (fun i : S4x1536.Idx => (R.dws (i 0) (i 1) : EReal)) (((cfg0.win 4).blk t).view.emb (ix2 r k))
    rw [emb4]
    show _ = (R.dws r ⟨128 * (blockOf t).val + k.val, _⟩ : EReal)
    unfold Data.dws
    dsimp only
    rw [(split_col (blockOf t) k).1, (split_col (blockOf t) k).2]
  · obtain ⟨r, n, rfl⟩ : ∃ (r : Fin 4) (n : Fin 1536), i = ix2 r n := ⟨i 0, i 1, eq_ix2 i⟩
    have e := ((cfg0.win 4).blk (pointOf n)).view.emb_mem_set (ix2 r (⟨n.val % 128, by omega⟩ : Fin 128))
    rw [emb4] at e
    rw [show (⟨128 * (blockOf (pointOf n)).val + (⟨n.val % 128, by omega⟩ : Fin 128).val, lt_cols (by norm_num) (pointOf n) ⟨n.val % 128, by omega⟩⟩ : Fin 1536) = n from col_eq n] at e
    exact ⟨pointOf n, flush0_4 _, e⟩

end Cert.Kernel4Ideal.Prep
end
-- ==== Proof.PrepRef.lean ====
/-
  The reference of the convolution's gradient at real inputs: each result read at one index.
-/
module

public import proofs.«01_k».proof.Proof.PrepSpec
public import proofs.«01_k».proof.Proof.Gen.Reference4Ideal.Read

@[expose] public section

set_option maxRecDepth 16384

noncomputable section

open Idealize.ShloMosaic Idealize.ShloMosaic.TcCoe Idealize.SL.Sem
open Cert.Common

namespace Cert.Reference4Ideal.Prep

open Cert.Reference4Ideal Cert.Reference4Ideal.Gen Cert.Reference4Ideal.Read Cert.PrepSpec Cert.FfnSpec

/-- The arguments are these real arrays. -/
structure Args (x0 : FVec Ideal S4096x3592 .f32) (x1 : FVec Ideal S4x1536 .f32) (x2 x3 x4 : FVec Ideal S4096x4x128 .f32) (R : Data) : Prop where
  h0 : ∀ i n, x0 (ix2 i n) = (R.x i n : EReal)
  h1 : ∀ j n, x1 (ix2 j n) = (R.w j n : EReal)
  h2 : ∀ i h l, x2 (ix3 i h l) = (R.q i h l : EReal)
  h3 : ∀ i h l, x3 (ix3 i h l) = (R.k i h l : EReal)
  h4 : ∀ i h l, x4 (ix3 i h l) = (R.v i h l : EReal)

/-- Column `l` of block `b`. -/
def col (b : Fin 12) (l : Fin 128) : Fin 1536 := ⟨128 * b.val + l.val, by omega⟩

theorem col_of (n : Fin 1536) : col ⟨n.val / 128, by omega⟩ ⟨n.val % 128, by omega⟩ = n := Fin.ext (show 128 * (n.val / 128) + n.val % 128 = n.val by omega)

/-- The cotangent of a gated row behind the norm: the three terms of the pullback of the norm. -/
def onGated (u d : Fin 128 → ℝ) (sc : ℝ) (l : Fin 128) : ℝ :=
  sc * d l * rn u + gated (u l) * ((∑ j, gated (u j) * (sc * d j)) * (-(1 / 2) * (rn u / PrepSpec.sq u))) + (∑ j, gated (u j) * (sc * d j)) * (-(1 / 2) * (rn u / PrepSpec.sq u)) * gated (u l)

variable (x0 : FVec Ideal S4096x3592 .f32) (x1 : FVec Ideal S4x1536 .f32) (x2 x3 x4 : FVec Ideal S4096x4x128 .f32) (R : Data) (h : Args x0 x1 x2 x3 x4 R)

include h

/-! ## The convolution and its gate -/

theorem v2_at (n : Fin 4099) (b : Fin 12) (l : Fin 128) : val_main_v2 (F := Ideal) x0 (ix2 n (col b l)) = (behind (R.xs b) n.val l : EReal) := by
  pointwise [val_main_v2, val_main_v1, val_main_v0, val_main_cst]
  unfold behind
  by_cases e : n.val < 3
  · rw [dif_pos e, dif_neg (by omega)]
    exact EReal.coe_zero.symm
  · rw [dif_neg e, dif_pos (by omega)]
    exact h.h0 _ _

theorem v4_at (i : Fin 4096) (b : Fin 12) (l : Fin 128) : val_main_v4 (F := Ideal) x0 (ix2 i (col b l)) = (behind (R.xs b) i.val l : EReal) := by
  pointwise [val_main_v4]
  exact v2_at x0 x1 x2 x3 x4 R h _ b l

theorem v12_at (i : Fin 4096) (b : Fin 12) (l : Fin 128) : val_main_v12 (F := Ideal) x0 (ix2 i (col b l)) = (behind (R.xs b) (i.val + 1) l : EReal) := by
  pointwise [val_main_v12]
  rw [Nat.add_comm i.val 1]
  exact v2_at x0 x1 x2 x3 x4 R h _ b l

theorem v19_at (i : Fin 4096) (b : Fin 12) (l : Fin 128) : val_main_v19 (F := Ideal) x0 (ix2 i (col b l)) = (behind (R.xs b) (i.val + 2) l : EReal) := by
  pointwise [val_main_v19]
  rw [Nat.add_comm i.val 2]
  exact v2_at x0 x1 x2 x3 x4 R h _ b l

theorem v26_at (i : Fin 4096) (b : Fin 12) (l : Fin 128) : val_main_v26 (F := Ideal) x0 (ix2 i (col b l)) = (behind (R.xs b) (i.val + 3) l : EReal) := by
  pointwise [val_main_v26]
  rw [Nat.add_comm i.val 3]
  exact v2_at x0 x1 x2 x3 x4 R h _ b l

theorem w_at (j : Fin 4) (b : Fin 12) (l : Fin 128) : x1 (ix2 j (col b l)) = (R.ws b j l : EReal) := h.h1 j _

theorem v32_at (i : Fin 4096) (b : Fin 12) (l : Fin 128) : val_main_v32 (F := Ideal) x0 x1 (ix2 i (col b l)) = (conv (R.xs b) (R.ws b) i l : EReal) := by
  pointwise [val_main_v32, val_main_v31, val_main_v30, val_main_v29, val_main_v28, val_main_v27, val_main_v25, val_main_v24, val_main_v23, val_main_v22, val_main_v21, val_main_v20,
    val_main_v18, val_main_v17, val_main_v16, val_main_v15, val_main_v14, val_main_v13, val_main_v11, val_main_v10, val_main_v9, val_main_v8, val_main_v7, val_main_v6, val_main_v5, val_main_cst_1]
  simp only [v4_at x0 x1 x2 x3 x4 R h, v12_at x0 x1 x2 x3 x4 R h, v19_at x0 x1 x2 x3 x4 R h, v26_at x0 x1 x2 x3 x4 R h, w_at x0 x1 x2 x3 x4 R h, ← EReal.coe_mul, coe_zero_add, ← EReal.coe_add]
  rfl

theorem gate_at (i : Fin 4096) (b : Fin 12) (l : Fin 128) : val_main_v33_2 (F := Ideal) x0 x1 (ix2 i (col b l)) = (sg (conv (R.xs b) (R.ws b) i l) : EReal) := by
  pointwise [val_main_v33_2, val_main_call0_v4, val_main_call0_v3, val_main_call0_v2, val_main_call0_v1, val_main_call0_v0, val_main_call0_cst, val_main_call0_cst_0]
  rw [v32_at x0 x1 x2 x3 x4 R h, ← EReal.coe_neg, Ideal.exp_coe, ← EReal.coe_one, ← EReal.coe_add]
  exact coe_div _ _ (by positivity)

theorem slope_at (i : Fin 4096) (b : Fin 12) (l : Fin 128) :
    val_main_v33_1 (F := Ideal) x0 x1 (ix2 i (col b l)) = ((sg (conv (R.xs b) (R.ws b) i l) * (1 - sg (conv (R.xs b) (R.ws b) i l)) : ℝ) : EReal) := by
  pointwise [val_main_v33_1, val_main_call0_v7, val_main_call0_v6, val_main_call0_cst_1]
  simp only [gate_at x0 x1 x2 x3 x4 R h, ← EReal.coe_one, ← EReal.coe_sub, ← EReal.coe_mul]

theorem gated_at (i : Fin 4096) (b : Fin 12) (l : Fin 128) : val_main_v33_0 (F := Ideal) x0 x1 (ix2 i (col b l)) = (gated (conv (R.xs b) (R.ws b) i l) : EReal) := by
  pointwise [val_main_v33_0]
  simp only [v32_at x0 x1 x2 x3 x4 R h, gate_at x0 x1 x2 x3 x4 R h, ← EReal.coe_mul]
  rfl

/-! ## The queries' norm and its gradient -/

theorem v37_at (i : Fin 4096) (b : Fin 4) (l : Fin 128) :
    val_main_v37 (F := Ideal) x0 x1 (ix3 i b l) = (gated (conv (R.xs ⟨b.val, by omega⟩) (R.ws ⟨b.val, by omega⟩) i l) : EReal) := by
  pointwise [val_main_v37, val_main_v34]
  exact (congrArg (fun n => val_main_v33_0 (F := Ideal) x0 x1 (ix2 i n)) (Fin.ext (show b.val * 128 + l.val = 128 * b.val + l.val by omega))).trans (gated_at x0 x1 x2 x3 x4 R h i ⟨b.val, by omega⟩ l)

theorem v42_at (i : Fin 4096) (b : Fin 4) (z : Fin 1) : val_main_v42 (F := Ideal) x0 x1 (ix3 i b z) = (PrepSpec.sq (conv (R.xs ⟨b.val, by omega⟩) (R.ws ⟨b.val, by omega⟩) i) : EReal) := by
  pointwise [val_main_v42, val_main_v41, val_main_v40, val_main_v39, val_main_v38, val_main_cst_2, val_main_cst_3]
  simp only [v37_at x0 x1 x2 x3 x4 R h, ← EReal.coe_mul, coe_sum, coe_zero_add, ofBits_eps, ← EReal.coe_add]
  rfl

theorem v43_at (i : Fin 4096) (b : Fin 4) (z : Fin 1) : val_main_v43 (F := Ideal) x0 x1 (ix3 i b z) = (rn (conv (R.xs ⟨b.val, by omega⟩) (R.ws ⟨b.val, by omega⟩) i) : EReal) := by
  pointwise [val_main_v43]
  rw [v42_at x0 x1 x2 x3 x4 R h, coe_rsqrt _ (sq_pos _)]
  rfl

theorem v46_at (i : Fin 4096) (b : Fin 4) (z : Fin 1) :
    val_main_v46 (F := Ideal) x0 x1 (ix3 i b z) = ((-(1 / 2) * (rn (conv (R.xs ⟨b.val, by omega⟩) (R.ws ⟨b.val, by omega⟩) i) / PrepSpec.sq (conv (R.xs ⟨b.val, by omega⟩) (R.ws ⟨b.val, by omega⟩) i)) : ℝ) : EReal) := by
  pointwise [val_main_v46, val_main_v45, val_main_v44, val_main_cst_4]
  rw [v42_at x0 x1 x2 x3 x4 R h, v43_at x0 x1 x2 x3 x4 R h, coe_div _ _ (sq_pos _).ne', ofBits_neg_half, ← EReal.coe_mul]

theorem v82_at (i : Fin 4096) (b : Fin 4) (z : Fin 1) :
    val_main_v82 (F := Ideal) x0 x1 x2 (ix3 i b z) = ((∑ j, gated (conv (R.xs ⟨b.val, by omega⟩) (R.ws ⟨b.val, by omega⟩) i j) * (qscale * R.q i b j) : ℝ) : EReal) := by
  pointwise [val_main_v82, val_main_v81, val_main_v80, val_main_v79, val_main_v78, val_main_cst_11, val_main_cst_12]
  simp only [v37_at x0 x1 x2 x3 x4 R h, h.h2, ofBits_qscale, ← EReal.coe_mul, coe_sum, coe_zero_add, mul_comm _ qscale]

theorem v91_at (i : Fin 4096) (b : Fin 4) (l : Fin 128) :
    val_main_v91 (F := Ideal) x0 x1 x2 (ix3 i b l) = (onGated (conv (R.xs ⟨b.val, by omega⟩) (R.ws ⟨b.val, by omega⟩) i) (R.q i b) qscale l : EReal) := by
  pointwise [val_main_v91, val_main_v90, val_main_v89, val_main_v88, val_main_v87, val_main_v86, val_main_v85, val_main_v84, val_main_v83, val_main_v79, val_main_v78,
    val_main_cst_11, val_main_cst_13]
  simp only [v37_at x0 x1 x2 x3 x4 R h, v43_at x0 x1 x2 x3 x4 R h, v46_at x0 x1 x2 x3 x4 R h, v82_at x0 x1 x2 x3 x4 R h, h.h2, ofBits_qscale, ← EReal.coe_mul, coe_sum, coe_zero_add,
    Finset.univ_unique, Finset.sum_singleton, ← EReal.coe_add, mul_comm _ qscale]
  rfl

/-! ## The keys' norm and its gradient -/

theorem v51_at (i : Fin 4096) (b : Fin 4) (l : Fin 128) :
    val_main_v51 (F := Ideal) x0 x1 (ix3 i b l) = (gated (conv (R.xs ⟨4 + b.val, by omega⟩) (R.ws ⟨4 + b.val, by omega⟩) i l) : EReal) := by
  pointwise [val_main_v51, val_main_v35]
  exact (congrArg (fun n => val_main_v33_0 (F := Ideal) x0 x1 (ix2 i n)) (Fin.ext (show 512 + (b.val * 128 + l.val) = 128 * (4 + b.val) + l.val by omega))).trans (gated_at x0 x1 x2 x3 x4 R h i ⟨4 + b.val, by omega⟩ l)

theorem v56_at (i : Fin 4096) (b : Fin 4) (z : Fin 1) : val_main_v56 (F := Ideal) x0 x1 (ix3 i b z) = (PrepSpec.sq (conv (R.xs ⟨4 + b.val, by omega⟩) (R.ws ⟨4 + b.val, by omega⟩) i) : EReal) := by
  pointwise [val_main_v56, val_main_v55, val_main_v54, val_main_v53, val_main_v52, val_main_cst_6, val_main_cst_7]
  simp only [v51_at x0 x1 x2 x3 x4 R h, ← EReal.coe_mul, coe_sum, coe_zero_add, ofBits_eps, ← EReal.coe_add]
  rfl

theorem v57_at (i : Fin 4096) (b : Fin 4) (z : Fin 1) : val_main_v57 (F := Ideal) x0 x1 (ix3 i b z) = (rn (conv (R.xs ⟨4 + b.val, by omega⟩) (R.ws ⟨4 + b.val, by omega⟩) i) : EReal) := by
  pointwise [val_main_v57]
  rw [v56_at x0 x1 x2 x3 x4 R h, coe_rsqrt _ (sq_pos _)]
  rfl

theorem v60_at (i : Fin 4096) (b : Fin 4) (z : Fin 1) :
    val_main_v60 (F := Ideal) x0 x1 (ix3 i b z) = ((-(1 / 2) * (rn (conv (R.xs ⟨4 + b.val, by omega⟩) (R.ws ⟨4 + b.val, by omega⟩) i) / PrepSpec.sq (conv (R.xs ⟨4 + b.val, by omega⟩) (R.ws ⟨4 + b.val, by omega⟩) i)) : ℝ) : EReal) := by
  pointwise [val_main_v60, val_main_v59, val_main_v58, val_main_cst_8]
  rw [v56_at x0 x1 x2 x3 x4 R h, v57_at x0 x1 x2 x3 x4 R h, coe_div _ _ (sq_pos _).ne', ofBits_neg_half, ← EReal.coe_mul]

theorem v67_at (i : Fin 4096) (b : Fin 4) (z : Fin 1) :
    val_main_v67 (F := Ideal) x0 x1 x3 (ix3 i b z) = ((∑ j, gated (conv (R.xs ⟨4 + b.val, by omega⟩) (R.ws ⟨4 + b.val, by omega⟩) i j) * (1 * R.k i b j) : ℝ) : EReal) := by
  pointwise [val_main_v67, val_main_v66, val_main_v65, val_main_cst_9]
  simp only [v51_at x0 x1 x2 x3 x4 R h, h.h3, ← EReal.coe_mul, coe_sum, coe_zero_add, one_mul]

theorem v76_at (i : Fin 4096) (b : Fin 4) (l : Fin 128) :
    val_main_v76 (F := Ideal) x0 x1 x3 (ix3 i b l) = (onGated (conv (R.xs ⟨4 + b.val, by omega⟩) (R.ws ⟨4 + b.val, by omega⟩) i) (R.k i b) 1 l : EReal) := by
  pointwise [val_main_v76, val_main_v75, val_main_v74, val_main_v73, val_main_v72, val_main_v71, val_main_v70, val_main_v69, val_main_v68, val_main_cst_10]
  simp only [v51_at x0 x1 x2 x3 x4 R h, v57_at x0 x1 x2 x3 x4 R h, v60_at x0 x1 x2 x3 x4 R h, v67_at x0 x1 x2 x3 x4 R h, h.h3, ← EReal.coe_mul, coe_sum, coe_zero_add,
    Finset.univ_unique, Finset.sum_singleton, ← EReal.coe_add]
  refine congrArg _ ?_
  unfold onGated
  rw [one_mul]

/-! ## Through the gate -/

theorem v92_flat (i : Fin 4096) (b : Fin 4) (l : Fin 128) (n : Fin 512) (e : n.val = 128 * b.val + l.val) : val_main_v92 (F := Ideal) x0 x1 x2 (ix2 i n) = (onGated (conv (R.xs ⟨b.val, by omega⟩) (R.ws ⟨b.val, by omega⟩) i) (R.q i b) qscale l : EReal) := by
  pointwise [val_main_v92]
  rw [← v91_at x0 x1 x2 x3 x4 R h]
  exact congrArg₂ (fun p q => val_main_v91 (F := Ideal) x0 x1 x2 (ix3 i p q)) (Fin.ext (show n.val / 128 = b.val by omega)) (Fin.ext (show n.val % 128 = l.val by omega))

theorem v77_flat (i : Fin 4096) (b : Fin 4) (l : Fin 128) (n : Fin 512) (e : n.val = 128 * b.val + l.val) : val_main_v77 (F := Ideal) x0 x1 x3 (ix2 i n) = (onGated (conv (R.xs ⟨4 + b.val, by omega⟩) (R.ws ⟨4 + b.val, by omega⟩) i) (R.k i b) 1 l : EReal) := by
  pointwise [val_main_v77]
  rw [← v76_at x0 x1 x2 x3 x4 R h]
  exact congrArg₂ (fun p q => val_main_v76 (F := Ideal) x0 x1 x3 (ix3 i p q)) (Fin.ext (show n.val / 128 = b.val by omega)) (Fin.ext (show n.val % 128 = l.val by omega))

theorem v64_flat (i : Fin 4096) (b : Fin 4) (l : Fin 128) (n : Fin 512) (e : n.val = 128 * b.val + l.val) : val_main_v64 (F := Ideal) x4 (ix2 i n) = (R.v i b l : EReal) := by
  pointwise [val_main_v64]
  rw [← h.h4]
  exact congrArg₂ (fun p q => x4 (ix3 i p q)) (Fin.ext (show n.val / 128 = b.val by omega)) (Fin.ext (show n.val % 128 = l.val by omega))

theorem v93_q (i : Fin 4096) (b : Fin 4) (l : Fin 128) :
    val_main_v93 (F := Ideal) x0 x1 x2 x3 x4 (ix2 i (col ⟨b.val, by omega⟩ l)) = (onGated (conv (R.xs ⟨b.val, by omega⟩) (R.ws ⟨b.val, by omega⟩) i) (R.q i b) qscale l : EReal) := by
  pointwise [val_main_v93]
  refine (dif_pos (by show 128 * (b.val) + l.val < 512; omega)).trans ?_
  exact v92_flat x0 x1 x2 x3 x4 R h i b l _ (by show 128 * (b.val) + l.val = _; omega)

theorem v93_k (i : Fin 4096) (b : Fin 4) (l : Fin 128) :
    val_main_v93 (F := Ideal) x0 x1 x2 x3 x4 (ix2 i (col ⟨4 + b.val, by omega⟩ l)) = (onGated (conv (R.xs ⟨4 + b.val, by omega⟩) (R.ws ⟨4 + b.val, by omega⟩) i) (R.k i b) 1 l : EReal) := by
  pointwise [val_main_v93]
  refine (dif_neg (by show ¬ 128 * (4 + b.val) + l.val < 512; omega)).trans ?_
  refine (dif_pos (by show 128 * (4 + b.val) + l.val - 512 < 512; omega)).trans ?_
  exact v77_flat x0 x1 x2 x3 x4 R h i b l _ (by show 128 * (4 + b.val) + l.val - 512 = _; omega)

theorem v93_v (i : Fin 4096) (b : Fin 4) (l : Fin 128) :
    val_main_v93 (F := Ideal) x0 x1 x2 x3 x4 (ix2 i (col ⟨8 + b.val, by omega⟩ l)) = (R.v i b l : EReal) := by
  pointwise [val_main_v93]
  refine (dif_neg (by show ¬ 128 * (8 + b.val) + l.val < 512; omega)).trans ?_
  refine (dif_neg (by show ¬ 128 * (8 + b.val) + l.val - 512 < 512; omega)).trans ?_
  exact v64_flat x0 x1 x2 x3 x4 R h i b l _ (by show 128 * (8 + b.val) + l.val - 512 - 512 = _; omega)

theorem through (i : Fin 4096) (b : Fin 12) (l : Fin 128) (g : ℝ) (e : val_main_v93 (F := Ideal) x0 x1 x2 x3 x4 (ix2 i (col b l)) = (g : EReal)) :
    val_main_v94 (F := Ideal) x0 x1 x2 x3 x4 (ix2 i (col b l)) =
      ((g * sg (conv (R.xs b) (R.ws b) i l) + conv (R.xs b) (R.ws b) i l * g * (sg (conv (R.xs b) (R.ws b) i l) * (1 - sg (conv (R.xs b) (R.ws b) i l))) : ℝ) : EReal) := by
  pointwise [val_main_v94, val_main_call1_v0, val_main_call1_v1, val_main_call1_v2]
  simp only [e, v32_at x0 x1 x2 x3 x4 R h, gate_at x0 x1 x2 x3 x4 R h, slope_at x0 x1 x2 x3 x4 R h, ← EReal.coe_mul, ← EReal.coe_add]

omit h in
theorem grad_q (i : Fin 4096) (b : Fin 4) (l : Fin 128) :
    R.grad ⟨b.val, by omega⟩ i l = normGrad (conv (R.xs ⟨b.val, by omega⟩) (R.ws ⟨b.val, by omega⟩) i) (R.q i b) qscale l := by
  have e : R.ds ⟨b.val, by omega⟩ i = R.q i b := by
    funext l
    unfold Data.ds
    rw [dif_pos (show b.val < 4 by omega)]
  unfold Data.grad
  rw [if_pos (show b.val < 8 by omega), if_pos (show b.val < 4 by omega)]
  exact e ▸ rfl

omit h in
theorem grad_k (i : Fin 4096) (b : Fin 4) (l : Fin 128) :
    R.grad ⟨4 + b.val, by omega⟩ i l = normGrad (conv (R.xs ⟨4 + b.val, by omega⟩) (R.ws ⟨4 + b.val, by omega⟩) i) (R.k i b) 1 l := by
  have e : R.ds ⟨4 + b.val, by omega⟩ i = R.k i b := by
    funext l
    unfold Data.ds
    rw [dif_neg (show ¬ 4 + b.val < 4 by omega), dif_pos (show 4 + b.val < 8 by omega)]
    exact congrArg (fun a => R.k i a l) (Fin.ext (show 4 + b.val - 4 = b.val by omega))
  unfold Data.grad
  rw [if_pos (show 4 + b.val < 8 by omega), if_neg (show ¬ 4 + b.val < 4 by omega)]
  exact e ▸ rfl

omit h in
theorem grad_v (i : Fin 4096) (b : Fin 4) (l : Fin 128) :
    R.grad ⟨8 + b.val, by omega⟩ i l = gateGrad (conv (R.xs ⟨8 + b.val, by omega⟩) (R.ws ⟨8 + b.val, by omega⟩) i) (R.v i b) l := by
  have e : R.ds ⟨8 + b.val, by omega⟩ i = R.v i b := by
    funext l
    unfold Data.ds
    rw [dif_neg (show ¬ 8 + b.val < 4 by omega), dif_neg (show ¬ 8 + b.val < 8 by omega)]
    exact congrArg (fun a => R.v i a l) (Fin.ext (show 8 + b.val - 8 = b.val by omega))
  unfold Data.grad
  rw [if_neg (show ¬ 8 + b.val < 8 by omega)]
  exact e ▸ rfl

theorem v94_q (i : Fin 4096) (b : Fin 4) (l : Fin 128) :
    val_main_v94 (F := Ideal) x0 x1 x2 x3 x4 (ix2 i (col ⟨b.val, by omega⟩ l)) = (R.grad ⟨b.val, by omega⟩ i l : EReal) := by
  rw [through x0 x1 x2 x3 x4 R h i _ l _ (v93_q x0 x1 x2 x3 x4 R h i b l), grad_q]
  exact congrArg _ (norm_vjp _ _ _ _)

theorem v94_k (i : Fin 4096) (b : Fin 4) (l : Fin 128) :
    val_main_v94 (F := Ideal) x0 x1 x2 x3 x4 (ix2 i (col ⟨4 + b.val, by omega⟩ l)) = (R.grad ⟨4 + b.val, by omega⟩ i l : EReal) := by
  rw [through x0 x1 x2 x3 x4 R h i _ l _ (v93_k x0 x1 x2 x3 x4 R h i b l), grad_k]
  exact congrArg _ (norm_vjp _ _ _ _)

theorem v94_v (i : Fin 4096) (b : Fin 4) (l : Fin 128) :
    val_main_v94 (F := Ideal) x0 x1 x2 x3 x4 (ix2 i (col ⟨8 + b.val, by omega⟩ l)) = (R.grad ⟨8 + b.val, by omega⟩ i l : EReal) := by
  rw [through x0 x1 x2 x3 x4 R h i _ l _ (v93_v x0 x1 x2 x3 x4 R h i b l), grad_v]
  exact congrArg _ (gate_vjp _ _ _)

theorem v94_at (i : Fin 4096) (b : Fin 12) (l : Fin 128) : val_main_v94 (F := Ideal) x0 x1 x2 x3 x4 (ix2 i (col b l)) = (R.grad b i l : EReal) := by
  by_cases b4 : b.val < 4
  · exact v94_q x0 x1 x2 x3 x4 R h i ⟨b.val, b4⟩ l
  · by_cases b8 : b.val < 8
    · exact (congrArg (fun b' : Fin 12 => val_main_v94 (F := Ideal) x0 x1 x2 x3 x4 (ix2 i (col b' l)) = (R.grad b' i l : EReal)) (Fin.ext (show 4 + (b.val - 4) = b.val by omega))).mp
        (v94_k x0 x1 x2 x3 x4 R h i ⟨b.val - 4, by omega⟩ l)
    · exact (congrArg (fun b' : Fin 12 => val_main_v94 (F := Ideal) x0 x1 x2 x3 x4 (ix2 i (col b' l)) = (R.grad b' i l : EReal)) (Fin.ext (show 8 + (b.val - 8) = b.val by omega))).mp
        (v94_v x0 x1 x2 x3 x4 R h i ⟨b.val - 8, by omega⟩ l)

/-! ## The results -/

theorem tap_at (i : Fin 4096) (b : Fin 12) (l : Fin 128) :
    val_main_v99 (F := Ideal) x0 x1 x2 x3 x4 (ix2 i (col b l)) = ((R.grad b i l * R.ws b 3 l : ℝ) : EReal)
    ∧ val_main_v108 (F := Ideal) x0 x1 x2 x3 x4 (ix2 i (col b l)) = ((R.grad b i l * R.ws b 2 l : ℝ) : EReal)
    ∧ val_main_v119 (F := Ideal) x0 x1 x2 x3 x4 (ix2 i (col b l)) = ((R.grad b i l * R.ws b 1 l : ℝ) : EReal)
    ∧ val_main_v130 (F := Ideal) x0 x1 x2 x3 x4 (ix2 i (col b l)) = ((R.grad b i l * R.ws b 0 l : ℝ) : EReal) := by
  refine ⟨?_, ?_, ?_, ?_⟩
  · pointwise [val_main_v99, val_main_v98, val_main_v29, val_main_v28, val_main_v27]
    rw [v94_at x0 x1 x2 x3 x4 R h, w_at x0 x1 x2 x3 x4 R h, ← EReal.coe_mul]
  · pointwise [val_main_v108, val_main_v107, val_main_v22, val_main_v21, val_main_v20]
    rw [v94_at x0 x1 x2 x3 x4 R h, w_at x0 x1 x2 x3 x4 R h, ← EReal.coe_mul]
  · pointwise [val_main_v119, val_main_v118, val_main_v15, val_main_v14, val_main_v13]
    rw [v94_at x0 x1 x2 x3 x4 R h, w_at x0 x1 x2 x3 x4 R h, ← EReal.coe_mul]
  · pointwise [val_main_v130, val_main_v129, val_main_v7, val_main_v6, val_main_v5]
    rw [v94_at x0 x1 x2 x3 x4 R h, w_at x0 x1 x2 x3 x4 R h, ← EReal.coe_mul]

theorem sum_at (z : Fin 1) (b : Fin 12) (l : Fin 128) :
    val_main_v101 (F := Ideal) x0 x1 x2 x3 x4 (ix2 z (col b l)) = (dw (R.xs b) (R.grad b) 3 l : EReal)
    ∧ val_main_v110 (F := Ideal) x0 x1 x2 x3 x4 (ix2 z (col b l)) = (dw (R.xs b) (R.grad b) 2 l : EReal)
    ∧ val_main_v121 (F := Ideal) x0 x1 x2 x3 x4 (ix2 z (col b l)) = (dw (R.xs b) (R.grad b) 1 l : EReal)
    ∧ val_main_v132 (F := Ideal) x0 x1 x2 x3 x4 (ix2 z (col b l)) = (dw (R.xs b) (R.grad b) 0 l : EReal) := by
  refine ⟨?_, ?_, ?_, ?_⟩
  · pointwise [val_main_v101, val_main_v100, val_main_v97, val_main_v96, val_main_v95, val_main_cst_14, val_main_cst_15]
    simp only [v26_at x0 x1 x2 x3 x4 R h, v94_at x0 x1 x2 x3 x4 R h, ← EReal.coe_mul, coe_sum, coe_zero_add, Finset.univ_unique, Finset.sum_singleton, mul_comm (behind _ _ _)]
    rfl
  · pointwise [val_main_v110, val_main_v109, val_main_v106, val_main_v105, val_main_v104, val_main_cst_18, val_main_cst_19]
    simp only [v19_at x0 x1 x2 x3 x4 R h, v94_at x0 x1 x2 x3 x4 R h, ← EReal.coe_mul, coe_sum, coe_zero_add, Finset.univ_unique, Finset.sum_singleton, mul_comm (behind _ _ _)]
    rfl
  · pointwise [val_main_v121, val_main_v120, val_main_v117, val_main_v116, val_main_v115, val_main_cst_22, val_main_cst_23]
    simp only [v12_at x0 x1 x2 x3 x4 R h, v94_at x0 x1 x2 x3 x4 R h, ← EReal.coe_mul, coe_sum, coe_zero_add, Finset.univ_unique, Finset.sum_singleton, mul_comm (behind _ _ _)]
    rfl
  · pointwise [val_main_v132, val_main_v131, val_main_v128, val_main_v127, val_main_v126, val_main_cst_26, val_main_cst_27]
    simp only [v4_at x0 x1 x2 x3 x4 R h, v94_at x0 x1 x2 x3 x4 R h, ← EReal.coe_mul, coe_sum, coe_zero_add, Finset.univ_unique, Finset.sum_singleton, mul_comm (behind _ _ _)]
    rfl

theorem v139_at (i : Fin 4096) (b : Fin 12) (l : Fin 128) : val_main_v139 (F := Ideal) x0 x1 x2 x3 x4 (ix2 i (col b l)) = (dx (R.ws b) (R.grad b) i l : EReal) := by
  pointwise [val_main_v139, val_main_v138, val_main_v136, val_main_v135, val_main_v125, val_main_v124, val_main_v114, val_main_v113, val_main_v103,
    val_main_cst_17, val_main_cst_21, val_main_cst_25, val_main_cst_29]
  simp only [(tap_at x0 x1 x2 x3 x4 R h _ b l).1, (tap_at x0 x1 x2 x3 x4 R h _ b l).2.1, (tap_at x0 x1 x2 x3 x4 R h _ b l).2.2.1, (tap_at x0 x1 x2 x3 x4 R h _ b l).2.2.2]
  have pad : ∀ (n : ℕ) (w : ℝ) (p : Prop) [Decidable p] (f : p → Fin 4096) (e : p ↔ n < 4096) (ev : ∀ q, (f q).val = n),
      (if q : p then ((R.grad b (f q) l * w : ℝ) : EReal) else 0) = ((before (R.grad b) n l * w : ℝ) : EReal) := by
    intro n w p _ f e ev
    unfold before
    by_cases q : p
    · rw [dif_pos q, dif_pos (e.mp q), show f q = ⟨n, e.mp q⟩ from Fin.ext (ev q)]
    · rw [dif_neg q, dif_neg (fun a => q (e.mpr a)), zero_mul, EReal.coe_zero]
  rw [pad (i.val + 1) _ _ _ (by omega) (fun _ => by show 3 + i.val - 2 = _; omega), pad (i.val + 2) _ _ _ (by omega) (fun _ => by show 3 + i.val - 1 = _; omega),
    pad (i.val + 3) _ _ _ (by omega) (fun _ => Nat.add_comm _ _), ← EReal.coe_add, ← EReal.coe_add, ← EReal.coe_add]
  refine congrArg _ ?_
  unfold PrepSpec.dx
  rw [show before (R.grad b) i.val l = R.grad b i l from dif_pos i.isLt]
  ring

theorem v134_at (j : Fin 4) (b : Fin 12) (l : Fin 128) : val_main_v134 (F := Ideal) x0 x1 x2 x3 x4 (ix2 j (col b l)) = (dw (R.xs b) (R.grad b) j l : EReal) := by
  pointwise [val_main_v134, val_main_v133, val_main_v123, val_main_v122, val_main_v112, val_main_v111, val_main_v102, val_main_cst_16, val_main_cst_20, val_main_cst_24, val_main_cst_28]
  match j with
  | 0 => simp [(sum_at x0 x1 x2 x3 x4 R h _ b l).2.2.2]
  | 1 => simp [(sum_at x0 x1 x2 x3 x4 R h _ b l).2.2.1]
  | 2 => simp [(sum_at x0 x1 x2 x3 x4 R h _ b l).2.1]
  | 3 => simp [(sum_at x0 x1 x2 x3 x4 R h _ b l).1]

theorem dx_at (i : Fin 4096) (n : Fin 1536) : val_main_v139 (F := Ideal) x0 x1 x2 x3 x4 (ix2 i n) = (R.dxs i n : EReal) :=
  (congrArg (fun k => val_main_v139 (F := Ideal) x0 x1 x2 x3 x4 (ix2 i k)) (col_of n)).symm.trans (v139_at x0 x1 x2 x3 x4 R h i _ _)

theorem dw_at (j : Fin 4) (n : Fin 1536) : val_main_v134 (F := Ideal) x0 x1 x2 x3 x4 (ix2 j n) = (R.dws j n : EReal) :=
  (congrArg (fun k => val_main_v134 (F := Ideal) x0 x1 x2 x3 x4 (ix2 j k)) (col_of n)).symm.trans (v134_at x0 x1 x2 x3 x4 R h j _ _)

end Cert.Reference4Ideal.Prep
end
-- ==== Proof.PrepPair.lean ====
/-
  The gradient of the convolution, its gate and the two norms, and its `jax.vjp` reference, end with the same two arrays:
  the reference's frame, and the value claim under finite arguments.
-/
module

public import proofs.«01_k».proof.Defs
public import proofs.«01_k».proof.Proof.PrepFrame
public import proofs.«01_k».proof.Proof.Gen.Pre_finite4
public import proofs.«01_k».proof.Proof.PrepKernel
public import proofs.«01_k».proof.Proof.PrepRef

@[expose] public section

set_option maxRecDepth 16384

noncomputable section

namespace Cert.Prep

open Idealize.ShloMosaic Idealize.SL.Sem Cert.Common Cert.PrepSpec

/-- Finite arguments are real ones. -/
theorem real_args (m : (ℓ : Loc Kernel4Ideal.nD Kernel4Ideal.τ Kernel4Ideal.sig) → Buf (Elt Ideal) ℓ) (hpre : Pre_Kernel4Ideal_finite4 m) (c : Dev Kernel4Ideal.nD) :
    ∃ R, Kernel4Ideal.Prep.Args m c R := by
  have e := congrFun (hpre c) (fun d : Fin 0 => d.elim0)
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  obtain ⟨X, hX⟩ := real_of_all _ _ _ _ _ _ e0
  obtain ⟨W, hW⟩ := real_of_all _ _ _ _ _ _ e1
  obtain ⟨Q, hQ⟩ := real_of_all _ _ _ _ _ _ e2
  obtain ⟨K, hK⟩ := real_of_all _ _ _ _ _ _ e3
  obtain ⟨Y, hY⟩ := real_of_all _ _ _ _ _ _ e4
  exact ⟨⟨fun i n => X (ix2 i n), fun j n => W (ix2 j n), fun i b l => Q (ix3 i b l), fun i b l => K (ix3 i b l), fun i b l => Y (ix3 i b l)⟩,
    ⟨fun i n => congrFun hX _, fun i n => congrFun hW _, fun i b l => congrFun hQ _, fun i b l => congrFun hK _, fun i b l => congrFun hY _⟩⟩

/-- The reference's frame. -/
theorem frame_reference : quiescent_Reference4Ideal := fun m ρ _ =>
  (θ_run Reference4Ideal.defs _ _).mono (fun r h => ⟨fun c => (h c).2.2, sem_eq_zero_of_no_sems (by decide) r.2⟩)
    (Reference4Ideal.Value.run (F := Ideal) m ρ)

/-- The results agree. -/
theorem value : algebraic_Kernel4Ideal_Reference4Ideal_pre_finite4 := by
  intro m g m' g' hpre hargs
  choose R h using real_args m hpre
  refine ⟨fun c => fun i => ((R c).dxs (i 0) (i 1) : EReal), fun c => fun i => ((R c).dws (i 0) (i 1) : EReal), ?_, ?_⟩
  · refine (θ_run Kernel4Ideal.defs _ _).mono (fun r hr c => ?_) (θ_run_and (Kernel4Ideal.Prep.arrays (F := Ideal) m g) (Kernel4Ideal.Prep.frame_any (F := Ideal) m g))
    exact ⟨((hr.1 c).1 3).trans (Kernel4Ideal.Prep.final3 m c _ (h c)), ((hr.1 c).1 4).trans (Kernel4Ideal.Prep.final4 m c _ (h c)), hr.2.1 c⟩
  · refine (θ_run Reference4Ideal.defs _ _).mono (fun r hr c => ?_) (Reference4Ideal.Value.run (F := Ideal) m' g')
    obtain ⟨r0, r1, hk⟩ := hr c
    obtain ⟨a0, a1, a2, a3, a4⟩ := hargs c
    obtain ⟨h0, h1, h2, h3, h4⟩ := h c
    have h : Reference4Ideal.Prep.Args _ _ _ _ _ (R c) := ⟨h0, h1, h2, h3, h4⟩
    rw [← a0, ← a1, ← a2, ← a3, ← a4] at h
    exact ⟨r0.trans ((Reference4Ideal.Read.val_main_v139_eq _).trans (ext2 fun i k => Reference4Ideal.Prep.dx_at _ _ _ _ _ _ h i k)),
      r1.trans ((Reference4Ideal.Read.val_main_v134_eq _).trans (ext2 fun i k => Reference4Ideal.Prep.dw_at _ _ _ _ _ _ h i k)), hk⟩

end Cert.Prep
end
-- ==== Proof.MixFwdPay.lean ====
/-
  The payloads of the output projection at real inputs, and what a grid point leaves in its two result blocks.
-/
module

public import proofs.«01_k».proof.Proof.MixSpec
public import proofs.«01_k».proof.Proof.Gen.Kernel5Ideal.Value

@[expose] public section

set_option maxRecDepth 16384

noncomputable section

open Idealize.ShloMosaic Idealize.ShloMosaic.TcCoe Idealize.SL.Sem
open Cert.Common

namespace Cert.Kernel5Ideal.MixFwd

open Cert.Kernel5Ideal Cert.Kernel5Ideal.Gen Cert.MixSpec

variable (A B : Fin 1024 → Fin 512 → ℝ) (U U' : Fin 512 → Fin 1024 → ℝ) (G : Fin 1024 → ℝ)
variable (a b : Vec Ideal S1024x512 .f32) (u u' : Vec Ideal S512x1024 .bf16) (x : Vec Ideal S1024x1024 .f32) (g : Vec Ideal S1x1024 .f32)
variable (ha : ∀ r j, a (ix2 r j) = (A r j : EReal)) (hb : ∀ r j, b (ix2 r j) = (B r j : EReal))
  (hu : ∀ j k, u (ix2 j k) = (U j k : EReal)) (hu' : ∀ j k, u' (ix2 j k) = (U' j k : EReal))
  (hg : ∀ k, g (ix2 0 k) = (G k : EReal))

include ha hb hu hu'

theorem pay1_apply (r k : Fin 1024) : k0_pay1 a u b u' (ix2 r k) = ((∑ j, A r j * U j k) + ∑ j, B r j * U' j k : ℝ) := by
  pointwise [k0_pay1]
  simp only [ha, hb, hu, hu', ← EReal.coe_mul, coe_sum, ← EReal.coe_add]

include hg in
theorem pay2_apply (Z : Fin 1024 → Fin 1024 → ℝ) (hz : ∀ r k, (∑ j, A r j * U j k) + ∑ j, B r j * U' j k = Z r k) (r k : Fin 1024) :
    k0_pay2 a u b u' x g (ix2 r k) = x (ix2 r k) + (Z r k * rinv (Z r) * G k : ℝ) := by
  pointwise [k0_pay2]
  simp only [pay1_apply A B U U' a b u u' ha hb hu hu', hz, hg, ← EReal.coe_mul, coe_sum, ofBits_1024, ofBits_eps, coe_div _ _ (by norm_num : (1024 : ℝ) ≠ 0),
    ← EReal.coe_add, rsqrt_ms]

end Cert.Kernel5Ideal.MixFwd
end
-- ==== Proof.MixFwdKernel.lean ====
/-
  The output projection: what a grid point leaves, and its two result arrays after the run.
-/
module

public import proofs.«01_k».proof.Proof.MixFwdPay
public import Idealize.ShloMosaic.Lib.StableHlo.ReadAt

@[expose] public section

set_option maxRecDepth 16384

noncomputable section

open Idealize.ShloMosaic Idealize.ShloMosaic.TcCoe Idealize.SL.Sem
open Cert.Common

namespace Cert.Kernel5Ideal.MixFwd

open Cert.Kernel5Ideal Cert.Kernel5Ideal.Gen Cert.MixSpec

variable (m : (ℓ : Loc nD τ sig) → Buf (Elt Ideal) ℓ) (c : Dev nD)

/-! ## Where a block's index lies in its array -/

/-- Row `r` of point `t`'s block of rows. -/
def row (t : Fin cfg0.N) (r : Fin 1024) : Fin 4096 := ⟨t.val * 1024 + r.val, by have := t.isLt; have : cfg0.N = 4 := N_0; have := r.isLt; omega⟩

/-- The windows over rows move with the point; the weight and the gain stay. -/
theorem index_eq : ∀ t : Fin grid0.N, (win0_0.index t (0 : Fin 2) = t.val ∧ win0_0.index t (1 : Fin 2) = 0) ∧ (win0_1.index t (0 : Fin 2) = t.val ∧ win0_1.index t (1 : Fin 2) = 0)
    ∧ (win0_2.index t (0 : Fin 2) = 0 ∧ win0_2.index t (1 : Fin 2) = 0) ∧ (win0_3.index t (0 : Fin 2) = t.val ∧ win0_3.index t (1 : Fin 2) = 0)
    ∧ (win0_4.index t (0 : Fin 2) = 0 ∧ win0_4.index t (1 : Fin 2) = 0) ∧ (win0_5.index t (0 : Fin 2) = t.val ∧ win0_5.index t (1 : Fin 2) = 0)
    ∧ (win0_6.index t (0 : Fin 2) = t.val ∧ win0_6.index t (1 : Fin 2) = 0) := by decide +kernel

theorem emb0 (t : Fin cfg0.N) (r : Fin 1024) (k : Fin 512) : ((cfg0.win 0).blk t).view.emb (ix2 r k) = ix2 (row t r) k :=
  ix2_of (by show win0_0.index t (0 : Fin 2) * 1024 + 1 * r.val = t.val * 1024 + r.val; have := (index_eq t).1; omega)
    (by show win0_0.index t (1 : Fin 2) * 512 + 1 * k.val = k.val; have := (index_eq t).1; omega)

theorem emb1 (t : Fin cfg0.N) (r : Fin 1024) (k : Fin 512) : ((cfg0.win 1).blk t).view.emb (ix2 r k) = ix2 (row t r) k :=
  ix2_of (by show win0_1.index t (0 : Fin 2) * 1024 + 1 * r.val = t.val * 1024 + r.val; have := (index_eq t).2.1; omega)
    (by show win0_1.index t (1 : Fin 2) * 512 + 1 * k.val = k.val; have := (index_eq t).2.1; omega)

theorem emb2 (t : Fin cfg0.N) (r k : Fin 1024) : ((cfg0.win 2).blk t).view.emb (ix2 r k) = ix2 r k :=
  ix2_of (by show win0_2.index t (0 : Fin 2) * 1024 + 1 * r.val = r.val; have := (index_eq t).2.2.1; omega)
    (by show win0_2.index t (1 : Fin 2) * 1024 + 1 * k.val = k.val; have := (index_eq t).2.2.1; omega)

theorem emb3 (t : Fin cfg0.N) (r k : Fin 1024) : ((cfg0.win 3).blk t).view.emb (ix2 r k) = ix2 (row t r) k :=
  ix2_of (by show win0_3.index t (0 : Fin 2) * 1024 + 1 * r.val = t.val * 1024 + r.val; have := (index_eq t).2.2.2.1; omega)
    (by show win0_3.index t (1 : Fin 2) * 1024 + 1 * k.val = k.val; have := (index_eq t).2.2.2.1; omega)

theorem emb4 (t : Fin cfg0.N) (r : Fin 1) (k : Fin 1024) : ((cfg0.win 4).blk t).view.emb (ix2 r k) = ix2 r k :=
  ix2_of (by show win0_4.index t (0 : Fin 2) * 1 + 1 * r.val = r.val; have := (index_eq t).2.2.2.2.1; omega)
    (by show win0_4.index t (1 : Fin 2) * 1024 + 1 * k.val = k.val; have := (index_eq t).2.2.2.2.1; omega)

theorem emb5 (t : Fin cfg0.N) (r k : Fin 1024) : ((cfg0.win 5).blk t).view.emb (ix2 r k) = ix2 (row t r) k :=
  ix2_of (by show win0_5.index t (0 : Fin 2) * 1024 + 1 * r.val = t.val * 1024 + r.val; have := (index_eq t).2.2.2.2.2.1; omega)
    (by show win0_5.index t (1 : Fin 2) * 1024 + 1 * k.val = k.val; have := (index_eq t).2.2.2.2.2.1; omega)

theorem emb6 (t : Fin cfg0.N) (r k : Fin 1024) : ((cfg0.win 6).blk t).view.emb (ix2 r k) = ix2 (row t r) k :=
  ix2_of (by show win0_6.index t (0 : Fin 2) * 1024 + 1 * r.val = t.val * 1024 + r.val; have := (index_eq t).2.2.2.2.2.2; omega)
    (by show win0_6.index t (1 : Fin 2) * 1024 + 1 * k.val = k.val; have := (index_eq t).2.2.2.2.2.2; omega)

/-! ## The points' input blocks -/

variable (A B : Fin 4096 → Fin 512 → ℝ) (W : Fin 1024 → Fin 1024 → ℝ) (G : Fin 1024 → ℝ) (x : FVec Ideal S4096x1024 .f32)

/-- Device `c`'s arguments: real arrays, and a residual input of any values. -/
structure Args : Prop where
  h0 : ∀ i k, (m ((c : Thread nD τ).loc main_arg0) : FVec Ideal S4096x512 .f32) (ix2 i k) = (A i k : EReal)
  h1 : ∀ i k, (m ((c : Thread nD τ).loc main_arg1) : FVec Ideal S4096x512 .f32) (ix2 i k) = (B i k : EReal)
  h2 : ∀ i k, (m ((c : Thread nD τ).loc main_arg2) : FVec Ideal S1024x1024 .f32) (ix2 i k) = (W i k : EReal)
  h3 : m ((c : Thread nD τ).loc main_arg3) = x
  h4 : ∀ k, (m ((c : Thread nD τ).loc main_arg4) : FVec Ideal S1x1024 .f32) (ix2 0 k) = (G k : EReal)

variable (h : Args m c A B W G x)

include h

theorem w_at (i k : Fin 1024) : (V m c main_v0 : FVec Ideal S1024x1024 .bf16) (ix2 i k) = (W i k : EReal) := by
  unfold V hostOps0
  after_reads_at
  exact h.h2 _ _

theorem block0 (t : Fin cfg0.N) (r : Fin 1024) (k : Fin 512) : iblk m c 0 t (ix2 r k) = (A (row t r) k : EReal) := by
  show V m c main_arg0 (((cfg0.win 0).blk t).view.emb (ix2 r k)) = _
  rw [emb0, V_main_arg0]; exact h.h0 _ _

theorem block1 (t : Fin cfg0.N) (r : Fin 1024) (k : Fin 512) : iblk m c 1 t (ix2 r k) = (B (row t r) k : EReal) := by
  show V m c main_arg1 (((cfg0.win 1).blk t).view.emb (ix2 r k)) = _
  rw [emb1, V_main_arg1]; exact h.h1 _ _

theorem block2 (t : Fin cfg0.N) (r k : Fin 1024) : iblk m c 2 t (ix2 r k) = (W r k : EReal) := by
  show V m c main_v0 (((cfg0.win 2).blk t).view.emb (ix2 r k)) = _
  rw [emb2]; exact w_at m c A B W G x h _ _

theorem block3 (t : Fin cfg0.N) (r k : Fin 1024) : iblk m c 3 t (ix2 r k) = x (ix2 (row t r) k) := by
  show V m c main_arg3 (((cfg0.win 3).blk t).view.emb (ix2 r k)) = _
  rw [emb3, V_main_arg3, ← h.h3]

theorem block4 (t : Fin cfg0.N) (k : Fin 1024) : iblk m c 4 t (ix2 0 k) = (G k : EReal) := by
  show V m c main_arg4 (((cfg0.win 4).blk t).view.emb (ix2 0 k)) = _
  rw [emb4, V_main_arg4]; exact h.h4 _

/-- The weight's upper rows, -/
theorem upper (t : Fin cfg0.N) (j : Fin 512) (k : Fin 1024) : (View.ld (iblk m c 2 t) r0_1 : Vec Ideal S512x1024 .bf16) (ix2 j k) = (W ⟨j.val, by omega⟩ k : EReal) :=
  (congrArg (iblk m c 2 t) (ix2_of (a := ⟨j.val, by omega⟩) (b := k) (by show 0 + 1 * j.val = j.val; omega) (by show 0 + 1 * k.val = k.val; omega))).trans (block2 m c A B W G x h t _ _)

/-- and its lower ones. -/
theorem lower (t : Fin cfg0.N) (j : Fin 512) (k : Fin 1024) : (View.ld (iblk m c 2 t) r0_2 : Vec Ideal S512x1024 .bf16) (ix2 j k) = (W ⟨512 + j.val, by omega⟩ k : EReal) :=
  (congrArg (iblk m c 2 t) (ix2_of (a := ⟨512 + j.val, by omega⟩) (b := k) (by show 512 + 1 * j.val = 512 + j.val; omega) (by show 0 + 1 * k.val = k.val; omega))).trans (block2 m c A B W G x h t _ _)

/-! ## The blocks a point leaves -/

theorem left5 (t : Fin cfg0.N) (r k : Fin 1024) :
    out0_5 (iblk m c 0 t) (iblk m c 1 t) (iblk m c 2 t) (iblk m c 3 t) (iblk m c 4 t) (ix2 r k) = (mix A B W (row t r) k : EReal) := by
  unfold out0_5
  rw [View.canon_unit_zero zero2, View.ld_unit_zero (S := S1024x512) zero2, View.ld_unit_zero (S := S1024x512) zero2]
  exact pay1_apply _ _ _ _ _ _ _ _ (block0 m c A B W G x h t) (block1 m c A B W G x h t) (upper m c A B W G x h t) (lower m c A B W G x h t) r k

theorem left6 (t : Fin cfg0.N) (r k : Fin 1024) :
    out0_6 (iblk m c 0 t) (iblk m c 1 t) (iblk m c 2 t) (iblk m c 3 t) (iblk m c 4 t) (ix2 r k) = x (ix2 (row t r) k) + (branch A B W G (row t r) k : EReal) := by
  unfold out0_6
  rw [View.canon_unit_zero zero2, View.ld_unit_zero (S := S1024x512) zero2, View.ld_unit_zero (S := S1024x512) zero2, View.ld_unit_zero (S := S1024x1024) zero2, View.ld_unit_zero (S := S1x1024) zero2]
  refine (pay2_apply _ _ _ _ G _ _ _ _ _ _ (block0 m c A B W G x h t) (block1 m c A B W G x h t) (upper m c A B W G x h t) (lower m c A B W G x h t) (block4 m c A B W G x h t)
    (fun r k => mix A B W (row t r) k) (fun _ _ => rfl) r k).trans ?_
  exact congrArg (· + (branch A B W G (row t r) k : EReal)) (block3 m c A B W G x h t r k)

/-! ## The result arrays -/

omit h in
/-- Every row lies in a point's block. -/
theorem row_tile (i : Fin 4096) : ∃ t r, row t r = i := by
  have hN : cfg0.N = 4 := N_0
  exact ⟨⟨i.val / 1024, by omega⟩, ⟨i.val % 1024, by omega⟩, Fin.ext (by show i.val / 1024 * 1024 + i.val % 1024 = i.val; omega)⟩

theorem final5 : (dats m 0 c).arrAt 5 cfg0.N = fun i : S4096x1024.Idx => (mix A B W (i 0) (i 1) : EReal) := by
  refine (dats m 0 c).arrAt_eq_of_cover 5 _ (fun t _ => ?_) fun i => ?_
  · show (cfg0.win 5).cut (grid0.coords t) ((dats m 0 c).after 5 t) = _
    rw [after0_5]
    funext j
    obtain ⟨r, k, rfl⟩ : ∃ (r : Fin 1024) (k : Fin 1024), j = ix2 r k := ⟨j 0, j 1, eq_ix2 j⟩
    refine (left5 m c A B W G x h t r k).trans ?_
    show _ = (fun i : S4096x1024.Idx => (mix A B W (i 0) (i 1) : EReal)) (((cfg0.win 5).blk t).view.emb (ix2 r k))
    rw [emb5]
    rfl
  · obtain ⟨r, k, rfl⟩ : ∃ (r : Fin 4096) (k : Fin 1024), i = ix2 r k := ⟨i 0, i 1, eq_ix2 i⟩
    obtain ⟨t, q, rfl⟩ := row_tile r
    have e := ((cfg0.win 5).blk t).view.emb_mem_set (ix2 q k)
    rw [emb5] at e
    exact ⟨t, flush0_5 _, e⟩

theorem final6 : (dats m 0 c).arrAt 6 cfg0.N = fun i : S4096x1024.Idx => x i + (branch A B W G (i 0) (i 1) : EReal) := by
  refine (dats m 0 c).arrAt_eq_of_cover 6 _ (fun t _ => ?_) fun i => ?_
  · show (cfg0.win 6).cut (grid0.coords t) ((dats m 0 c).after 6 t) = _
    rw [after0_6]
    funext j
    obtain ⟨r, k, rfl⟩ : ∃ (r : Fin 1024) (k : Fin 1024), j = ix2 r k := ⟨j 0, j 1, eq_ix2 j⟩
    refine (left6 m c A B W G x h t r k).trans ?_
    show _ = (fun i : S4096x1024.Idx => x i + (branch A B W G (i 0) (i 1) : EReal)) (((cfg0.win 6).blk t).view.emb (ix2 r k))
    rw [emb6]
    rfl
  · obtain ⟨r, k, rfl⟩ : ∃ (r : Fin 4096) (k : Fin 1024), i = ix2 r k := ⟨i 0, i 1, eq_ix2 i⟩
    obtain ⟨t, q, rfl⟩ := row_tile r
    have e := ((cfg0.win 6).blk t).view.emb_mem_set (ix2 q k)
    rw [emb6] at e
    exact ⟨t, flush0_6 _, e⟩

end Cert.Kernel5Ideal.MixFwd
end
-- ==== Proof.MixFwdRef.lean ====
/-
  The reference of the output projection, its stages read at one index.
-/
module

public import proofs.«01_k».proof.Proof.MixSpec
public import proofs.«01_k».proof.Proof.Gen.Reference5Ideal.Read

@[expose] public section

set_option maxRecDepth 16384

noncomputable section

open Idealize.ShloMosaic Idealize.ShloMosaic.TcCoe Idealize.SL.Sem
open Cert.Common

namespace Cert.Reference5Ideal.MixFwd

open Cert.Reference5Ideal Cert.Reference5Ideal.Gen Cert.Reference5Ideal.Read Cert.MixSpec

variable (x0 x1 : FVec Ideal S4096x512 .f32) (x2 : FVec Ideal S1024x1024 .f32) (x3 : FVec Ideal S4096x1024 .f32) (x4 : FVec Ideal S1x1024 .f32)
variable (A B : Fin 4096 → Fin 512 → ℝ) (W : Fin 1024 → Fin 1024 → ℝ) (G : Fin 1024 → ℝ)
variable (h0 : ∀ i k, x0 (ix2 i k) = (A i k : EReal)) (h1 : ∀ i k, x1 (ix2 i k) = (B i k : EReal))
  (h2 : ∀ i k, x2 (ix2 i k) = (W i k : EReal)) (h4 : ∀ k, x4 (ix2 0 k) = (G k : EReal))

include h0 h1 h2

theorem mix_at (i : Fin 4096) (k : Fin 1024) : val_main_v1 (F := Ideal) x0 x1 x2 (ix2 i k) = (mix A B W i k : EReal) := by
  pointwise [val_main_v1, val_main_v0]
  simp only [h0, h1, h2, ← EReal.coe_mul, coe_sum, ← EReal.coe_add, mix]

theorem root_at (i : Fin 4096) : val_main_v10 (F := Ideal) x0 x1 x2 (ix2 i 0) = (rinv (mix A B W i) : EReal) := by
  pointwise [val_main_v10, val_main_v9, val_main_v8, val_main_v7, val_main_v6, val_main_v5, val_main_v4, val_main_v3, val_main_cst, val_main_cst_0, val_main_cst_1]
  simp only [mix_at x0 x1 x2 A B W h0 h1 h2, ← EReal.coe_mul, coe_sum, ofBits_1024, ofBits_eps, coe_div _ _ (by norm_num : (1024 : ℝ) ≠ 0), ← EReal.coe_add, rsqrt_ms]

include h4 in
theorem out_at (i : Fin 4096) (k : Fin 1024) : val_main_v16 (F := Ideal) x0 x1 x2 x3 x4 (ix2 i k) = x3 (ix2 i k) + (branch A B W G i k : EReal) := by
  pointwise [val_main_v16, val_main_v15, val_main_v14, val_main_v13, val_main_v12, val_main_v11, val_main_v2]
  simp only [mix_at x0 x1 x2 A B W h0 h1 h2, root_at x0 x1 x2 A B W h0 h1 h2, h4, ← EReal.coe_mul, branch]

end Cert.Reference5Ideal.MixFwd
-- ==== Proof.MixFwdPair.lean ====
/-
  The output projection with its norm and residual sum, and its reference, end with the same two arrays.
-/
module

public import proofs.«01_k».proof.Defs
public import proofs.«01_k».proof.Proof.Gen.Kernel5.Frame
public import proofs.«01_k».proof.Proof.Gen.Pre_finite5
public import proofs.«01_k».proof.Proof.MixFwdKernel
public import proofs.«01_k».proof.Proof.MixFwdRef

@[expose] public section

set_option maxRecDepth 16384

noncomputable section

namespace Cert.MixFwd

open Idealize.ShloMosaic Idealize.ShloMosaic.TcCoe Idealize.SL.Sem Cert.Common Cert.MixSpec

/-- The real matrices behind the four arguments that must be finite. -/
structure Data where
  a : Fin 4096 → Fin 512 → ℝ
  b : Fin 4096 → Fin 512 → ℝ
  w : Fin 1024 → Fin 1024 → ℝ
  g : Fin 1024 → ℝ

/-- The residual stream, the fourth argument. -/
def stream (m : (ℓ : Loc Kernel5Ideal.nD Kernel5Ideal.τ Kernel5Ideal.sig) → Buf (Elt Ideal) ℓ) (c : Dev Kernel5Ideal.nD) : FVec Ideal Kernel5Ideal.S4096x1024 .f32 :=
  m ((c : Thread Kernel5Ideal.nD Kernel5Ideal.τ).loc Kernel5Ideal.main_arg3)

/-- Finite arguments are real ones. -/
theorem real_args (m : (ℓ : Loc Kernel5Ideal.nD Kernel5Ideal.τ Kernel5Ideal.sig) → Buf (Elt Ideal) ℓ) (hpre : Pre_Kernel5Ideal_finite5 m) (c : Dev Kernel5Ideal.nD) :
    ∃ R : Data, Kernel5Ideal.MixFwd.Args m c R.a R.b R.w R.g (stream m c) := by
  have e := congrFun (hpre c) (fun d : Fin 0 => d.elim0)
  obtain ⟨e, e4⟩ := IntOp.andi_eq_one.1 e
  obtain ⟨e, e2⟩ := IntOp.andi_eq_one.1 e
  obtain ⟨e0, e1⟩ := IntOp.andi_eq_one.1 e
  obtain ⟨A, hA⟩ := real_of_all _ _ _ _ _ _ e0
  obtain ⟨B, hB⟩ := real_of_all _ _ _ _ _ _ e1
  obtain ⟨W, hW⟩ := real_of_all _ _ _ _ _ _ e2
  obtain ⟨G, hG⟩ := real_of_all _ _ _ _ _ _ e4
  exact ⟨⟨fun i k => A (ix2 i k), fun i k => B (ix2 i k), fun i k => W (ix2 i k), fun k => G (ix2 0 k)⟩,
    fun i k => congrFun hA _, fun i k => congrFun hB _, fun i k => congrFun hW _, rfl, fun k => congrFun hG _⟩

/-- The reference's frame. -/
theorem frame_reference : quiescent_Reference5Ideal := fun m ρ _ =>
  (θ_run Reference5Ideal.defs _ _).mono (fun r h => ⟨fun c => (h c).2.2, sem_eq_zero_of_no_sems (by decide) r.2⟩)
    (Reference5Ideal.Value.run (F := Ideal) m ρ)

/-- The results agree. -/
theorem value : algebraic_Kernel5Ideal_Reference5Ideal_pre_finite5 := by
  intro m g m' g' hpre hargs
  choose R h using real_args m hpre
  refine ⟨fun c => fun (i : Kernel5Ideal.S4096x1024.Idx) => (mix (R c).a (R c).b (R c).w (i (0 : Fin 2)) (i (1 : Fin 2)) : EReal),
    fun c => fun (i : Kernel5Ideal.S4096x1024.Idx) => stream m c i + (branch (R c).a (R c).b (R c).w (R c).g (i (0 : Fin 2)) (i (1 : Fin 2)) : EReal), ?_, ?_⟩
  · refine (θ_run Kernel5Ideal.defs _ _).mono (fun r hr c => ?_) (Kernel5Ideal.Value.run_blocks (F := Ideal) m g)
    obtain ⟨k0, k1, hk⟩ := hr c
    exact ⟨k0.trans (Kernel5Ideal.MixFwd.final5 m c _ _ _ _ _ (h c)), k1.trans (Kernel5Ideal.MixFwd.final6 m c _ _ _ _ _ (h c)), hk⟩
  · refine (θ_run Reference5Ideal.defs _ _).mono (fun r hr c => ?_) (Reference5Ideal.Value.run (F := Ideal) m' g')
    obtain ⟨r0, r1, hk⟩ := hr c
    obtain ⟨a0, a1, a2, a3, a4⟩ := hargs c
    obtain ⟨h0, h1, h2, -, h4⟩ := h c
    rw [← a0] at h0
    rw [← a1] at h1
    rw [← a2] at h2
    rw [← a4] at h4
    refine ⟨r0.trans ((Reference5Ideal.Read.val_main_v1_eq _ _ _).trans (ext2 fun i k => Reference5Ideal.MixFwd.mix_at _ _ _ _ _ _ h0 h1 h2 i k)), r1.trans ((Reference5Ideal.Read.val_main_v16_eq _ _ _ _ _).trans ?_), hk⟩
    refine ext2 fun i k => (Reference5Ideal.MixFwd.out_at _ _ _ _ _ _ _ _ _ h0 h1 h2 h4 i k).trans ?_
    exact congrArg (fun f : FVec Ideal Kernel5Ideal.S4096x1024 .f32 => f (ix2 i k) + (branch (R c).a (R c).b (R c).w (R c).g i k : EReal)) a3

end Cert.MixFwd
-- ==== Proof.ProjFwdPay.lean ====
/-
  The input projection as real functions, and its payloads at real inputs.
-/
module

public import proofs.«01_k».proof.Proof.ProjSpec
public import proofs.«01_k».proof.Proof.Gen.Kernel6Ideal.Frame

@[expose] public section

set_option maxRecDepth 16384

noncomputable section

open Idealize.ShloMosaic Idealize.ShloMosaic.TcCoe Idealize.SL.Sem
open Cert.Common

namespace Cert.ProjSpec

/-- The normalised input with its gain. -/
def normed (X : Fin 4096 → Fin 1024 → ℝ) (G : Fin 1024 → ℝ) (i : Fin 4096) (k : Fin 1024) : ℝ := X i k * rinv (X i) * G k

/-- Its product with a column. -/
def against (X : Fin 4096 → Fin 1024 → ℝ) (G : Fin 1024 → ℝ) (w : Fin 1024 → ℝ) (i : Fin 4096) : ℝ := ∑ k, normed X G i k * w k

end Cert.ProjSpec

namespace Cert.Kernel6Ideal.ProjFwd

open Cert.Kernel6Ideal Cert.Kernel6Ideal.Gen Cert.ProjSpec

variable (X : Fin 512 → Fin 1024 → ℝ) (G : Fin 1024 → ℝ) (U : Fin 1024 → Fin 3712 → ℝ)
variable (x : Vec Ideal S512x1024 .f32) (g : Vec Ideal S1x1024 .f32) (u : Vec Ideal S1024x3712 .bf16)
variable (hx : ∀ r k, x (ix2 r k) = (X r k : EReal)) (hg : ∀ k, g (ix2 0 k) = (G k : EReal)) (hu : ∀ k n, u (ix2 k n) = (U k n : EReal))

include hx hg

theorem pay1_apply (r : Fin 512) (k : Fin 1024) : k0_pay1 x g (ix2 r k) = (X r k * rinv (X r) * G k : ℝ) := by
  pointwise [k0_pay1]
  simp only [hx, hg, ← EReal.coe_mul, coe_sum, ofBits_1024, ofBits_eps, coe_div _ _ (by norm_num : (1024 : ℝ) ≠ 0), ← EReal.coe_add, rsqrt_ms]

include hu in
theorem pay2_apply (r : Fin 512) (n : Fin 3712) : k0_pay2 x g u (ix2 r n) = ((∑ k, X r k * rinv (X r) * G k * U k n : ℝ) : EReal) := by
  pointwise [k0_pay2]
  simp only [pay1_apply X G x g hx hg, hu, ← EReal.coe_mul, coe_sum]

end Cert.Kernel6Ideal.ProjFwd
-- ==== Proof.ProjFwdKernel.lean ====
/-
  The input projection: what a grid point leaves, its two arrays after the region, and the results after the host's
  lines that put the columns back.
-/
module

public import proofs.«01_k».proof.Proof.ProjFwdPay
public import proofs.«01_k».proof.Proof.ProjKernel
public import Idealize.ShloMosaic.Lib.StableHlo.ReadAt
public import Idealize.ShloMosaic.Lib.Pipeline.Value

@[expose] public section

set_option maxRecDepth 16384

noncomputable section

open Idealize.ShloMosaic Idealize.ShloMosaic.TcCoe Idealize.SL.Sem
open Cert.Common

namespace Cert.Kernel6Ideal.ProjFwd

open Cert.Kernel6Ideal Cert.Kernel6Ideal.Gen Cert.ProjSpec

variable (m : (ℓ : Loc nD τ sig) → Buf (Elt Ideal) ℓ) (c : Dev nD)

/-! ## Where a block's index lies in its array -/

/-- Row `r` of point `t`'s block of rows. -/
def row (t : Fin cfg0.N) (r : Fin 512) : Fin 4096 := ⟨t.val * 512 + r.val, by have := t.isLt; have : cfg0.N = 8 := N_0; have := r.isLt; omega⟩

/-- The windows over rows move with the point; the gain and the weight stay. -/
theorem index_eq : ∀ t : Fin grid0.N, (win0_0.index t (0 : Fin 2) = t.val ∧ win0_0.index t (1 : Fin 2) = 0) ∧ (win0_1.index t (0 : Fin 2) = 0 ∧ win0_1.index t (1 : Fin 2) = 0)
    ∧ (win0_2.index t (0 : Fin 2) = 0 ∧ win0_2.index t (1 : Fin 2) = 0) ∧ (win0_3.index t (0 : Fin 2) = t.val ∧ win0_3.index t (1 : Fin 2) = 0)
    ∧ (win0_4.index t (0 : Fin 2) = t.val ∧ win0_4.index t (1 : Fin 2) = 0) := by decide +kernel

theorem emb0 (t : Fin cfg0.N) (r : Fin 512) (k : Fin 1024) : ((cfg0.win 0).blk t).view.emb (ix2 r k) = ix2 (row t r) k :=
  ix2_of (by show win0_0.index t (0 : Fin 2) * 512 + 1 * r.val = t.val * 512 + r.val; have := (index_eq t).1; omega)
    (by show win0_0.index t (1 : Fin 2) * 1024 + 1 * k.val = k.val; have := (index_eq t).1; omega)

theorem emb1 (t : Fin cfg0.N) (r : Fin 1) (k : Fin 1024) : ((cfg0.win 1).blk t).view.emb (ix2 r k) = ix2 r k :=
  ix2_of (by show win0_1.index t (0 : Fin 2) * 1 + 1 * r.val = r.val; have := (index_eq t).2.1; omega)
    (by show win0_1.index t (1 : Fin 2) * 1024 + 1 * k.val = k.val; have := (index_eq t).2.1; omega)

theorem emb2 (t : Fin cfg0.N) (r : Fin 1024) (n : Fin 3712) : ((cfg0.win 2).blk t).view.emb (ix2 r n) = ix2 r n :=
  ix2_of (by show win0_2.index t (0 : Fin 2) * 1024 + 1 * r.val = r.val; have := (index_eq t).2.2.1; omega)
    (by show win0_2.index t (1 : Fin 2) * 3712 + 1 * n.val = n.val; have := (index_eq t).2.2.1; omega)

theorem emb3 (t : Fin cfg0.N) (r : Fin 512) (n : Fin 3712) : ((cfg0.win 3).blk t).view.emb (ix2 r n) = ix2 (row t r) n :=
  ix2_of (by show win0_3.index t (0 : Fin 2) * 512 + 1 * r.val = t.val * 512 + r.val; have := (index_eq t).2.2.2.1; omega)
    (by show win0_3.index t (1 : Fin 2) * 3712 + 1 * n.val = n.val; have := (index_eq t).2.2.2.1; omega)

theorem emb4 (t : Fin cfg0.N) (r : Fin 512) (k : Fin 1024) : ((cfg0.win 4).blk t).view.emb (ix2 r k) = ix2 (row t r) k :=
  ix2_of (by show win0_4.index t (0 : Fin 2) * 512 + 1 * r.val = t.val * 512 + r.val; have := (index_eq t).2.2.2.2; omega)
    (by show win0_4.index t (1 : Fin 2) * 1024 + 1 * k.val = k.val; have := (index_eq t).2.2.2.2; omega)

/-! ## The points' input blocks -/

variable (X : Fin 4096 → Fin 1024 → ℝ) (G : Fin 1024 → ℝ) (W : Fin 1024 → Fin 3592 → ℝ)

/-- Device `c`'s arguments are these real arrays. -/
structure Args : Prop where
  h0 : ∀ i k, (m ((c : Thread nD τ).loc main_arg0) : FVec Ideal S4096x1024 .f32) (ix2 i k) = (X i k : EReal)
  h1 : ∀ k, (m ((c : Thread nD τ).loc main_arg1) : FVec Ideal S1x1024 .f32) (ix2 0 k) = (G k : EReal)
  h2 : ∀ i k, (m ((c : Thread nD τ).loc main_arg2) : FVec Ideal S1024x3592 .f32) (ix2 i k) = (W i k : EReal)

variable (h : Args m c X G W)

include h

theorem w_at (k : Fin 1024) (n : Fin 3712) : (V m c main_v5 : FVec Ideal S1024x3712 .bf16) (ix2 k n) = (ordered (W k) n : EReal) := by
  unfold V V0 hostOps0
  after_reads_at
  after_reads_at
  exact Kernel2Ideal.Proj.ordered_cut (fun j => m (c, Proc.tc.devRef main_arg2) (ix2 k j)) (W k) (h.h2 k) n

theorem block0 (t : Fin cfg0.N) (r : Fin 512) (k : Fin 1024) : iblk m c 0 t (ix2 r k) = (X (row t r) k : EReal) := by
  show V m c main_arg0 (((cfg0.win 0).blk t).view.emb (ix2 r k)) = _
  rw [emb0, V_main_arg0]; exact h.h0 _ _

theorem block1 (t : Fin cfg0.N) (k : Fin 1024) : iblk m c 1 t (ix2 0 k) = (G k : EReal) := by
  show V m c main_arg1 (((cfg0.win 1).blk t).view.emb (ix2 0 k)) = _
  rw [emb1, V_main_arg1]; exact h.h1 _

theorem block2 (t : Fin cfg0.N) (k : Fin 1024) (n : Fin 3712) : iblk m c 2 t (ix2 k n) = (ordered (W k) n : EReal) := by
  show V m c main_v5 (((cfg0.win 2).blk t).view.emb (ix2 k n)) = _
  rw [emb2]; exact w_at m c X G W h _ _

/-! ## The blocks a point leaves -/

theorem left3 (t : Fin cfg0.N) (r : Fin 512) (n : Fin 3712) :
    (outsAt0 m c t).1 (ix2 r n) = (against X G (fun k => ordered (W k) n) (row t r) : EReal) := by
  refine Eq.trans (congrFun ?_ (ix2 r n)) (pay2_apply (fun r => X (row t r)) G (fun k n => ordered (W k) n) _ _ _ (block0 m c X G W h t) (block1 m c X G W h t) (block2 m c X G W h t) r n)
  unfold outsAt0
  dsimp only
  unfold out0_A_3
  rw [View.read_writes_eq_canon _ _ _ (fun _ => cover0_A_3 ..)]
  unfold kernelRun0_A
  dsimp only
  sl_unfold_words
  rw [View.canon_unit_zero zero2]
  simp only [View.readAt_eq_ld, Memref.IsWhole.read_unread, View.ld_unit_zero (S := S512x1024) zero2, View.ld_unit_zero (S := S1x1024) zero2, View.ld_unit_zero (S := S1024x3712) zero2]

theorem left4 (t : Fin cfg0.N) (r : Fin 512) (k : Fin 1024) : (outsAt0 m c t).2 (ix2 r k) = (normed X G (row t r) k : EReal) := by
  refine Eq.trans (congrFun ?_ (ix2 r k)) (pay1_apply (fun r => X (row t r)) G _ _ (block0 m c X G W h t) (block1 m c X G W h t) r k)
  unfold outsAt0
  dsimp only
  unfold out0_A_4
  rw [View.read_writes_eq_canon _ _ _ (fun _ => cover0_A_4 ..)]
  unfold kernelRun0_A
  dsimp only
  sl_unfold_words
  rw [View.canon_unit_zero zero2]
  simp only [View.readAt_eq_ld, Memref.IsWhole.read_unread, View.ld_unit_zero (S := S512x1024) zero2, View.ld_unit_zero (S := S1x1024) zero2]

/-! ## The arrays after the region -/

omit h in
/-- Every row lies in a point's block. -/
theorem row_tile (i : Fin 4096) : ∃ t r, row t r = i := by
  have hN : cfg0.N = 8 := N_0
  exact ⟨⟨i.val / 512, by omega⟩, ⟨i.val % 512, by omega⟩, Fin.ext (by show i.val / 512 * 512 + i.val % 512 = i.val; omega)⟩

theorem final3 : (dats m 0 c).arrAt 3 cfg0.N = fun i : S4096x3712.Idx => (against X G (fun k => ordered (W k) (i 1).val) (i 0) : EReal) := by
  refine (dats m 0 c).arrAt_eq_of_cover 3 _ (fun t _ => ?_) fun i => ?_
  · show (cfg0.win 3).cut (grid0.coords t) ((dats m 0 c).after 3 t) = _
    rw [after0_3]
    funext j
    obtain ⟨r, k, rfl⟩ : ∃ (r : Fin 512) (k : Fin 3712), j = ix2 r k := ⟨j 0, j 1, eq_ix2 j⟩
    refine (left3 m c X G W h t r k).trans ?_
    show _ = (fun i : S4096x3712.Idx => (against X G (fun k => ordered (W k) (i 1).val) (i 0) : EReal)) (((cfg0.win 3).blk t).view.emb (ix2 r k))
    rw [emb3]
    rfl
  · obtain ⟨r, k, rfl⟩ : ∃ (r : Fin 4096) (k : Fin 3712), i = ix2 r k := ⟨i 0, i 1, eq_ix2 i⟩
    obtain ⟨t, q, rfl⟩ := row_tile r
    have e := ((cfg0.win 3).blk t).view.emb_mem_set (ix2 q k)
    rw [emb3] at e
    exact ⟨t, flush0_3 _, e⟩

theorem final4 : (dats m 0 c).arrAt 4 cfg0.N = fun i : S4096x1024.Idx => (normed X G (i 0) (i 1) : EReal) := by
  refine (dats m 0 c).arrAt_eq_of_cover 4 _ (fun t _ => ?_) fun i => ?_
  · show (cfg0.win 4).cut (grid0.coords t) ((dats m 0 c).after 4 t) = _
    rw [after0_4]
    funext j
    obtain ⟨r, k, rfl⟩ : ∃ (r : Fin 512) (k : Fin 1024), j = ix2 r k := ⟨j 0, j 1, eq_ix2 j⟩
    refine (left4 m c X G W h t r k).trans ?_
    show _ = (fun i : S4096x1024.Idx => (normed X G (i 0) (i 1) : EReal)) (((cfg0.win 4).blk t).view.emb (ix2 r k))
    rw [emb4]
    rfl
  · obtain ⟨r, k, rfl⟩ : ∃ (r : Fin 4096) (k : Fin 1024), i = ix2 r k := ⟨i 0, i 1, eq_ix2 i⟩
    obtain ⟨t, q, rfl⟩ := row_tile r
    have e := ((cfg0.win 4).blk t).view.emb_mem_set (ix2 q k)
    rw [emb4] at e
    exact ⟨t, flush0_4 _, e⟩

/-! ## The host's last lines -/

omit h in
/-- The columns in their own order again. -/
theorem back (f : Fin 3592 → ℝ) (n : Fin 3592) : ordered f (if n.val < 2048 then n.val else if n.val - 2048 < 8 then 3584 + (n.val - 2048) else 2048 + (n.val - 2048 - 8)) = f n := by
  unfold ordered
  split_ifs <;> first | omega | exact congrArg f (Fin.ext (by first | rfl | (dsimp only; omega)))

theorem tail_at (i : Fin 4096) (n : Fin 3592) :
    (Pipeline.afterTail₀ cfgs (dats m) 0 (V0 m) [hostOps1] c main_v11 : FVec Ideal S4096x3592 .f32) (ix2 i n) = (against X G (fun k => W k n) i : EReal) := by
  unfold Pipeline.afterTail₀ hostOps1
  simp only [List.flatten_cons, List.flatten_nil, List.append_nil]
  after_reads_at
  after_reads_at
  have e : ∀ j, Pipeline.withArrays (cfgs 0).spec c (V0 m c) (fun w => (dats m 0 c).arrAt w (cfgs 0).N) (Proc.tc.devRef main_v7_0) (ix2 i j)
      = (against X G (fun k => ordered (W k) j.val) i : EReal) := fun j =>
    congrFun ((Pipeline.withArrays_arr (cfgs 0).spec launch0.win.arr_inj c (V0 m c) (fun w => (dats m 0 c).arrAt w (cfgs 0).N) 3).trans (final3 m c X G W h)) (ix2 i j)
  simp only [e, ← back _ n]
  split_ifs <;> rfl

end Cert.Kernel6Ideal.ProjFwd
-- ==== Proof.ProjFwdRef.lean ====
/-
  The reference of the input projection, its stages read at one index.
-/
module

public import proofs.«01_k».proof.Proof.ProjFwdPay
public import proofs.«01_k».proof.Proof.Gen.Reference6Ideal.Read

@[expose] public section

set_option maxRecDepth 16384

noncomputable section

open Idealize.ShloMosaic Idealize.ShloMosaic.TcCoe Idealize.SL.Sem
open Cert.Common

namespace Cert.Reference6Ideal.ProjFwd

open Cert.Reference6Ideal Cert.Reference6Ideal.Gen Cert.Reference6Ideal.Read Cert.ProjSpec

variable (x0 : FVec Ideal S4096x1024 .f32) (x1 : FVec Ideal S1x1024 .f32) (x2 : FVec Ideal S1024x3592 .f32)
variable (X : Fin 4096 → Fin 1024 → ℝ) (G : Fin 1024 → ℝ) (W : Fin 1024 → Fin 3592 → ℝ)
variable (h0 : ∀ i k, x0 (ix2 i k) = (X i k : EReal)) (h1 : ∀ k, x1 (ix2 0 k) = (G k : EReal)) (h2 : ∀ i k, x2 (ix2 i k) = (W i k : EReal))

include h0

theorem root_at (i : Fin 4096) : val_main_v8 (F := Ideal) x0 (ix2 i 0) = (rinv (X i) : EReal) := by
  pointwise [val_main_v8, val_main_v7, val_main_v6, val_main_v5, val_main_v4, val_main_v3, val_main_v2, val_main_v1, val_main_cst, val_main_cst_0, val_main_cst_1]
  simp only [h0, ← EReal.coe_mul, coe_sum, ofBits_1024, ofBits_eps, coe_div _ _ (by norm_num : (1024 : ℝ) ≠ 0), ← EReal.coe_add, rsqrt_ms]

include h1

theorem normed_at (i : Fin 4096) (k : Fin 1024) : val_main_v13 (F := Ideal) x0 x1 (ix2 i k) = (normed X G i k : EReal) := by
  pointwise [val_main_v13, val_main_v12, val_main_v11, val_main_v10, val_main_v9, val_main_v0]
  simp only [h0, h1, root_at x0 X h0, ← EReal.coe_mul, normed]

theorem cast_at (i : Fin 4096) (k : Fin 1024) : val_main_v15 (F := Ideal) x0 x1 (ix2 i k) = (normed X G i k : EReal) := by
  pointwise [val_main_v15]
  exact normed_at x0 x1 X G h0 h1 i k

include h2 in
theorem out_at (i : Fin 4096) (n : Fin 3592) : val_main_v14 (F := Ideal) x0 x1 x2 (ix2 i n) = (against X G (fun k => W k n) i : EReal) := by
  pointwise [val_main_v14]
  simp only [normed_at x0 x1 X G h0 h1, h2, ← EReal.coe_mul, coe_sum, against]

end Cert.Reference6Ideal.ProjFwd
-- ==== Proof.ProjFwdPair.lean ====
/-
  The input norm with the projection, and its reference, end with the same two arrays.
-/
module

public import proofs.«01_k».proof.Defs
public import proofs.«01_k».proof.Proof.Gen.Kernel6.Frame
public import proofs.«01_k».proof.Proof.Gen.Pre_finite6
public import proofs.«01_k».proof.Proof.ProjFwdKernel
public import proofs.«01_k».proof.Proof.ProjFwdRef

@[expose] public section

set_option maxRecDepth 16384

noncomputable section

namespace Cert.ProjFwd

open Idealize.ShloMosaic Idealize.SL.Sem Cert.Common Cert.ProjSpec

/-- The real matrices behind the arguments. -/
structure Data where
  x : Fin 4096 → Fin 1024 → ℝ
  g : Fin 1024 → ℝ
  w : Fin 1024 → Fin 3592 → ℝ

/-- Finite arguments are real ones. -/
theorem real_args (m : (ℓ : Loc Kernel6Ideal.nD Kernel6Ideal.τ Kernel6Ideal.sig) → Buf (Elt Ideal) ℓ) (hpre : Pre_Kernel6Ideal_finite6 m) (c : Dev Kernel6Ideal.nD) :
    ∃ R : Data, Kernel6Ideal.ProjFwd.Args m c R.x R.g R.w := by
  have e := congrFun (hpre c) (fun d : Fin 0 => d.elim0)
  obtain ⟨e, e2⟩ := IntOp.andi_eq_one.1 e
  obtain ⟨e0, e1⟩ := IntOp.andi_eq_one.1 e
  obtain ⟨X, hX⟩ := real_of_all _ _ _ _ _ _ e0
  obtain ⟨G, hG⟩ := real_of_all _ _ _ _ _ _ e1
  obtain ⟨W, hW⟩ := real_of_all _ _ _ _ _ _ e2
  exact ⟨⟨fun i k => X (ix2 i k), fun k => G (ix2 0 k), fun i k => W (ix2 i k)⟩, fun i k => congrFun hX _, fun k => congrFun hG _, fun i k => congrFun hW _⟩

/-- The reference's frame. -/
theorem frame_reference : quiescent_Reference6Ideal := fun m ρ _ =>
  (θ_run Reference6Ideal.defs _ _).mono (fun r h => ⟨fun c => (h c).2.2, sem_eq_zero_of_no_sems (by decide) r.2⟩)
    (Reference6Ideal.Value.run (F := Ideal) m ρ)

/-- The results agree. -/
theorem value : algebraic_Kernel6Ideal_Reference6Ideal_pre_finite6 := by
  intro m g m' g' hpre hargs
  choose R h using real_args m hpre
  refine ⟨fun c => fun i => (against (R c).x (R c).g (fun k => (R c).w k (i 1)) (i 0) : EReal), fun c => fun i => (normed (R c).x (R c).g (i 0) (i 1) : EReal), ?_, ?_⟩
  · refine (θ_run Kernel6Ideal.defs _ _).mono (fun r hr c => ?_) (θ_run_and (Kernel6Ideal.Gen.run_main (F := Ideal) m g) (Kernel6Ideal.Gen.unchanged (F := Ideal) m g))
    exact ⟨((hr.1 c).2 Kernel6Ideal.main_v11 (Pipeline.mem_restRefs_of Kernel6Ideal.main_v11 (by decide) (by decide))).trans
        (ext2 fun i n => Kernel6Ideal.ProjFwd.tail_at m c _ _ _ (h c) i n),
      ((hr.1 c).1 4).trans (Kernel6Ideal.ProjFwd.final4 m c _ _ _ (h c)), hr.2 c⟩
  · refine (θ_run Reference6Ideal.defs _ _).mono (fun r hr c => ?_) (Reference6Ideal.Value.run (F := Ideal) m' g')
    obtain ⟨r0, r1, hk⟩ := hr c
    obtain ⟨a0, a1, a2⟩ := hargs c
    obtain ⟨h0, h1, h2⟩ := h c
    rw [← a0] at h0
    rw [← a1] at h1
    rw [← a2] at h2
    exact ⟨r0.trans ((Reference6Ideal.Read.val_main_v14_eq _ _ _).trans (ext2 fun i n => Reference6Ideal.ProjFwd.out_at _ _ _ _ _ _ h0 h1 h2 i n)),
      r1.trans ((Reference6Ideal.Read.val_main_v15_eq _ _).trans (ext2 fun i k => Reference6Ideal.ProjFwd.cast_at _ _ _ _ h0 h1 i k)), hk⟩

end Cert.ProjFwd
-- ==== Proof.PrepFwdOut.lean ====
/-
The convolution's forward call: what one grid point stores, trip by trip.
-/
module

public import proofs.«01_k».proof.Proof.PrepOut
public import proofs.«01_k».proof.Proof.Gen.Kernel7Ideal.Frame

@[expose] public section

set_option maxRecDepth 16384

noncomputable section

namespace Cert.Kernel7Ideal.PrepFwd

open Idealize.ShloMosaic Idealize.ShloMosaic.TcCoe Idealize.SL.Sem
open Cert.Kernel7Ideal Cert.Kernel7Ideal.Gen
open Cert.Kernel4Ideal.Prep (ld_off rowsIn chunkIn rowsAt tap inPieces inPadded inPieces_cover zeros)

variable {F : FTy → Type} [FloatOps F]

/-- Chunk `4 k + j` of the block. -/
def chunk (k : Fin 16) (j : Fin 4) (v : FVec F S1x1x1x64x128 .f32) : View.Piece (Elt F) S1x64x1x64x128 .f32 :=
  ⟨Rect.unit (s := S1x64x1x64x128) ![0, 4 * k.val + j.val, 0, 0, 0] S1x1x1x64x128.size (chunkIn (by omega)), v⟩

theorem chunk_off (k : Fin 16) (j : Fin 4) (v : FVec F S1x1x1x64x128 .f32) {off : Fin 5 → ℕ} (h : off = ![0, 4 * k.val + j.val, 0, 0, 0]) (inb) :
    (⟨Rect.unit (s := S1x64x1x64x128) off S1x1x1x64x128.size inb, v⟩ : View.Piece (Elt F) S1x64x1x64x128 .f32) = chunk k j v := by
  subst h; rfl

theorem four_eq {α : Type} {a b c d a' b' c' d' : α} (ha : a = a') (hb : b = b') (hc : c = c') (hd : d = d') : [a, b, c, d] = [a', b', c', d'] := by
  rw [ha, hb, hc, hd]

theorem app4 {α β : Type} (f : α → α → α → α → β) {a b c d a' b' c' d' : α} (ha : a = a') (hb : b = b') (hc : c = c') (hd : d = d') : f a b c d = f a' b' c' d' := by
  rw [ha, hb, hc, hd]

/-- A tile of queries or keys, normalised. -/
def tileN (i : grid0.Coords) (w : Vec F S4x128 .f32) (z : Vec F S4104x128 .f32) (k : Fin 16) : List (View.Piece (Elt F) S1x64x1x64x128 .f32) :=
  let u := k0_pay5 w (tap z k 0) (tap z k 1) (tap z k 2) (tap z k 3)
  let q := k0_pay6 w (tap z k 0) (tap z k 1) (tap z k 2) (tap z k 3)
  [chunk k 3 (k0_pay4 (k0_pay11 (k0_pay3 i) u q)), chunk k 2 (k0_pay10 (k0_pay3 i) u q), chunk k 1 (k0_pay9 (k0_pay3 i) u q), chunk k 0 (k0_pay8 (k0_pay3 i) u q)]

/-- A tile of values. -/
def tileG (w : Vec F S4x128 .f32) (z : Vec F S4104x128 .f32) (k : Fin 16) : List (View.Piece (Elt F) S1x64x1x64x128 .f32) :=
  let u := k0_pay12 w (tap z k 0) (tap z k 1) (tap z k 2) (tap z k 3)
  let q := k0_pay13 w (tap z k 0) (tap z k 1) (tap z k 2) (tap z k 3)
  [chunk k 3 (k0_pay18 u q), chunk k 2 (k0_pay17 u q), chunk k 1 (k0_pay16 u q), chunk k 0 (k0_pay15 u q)]

theorem off1_eq : ∀ k : Fin k0_t1_loop.trips, k0_off1 k = ![256 * k.val + 5 + 0, 0] := by decide +kernel
theorem off2_eq : ∀ (k : Fin k0_t1_loop.trips) (j : Fin 4), k0_off2 k (BitVec.ofNat 32 j.val) = ![256 * k.val + 5 + j.val, 0] := by decide +kernel
theorem off3_eq : ∀ (k : Fin k0_t1_loop.trips) (j : Fin 4), k0_off3 k (BitVec.ofNat 32 j.val) = ![0, 4 * k.val + j.val, 0, 0, 0] := by decide +kernel
theorem off4_eq : ∀ k : Fin k0_t2_loop.trips, k0_off4 k = ![256 * k.val + 5 + 0, 0] := by decide +kernel
theorem off5_eq : ∀ (k : Fin k0_t2_loop.trips) (j : Fin 4), k0_off5 k (BitVec.ofNat 32 j.val) = ![256 * k.val + 5 + j.val, 0] := by decide +kernel
theorem off6_eq : ∀ (k : Fin k0_t2_loop.trips) (j : Fin 4), k0_off6 k (BitVec.ofNat 32 j.val) = ![0, 4 * k.val + j.val, 0, 0, 0] := by decide +kernel

variable (𝒱 : Variants) (c : Dev nD) (bd : Option 𝒱.V) (i : grid0.Coords) (a2 : Memref sig .tc .vmem S4096x128 .f32) (h2 : a2.IsWhole) (a3 : Memref sig .tc .vmem S4x128 .f32) (h3 : a3.IsWhole) (a4 : Memref sig .tc .vmem S1x64x1x64x128 .f32) (h4 : a4.IsWhole) (a5 : Memref sig .tc .vmem S4104x128 .f32) (h5 : a5.IsWhole)
  (w : Vec F S4x128 .f32) (z : Vec F S4104x128 .f32)

/-- A load of a tap. -/
theorem load_tap (k : Fin 16) (j : Fin 4) {off : Fin 2 → ℕ} (h : off = ![256 * k.val + 5 + j.val, 0]) (inb) :
    View.readAt (Elt F) a5.view (Rect.unit (s := S4104x128) off S256x128.size inb).toLoadRect (h5.unread z) = tap z k j := by
  rw [View.readAt_eq_ld, h5.read_unread]
  exact ld_off z h _ _

section caseA

variable (hc : k0_cond1 i = 1#1)

theorem tripA (k : Fin 16) : (trip_k0_t1 (F := F) 𝒱 c bd i a2 h2 a3 h3 a4 h4 a5 h5 w hc (h5.unread z) k).1 = tileN i w z k := by
  unfold trip_k0_t1
  have e0 := load_tap a5 h5 z k 0 (off1_eq k) (k0_off1_inb i k hc)
  have e1 := load_tap a5 h5 z k 1 (off2_eq k 1) (k0_off2_inb i k hc 0)
  have e2 := load_tap a5 h5 z k 2 (off2_eq k 2) (k0_off2_inb i k hc 1)
  have e3 := load_tap a5 h5 z k 3 (off2_eq k 3) (k0_off2_inb i k hc 2)
  have eu := app4 (k0_pay5 w) e0 e1 e2 e3
  have eq := app4 (k0_pay6 w) e0 e1 e2 e3
  exact four_eq ((chunk_off k 3 _ (off3_eq k 3) _).trans (congrArg (fun v => chunk k 3 (k0_pay4 v)) (congrArg₂ (k0_pay11 (k0_pay3 i)) eu eq)))
    ((chunk_off k 2 _ (off3_eq k 2) _).trans (congrArg (chunk k 2) (congrArg₂ (k0_pay10 (k0_pay3 i)) eu eq)))
    ((chunk_off k 1 _ (off3_eq k 1) _).trans (congrArg (chunk k 1) (congrArg₂ (k0_pay9 (k0_pay3 i)) eu eq)))
    ((chunk_off k 0 _ (off3_eq k 0) _).trans (congrArg (chunk k 0) (congrArg₂ (k0_pay8 (k0_pay3 i)) eu eq)))

/-- The loop's stores are its tiles'. -/
theorem formA : ∀ n, n ≤ 16 → ∀ p ∈ pb_k0_t1 (F := F) 𝒱 c bd i a2 h2 a3 h3 a4 h4 a5 h5 w hc (h5.unread z) n, ∃ k : Fin 16, p ∈ tileN i w z k := by
  intro n
  induction n with
  | zero => intro _ p hp; exact absurd hp List.not_mem_nil
  | succ n ih =>
    intro hn p hp
    have e := pb_k0_t1_succ (F := F) 𝒱 c bd i a2 h2 a3 h3 a4 h4 a5 h5 w hc (h5.unread z) ⟨n, hn⟩
    rw [tripL_k0_t1] at e
    have hp := Eq.mp (congrArg (p ∈ ·) (e.trans (congrArg (· ++ _) (tripA (F := F) 𝒱 c bd i a2 h2 a3 h3 a4 h4 a5 h5 w z hc ⟨n, hn⟩)))) hp
    rcases List.mem_append.mp hp with hp | hp
    · exact ⟨_, hp⟩
    · exact ih (Nat.le_of_succ_le hn) p hp

end caseA

section caseB

variable (hc : k0_cond2 i = 1#1)

theorem tripB (k : Fin 16) : (trip_k0_t2 (F := F) 𝒱 c bd i a2 h2 a3 h3 a4 h4 a5 h5 w hc (h5.unread z) k).1 = tileG w z k := by
  unfold trip_k0_t2
  have e0 := load_tap a5 h5 z k 0 (off4_eq k) (k0_off4_inb i k hc)
  have e1 := load_tap a5 h5 z k 1 (off5_eq k 1) (k0_off5_inb i k hc 0)
  have e2 := load_tap a5 h5 z k 2 (off5_eq k 2) (k0_off5_inb i k hc 1)
  have e3 := load_tap a5 h5 z k 3 (off5_eq k 3) (k0_off5_inb i k hc 2)
  have eu := app4 (k0_pay12 w) e0 e1 e2 e3
  have eq := app4 (k0_pay13 w) e0 e1 e2 e3
  exact four_eq ((chunk_off k 3 _ (off6_eq k 3) _).trans (congrArg (chunk k 3) (congrArg₂ k0_pay18 eu eq)))
    ((chunk_off k 2 _ (off6_eq k 2) _).trans (congrArg (chunk k 2) (congrArg₂ k0_pay17 eu eq)))
    ((chunk_off k 1 _ (off6_eq k 1) _).trans (congrArg (chunk k 1) (congrArg₂ k0_pay16 eu eq)))
    ((chunk_off k 0 _ (off6_eq k 0) _).trans (congrArg (chunk k 0) (congrArg₂ k0_pay15 eu eq)))

/-- The loop's stores are its tiles'. -/
theorem formB : ∀ n, n ≤ 16 → ∀ p ∈ pb_k0_t2 (F := F) 𝒱 c bd i a2 h2 a3 h3 a4 h4 a5 h5 w hc (h5.unread z) n, ∃ k : Fin 16, p ∈ tileG w z k := by
  intro n
  induction n with
  | zero => intro _ p hp; exact absurd hp List.not_mem_nil
  | succ n ih =>
    intro hn p hp
    have e := pb_k0_t2_succ (F := F) 𝒱 c bd i a2 h2 a3 h3 a4 h4 a5 h5 w hc (h5.unread z) ⟨n, hn⟩
    rw [tripL_k0_t2] at e
    have hp := Eq.mp (congrArg (p ∈ ·) (e.trans (congrArg (· ++ _) (tripB (F := F) 𝒱 c bd i a2 h2 a3 h3 a4 h4 a5 h5 w z hc ⟨n, hn⟩)))) hp
    rcases List.mem_append.mp hp with hp | hp
    · exact ⟨_, hp⟩
    · exact ih (Nat.le_of_succ_le hn) p hp

end caseB

section run

variable (x0 : Vec F S4096x128 .f32) (x1 : Vec F S4x128 .f32)

theorem read0 : View.readAt (Elt F) a2.view (Rect.unit (s := S4096x128) ![0, 0] S4096x128.size inb_S4096x128_S4096x128_0_0).toLoadRect (h2.unread x0) = x0 := by
  rw [View.readAt_eq_ld, h2.read_unread]
  exact View.ld_unit_zero (S := S4096x128) zeros _ x0

theorem read1 : View.readAt (Elt F) a3.view (Rect.unit (s := S4x128) ![0, 0] S4x128.size inb_S4x128_S4x128_0_0).toLoadRect (h3.unread x1) = x1 := by
  rw [View.readAt_eq_ld, h3.read_unread]
  exact View.ld_unit_zero (S := S4x128) zeros _ x1

/-- The padded input as the loop finds it. -/
theorem in_eq : a5.view.writes (Elt F) a5.view.junk (inPieces x0) = h5.unread (inPadded x0) :=
  h5.eq_unread (View.read_writes_eq_canon a5.view _ _ (inPieces_cover x0))

theorem trips1 : Scf.trips k0_t1_loop.lb k0_t1_loop.ub k0_t1_loop.st = 16 := by decide
theorem trips2 : Scf.trips k0_t2_loop.lb k0_t2_loop.ub k0_t2_loop.st = 16 := by decide

theorem piecesA (hc0 : cond0_0 i) (hc1 : ¬cond0_1 i) : (kernelRun0_A (F := F) c i a2 h2 a3 h3 a4 h4 a5 h5 hc0 hc1 x0 x1).1 = pb_k0_t1 (F := F) Variants.none c none i a2 h2 a3 h3 a4 h4 a5 h5 x1 hc0 (h5.unread (inPadded x0)) 16 := by
  unfold kernelRun0_A
  dsimp only
  sl_unfold_words
  rw [trips1]
  rw [read0 a2 h2 x0, read1 a3 h3 x1]
  exact congrArg (fun X => pb_k0_t1 (F := F) Variants.none c none i a2 h2 a3 h3 a4 h4 a5 h5 x1 hc0 X 16) (in_eq a5 h5 x0)

theorem outA (hc0 : cond0_0 i) (hc1 : ¬cond0_1 i) (p : View.Piece (Elt F) S1x64x1x64x128 .f32)
    (hp : p ∈ (kernelRun0_A (F := F) c i a2 h2 a3 h3 a4 h4 a5 h5 hc0 hc1 x0 x1).1) : ∃ k : Fin 16, p ∈ tileN i x1 (inPadded x0) k :=
  formA (F := F) Variants.none c none i a2 h2 a3 h3 a4 h4 a5 h5 x1 (inPadded x0) hc0 16 le_rfl p (piecesA c i a2 h2 a3 h3 a4 h4 a5 h5 x0 x1 hc0 hc1 ▸ hp)

theorem piecesB (hc0 : ¬cond0_0 i) (hc1 : cond0_1 i) : (kernelRun0_B (F := F) c i a2 h2 a3 h3 a4 h4 a5 h5 hc0 hc1 x0 x1).1 = pb_k0_t2 (F := F) Variants.none c none i a2 h2 a3 h3 a4 h4 a5 h5 x1 hc1 (h5.unread (inPadded x0)) 16 := by
  unfold kernelRun0_B
  dsimp only
  sl_unfold_words
  rw [trips2]
  rw [read0 a2 h2 x0, read1 a3 h3 x1]
  exact congrArg (fun X => pb_k0_t2 (F := F) Variants.none c none i a2 h2 a3 h3 a4 h4 a5 h5 x1 hc1 X 16) (in_eq a5 h5 x0)

theorem outB (hc0 : ¬cond0_0 i) (hc1 : cond0_1 i) (p : View.Piece (Elt F) S1x64x1x64x128 .f32)
    (hp : p ∈ (kernelRun0_B (F := F) c i a2 h2 a3 h3 a4 h4 a5 h5 hc0 hc1 x0 x1).1) : ∃ k : Fin 16, p ∈ tileG x1 (inPadded x0) k :=
  formB (F := F) Variants.none c none i a2 h2 a3 h3 a4 h4 a5 h5 x1 (inPadded x0) hc1 16 le_rfl p (piecesB c i a2 h2 a3 h3 a4 h4 a5 h5 x0 x1 hc0 hc1 ▸ hp)

end run

end Cert.Kernel7Ideal.PrepFwd
end
-- ==== Proof.PrepFwdPay.lean ====
/-
The convolution's forward call over the reals: one tile's values, and the block a grid point leaves.
-/
module

public import proofs.«01_k».proof.Proof.PrepFwdOut
public import proofs.«01_k».proof.Proof.PrepPoint

@[expose] public section

set_option maxRecDepth 16384

noncomputable section

open Idealize.ShloMosaic Idealize.ShloMosaic.TcCoe Idealize.SL.Sem
open Cert.Common

namespace Cert.PrepSpec

/-- The gated row over its norm, times the factor. -/
def normalised (sc : ℝ) (u : Fin 128 → ℝ) (l : Fin 128) : ℝ := gated (u l) * rn u * sc

/-- What block `b` of columns holds after the call: four heads of queries, four of keys, four of values. -/
def Data.through (R : Data) (b : Fin 12) (i : Fin 4096) (l : Fin 128) : ℝ :=
  if b.val < 8 then normalised (if b.val < 4 then qscale else 1) (conv (R.xs b) (R.ws b) i) l else gated (conv (R.xs b) (R.ws b) i l)

end Cert.PrepSpec

namespace Cert.Kernel7Ideal.PrepFwd

open Cert.Kernel7Ideal Cert.Kernel7Ideal.Gen Cert.PrepSpec Cert.FfnSpec
open Cert.Kernel4Ideal.Prep (mixed factor factor_eq tap inPadded tap_apply at_ chunkIn chunk_row)

section tile

variable (w : Vec Ideal S4x128 .f32) (W : Fin 4 → Fin 128 → ℝ) (hw : ∀ j l, w (ix2 j l) = (W j l : EReal))
  (t0 t1 t2 t3 : Vec Ideal S256x128 .f32) (T : Fin 4 → Fin 256 → Fin 128 → ℝ)
  (h0 : ∀ r l, t0 (ix2 r l) = (T 0 r l : EReal)) (h1 : ∀ r l, t1 (ix2 r l) = (T 1 r l : EReal))
  (h2 : ∀ r l, t2 (ix2 r l) = (T 2 r l : EReal)) (h3 : ∀ r l, t3 (ix2 r l) = (T 3 r l : EReal))

include hw h0 h1 h2 h3

theorem pay5_apply (r : Fin 256) (l : Fin 128) : k0_pay5 (F := Ideal) w t0 t1 t2 t3 (ix2 r l) = (mixed W T r l : EReal) := by
  pointwise [k0_pay5]
  simp only [hw, h0, h1, h2, h3, ← EReal.coe_mul, ← EReal.coe_add]
  rfl

theorem pay6_apply (r : Fin 256) (l : Fin 128) : k0_pay6 (F := Ideal) w t0 t1 t2 t3 (ix2 r l) = (1 / 2 * Real.tanh (1 / 2 * mixed W T r l) : ℝ) := by
  pointwise [k0_pay6]
  simp only [pay5_apply w W hw t0 t1 t2 t3 T h0 h1 h2 h3, ofBits_half, ← EReal.coe_mul, Ideal.tanh_coe]

theorem pay12_apply (r : Fin 256) (l : Fin 128) : k0_pay12 (F := Ideal) w t0 t1 t2 t3 (ix2 r l) = (mixed W T r l : EReal) := by
  pointwise [k0_pay12]
  simp only [hw, h0, h1, h2, h3, ← EReal.coe_mul, ← EReal.coe_add]
  rfl

theorem pay13_apply (r : Fin 256) (l : Fin 128) : k0_pay13 (F := Ideal) w t0 t1 t2 t3 (ix2 r l) = (1 / 2 * Real.tanh (1 / 2 * mixed W T r l) : ℝ) := by
  pointwise [k0_pay13]
  simp only [pay12_apply w W hw t0 t1 t2 t3 T h0 h1 h2 h3, ofBits_half, ← EReal.coe_mul, Ideal.tanh_coe]

end tile

section gate

variable (p q : FVec Ideal S256x128 .f32) (u : Fin 256 → Fin 128 → ℝ) (hp : ∀ r l, p (ix2 r l) = (u r l : EReal))
  (hq : ∀ r l, q (ix2 r l) = (1 / 2 * Real.tanh (1 / 2 * u r l) : ℝ))

include hp hq

theorem pay14_apply (r : Fin 256) (l : Fin 128) : k0_pay14 (F := Ideal) p q (ix2 r l) = (gated (u r l) : EReal) := by
  pointwise [k0_pay14]
  simp only [hp, hq, ofBits_half, ← EReal.coe_add, sg_tanh, ← EReal.coe_mul]
  rfl

theorem pay7_apply (i : grid0.Coords) (r : Fin 256) (l : Fin 128) : k0_pay7 (F := Ideal) (k0_pay3 i) p q (ix2 r l) = (normalised (factor i) (u r) l : EReal) := by
  have hf : k0_pay3 (F := Ideal) i = (factor i : EReal) := by
    pointwise [k0_pay3]
    exact factor_eq i
  pointwise [k0_pay7]
  rw [hf]
  simp only [hp, hq, ofBits_half, ← EReal.coe_add, sg_tanh, ← EReal.coe_mul, coe_sum, ofBits_eps]
  rw [show (∑ j, u r j * sg (u r j) * (u r j * sg (u r j))) + eps = PrepSpec.sq (u r) from rfl, coe_rsqrt _ (sq_pos (u r))]
  simp only [← EReal.coe_mul]
  rfl

theorem pay8_apply (i : grid0.Coords) (r : Fin 64) (l : Fin 128) : k0_pay8 (F := Ideal) (k0_pay3 i) p q (ix5 0 0 0 r l) = (normalised (factor i) (u ⟨0 + r.val, by omega⟩) l : EReal) := by
  pointwise [k0_pay8]
  exact pay7_apply p q u hp hq i _ l

theorem pay9_apply (i : grid0.Coords) (r : Fin 64) (l : Fin 128) : k0_pay9 (F := Ideal) (k0_pay3 i) p q (ix5 0 0 0 r l) = (normalised (factor i) (u ⟨64 + r.val, by omega⟩) l : EReal) := by
  pointwise [k0_pay9]
  exact pay7_apply p q u hp hq i _ l

theorem pay10_apply (i : grid0.Coords) (r : Fin 64) (l : Fin 128) : k0_pay10 (F := Ideal) (k0_pay3 i) p q (ix5 0 0 0 r l) = (normalised (factor i) (u ⟨128 + r.val, by omega⟩) l : EReal) := by
  pointwise [k0_pay10]
  exact pay7_apply p q u hp hq i _ l

theorem pay15_apply (r : Fin 64) (l : Fin 128) : k0_pay15 (F := Ideal) p q (ix5 0 0 0 r l) = (gated (u ⟨0 + r.val, by omega⟩ l) : EReal) := by
  pointwise [k0_pay15]
  exact pay14_apply p q u hp hq _ l

theorem pay16_apply (r : Fin 64) (l : Fin 128) : k0_pay16 (F := Ideal) p q (ix5 0 0 0 r l) = (gated (u ⟨64 + r.val, by omega⟩ l) : EReal) := by
  pointwise [k0_pay16]
  exact pay14_apply p q u hp hq _ l

theorem pay17_apply (r : Fin 64) (l : Fin 128) : k0_pay17 (F := Ideal) p q (ix5 0 0 0 r l) = (gated (u ⟨128 + r.val, by omega⟩ l) : EReal) := by
  pointwise [k0_pay17]
  exact pay14_apply p q u hp hq _ l

theorem pay18_apply (r : Fin 64) (l : Fin 128) : k0_pay18 (F := Ideal) p q (ix5 0 0 0 r l) = (gated (u ⟨192 + r.val, by omega⟩ l) : EReal) := by
  pointwise [k0_pay18]
  exact pay14_apply p q u hp hq _ l

theorem pay11_apply (i : grid0.Coords) (r : Fin 64) (l : Fin 128) : k0_pay4 (F := Ideal) (k0_pay11 (k0_pay3 i) p q) (ix5 0 0 0 r l) = (normalised (factor i) (u ⟨192 + r.val, by omega⟩) l : EReal) := by
  pointwise [k0_pay4, k0_pay11]
  exact pay7_apply p q u hp hq i _ l

end gate

/-! ## The block a point leaves -/

/-- A block whose every chunk holds the rows of `G` holds `G`. -/
theorem chunk_rows (k : Fin 16) (j : Fin 4) (v : FVec Ideal S1x1x1x64x128 .f32) (G : Fin 4096 → Fin 128 → ℝ)
    (hv : ∀ (r : Fin 64) l, v (ix5 0 0 0 r l) = (G (at_ k ⟨64 * j.val + r.val, by omega⟩) l : EReal)) (y : S1x1x1x64x128.Idx) :
    (chunk k j v).2 y = (fun q : S1x64x1x64x128.Idx => ((G ⟨64 * (q 1).val + (q 3).val, chunk_row (q 1) (q 3)⟩ (q 4) : ℝ) : EReal)) ((chunk k j v).1.emb y) := by
  obtain ⟨r, l, rfl⟩ : ∃ (r : Fin 64) (l : Fin 128), y = ix5 0 0 0 r l :=
    ⟨y 3, y 4, by funext a; match a with | ⟨0, _⟩ => exact Subsingleton.elim (α := Fin 1) _ _ | ⟨1, _⟩ => exact Subsingleton.elim (α := Fin 1) _ _ | ⟨2, _⟩ => exact Subsingleton.elim (α := Fin 1) _ _ | ⟨3, _⟩ => rfl | ⟨4, _⟩ => rfl⟩
  refine (hv r l).trans ?_
  refine congrArg₂ (fun (a : Fin 4096) (b : Fin 128) => (G a b : EReal)) (Fin.ext ?_) (Fin.ext ?_)
  · show 256 * k.val + (64 * j.val + r.val) = 64 * (4 * k.val + j.val + 1 * 0) + (0 + 1 * r.val)
    omega
  · show l.val = 0 + 1 * l.val
    omega

section point

variable (x : Vec Ideal S4096x128 .f32) (X : Fin 4096 → Fin 128 → ℝ) (hx : ∀ i l, x (ix2 i l) = (X i l : EReal))
  (w : Vec Ideal S4x128 .f32) (W : Fin 4 → Fin 128 → ℝ) (hw : ∀ j l, w (ix2 j l) = (W j l : EReal))

/-- The convolution of a tile. -/
theorem mixed_tap (k : Fin 16) (r : Fin 256) : mixed W (fun j r l => behind X ((at_ k r).val + j.val) l) r = conv X W (at_ k r) := rfl

include hx hw

theorem tileN_rows (i : grid0.Coords) (k : Fin 16) (p : View.Piece (Elt Ideal) S1x64x1x64x128 .f32) (hp : p ∈ tileN i w (inPadded x) k) (y : p.1.shape.Idx) :
    p.2 y = (fun q : S1x64x1x64x128.Idx => ((normalised (factor i) (conv X W ⟨64 * (q 1).val + (q 3).val, chunk_row (q 1) (q 3)⟩) (q 4) : ℝ) : EReal)) (p.1.emb y) := by
  have ht := tap_apply x X hx k
  have hu := pay5_apply w W hw _ _ _ _ (fun j r l => behind X ((at_ k r).val + j.val) l) (ht 0) (ht 1) (ht 2) (ht 3)
  have hq := pay6_apply w W hw _ _ _ _ (fun j r l => behind X ((at_ k r).val + j.val) l) (ht 0) (ht 1) (ht 2) (ht 3)
  unfold tileN at hp
  simp only [List.mem_cons, List.not_mem_nil, or_false] at hp
  rcases hp with rfl | rfl | rfl | rfl
  · exact chunk_rows k 3 _ (fun i' => normalised (factor i) (conv X W i')) (pay11_apply _ _ _ hu hq i) y
  · exact chunk_rows k 2 _ (fun i' => normalised (factor i) (conv X W i')) (pay10_apply _ _ _ hu hq i) y
  · exact chunk_rows k 1 _ (fun i' => normalised (factor i) (conv X W i')) (pay9_apply _ _ _ hu hq i) y
  · exact chunk_rows k 0 _ (fun i' => normalised (factor i) (conv X W i')) (pay8_apply _ _ _ hu hq i) y

theorem tileG_rows (k : Fin 16) (p : View.Piece (Elt Ideal) S1x64x1x64x128 .f32) (hp : p ∈ tileG w (inPadded x) k) (y : p.1.shape.Idx) :
    p.2 y = (fun q : S1x64x1x64x128.Idx => ((gated (conv X W ⟨64 * (q 1).val + (q 3).val, chunk_row (q 1) (q 3)⟩ (q 4)) : ℝ) : EReal)) (p.1.emb y) := by
  have ht := tap_apply x X hx k
  have hu := pay12_apply w W hw _ _ _ _ (fun j r l => behind X ((at_ k r).val + j.val) l) (ht 0) (ht 1) (ht 2) (ht 3)
  have hq := pay13_apply w W hw _ _ _ _ (fun j r l => behind X ((at_ k r).val + j.val) l) (ht 0) (ht 1) (ht 2) (ht 3)
  unfold tileG at hp
  simp only [List.mem_cons, List.not_mem_nil, or_false] at hp
  rcases hp with rfl | rfl | rfl | rfl
  · exact chunk_rows k 3 _ (fun i' l => gated (conv X W i' l)) (pay18_apply _ _ _ hu hq) y
  · exact chunk_rows k 2 _ (fun i' l => gated (conv X W i' l)) (pay17_apply _ _ _ hu hq) y
  · exact chunk_rows k 1 _ (fun i' l => gated (conv X W i' l)) (pay16_apply _ _ _ hu hq) y
  · exact chunk_rows k 0 _ (fun i' l => gated (conv X W i' l)) (pay15_apply _ _ _ hu hq) y

end point

end Cert.Kernel7Ideal.PrepFwd
end
-- ==== Proof.PrepFwdKernel.lean ====
/-
The convolution's forward call: the blocks its points read and leave, the array they make up, and the host's last lines.
-/
module

public import proofs.«01_k».proof.Proof.PrepFwdPay
public import Idealize.ShloMosaic.Lib.StableHlo.ReadAt

@[expose] public section

set_option maxRecDepth 16384

noncomputable section

open Idealize.ShloMosaic Idealize.ShloMosaic.TcCoe Idealize.SL.Sem
open Cert.Common

namespace Cert.Kernel7Ideal.PrepFwd

open Cert.Kernel7Ideal Cert.Kernel7Ideal.Gen Cert.PrepSpec Cert.FfnSpec
open Cert.Kernel4Ideal.Prep (factor at_ chunk_row inPadded)

variable (m : (ℓ : Loc nD τ sig) → Buf (Elt Ideal) ℓ) (c : Dev nD)

/-! ## Where a block's index lies in its array -/

/-- Point `t`'s block of columns. -/
def blockOf (t : Fin cfg0.N) : Fin 12 := ⟨t.val, lt_of_lt_of_eq t.isLt (show cfg0.N = 12 from N_0)⟩

theorem col_lt {n : ℕ} (hn : 1536 ≤ n) (t : Fin cfg0.N) (l : Fin 128) : 128 * (blockOf t).val + l.val < n := by have := (blockOf t).isLt; omega

/-- The windows over columns move with the point; the result's goes through the three kinds and their four heads. -/
theorem index_eq : ∀ t : Fin grid0.N, (win0_0.index t (0 : Fin 2) = 0 ∧ win0_0.index t (1 : Fin 2) = t.val) ∧ (win0_1.index t (0 : Fin 2) = 0 ∧ win0_1.index t (1 : Fin 2) = t.val)
    ∧ (win0_2.index t (0 : Fin 5) = t.val / 4 ∧ win0_2.index t (1 : Fin 5) = 0 ∧ win0_2.index t (2 : Fin 5) = t.val % 4 ∧ win0_2.index t (3 : Fin 5) = 0 ∧ win0_2.index t (4 : Fin 5) = 0)
    ∧ ((grid0.coords t) 0).val = t.val / 4 := by decide +kernel

theorem emb0 (t : Fin cfg0.N) (r : Fin 4096) (k : Fin 128) : ((cfg0.win 0).blk t).view.emb (ix2 r k) = ix2 r ⟨128 * (blockOf t).val + k.val, col_lt (by norm_num) t k⟩ :=
  ix2_of (by show win0_0.index t (0 : Fin 2) * 4096 + 1 * r.val = r.val; have := (index_eq t).1; omega)
    (by show win0_0.index t (1 : Fin 2) * 128 + 1 * k.val = 128 * t.val + k.val; have := (index_eq t).1; omega)

theorem emb1 (t : Fin cfg0.N) (r : Fin 4) (k : Fin 128) : ((cfg0.win 1).blk t).view.emb (ix2 r k) = ix2 r ⟨128 * (blockOf t).val + k.val, col_lt (by norm_num) t k⟩ :=
  ix2_of (by show win0_1.index t (0 : Fin 2) * 4 + 1 * r.val = r.val; have := (index_eq t).2.1; omega)
    (by show win0_1.index t (1 : Fin 2) * 128 + 1 * k.val = 128 * t.val + k.val; have := (index_eq t).2.1; omega)

theorem emb2 (t : Fin cfg0.N) (q r : Fin 64) (k : Fin 128) :
    ((cfg0.win 2).blk t).view.emb (ix5 0 q 0 r k) = ix5 (⟨(blockOf t).val / 4, by omega⟩ : Fin 3) q (⟨(blockOf t).val % 4, by omega⟩ : Fin 4) r k := by
  obtain ⟨e0, e1, e2, e3, e4⟩ := (index_eq t).2.2.1
  funext a; apply Fin.ext
  match a with
  | ⟨0, _⟩ => show win0_2.index t (0 : Fin 5) * 1 + 1 * 0 = t.val / 4; omega
  | ⟨1, _⟩ => show win0_2.index t (1 : Fin 5) * 64 + 1 * q.val = q.val; omega
  | ⟨2, _⟩ => show win0_2.index t (2 : Fin 5) * 1 + 1 * 0 = t.val % 4; omega
  | ⟨3, _⟩ => show win0_2.index t (3 : Fin 5) * 64 + 1 * r.val = r.val; omega
  | ⟨4, _⟩ => show win0_2.index t (4 : Fin 5) * 128 + 1 * k.val = k.val; omega

/-! ## The points' input blocks -/

/-- Device `c`'s arguments are these real arrays. -/
structure Args (R : Data) : Prop where
  h0 : ∀ i n, (m ((c : Thread nD τ).loc main_arg0) : FVec Ideal S4096x3592 .f32) (ix2 i n) = (R.x i n : EReal)
  h1 : ∀ j n, (m ((c : Thread nD τ).loc main_arg1) : FVec Ideal S4x1536 .f32) (ix2 j n) = (R.w j n : EReal)

variable (R : Data) (h : Args m c R)

include h

theorem x_at (i : Fin 4096) (n : Fin 3712) (hn : n.val < 1536) : (V m c main_v4 : FVec Ideal S4096x3712 .f32) (ix2 i n) = (R.x i ⟨n.val, by omega⟩ : EReal) := by
  unfold V V0 hostOps0
  after_reads_at
  after_reads_at
  rw [dif_pos (show n.val < 2048 by omega)]
  exact h.h0 i _

theorem block0 (t : Fin cfg0.N) (r : Fin 4096) (k : Fin 128) : iblk m c 0 t (ix2 r k) = (R.xs (blockOf t) r k : EReal) := by
  show V m c main_v4 (((cfg0.win 0).blk t).view.emb (ix2 r k)) = _
  rw [emb0]; exact x_at m c R h r _ (col_lt le_rfl t k)

theorem block1 (t : Fin cfg0.N) (r : Fin 4) (k : Fin 128) : iblk m c 1 t (ix2 r k) = (R.ws (blockOf t) r k : EReal) := by
  show V m c main_arg1 (((cfg0.win 1).blk t).view.emb (ix2 r k)) = _
  rw [emb1, V_main_arg1]; exact h.h1 r _

/-! ## The blocks a point leaves -/

theorem left2 (t : Fin cfg0.N) (q r : Fin 64) (k : Fin 128) :
    (dats m 0 c).after 2 t (ix5 0 q 0 r k) = (R.through (blockOf t) ⟨64 * q.val + r.val, chunk_row q r⟩ k : EReal) := by
  rw [after0_2]
  unfold Data.through
  by_cases h8 : t.val < 8
  · rw [outsAt0_A m c t h8 (by omega), if_pos (show (blockOf t).val < 8 from h8)]
    unfold out0_A_2
    rw [View.read_writes_eq_canon _ _ _ (fun y => cover0_A_2 ..), ← List.append_nil (kernelRun0_A _ _ _ _ _ _ _ _ _ _ _ _ _ _).1]
    refine (View.canon_append_of_pieces (fun q : S1x64x1x64x128.Idx => ((normalised (factor (grid0.coords t)) (conv (R.xs (blockOf t)) (R.ws (blockOf t)) ⟨64 * (q 1).val + (q 3).val, chunk_row (q 1) (q 3)⟩) (q 4) : ℝ) : EReal)) _ _ (fun p hp y => ?_) _ (cover0_A_2 ..)).trans ?_
    · obtain ⟨k, hk⟩ := outA _ _ _ _ _ _ _ _ _ _ _ _ _ _ _ hp
      exact tileN_rows _ _ (block0 m c R h t) _ _ (block1 m c R h t) _ k p hk y
    · have e : factor (grid0.coords t) = if (blockOf t).val < 4 then qscale else 1 := by
        unfold factor
        exact if_congr (by have := (index_eq t).2.2.2; show ((grid0.coords t) 0).val = 0 ↔ t.val < 4; omega) rfl rfl
      rw [e]
      rfl
  · rw [outsAt0_B m c t h8 (by omega), if_neg (show ¬(blockOf t).val < 8 from h8)]
    unfold out0_B_2
    rw [View.read_writes_eq_canon _ _ _ (fun y => cover0_B_2 ..), ← List.append_nil (kernelRun0_B _ _ _ _ _ _ _ _ _ _ _ _ _ _).1]
    refine (View.canon_append_of_pieces (fun q : S1x64x1x64x128.Idx => ((gated (conv (R.xs (blockOf t)) (R.ws (blockOf t)) ⟨64 * (q 1).val + (q 3).val, chunk_row (q 1) (q 3)⟩ (q 4)) : ℝ) : EReal)) _ _ (fun p hp y => ?_) _ (cover0_B_2 ..)).trans rfl
    obtain ⟨k, hk⟩ := outB _ _ _ _ _ _ _ _ _ _ _ _ _ _ _ hp
    exact tileG_rows _ _ (block0 m c R h t) _ _ (block1 m c R h t) k p hk y

/-! ## The result array -/

/-- The point that writes head `e` of kind `a`. -/
def pointOf (a : Fin 3) (e : Fin 4) : Fin cfg0.N := ⟨4 * a.val + e.val, by have hN : cfg0.N = 12 := N_0; omega⟩

theorem final2 : (dats m 0 c).arrAt 2 cfg0.N = fun i : S3x64x4x64x128.Idx => (R.through ⟨4 * (i 0).val + (i 2).val, by have h0 : (i 0).val < 3 := (i 0).isLt; have h2 : (i 2).val < 4 := (i 2).isLt; omega⟩ ⟨64 * (i 1).val + (i 3).val, chunk_row (i 1) (i 3)⟩ (i 4) : EReal) := by
  refine (dats m 0 c).arrAt_eq_of_cover 2 _ (fun t _ => ?_) fun i => ?_
  · show (cfg0.win 2).cut (grid0.coords t) ((dats m 0 c).after 2 t) = _
    funext j
    obtain ⟨q, r, k, rfl⟩ : ∃ (q r : Fin 64) (k : Fin 128), j = ix5 0 q 0 r k :=
      ⟨j 1, j 3, j 4, by funext a; match a with | ⟨0, _⟩ => exact Subsingleton.elim (α := Fin 1) _ _ | ⟨1, _⟩ => rfl | ⟨2, _⟩ => exact Subsingleton.elim (α := Fin 1) _ _ | ⟨3, _⟩ => rfl | ⟨4, _⟩ => rfl⟩
    refine (left2 m c R h t q r k).trans ?_
    rw [View.read_apply, emb2]
    refine congrArg (fun b => (R.through b _ k : EReal)) (Fin.ext ?_)
    show t.val = 4 * (t.val / 4) + t.val % 4
    omega
  · obtain ⟨a, q, e, r, k, rfl⟩ : ∃ (a : Fin 3) (q : Fin 64) (e : Fin 4) (r : Fin 64) (k : Fin 128), i = ix5 a q e r k :=
      ⟨i 0, i 1, i 2, i 3, i 4, by funext a; match a with | ⟨0, _⟩ => rfl | ⟨1, _⟩ => rfl | ⟨2, _⟩ => rfl | ⟨3, _⟩ => rfl | ⟨4, _⟩ => rfl⟩
    have he := ((cfg0.win 2).blk (pointOf a e)).view.emb_mem_set (ix5 0 q 0 r k)
    rw [emb2] at he
    rw [show (⟨(blockOf (pointOf a e)).val / 4, by have := (blockOf (pointOf a e)).isLt; omega⟩ : Fin 3) = a from Fin.ext (by show (4 * a.val + e.val) / 4 = a.val; omega),
      show (⟨(blockOf (pointOf a e)).val % 4, by omega⟩ : Fin 4) = e from Fin.ext (by show (4 * a.val + e.val) % 4 = e.val; omega)] at he
    exact ⟨pointOf a e, flush0_2 _, he⟩

/-! ## The host's last lines -/

theorem tail_at (a : Fin 3) (i : Fin 4096) (e : Fin 4) (l : Fin 128) :
    (Pipeline.afterTail₀ cfgs (dats m) 0 (V0 m) [hostOps1] c main_v7 : FVec Ideal S3x4096x4x128 .f32) (ix4 a i e l) = (R.through ⟨4 * a.val + e.val, by omega⟩ i l : EReal) := by
  unfold Pipeline.afterTail₀ hostOps1
  simp only [List.flatten_cons, List.flatten_nil, List.append_nil]
  after_reads_at
  refine (congrFun ((Pipeline.withArrays_arr (cfgs 0).spec launch0.win.arr_inj c (V0 m c) (fun w => (dats m 0 c).arrAt w (cfgs 0).N) 2).trans (final2 m c R h)) _).trans ?_
  refine congrArg (fun k => (R.through _ k l : EReal)) (Fin.ext ?_)
  show 64 * (i.val / 64) + i.val % 64 = i.val
  omega

end Cert.Kernel7Ideal.PrepFwd
end
-- ==== Proof.PrepFwdRef.lean ====
/-
The reference of the convolution's forward call at real inputs: its result read at one index.
-/
module

public import proofs.«01_k».proof.Proof.PrepFwdPay
public import proofs.«01_k».proof.Proof.Gen.Reference7Ideal.Read

@[expose] public section

set_option maxRecDepth 16384

noncomputable section

open Idealize.ShloMosaic Idealize.ShloMosaic.TcCoe Idealize.SL.Sem
open Cert.Common

namespace Cert.Reference7Ideal.PrepFwd

open Cert.Reference7Ideal Cert.Reference7Ideal.Gen Cert.Reference7Ideal.Read Cert.PrepSpec Cert.FfnSpec

/-- Column `l` of block `b`. -/
def col (b : Fin 12) (l : Fin 128) : Fin 1536 := ⟨128 * b.val + l.val, by omega⟩

variable (x0 : FVec Ideal S4096x3592 .f32) (x1 : FVec Ideal S4x1536 .f32) (R : Data)
  (h0 : ∀ i n, x0 (ix2 i n) = (R.x i n : EReal)) (h1 : ∀ j n, x1 (ix2 j n) = (R.w j n : EReal))

include h0 in
theorem padded_at (n : Fin 4099) (b : Fin 12) (l : Fin 128) : val_main_v2 (F := Ideal) x0 (ix2 n (col b l)) = (behind (R.xs b) n.val l : EReal) := by
  pointwise [val_main_v2, val_main_v1, val_main_v0, val_main_cst]
  unfold behind
  by_cases e : n.val < 3
  · rw [dif_pos e, dif_neg (by omega)]
    exact EReal.coe_zero.symm
  · rw [dif_neg e, dif_pos (by omega)]
    exact h0 _ _

include h0 h1

theorem conv_at (i : Fin 4096) (b : Fin 12) (l : Fin 128) : val_main_v31 (F := Ideal) x0 x1 (ix2 i (col b l)) = (conv (R.xs b) (R.ws b) i l : EReal) := by
  have hw : ∀ j, x1 (ix2 j (col b l)) = (R.ws b j l : EReal) := fun j => h1 j _
  have t0 : val_main_v3 (F := Ideal) x0 (ix2 i (col b l)) = (behind (R.xs b) i.val l : EReal) := by
    pointwise [val_main_v3]; exact padded_at x0 R h0 _ b l
  have t1 : val_main_v11 (F := Ideal) x0 (ix2 i (col b l)) = (behind (R.xs b) (i.val + 1) l : EReal) := by
    pointwise [val_main_v11]; rw [Nat.add_comm i.val 1]; exact padded_at x0 R h0 _ b l
  have t2 : val_main_v18 (F := Ideal) x0 (ix2 i (col b l)) = (behind (R.xs b) (i.val + 2) l : EReal) := by
    pointwise [val_main_v18]; rw [Nat.add_comm i.val 2]; exact padded_at x0 R h0 _ b l
  have t3 : val_main_v25 (F := Ideal) x0 (ix2 i (col b l)) = (behind (R.xs b) (i.val + 3) l : EReal) := by
    pointwise [val_main_v25]; rw [Nat.add_comm i.val 3]; exact padded_at x0 R h0 _ b l
  pointwise [val_main_v31, val_main_v30, val_main_v29, val_main_v28, val_main_v27, val_main_v26, val_main_v24, val_main_v23, val_main_v22, val_main_v21, val_main_v20, val_main_v19,
    val_main_v17, val_main_v16, val_main_v15, val_main_v14, val_main_v13, val_main_v12, val_main_v10, val_main_v9, val_main_v8, val_main_v7, val_main_v6, val_main_v5, val_main_v4, val_main_cst_0]
  simp only [t0, t1, t2, t3, hw, ← EReal.coe_mul, coe_zero_add, ← EReal.coe_add]
  rfl

theorem gated_at (i : Fin 4096) (b : Fin 12) (l : Fin 128) : val_main_v32 (F := Ideal) x0 x1 (ix2 i (col b l)) = (gated (conv (R.xs b) (R.ws b) i l) : EReal) := by
  pointwise [val_main_v32, val_main_call0_v5, val_main_call0_v4, val_main_call0_v3, val_main_call0_v2, val_main_call0_v1, val_main_call0_v0, val_main_call0_cst, val_main_call0_cst_0]
  rw [conv_at x0 x1 R h0 h1, ← EReal.coe_neg, Ideal.exp_coe, ← EReal.coe_one, ← EReal.coe_add, coe_div _ _ (by positivity), ← EReal.coe_mul]
  rfl

theorem head_q (i : Fin 4096) (b : Fin 4) (l : Fin 128) (c : Fin 12) (hc : c.val = 0 + b.val) : val_main_v36 (F := Ideal) x0 x1 (ix3 i b l) = (gated (conv (R.xs c) (R.ws c) i l) : EReal) := by
  pointwise [val_main_v36, val_main_v33]
  exact (congrArg (fun n => val_main_v32 (F := Ideal) x0 x1 (ix2 i n)) (Fin.ext (show (b.val * 128 + l.val) = 128 * c.val + l.val by omega))).trans (gated_at x0 x1 R h0 h1 i c l)

theorem head_k (i : Fin 4096) (b : Fin 4) (l : Fin 128) (c : Fin 12) (hc : c.val = 4 + b.val) : val_main_v47 (F := Ideal) x0 x1 (ix3 i b l) = (gated (conv (R.xs c) (R.ws c) i l) : EReal) := by
  pointwise [val_main_v47, val_main_v34]
  exact (congrArg (fun n => val_main_v32 (F := Ideal) x0 x1 (ix2 i n)) (Fin.ext (show 512 + (b.val * 128 + l.val) = 128 * c.val + l.val by omega))).trans (gated_at x0 x1 R h0 h1 i c l)

theorem head_v (i : Fin 4096) (b : Fin 4) (l : Fin 128) (c : Fin 12) (hc : c.val = 8 + b.val) : val_main_v56 (F := Ideal) x0 x1 (ix3 i b l) = (gated (conv (R.xs c) (R.ws c) i l) : EReal) := by
  pointwise [val_main_v56, val_main_v35]
  exact (congrArg (fun n => val_main_v32 (F := Ideal) x0 x1 (ix2 i n)) (Fin.ext (show 1024 + (b.val * 128 + l.val) = 128 * c.val + l.val by omega))).trans (gated_at x0 x1 R h0 h1 i c l)

theorem norm_q (i : Fin 4096) (b : Fin 4) (l : Fin 128) (c : Fin 12) (hc : c.val = 0 + b.val) :
    val_main_v46 (F := Ideal) x0 x1 (ix3 i b l) = (normalised qscale (conv (R.xs c) (R.ws c) i) l : EReal) := by
  have e : ∀ z : Fin 1, val_main_v41 (F := Ideal) x0 x1 (ix3 i b z) = (PrepSpec.sq (conv (R.xs c) (R.ws c) i) : EReal) := by
    intro z
    pointwise [val_main_v41, val_main_v40, val_main_v39, val_main_v38, val_main_v37, val_main_cst_1, val_main_cst_2]
    simp only [head_q x0 x1 R h0 h1 i b _ c hc, ← EReal.coe_mul, coe_sum, coe_zero_add, ofBits_eps, ← EReal.coe_add]
    rfl
  pointwise [val_main_v46, val_main_v45, val_main_v44, val_main_v43, val_main_cst_3, val_main_v42]
  simp only [e, head_q x0 x1 R h0 h1 i b _ c hc, coe_rsqrt _ (sq_pos _), ofBits_qscale, ← EReal.coe_mul]
  rfl

theorem norm_k (i : Fin 4096) (b : Fin 4) (l : Fin 128) (c : Fin 12) (hc : c.val = 4 + b.val) :
    val_main_v55 (F := Ideal) x0 x1 (ix3 i b l) = (normalised 1 (conv (R.xs c) (R.ws c) i) l : EReal) := by
  have e : ∀ z : Fin 1, val_main_v52 (F := Ideal) x0 x1 (ix3 i b z) = (PrepSpec.sq (conv (R.xs c) (R.ws c) i) : EReal) := by
    intro z
    pointwise [val_main_v52, val_main_v51, val_main_v50, val_main_v49, val_main_v48, val_main_cst_4, val_main_cst_5]
    simp only [head_k x0 x1 R h0 h1 i b _ c hc, ← EReal.coe_mul, coe_sum, coe_zero_add, ofBits_eps, ← EReal.coe_add]
    rfl
  pointwise [val_main_v55, val_main_v54, val_main_v53]
  simp only [e, head_k x0 x1 R h0 h1 i b _ c hc, coe_rsqrt _ (sq_pos _), ← EReal.coe_mul]
  unfold normalised
  rw [mul_one]
  rfl

theorem out_at (a : Fin 3) (i : Fin 4096) (e : Fin 4) (l : Fin 128) : val_main_v60 (F := Ideal) x0 x1 (ix4 a i e l) = (R.through ⟨4 * a.val + e.val, by omega⟩ i l : EReal) := by
  pointwise [val_main_v60]
  unfold Data.through
  dsimp only
  by_cases a0 : a.val < 1
  · rw [dif_pos a0, if_pos (show 4 * a.val + e.val < 8 by omega), if_pos (show 4 * a.val + e.val < 4 by omega)]
    pointwise [val_main_v57]
    exact norm_q x0 x1 R h0 h1 i e l _ (show 4 * a.val + e.val = 0 + e.val by omega)
  rw [dif_neg a0]
  by_cases a1 : a.val - 1 < 1
  · rw [dif_pos a1, if_pos (show 4 * a.val + e.val < 8 by omega), if_neg (show ¬4 * a.val + e.val < 4 by omega)]
    pointwise [val_main_v58]
    exact norm_k x0 x1 R h0 h1 i e l _ (show 4 * a.val + e.val = 4 + e.val by omega)
  rw [dif_neg a1, if_neg (show ¬4 * a.val + e.val < 8 by omega)]
  pointwise [val_main_v59]
  exact head_v x0 x1 R h0 h1 i e l _ (show 4 * a.val + e.val = 8 + e.val by omega)

end Cert.Reference7Ideal.PrepFwd
end
-- ==== Proof.PrepFwdPair.lean ====
/-
The convolution's forward call and its reference end with the same array.
-/
module

public import proofs.«01_k».proof.Defs
public import proofs.«01_k».proof.Proof.Gen.Kernel7.Frame
public import proofs.«01_k».proof.Proof.Gen.Pre_finite7
public import proofs.«01_k».proof.Proof.PrepFwdKernel
public import proofs.«01_k».proof.Proof.PrepFwdRef

@[expose] public section

set_option maxRecDepth 16384

noncomputable section

namespace Cert.PrepFwd

open Idealize.ShloMosaic Idealize.SL.Sem Cert.Common Cert.PrepSpec

/-- Finite arguments are real ones; the call has no cotangents. -/
theorem real_args (m : (ℓ : Loc Kernel7Ideal.nD Kernel7Ideal.τ Kernel7Ideal.sig) → Buf (Elt Ideal) ℓ) (hpre : Pre_Kernel7Ideal_finite7 m) (c : Dev Kernel7Ideal.nD) :
    ∃ R : Data, Kernel7Ideal.PrepFwd.Args m c R := by
  have e := congrFun (hpre c) (fun d : Fin 0 => d.elim0)
  obtain ⟨e0, e1⟩ := IntOp.andi_eq_one.1 e
  obtain ⟨X, hX⟩ := real_of_all _ _ _ _ _ _ e0
  obtain ⟨W, hW⟩ := real_of_all _ _ _ _ _ _ e1
  exact ⟨⟨fun i k => X (ix2 i k), fun i k => W (ix2 i k), fun _ _ _ => 0, fun _ _ _ => 0, fun _ _ _ => 0⟩, fun i k => congrFun hX _, fun i k => congrFun hW _⟩

/-- The reference's frame. -/
theorem frame_reference : quiescent_Reference7Ideal := fun m ρ _ =>
  (θ_run Reference7Ideal.defs _ _).mono (fun r h => ⟨fun c => (h c).2, sem_eq_zero_of_no_sems (by decide) r.2⟩)
    (Reference7Ideal.Value.run (F := Ideal) m ρ)

theorem ext4 {f g : FVec Ideal (⟨4, ![3, 4096, 4, 128]⟩ : Shape) .f32} (h : ∀ a i e l, f (ix4 a i e l) = g (ix4 a i e l)) : f = g := by
  funext j
  obtain ⟨a, i, e, l, rfl⟩ : ∃ (a : Fin 3) (i : Fin 4096) (e : Fin 4) (l : Fin 128), j = ix4 a i e l :=
    ⟨j 0, j 1, j 2, j 3, by funext d; match d with | ⟨0, _⟩ => rfl | ⟨1, _⟩ => rfl | ⟨2, _⟩ => rfl | ⟨3, _⟩ => rfl⟩
  exact h a i e l

/-- The results agree. -/
theorem value : algebraic_Kernel7Ideal_Reference7Ideal_pre_finite7 := by
  intro m g m' g' hpre hargs
  choose R h using real_args m hpre
  refine ⟨fun c => fun i => ((R c).through ⟨4 * (i 0).val + (i 2).val, by have h0 : (i 0).val < 3 := (i 0).isLt; have h2 : (i 2).val < 4 := (i 2).isLt; omega⟩ (i 1) (i 3) : EReal), ?_, ?_⟩
  · refine (θ_run Kernel7Ideal.defs _ _).mono (fun r hr c => ?_) (θ_run_and (Kernel7Ideal.Gen.run_main (F := Ideal) m g) (Kernel7Ideal.Gen.unchanged (F := Ideal) m g))
    exact ⟨((hr.1 c).2 Kernel7Ideal.main_v7 (Pipeline.mem_restRefs_of Kernel7Ideal.main_v7 (by decide) (by decide))).trans
        (ext4 fun a i e l => Kernel7Ideal.PrepFwd.tail_at m c (R c) (h c) a i e l), hr.2 c⟩
  · refine (θ_run Reference7Ideal.defs _ _).mono (fun r hr c => ?_) (Reference7Ideal.Value.run (F := Ideal) m' g')
    obtain ⟨r0, hk⟩ := hr c
    obtain ⟨a0, a1⟩ := hargs c
    obtain ⟨h0, h1⟩ := h c
    rw [← a0] at h0
    rw [← a1] at h1
    exact ⟨r0.trans ((Reference7Ideal.Read.val_main_v60_eq _ _).trans (ext4 fun a i e l => Reference7Ideal.PrepFwd.out_at _ _ (R c) h0 h1 a i e l)), hk⟩

end Cert.PrepFwd
-- ==== Proof.DownKernel.lean ====
/-
The weight gradient of the feed-forward's last product: what a grid point leaves, and the result array after the run.
-/
module

public import proofs.«01_k».proof.Proof.Common
public import proofs.«01_k».proof.Proof.Gen.Kernel8Ideal.Value
public import proofs.«01_k».proof.Proof.MixSpec
public import Idealize.ShloMosaic.Lib.StableHlo.ReadAt

@[expose] public section

set_option maxRecDepth 16384

noncomputable section

open Idealize.ShloMosaic Idealize.ShloMosaic.TcCoe Idealize.SL.Sem
open Cert.Common

namespace Cert.Kernel8Ideal.Down

open Cert.Kernel8Ideal Cert.Kernel8Ideal.Gen

/-! ## The body's values at one index -/

theorem pay1_apply (i : Fin 2816) (j : Fin 512) : k0_pay1 (F := Ideal) (ix2 i j) = 0 := by pointwise [k0_pay1]

theorem pay2_apply (a : Vec Ideal S2816x512 .f32) (x : Vec Ideal S2048x2816 .bf16) (y : Vec Ideal S2048x512 .bf16) (i : Fin 2816) (j : Fin 512) :
    k0_pay2 a x y (ix2 i j) = a (ix2 i j) + ∑ r : Fin 2048, x (ix2 r i) * y (ix2 r j) := by
  pointwise [k0_pay2]

theorem pay3_apply (a : Vec Ideal S2816x512 .f32) (i : Fin 2816) (j : Fin 512) : k0_pay3 a (ix2 i j) = a (ix2 i j) := by pointwise [k0_pay3]

variable (m : (ℓ : Loc nD τ sig) → Buf (Elt Ideal) ℓ) (c : Dev nD)

/-! ## Where a block's index lies in its array -/

/-- Row `r` of point `t`'s block of rows: the grid's second axis walks the rows. -/
def row (t : Fin cfg0.N) (r : Fin 2048) : Fin 4096 := ⟨t.val % 2 * 2048 + r.val, by omega⟩

/-- Column `k` of point `t`'s block of columns: the grid's first axis walks the columns. -/
def col (t : Fin cfg0.N) (k : Fin 512) : Fin 1024 := ⟨t.val / 2 * 512 + k.val, by have := t.isLt; have : cfg0.N = 4 := N_0; omega⟩

theorem index_eq : ∀ t : Fin grid0.N, (win0_0.index t (0 : Fin 2) = t.val % 2 ∧ win0_0.index t (1 : Fin 2) = 0)
    ∧ (win0_1.index t (0 : Fin 2) = t.val % 2 ∧ win0_1.index t (1 : Fin 2) = t.val / 2)
    ∧ (win0_2.index t (0 : Fin 2) = 0 ∧ win0_2.index t (1 : Fin 2) = t.val / 2) := by decide +kernel

theorem emb0 (t : Fin cfg0.N) (r : Fin 2048) (k : Fin 2816) : ((cfg0.win 0).blk t).view.emb (ix2 r k) = ix2 (row t r) k :=
  ix2_of (by show win0_0.index t (0 : Fin 2) * 2048 + 1 * r.val = t.val % 2 * 2048 + r.val; have := (index_eq t).1; omega)
    (by show win0_0.index t (1 : Fin 2) * 2816 + 1 * k.val = k.val; have := (index_eq t).1; omega)

theorem emb1 (t : Fin cfg0.N) (r : Fin 2048) (k : Fin 512) : ((cfg0.win 1).blk t).view.emb (ix2 r k) = ix2 (row t r) (col t k) :=
  ix2_of (by show win0_1.index t (0 : Fin 2) * 2048 + 1 * r.val = t.val % 2 * 2048 + r.val; have := (index_eq t).2.1; omega)
    (by show win0_1.index t (1 : Fin 2) * 512 + 1 * k.val = t.val / 2 * 512 + k.val; have := (index_eq t).2.1; omega)

theorem emb2 (t : Fin cfg0.N) (r : Fin 2816) (k : Fin 512) : ((cfg0.win 2).blk t).view.emb (ix2 r k) = ix2 r (col t k) :=
  ix2_of (by show win0_2.index t (0 : Fin 2) * 2816 + 1 * r.val = r.val; have := (index_eq t).2.2; omega)
    (by show win0_2.index t (1 : Fin 2) * 512 + 1 * k.val = t.val / 2 * 512 + k.val; have := (index_eq t).2.2; omega)

/-! ## The arrays behind the points' input blocks -/

/-- The activations, the first argument, -/
def act : FVec Ideal S4096x2816 .f32 := m ((c : Thread nD τ).loc main_arg0)

/-- and the cotangent, the second. -/
def dout : FVec Ideal S4096x1024 .f32 := m ((c : Thread nD τ).loc main_arg1)

theorem act_at (i : Fin 4096) (k : Fin 2816) : (V m c main_v0 : FVec Ideal S4096x2816 .bf16) (ix2 i k) = act m c (ix2 i k) := by
  unfold V hostOps0
  after_reads_at
  rfl

theorem dout_at (i : Fin 4096) (k : Fin 1024) : (V m c main_v1 : FVec Ideal S4096x1024 .bf16) (ix2 i k) = dout m c (ix2 i k) := by
  unfold V hostOps0
  after_reads_at
  rfl

theorem block0 (t : Fin cfg0.N) (r : Fin 2048) (k : Fin 2816) : iblk m c 0 t (ix2 r k) = act m c (ix2 (row t r) k) := by
  show V m c main_v0 (((cfg0.win 0).blk t).view.emb (ix2 r k)) = _
  rw [emb0]; exact act_at m c _ _

theorem block1 (t : Fin cfg0.N) (r : Fin 2048) (k : Fin 512) : iblk m c 1 t (ix2 r k) = dout m c (ix2 (row t r) (col t k)) := by
  show V m c main_v1 (((cfg0.win 1).blk t).view.emb (ix2 r k)) = _
  rw [emb1]; exact dout_at m c _ _

theorem read_x (t : Fin cfg0.N) : (ms0_0 t).view.read (Elt Ideal) ((hs0_0 t).unread (iblk m c 0 t)) = iblk m c 0 t := (hs0_0 t).read_unread _
theorem read_y (t : Fin cfg0.N) : (ms0_1 t).view.read (Elt Ideal) ((hs0_1 t).unread (iblk m c 1 t)) = iblk m c 1 t := (hs0_1 t).read_unread _

/-! ## What the points leave -/

/-- The product over point `t`'s rows. -/
def part (t : Fin cfg0.N) (i : Fin 2816) (k : Fin 512) : EReal := ∑ r : Fin 2048, act m c (ix2 (row t r) i) * dout m c (ix2 (row t r) (col t k))

/-- A point over the first half of the rows leaves its product in the accumulator. -/
theorem first (t : Fin cfg0.N) (h0 : t.val % 2 = 0) (i : Fin 2816) (k : Fin 512) : (outsAt0 m c t.val t.isLt).2 (ix2 i k) = part m c t i k := by
  have h1 : ¬t.val % 2 = 1 := by omega
  rw [outsAt0_A m c t h0 h1]
  dsimp only
  unfold sout0_A_0
  rw [View.read_writes_eq_canon _ _ _ (fun _ => scover0_A_0 ..)]
  unfold kernelRun0_A
  dsimp only
  sl_unfold_words
  rw [View.canon_cons_unit_zero (S := S2816x512) zero2, View.readCov_unit_zero (S := S2816x512) _ zero2]
  simp only [View.readAt_eq_ld, read_x m c t, read_y m c t, View.ld_unit_zero (S := S2048x2816) zero2, View.ld_unit_zero (S := S2048x512) zero2]
  rw [pay2_apply, pay1_apply, zero_add]
  simp only [block0, block1]
  rfl

/-- A point over the second half adds its product to what the accumulator held and leaves the sum. -/
theorem second (t : Fin cfg0.N) (h1 : t.val % 2 = 1) (i : Fin 2816) (k : Fin 512) : (outsAt0 m c t.val t.isLt).1 (ix2 i k)
    = (outsAt0 m c (t.val - 1) (Nat.lt_of_le_of_lt (Nat.sub_le _ _) t.isLt)).2 (ix2 i k) + part m c t i k := by
  have h0 : ¬t.val % 2 = 0 := by omega
  rw [outsAt0_B m c t h0 h1]
  dsimp only
  unfold out0_B_2
  rw [View.read_writes_eq_canon _ _ _ (fun _ => cover0_B_2 ..)]
  unfold kernelRun0_B
  dsimp only
  sl_unfold_words
  rw [View.canon_unit_zero zero2, View.readCov_unit_zero (S := S2816x512) _ zero2]
  simp only [View.readAt_eq_ld, Memref.IsWhole.read_unread, read_x m c t, read_y m c t, View.ld_unit_zero (S := S2048x2816) zero2, View.ld_unit_zero (S := S2048x512) zero2, View.ld_unit_zero (S := S2816x512) zero2]
  rw [pay3_apply, pay2_apply]
  simp only [block0, block1]
  exact congrArg (· + _) (congrFun (Memref.IsWhole.read_unread _ _) _)

/-! ## The result array -/

/-- The product over all rows. -/
def grad (i : Fin 2816) (k : Fin 1024) : EReal := ∑ r : Fin 4096, act m c (ix2 r i) * dout m c (ix2 r k)

/-- A sum over the rows is the sum over its two halves. -/
theorem halves (f : Fin 4096 → EReal) : ∑ r, f r = (∑ r : Fin 2048, f ⟨r.val, by omega⟩) + ∑ r : Fin 2048, f ⟨2048 + r.val, by omega⟩ :=
  Fin.sum_univ_add (a := 2048) (b := 2048) f

theorem left2 (t : Fin cfg0.N) (h1 : t.val % 2 = 1) (i : Fin 2816) (k : Fin 512) : (outsAt0 m c t.val t.isLt).1 (ix2 i k) = grad m c i (col t k) := by
  have ht := t.isLt
  rw [second m c t h1, first m c ⟨t.val - 1, by omega⟩ (by show (t.val - 1) % 2 = 0; omega)]
  unfold grad part
  rw [halves]
  refine congrArg₂ (· + ·) (Finset.sum_congr rfl fun r _ => ?_) (Finset.sum_congr rfl fun r _ => ?_)
  · have er : row ⟨t.val - 1, by omega⟩ r = ⟨r.val, by omega⟩ := Fin.ext (by show (t.val - 1) % 2 * 2048 + r.val = r.val; omega)
    have ec : col ⟨t.val - 1, by omega⟩ k = col t k := Fin.ext (by show (t.val - 1) / 2 * 512 + k.val = t.val / 2 * 512 + k.val; omega)
    rw [er, ec]
  · have er : row t r = ⟨2048 + r.val, by omega⟩ := Fin.ext (by show t.val % 2 * 2048 + r.val = 2048 + r.val; omega)
    rw [er]

theorem final2 : (dats m 0 c).arrAt 2 cfg0.N = fun i : S2816x1024.Idx => grad m c (i 0) (i 1) := by
  refine (dats m 0 c).arrAt_eq_of_cover 2 _ (fun t hf => ?_) fun i => ?_
  · show (cfg0.win 2).cut (grid0.coords t) ((dats m 0 c).after 2 t) = _
    rw [after0_2]
    funext j
    obtain ⟨r, k, rfl⟩ : ∃ (r : Fin 2816) (k : Fin 512), j = ix2 r k := ⟨j 0, j 1, eq_ix2 j⟩
    refine (left2 m c t ((flush0_2 t).mp hf) r k).trans ?_
    show _ = (fun i : S2816x1024.Idx => grad m c (i 0) (i 1)) (((cfg0.win 2).blk t).view.emb (ix2 r k))
    rw [emb2]
    rfl
  · obtain ⟨r, k, rfl⟩ : ∃ (r : Fin 2816) (k : Fin 1024), i = ix2 r k := ⟨i 0, i 1, eq_ix2 i⟩
    have hN : cfg0.grid.N = 4 := N_0
    have hN' : cfg0.N = 4 := N_0
    have e := ((cfg0.win 2).blk ⟨k.val / 512 * 2 + 1, by omega⟩).view.emb_mem_set (ix2 r ⟨k.val % 512, by omega⟩)
    rw [emb2] at e
    have ec : col ⟨k.val / 512 * 2 + 1, by omega⟩ ⟨k.val % 512, by omega⟩ = k := Fin.ext (by show (k.val / 512 * 2 + 1) / 2 * 512 + k.val % 512 = k.val; omega)
    rw [ec] at e
    exact ⟨_, (flush0_2 _).mpr (by show (k.val / 512 * 2 + 1) % 2 = 1; omega), e⟩

end Cert.Kernel8Ideal.Down
-- ==== Proof.DownPair.lean ====
/-
The weight gradient of the feed-forward's last product and its reference end with the same array.
-/
module

public import proofs.«01_k».proof.Defs
public import proofs.«01_k».proof.Proof.Gen.Kernel8.Frame
public import proofs.«01_k».proof.Proof.DownKernel
public import proofs.«01_k».proof.Proof.Gen.Reference8Ideal.Read

@[expose] public section

set_option maxRecDepth 16384

noncomputable section

namespace Cert.Down

open Idealize.ShloMosaic Idealize.ShloMosaic.TcCoe Idealize.SL.Sem Cert.Common

/-- The reference's product at one index. -/
theorem ref_at (x0 : FVec Ideal Reference8Ideal.S4096x2816 .f32) (x1 : FVec Ideal Reference8Ideal.S4096x1024 .f32) (i : Fin 2816) (k : Fin 1024) :
    Reference8Ideal.Read.val_main_v4 (F := Ideal) x0 x1 (ix2 i k) = ∑ r : Fin 4096, x0 (ix2 r i) * x1 (ix2 r k) := by
  pointwise [Reference8Ideal.Read.val_main_v4, Reference8Ideal.Read.val_main_v3, Reference8Ideal.Read.val_main_v2]
  exact Finset.sum_congr rfl fun _ _ => mul_comm _ _

/-- The reference's frame. -/
theorem frame_reference : quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

/-- The results agree. -/
theorem value : algebraic_Kernel8Ideal_Reference8Ideal := by
  intro m g m' g' _ hargs
  refine ⟨fun c => fun (i : Kernel8Ideal.S2816x1024.Idx) => Kernel8Ideal.Down.grad m c (i (0 : Fin 2)) (i (1 : Fin 2)), ?_, ?_⟩
  · refine (θ_run Kernel8Ideal.defs _ _).mono (fun r hr c => ?_) (Kernel8Ideal.Value.run_blocks (F := Ideal) m g)
    obtain ⟨k0, hk⟩ := hr c
    exact ⟨k0.trans (Kernel8Ideal.Down.final2 m c), hk⟩
  · refine (θ_run Reference8Ideal.defs _ _).mono (fun r hr c => ?_) (Reference8Ideal.Value.run (F := Ideal) m' g')
    obtain ⟨r0, hk⟩ := hr c
    obtain ⟨a0, a1⟩ := hargs c
    refine ⟨r0.trans ((Reference8Ideal.Read.val_main_v4_eq _ _).trans (ext2 fun i k => (ref_at _ _ i k).trans ?_)), hk⟩
    rw [a0, a1]
    rfl

end Cert.Down
-- ==== Proof.Pieces.lean ====
/-
A buffer stored piece by piece, read at one index: the last piece that holds the index gives its value.
-/
module

public import proofs.«01_k».proof.Proof.Common
public import Idealize.ShloMosaic.Lib.Pipeline.Value
public import Idealize.ShloMosaic.Lib.Pipeline.ValueKit.Tiles
public import Idealize.ShloMosaic.Lib.Writes

@[expose] public section

set_option maxRecDepth 16384

noncomputable section

open Idealize.ShloMosaic

namespace Cert.Common

variable {Val : EltTy → Type} {S : Shape} {e : EltTy} [∀ e, Nonempty (Val e)]

/-- Inside the last piece stored, its value. -/
theorem canon_in (off size : Fin S.rank → ℕ) (inb) (w : (Rect.unit off size inb).shape.Idx → Val e) (L : List (View.Piece Val S e)) (y : S.Idx)
    (x : (Rect.unit off size inb).shape.Idx) (h : ∀ a, (y a).val = off a + (x a).val) : View.canon (⟨Rect.unit off size inb, w⟩ :: L) y = w x := by
  have hy : y = (Rect.unit off size inb).emb x := funext fun a => Fin.ext ((h a).trans (by rw [Rect.emb_apply]; show _ = off a + 1 * (x a).val; omega))
  rw [hy]
  exact View.canon_cons_emb _ w L x

/-- Off it, the value of the pieces stored before. -/
theorem canon_off (off size : Fin S.rank → ℕ) (inb) (w : (Rect.unit off size inb).shape.Idx → Val e) (L : List (View.Piece Val S e)) (y : S.Idx)
    (a : Fin S.rank) (h : (y a).val < off a ∨ off a + size a ≤ (y a).val) : View.canon (⟨Rect.unit off size inb, w⟩ :: L) y = View.canon L y := by
  exact View.canon_cons_of_not_mem _ L (Rect.not_mem_set_of_axis _ y a (off a) (size a) rfl rfl rfl h)

/-- A value both the last piece has, where it holds the index, and the earlier ones leave, where it does not. -/
theorem canon_step (off size : Fin S.rank → ℕ) (inb) (w : (Rect.unit off size inb).shape.Idx → Val e) (L : List (View.Piece Val S e)) (y : S.Idx) (v : Val e)
    (hin : ∀ x : (Rect.unit off size inb).shape.Idx, (∀ a, (y a).val = off a + (x a).val) → w x = v)
    (hout : ∀ a : Fin S.rank, (y a).val < off a ∨ off a + size a ≤ (y a).val → View.canon L y = v) : View.canon (⟨Rect.unit off size inb, w⟩ :: L) y = v := by
  by_cases h : ∃ a : Fin S.rank, (y a).val < off a ∨ off a + size a ≤ (y a).val
  · obtain ⟨a, ha⟩ := h
    exact (canon_off off size inb w L y a ha).trans (hout a ha)
  · have h' : ∀ a : Fin S.rank, off a ≤ (y a).val ∧ (y a).val < off a + size a := fun a => ⟨by by_contra hc; exact h ⟨a, .inl (by omega)⟩, by by_contra hc; exact h ⟨a, .inr (by omega)⟩⟩
    have hx : ∀ a, (y a).val = off a + ((y a).val - off a) := fun a => by have := h' a; omega
    let x : (Rect.unit off size inb).shape.Idx := fun a => ⟨(y a).val - off a, by have := h' a; show _ < size a; omega⟩
    exact (canon_in off size inb w L y x hx).trans (hin x hx)

/-- A load through a box of what the pieces left, at an index placed in the buffer. -/
theorem readCov_at {sig : RefSig} {κ : Kind} {sp : Space} (v : View sig κ sp S e) (L : List (View.Piece Val S e)) (off size : Fin S.rank → ℕ) (inb)
    (x : (Rect.unit off size inb).shape.Idx) (y : S.Idx) (h : ∀ a, (y a).val = off a + (x a).val) : v.readCov L (Rect.unit off size inb).toLoadRect x = View.canon L y :=
  (congrFun (View.readCov_eq_canon' v L _) x).trans (congrArg (View.canon L) (funext fun a => Fin.ext ((Rect.idx_unit_val off size inb x a).trans (h a).symm)))

end Cert.Common
-- ==== Proof.WOutKernel.lean ====
/-
The weight gradient of the output projection: what a grid point leaves, and the result array after the run.
-/
module

public import proofs.«01_k».proof.Proof.Pieces
public import proofs.«01_k».proof.Proof.Gen.Kernel9Ideal.Value
public import proofs.«01_k».proof.Proof.MixSpec
public import Idealize.ShloMosaic.Lib.StableHlo.ReadAt

@[expose] public section

set_option maxRecDepth 16384

noncomputable section

open Idealize.ShloMosaic Idealize.ShloMosaic.TcCoe Idealize.SL.Sem
open Cert.Common

namespace Cert.Kernel9Ideal.WOut

open Cert.Kernel9Ideal Cert.Kernel9Ideal.Gen

/-! ## The body's values at one index -/

theorem pay1_apply (y : S1024x512.Idx) : k0_pay1 (F := Ideal) y = 0 := by pointwise [k0_pay1]

theorem pay3_apply (d : Vec Ideal S1024x512 .bf16) (s : Vec Ideal S512x512 .f32) (a : Vec Ideal S1024x512 .f32) (i k : Fin 512) :
    k0_pay3 d s a (ix2 i k) = s (ix2 i k) + ∑ r : Fin 1024, a (ix2 r i) * d (ix2 r k) := by
  pointwise [k0_pay3, k0_pay2]

theorem pay4_apply (d : Vec Ideal S1024x512 .bf16) (s : Vec Ideal S512x512 .f32) (a : Vec Ideal S1024x512 .f32) (i k : Fin 512) :
    k0_pay4 d s a (ix2 i k) = s (ix2 i k) + ∑ r : Fin 1024, a (ix2 r i) * d (ix2 r k) := by
  pointwise [k0_pay4, k0_pay2]

theorem pay5_apply (a : Vec Ideal S1024x512 .f32) (y : S1024x512.Idx) : k0_pay5 a y = a y := by pointwise [k0_pay5]

/-- Two arrays side by side. -/
def beside (n : ℕ) (a b : (⟨2, ![n, 512]⟩ : Shape).Idx → EReal) (r : Fin n) (i : Fin 1024) : EReal :=
  if h : i.val < 512 then a (ix2 r ⟨i.val, h⟩) else b (ix2 r ⟨i.val - 512, by omega⟩)

/-- The two stores into the accumulator's halves add the product of the two arrays side by side. -/
theorem stored (d : Vec Ideal S1024x512 .bf16) (s s' : Vec Ideal S512x512 .f32) (a b : Vec Ideal S1024x512 .f32) (L : List (View.Piece (Elt Ideal) S1024x512 .f32)) (X : Fin 1024 → Fin 512 → EReal)
    (hs : ∀ (i k : Fin 512), s (ix2 i k) = X ⟨i.val, by omega⟩ k) (hs' : ∀ (i k : Fin 512), s' (ix2 i k) = X ⟨512 + i.val, by omega⟩ k) (i : Fin 1024) (k : Fin 512) :
    View.canon (Val := Elt Ideal) (s := S1024x512) (e := .f32) (⟨Rect.unit (s := S1024x512) ![512, 0] S512x512.size inb_S1024x512_S512x512_512_0, k0_pay4 d s' b⟩
      :: ⟨Rect.unit (s := S1024x512) ![0, 0] S512x512.size inb_S1024x512_S512x512_0_0, k0_pay3 d s a⟩ :: L) (ix2 i k)
      = X i k + ∑ r : Fin 1024, beside 1024 a b r i * d (ix2 r k) := by
  by_cases h : i.val < 512
  · refine (canon_off _ _ _ _ _ _ (0 : Fin 2) (.inl h)).trans ((canon_in _ _ _ _ _ _ (ix2 ⟨i.val, h⟩ k) fun a => ?_).trans ?_)
    · match a with
      | ⟨0, _⟩ => exact (Nat.zero_add _).symm
      | ⟨1, _⟩ => exact (Nat.zero_add _).symm
    · refine (pay3_apply d s a ⟨i.val, h⟩ k).trans ?_
      rw [hs]
      simp only [beside, dif_pos h]
  · refine (canon_in _ _ _ _ _ _ (ix2 ⟨i.val - 512, by omega⟩ k) fun a => ?_).trans ?_
    · match a with
      | ⟨0, _⟩ => show i.val = 512 + (i.val - 512); omega
      | ⟨1, _⟩ => exact (Nat.zero_add _).symm
    · refine (pay4_apply d s' b ⟨i.val - 512, by omega⟩ k).trans ?_
      rw [hs', show (⟨512 + (i.val - 512), by omega⟩ : Fin 1024) = i from Fin.ext (by show 512 + (i.val - 512) = i.val; omega)]
      simp only [beside, dif_neg h]

variable (m : (ℓ : Loc nD τ sig) → Buf (Elt Ideal) ℓ) (c : Dev nD)

/-! ## Where a block's index lies in its array -/

/-- Row `r` of point `t`'s block of rows: the grid's second axis walks the rows. -/
def row (t : Fin cfg0.N) (r : Fin 1024) : Fin 4096 := ⟨t.val % 4 * 1024 + r.val, by omega⟩

/-- Column `k` of point `t`'s block of columns: the grid's first axis walks the columns. -/
def col (t : Fin cfg0.N) (k : Fin 512) : Fin 1024 := ⟨t.val / 4 * 512 + k.val, by have := t.isLt; have : cfg0.N = 8 := N_0; omega⟩

theorem index_eq : ∀ t : Fin grid0.N, (win0_0.index t (0 : Fin 2) = t.val % 4 ∧ win0_0.index t (1 : Fin 2) = 0)
    ∧ (win0_1.index t (0 : Fin 2) = t.val % 4 ∧ win0_1.index t (1 : Fin 2) = 0)
    ∧ (win0_2.index t (0 : Fin 2) = t.val % 4 ∧ win0_2.index t (1 : Fin 2) = t.val / 4)
    ∧ (win0_3.index t (0 : Fin 2) = 0 ∧ win0_3.index t (1 : Fin 2) = t.val / 4) := by decide +kernel

theorem emb0 (t : Fin cfg0.N) (r : Fin 1024) (k : Fin 512) : ((cfg0.win 0).blk t).view.emb (ix2 r k) = ix2 (row t r) k :=
  ix2_of (by show win0_0.index t (0 : Fin 2) * 1024 + 1 * r.val = t.val % 4 * 1024 + r.val; have := (index_eq t).1; omega)
    (by show win0_0.index t (1 : Fin 2) * 512 + 1 * k.val = k.val; have := (index_eq t).1; omega)

theorem emb1 (t : Fin cfg0.N) (r : Fin 1024) (k : Fin 512) : ((cfg0.win 1).blk t).view.emb (ix2 r k) = ix2 (row t r) k :=
  ix2_of (by show win0_1.index t (0 : Fin 2) * 1024 + 1 * r.val = t.val % 4 * 1024 + r.val; have := (index_eq t).2.1; omega)
    (by show win0_1.index t (1 : Fin 2) * 512 + 1 * k.val = k.val; have := (index_eq t).2.1; omega)

theorem emb2 (t : Fin cfg0.N) (r : Fin 1024) (k : Fin 512) : ((cfg0.win 2).blk t).view.emb (ix2 r k) = ix2 (row t r) (col t k) :=
  ix2_of (by show win0_2.index t (0 : Fin 2) * 1024 + 1 * r.val = t.val % 4 * 1024 + r.val; have := (index_eq t).2.2.1; omega)
    (by show win0_2.index t (1 : Fin 2) * 512 + 1 * k.val = t.val / 4 * 512 + k.val; have := (index_eq t).2.2.1; omega)

theorem emb3 (t : Fin cfg0.N) (r : Fin 1024) (k : Fin 512) : ((cfg0.win 3).blk t).view.emb (ix2 r k) = ix2 r (col t k) :=
  ix2_of (by show win0_3.index t (0 : Fin 2) * 1024 + 1 * r.val = r.val; have := (index_eq t).2.2.2; omega)
    (by show win0_3.index t (1 : Fin 2) * 512 + 1 * k.val = t.val / 4 * 512 + k.val; have := (index_eq t).2.2.2; omega)

/-! ## The arrays behind the points' input blocks -/

/-- The two mixers' outputs, the first two arguments, -/
def outA : FVec Ideal S4096x512 .f32 := m ((c : Thread nD τ).loc main_arg0)
def outB : FVec Ideal S4096x512 .f32 := m ((c : Thread nD τ).loc main_arg1)

/-- and the cotangent, the third. -/
def dmix : FVec Ideal S4096x1024 .f32 := m ((c : Thread nD τ).loc main_arg2)

theorem dmix_at (i : Fin 4096) (k : Fin 1024) : (V m c main_v0 : FVec Ideal S4096x1024 .bf16) (ix2 i k) = dmix m c (ix2 i k) := by
  unfold V hostOps0
  after_reads_at
  rfl

theorem block0 (t : Fin cfg0.N) (r : Fin 1024) (k : Fin 512) : iblk m c 0 t (ix2 r k) = outA m c (ix2 (row t r) k) := by
  show V m c main_arg0 (((cfg0.win 0).blk t).view.emb (ix2 r k)) = _
  rw [emb0, V_main_arg0]; rfl

theorem block1 (t : Fin cfg0.N) (r : Fin 1024) (k : Fin 512) : iblk m c 1 t (ix2 r k) = outB m c (ix2 (row t r) k) := by
  show V m c main_arg1 (((cfg0.win 1).blk t).view.emb (ix2 r k)) = _
  rw [emb1, V_main_arg1]; rfl

theorem block2 (t : Fin cfg0.N) (r : Fin 1024) (k : Fin 512) : iblk m c 2 t (ix2 r k) = dmix m c (ix2 (row t r) (col t k)) := by
  show V m c main_v0 (((cfg0.win 2).blk t).view.emb (ix2 r k)) = _
  rw [emb2]; exact dmix_at m c _ _

theorem read_a (t : Fin cfg0.N) : (ms0_0 t).view.read (Elt Ideal) ((hs0_0 t).unread (iblk m c 0 t)) = iblk m c 0 t := (hs0_0 t).read_unread _
theorem read_b (t : Fin cfg0.N) : (ms0_1 t).view.read (Elt Ideal) ((hs0_1 t).unread (iblk m c 1 t)) = iblk m c 1 t := (hs0_1 t).read_unread _
theorem read_d (t : Fin cfg0.N) : (ms0_2 t).view.read (Elt Ideal) ((hs0_2 t).unread (iblk m c 2 t)) = iblk m c 2 t := (hs0_2 t).read_unread _

/-! ## What the points leave -/

/-- The product over point `t`'s rows. -/
def part (t : Fin cfg0.N) (i : Fin 1024) (k : Fin 512) : EReal := ∑ r : Fin 1024, beside 4096 (outA m c) (outB m c) (row t r) i * dmix m c (ix2 (row t r) (col t k))

theorem part_eq (t : Fin cfg0.N) (i : Fin 1024) (k : Fin 512) :
    (∑ r : Fin 1024, beside 1024 (iblk m c 0 t) (iblk m c 1 t) r i * (iblk m c 2 t : FVec Ideal S1024x512 .bf16) (ix2 r k)) = part m c t i k := by
  unfold part beside
  simp only [block0, block1, block2]

/-- A point over the first rows leaves its product in the accumulator. -/
theorem first (t : Fin cfg0.N) (h0 : t.val % 4 = 0) (i : Fin 1024) (k : Fin 512) : (outsAt0 m c t.val t.isLt).2 (ix2 i k) = part m c t i k := by
  have h1 : ¬t.val % 4 = 3 := by omega
  rw [outsAt0_A m c t h0 h1]
  dsimp only
  unfold sout0_A_0
  rw [View.read_writes_eq_canon _ _ _ (fun _ => scover0_A_0 ..)]
  unfold kernelRun0_A
  dsimp only
  sl_unfold_words
  simp only [View.readAt_eq_ld, read_a m c t, read_b m c t, read_d m c t, View.ld_unit_zero (S := S1024x512) zero2]
  refine (stored _ _ _ _ _ _ (fun _ _ => 0) (fun i k => ?_) (fun i k => ?_) i k).trans ((zero_add _).trans (part_eq m c t i k))
  · refine (readCov_at _ _ _ _ _ _ (ix2 ⟨i.val, by omega⟩ k) fun a => ?_).trans ((congrFun (View.canon_cons_unit_zero (S := S1024x512) zero2 _ _ _) _).trans (pay1_apply _))
    match a with
    | ⟨0, _⟩ => exact (Nat.zero_add _).symm
    | ⟨1, _⟩ => exact (Nat.zero_add _).symm
  · refine (readCov_at _ _ _ _ _ _ (ix2 ⟨512 + i.val, by omega⟩ k) fun a => ?_).trans ((canon_off _ _ _ _ _ _ (0 : Fin 2) (.inr (by show 0 + 512 ≤ 512 + i.val; omega))).trans
      ((congrFun (View.canon_cons_unit_zero (S := S1024x512) zero2 _ _ _) _).trans (pay1_apply _)))
    match a with
    | ⟨0, _⟩ => rfl
    | ⟨1, _⟩ => exact (Nat.zero_add _).symm

/-- The contents a point found, through a box of the accumulator. -/
theorem found (X : Vec Ideal S1024x512 .f32) (o : ℕ) (inb) (i k : Fin 512) (ho : o + i.val < 1024) :
    View.ld X (Rect.unit (s := S1024x512) ![o, 0] S512x512.size inb) (ix2 i k) = X (ix2 ⟨o + i.val, ho⟩ k) :=
  View.ld_unit_apply_of X _ _ _ _ _ fun a => by
    match a with
    | ⟨0, _⟩ => rfl
    | ⟨1, _⟩ => exact (Nat.zero_add _).symm

/-- What the point before `t` left in the accumulator. -/
abbrev before (t : Fin cfg0.N) : Vec Ideal S1024x512 .f32 := (outsAt0 m c (t.val - 1) (Nat.lt_of_le_of_lt (Nat.sub_le _ _) t.isLt)).2

theorem read_before (t : Fin cfg0.N) (h) : scM0_0.view.read (Elt Ideal) (Memref.IsWhole.unread h (before m c t)) = before m c t := Memref.IsWhole.read_unread _ _

/-- A point over later rows adds its product to what the accumulator held. -/
theorem next (t : Fin cfg0.N) (h0 : ¬t.val % 4 = 0) (h1 : ¬t.val % 4 = 3) (i : Fin 1024) (k : Fin 512) :
    (outsAt0 m c t.val t.isLt).2 (ix2 i k) = before m c t (ix2 i k) + part m c t i k := by
  rw [outsAt0_B m c t h0 h1]
  dsimp only
  unfold sout0_B_0
  rw [View.read_writes_eq_canon _ _ _ (fun _ => scover0_B_0 ..)]
  unfold kernelRun0_B
  dsimp only
  sl_unfold_words
  simp only [View.readAt_eq_ld, read_a m c t, read_b m c t, read_d m c t, View.ld_unit_zero (S := S1024x512) zero2]
  refine (stored _ _ _ _ _ _ (fun i k => before m c t (ix2 i k)) (fun i k => ?_) (fun i k => ?_) i k).trans (congrArg (_ + ·) (part_eq m c t i k))
  · rw [read_before m c t, found _ 0 _ _ _ (by omega)]
    exact congrArg (fun q => before m c t (ix2 q k)) (Fin.ext (Nat.zero_add _))
  · rw [read_before m c t, found _ 512 _ _ _ (by omega)]

/-- A point over the last rows also leaves the sum in the result's block. -/
theorem last (t : Fin cfg0.N) (h1 : t.val % 4 = 3) (i : Fin 1024) (k : Fin 512) :
    (outsAt0 m c t.val t.isLt).1 (ix2 i k) = before m c t (ix2 i k) + part m c t i k := by
  have h0 : ¬t.val % 4 = 0 := by omega
  rw [outsAt0_C m c t h0 h1]
  dsimp only
  unfold out0_C_3
  rw [View.read_writes_eq_canon _ _ _ (fun _ => cover0_C_3 ..)]
  unfold kernelRun0_C
  dsimp only
  sl_unfold_words
  rw [View.canon_unit_zero zero2, pay5_apply]
  refine (readCov_at _ _ _ _ _ _ (ix2 i k) fun a => ?_).trans ?_
  · match a with
    | ⟨0, _⟩ => exact (Nat.zero_add _).symm
    | ⟨1, _⟩ => exact (Nat.zero_add _).symm
  simp only [View.readAt_eq_ld, read_a m c t, read_b m c t, read_d m c t, View.ld_unit_zero (S := S1024x512) zero2]
  refine (stored _ _ _ _ _ _ (fun i k => before m c t (ix2 i k)) (fun i k => ?_) (fun i k => ?_) i k).trans (congrArg (_ + ·) (part_eq m c t i k))
  · rw [read_before m c t, found _ 0 _ _ _ (by omega)]
    exact congrArg (fun q => before m c t (ix2 q k)) (Fin.ext (Nat.zero_add _))
  · rw [read_before m c t, found _ 512 _ _ _ (by omega)]

/-! ## The result array -/

/-- The product over all rows. -/
def grad (i : Fin 1024) (k : Fin 1024) : EReal := ∑ r : Fin 4096, beside 4096 (outA m c) (outB m c) r i * dmix m c (ix2 r k)

/-- A sum over the rows is the sum over its four quarters. -/
theorem quarters (f : Fin 4096 → EReal) : ∑ r, f r = (((∑ r : Fin 1024, f ⟨r.val, by omega⟩) + ∑ r : Fin 1024, f ⟨1024 + r.val, by omega⟩)
    + ∑ r : Fin 1024, f ⟨2048 + r.val, by omega⟩) + ∑ r : Fin 1024, f ⟨3072 + r.val, by omega⟩ := by
  rw [show (∑ r, f r) = _ from Fin.sum_univ_add (a := 3072) (b := 1024) f]
  refine congrArg₂ (· + ·) ?_ rfl
  rw [show (∑ r : Fin 3072, f (Fin.castAdd 1024 r)) = _ from Fin.sum_univ_add (a := 2048) (b := 1024) fun r => f (Fin.castAdd 1024 r)]
  refine congrArg₂ (· + ·) ?_ rfl
  exact Fin.sum_univ_add (a := 1024) (b := 1024) fun r => f (Fin.castAdd 1024 (Fin.castAdd 1024 r))

/-- Point `t`'s product is the quarter of the rows it reads. -/
theorem part_at (t u : Fin cfg0.N) (q o : ℕ) (hq : u.val = t.val - q) (ho : u.val % 4 * 1024 = o) (hc : u.val / 4 = t.val / 4) (hb : o ≤ 3072) (i : Fin 1024) (k : Fin 512) :
    part m c u i k = ∑ r : Fin 1024, beside 4096 (outA m c) (outB m c) ⟨o + r.val, by omega⟩ i * dmix m c (ix2 ⟨o + r.val, by omega⟩ (col t k)) := by
  unfold part
  have ec : col u k = col t k := Fin.ext (by show u.val / 4 * 512 + k.val = t.val / 4 * 512 + k.val; omega)
  have er : ∀ r, row u r = ⟨o + r.val, by omega⟩ := fun r => Fin.ext (by show u.val % 4 * 1024 + r.val = o + r.val; omega)
  simp only [ec, er]

theorem left3 (t : Fin cfg0.N) (h1 : t.val % 4 = 3) (i : Fin 1024) (k : Fin 512) : (outsAt0 m c t.val t.isLt).1 (ix2 i k) = grad m c i (col t k) := by
  have ht := t.isLt
  have e2 := next m c ⟨t.val - 1, by omega⟩ (by show ¬(t.val - 1) % 4 = 0; omega) (by show ¬(t.val - 1) % 4 = 3; omega) i k
  have e1 := next m c ⟨t.val - 1 - 1, by omega⟩ (by show ¬(t.val - 1 - 1) % 4 = 0; omega) (by show ¬(t.val - 1 - 1) % 4 = 3; omega) i k
  have e0 := first m c ⟨t.val - 1 - 1 - 1, by omega⟩ (by show (t.val - 1 - 1 - 1) % 4 = 0; omega) i k
  refine (last m c t h1 i k).trans ?_
  refine (congrArg (· + _) (e2.trans (congrArg (· + _) (e1.trans (congrArg (· + _) e0))))).trans ?_
  rw [part_at m c t _ 3 0 (by show t.val - 1 - 1 - 1 = t.val - 3; omega) (by show (t.val - 1 - 1 - 1) % 4 * 1024 = 0; omega) (by show (t.val - 1 - 1 - 1) / 4 = t.val / 4; omega) (by omega),
    part_at m c t _ 2 1024 (by show t.val - 1 - 1 = t.val - 2; omega) (by show (t.val - 1 - 1) % 4 * 1024 = 1024; omega) (by show (t.val - 1 - 1) / 4 = t.val / 4; omega) (by omega),
    part_at m c t _ 1 2048 rfl (by show (t.val - 1) % 4 * 1024 = 2048; omega) (by show (t.val - 1) / 4 = t.val / 4; omega) (by omega),
    part_at m c t t 0 3072 rfl (by omega) rfl (by omega)]
  unfold grad
  rw [quarters]
  simp only [Nat.zero_add]

theorem final3 : (dats m 0 c).arrAt 3 cfg0.N = fun i : S1024x1024.Idx => grad m c (i 0) (i 1) := by
  refine (dats m 0 c).arrAt_eq_of_cover 3 _ (fun t hf => ?_) fun i => ?_
  · show (cfg0.win 3).cut (grid0.coords t) ((dats m 0 c).after 3 t) = _
    rw [after0_3]
    funext j
    obtain ⟨r, k, rfl⟩ : ∃ (r : Fin 1024) (k : Fin 512), j = ix2 r k := ⟨j 0, j 1, eq_ix2 j⟩
    refine (left3 m c t ((flush0_3 t).mp hf) r k).trans ?_
    show _ = (fun i : S1024x1024.Idx => grad m c (i 0) (i 1)) (((cfg0.win 3).blk t).view.emb (ix2 r k))
    rw [emb3]
    rfl
  · obtain ⟨r, k, rfl⟩ : ∃ (r : Fin 1024) (k : Fin 1024), i = ix2 r k := ⟨i 0, i 1, eq_ix2 i⟩
    have hN : cfg0.grid.N = 8 := N_0
    have hN' : cfg0.N = 8 := N_0
    have e := ((cfg0.win 3).blk ⟨k.val / 512 * 4 + 3, by omega⟩).view.emb_mem_set (ix2 r ⟨k.val % 512, by omega⟩)
    rw [emb3] at e
    have ec : col ⟨k.val / 512 * 4 + 3, by omega⟩ ⟨k.val % 512, by omega⟩ = k := Fin.ext (by show (k.val / 512 * 4 + 3) / 4 * 512 + k.val % 512 = k.val; omega)
    rw [ec] at e
    exact ⟨_, (flush0_3 _).mpr (by show (k.val / 512 * 4 + 3) % 4 = 3; omega), e⟩

end Cert.Kernel9Ideal.WOut
-- ==== Proof.WOutPair.lean ====
/-
The weight gradient of the output projection and its reference end with the same array.
-/
module

public import proofs.«01_k».proof.Defs
public import proofs.«01_k».proof.Proof.Gen.Kernel9.Frame
public import proofs.«01_k».proof.Proof.WOutKernel
public import proofs.«01_k».proof.Proof.Gen.Reference9Ideal.Read

@[expose] public section

set_option maxRecDepth 16384

noncomputable section

namespace Cert.WOut

open Idealize.ShloMosaic Idealize.ShloMosaic.TcCoe Idealize.SL.Sem Cert.Common
open Cert.Kernel9Ideal.WOut (beside)

/-- The reference's product at one index. -/
theorem ref_at (x0 x1 : FVec Ideal Reference9Ideal.S4096x512 .f32) (x2 : FVec Ideal Reference9Ideal.S4096x1024 .f32) (i k : Fin 1024) :
    Reference9Ideal.Read.val_main_v5 (F := Ideal) x0 x1 x2 (ix2 i k) = ∑ r : Fin 4096, beside 4096 x0 x1 r i * x2 (ix2 r k) := by
  pointwise [Reference9Ideal.Read.val_main_v5, Reference9Ideal.Read.val_main_v4, Reference9Ideal.Read.val_main_v3, Reference9Ideal.Read.val_main_v1]
  exact Finset.sum_congr rfl fun _ _ => mul_comm _ _

/-- The reference's frame. -/
theorem frame_reference : quiescent_Reference9Ideal := fun m ρ _ =>
  (θ_run Reference9Ideal.defs _ _).mono (fun r h => ⟨fun c => (h c).2, sem_eq_zero_of_no_sems (by decide) r.2⟩)
    (Reference9Ideal.Value.run (F := Ideal) m ρ)

/-- The results agree. -/
theorem value : algebraic_Kernel9Ideal_Reference9Ideal := by
  intro m g m' g' _ hargs
  refine ⟨fun c => fun (i : Kernel9Ideal.S1024x1024.Idx) => Kernel9Ideal.WOut.grad m c (i (0 : Fin 2)) (i (1 : Fin 2)), ?_, ?_⟩
  · refine (θ_run Kernel9Ideal.defs _ _).mono (fun r hr c => ?_) (Kernel9Ideal.Value.run_blocks (F := Ideal) m g)
    obtain ⟨k0, hk⟩ := hr c
    exact ⟨k0.trans (Kernel9Ideal.WOut.final3 m c), hk⟩
  · refine (θ_run Reference9Ideal.defs _ _).mono (fun r hr c => ?_) (Reference9Ideal.Value.run (F := Ideal) m' g')
    obtain ⟨r0, hk⟩ := hr c
    obtain ⟨a0, a1, a2⟩ := hargs c
    refine ⟨r0.trans ((Reference9Ideal.Read.val_main_v5_eq _ _ _).trans (ext2 fun i k => (ref_at _ _ _ i k).trans ?_)), hk⟩
    rw [a0, a1, a2]
    rfl

end Cert.WOut
-- ==== Proof.WInKernel.lean ====
/-
The weight gradient of the input projection: what a grid point leaves, and the result array after the run.
-/
module

public import proofs.«01_k».proof.Proof.Pieces
public import proofs.«01_k».proof.Proof.WOutKernel
public import proofs.«01_k».proof.Proof.Gen.Kernel10Ideal.Value
public import proofs.«01_k».proof.Proof.MixSpec
public import Idealize.ShloMosaic.Lib.StableHlo.ReadAt

@[expose] public section

set_option maxRecDepth 16384

noncomputable section

open Idealize.ShloMosaic Idealize.ShloMosaic.TcCoe Idealize.SL.Sem
open Cert.Common

namespace Cert.Kernel10Ideal.WIn

open Cert.Kernel10Ideal Cert.Kernel10Ideal.Gen

/-! ## The body's values at one index -/

theorem pay15_apply (y : S1024x3712.Idx) : k0_pay15 (F := Ideal) y = 0 := by pointwise [k0_pay15]

theorem pay16_eq (h : Vec Ideal S1024x1024 .bf16) : k0_pay16 h = h := funext fun y => by pointwise [k0_pay16]

theorem pay17_apply (h : Vec Ideal S1024x1024 .bf16) (s : Vec Ideal S1024x1536 .f32) (d : Vec Ideal S1024x1536 .bf16) (i : Fin 1024) (q : Fin 1536) :
    k0_pay17 h s d (ix2 i q) = s (ix2 i q) + ∑ r : Fin 1024, h (ix2 r i) * d (ix2 r q) := by pointwise [k0_pay17, k0_pay16]

theorem pay18_apply (h : Vec Ideal S1024x1024 .bf16) (s : Vec Ideal S1024x512 .f32) (d : Vec Ideal S1024x512 .bf16) (i : Fin 1024) (q : Fin 512) :
    k0_pay18 h s d (ix2 i q) = s (ix2 i q) + ∑ r : Fin 1024, h (ix2 r i) * d (ix2 r q) := by pointwise [k0_pay18, k0_pay16]

theorem pay19_apply (h : Vec Ideal S1024x1024 .bf16) (s : Vec Ideal S1024x512 .f32) (d : Vec Ideal S1024x512 .bf16) (i : Fin 1024) (q : Fin 512) :
    k0_pay19 h s d (ix2 i q) = s (ix2 i q) + ∑ r : Fin 1024, h (ix2 r i) * d (ix2 r q) := by pointwise [k0_pay19, k0_pay16]

theorem pay1_apply (h : Vec Ideal S1024x1024 .bf16) (s : Vec Ideal S1024x512 .f32) (d : Vec Ideal S1024x512 .bf16) (i : Fin 1024) (q : Fin 512) :
    k0_pay1 h s d (ix2 i q) = s (ix2 i q) + ∑ r : Fin 1024, h (ix2 r i) * d (ix2 r q) := by pointwise [k0_pay1, k0_pay16]

theorem pay2_apply (h : Vec Ideal S1024x1024 .bf16) (s : Vec Ideal S1024x512 .f32) (d : Vec Ideal S1024x512 .bf16) (i : Fin 1024) (q : Fin 512) :
    k0_pay2 h s d (ix2 i q) = s (ix2 i q) + ∑ r : Fin 1024, h (ix2 r i) * d (ix2 r q) := by pointwise [k0_pay2, k0_pay16]

theorem pay3_apply (h : Vec Ideal S1024x1024 .bf16) (s : Vec Ideal S1024x128 .f32) (d : Vec Ideal S1024x128 .bf16) (i : Fin 1024) (q : Fin 128) :
    k0_pay3 h s d (ix2 i q) = s (ix2 i q) + ∑ r : Fin 1024, h (ix2 r i) * d (ix2 r q) := by pointwise [k0_pay3, k0_pay16]

/-! ## The accumulator -/

/-- A store of whole rows' columns, and the earlier ones off it. -/
theorem step (off w : ℕ) (hw : off + w ≤ 3712) (inb) (p : (⟨2, ![1024, w]⟩ : Shape).Idx → EReal) (L : List (View.Piece (Elt Ideal) S1024x3712 .f32)) (T : Fin 1024 → Fin 3712 → EReal)
    (h : ∀ (i : Fin 1024) (q : Fin w), p (ix2 i q) = T i ⟨off + q.val, by omega⟩) (i : Fin 1024) (k : Fin 3712)
    (hout : k.val < off ∨ off + w ≤ k.val → View.canon (Val := Elt Ideal) (s := S1024x3712) (e := .f32) L (ix2 i k) = T i k) :
    View.canon (Val := Elt Ideal) (s := S1024x3712) (e := .f32) (⟨Rect.unit (s := S1024x3712) ![0, off] ![1024, w] inb, p⟩ :: L) (ix2 i k) = T i k := by
  refine canon_step _ _ _ _ _ _ _ (fun x hx => ?_) fun a ha => ?_
  · have h0 : i.val = 0 + (x (0 : Fin 2)).val := hx 0
    have h1 : k.val = off + (x (1 : Fin 2)).val := hx 1
    refine (congrArg p (eq_ix2 x)).trans ((h _ _).trans (congrArg₂ T (Fin.ext ?_) (Fin.ext h1.symm)))
    exact (Nat.zero_add _).symm.trans h0.symm
  · match a with
    | ⟨0, _⟩ => exact absurd ha (by have := i.isLt; show ¬(i.val < 0 ∨ 0 + 1024 ≤ i.val); omega)
    | ⟨1, _⟩ => exact hout ha

/-- The six stores of a point. -/
theorem stored (p1 : (⟨2, ![1024, 1536]⟩ : Shape).Idx → EReal) (p2 : (⟨2, ![1024, 512]⟩ : Shape).Idx → EReal) (p3 : (⟨2, ![1024, 512]⟩ : Shape).Idx → EReal) (p4 : (⟨2, ![1024, 512]⟩ : Shape).Idx → EReal) (p5 : (⟨2, ![1024, 512]⟩ : Shape).Idx → EReal) (p6 : (⟨2, ![1024, 128]⟩ : Shape).Idx → EReal) (L : List (View.Piece (Elt Ideal) S1024x3712 .f32)) (T : Fin 1024 → Fin 3712 → EReal)
    (h1 : ∀ (i : Fin 1024) (q : Fin 1536), p1 (ix2 i q) = T i ⟨0 + q.val, by omega⟩)
    (h2 : ∀ (i : Fin 1024) (q : Fin 512), p2 (ix2 i q) = T i ⟨1536 + q.val, by omega⟩)
    (h3 : ∀ (i : Fin 1024) (q : Fin 512), p3 (ix2 i q) = T i ⟨2048 + q.val, by omega⟩)
    (h4 : ∀ (i : Fin 1024) (q : Fin 512), p4 (ix2 i q) = T i ⟨2560 + q.val, by omega⟩)
    (h5 : ∀ (i : Fin 1024) (q : Fin 512), p5 (ix2 i q) = T i ⟨3072 + q.val, by omega⟩)
    (h6 : ∀ (i : Fin 1024) (q : Fin 128), p6 (ix2 i q) = T i ⟨3584 + q.val, by omega⟩)
    (i : Fin 1024) (k : Fin 3712) :
    View.canon (Val := Elt Ideal) (s := S1024x3712) (e := .f32) (⟨Rect.unit (s := S1024x3712) ![0, 3584] S1024x128.size inb_S1024x3712_S1024x128_0_3584, p6⟩ :: ⟨Rect.unit (s := S1024x3712) ![0, 3072] S1024x512.size inb_S1024x3712_S1024x512_0_3072, p5⟩ :: ⟨Rect.unit (s := S1024x3712) ![0, 2560] S1024x512.size inb_S1024x3712_S1024x512_0_2560, p4⟩ :: ⟨Rect.unit (s := S1024x3712) ![0, 2048] S1024x512.size inb_S1024x3712_S1024x512_0_2048, p3⟩ :: ⟨Rect.unit (s := S1024x3712) ![0, 1536] S1024x512.size inb_S1024x3712_S1024x512_0_1536, p2⟩ :: ⟨Rect.unit (s := S1024x3712) ![0, 0] S1024x1536.size inb_S1024x3712_S1024x1536_0_0, p1⟩ :: L) (ix2 i k) = T i k := by
  refine step 3584 128 (by omega) _ _ _ T h6 i k fun o6 => ?_
  refine step 3072 512 (by omega) _ _ _ T h5 i k fun o5 => ?_
  refine step 2560 512 (by omega) _ _ _ T h4 i k fun o4 => ?_
  refine step 2048 512 (by omega) _ _ _ T h3 i k fun o3 => ?_
  refine step 1536 512 (by omega) _ _ _ T h2 i k fun o2 => ?_
  refine step 0 1536 (by omega) _ _ _ T h1 i k fun o1 => ?_
  have := k.isLt
  omega

/-- A point's product, added to what the accumulator held. -/
theorem added {off w : ℕ} {hw : ∀ q : Fin w, off + q.val < 3712} (X D : Fin 1024 → Fin 3712 → EReal) {h : Vec Ideal S1024x1024 .bf16} {H : Fin 1024 → Fin 1024 → EReal} (hh : ∀ r i, h (ix2 r i) = H r i)
    {d : Vec Ideal ⟨2, ![1024, w]⟩ .bf16} (hd : ∀ (r : Fin 1024) (q : Fin w), d (ix2 r q) = D r ⟨off + q.val, hw q⟩) (i : Fin 1024) (q : Fin w) {s : EReal} (hs : s = X i ⟨off + q.val, hw q⟩) :
    s + ∑ r : Fin 1024, h (ix2 r i) * d (ix2 r q) = X i ⟨off + q.val, hw q⟩ + ∑ r : Fin 1024, H r i * D r ⟨off + q.val, hw q⟩ := by
  simp only [hs, hh, hd]

/-- Cleared, the accumulator is zero; -/
theorem all_zero (i : Fin 1024) (k : Fin 3712) (_ : 0 ≤ k.val) : View.canon (Val := Elt Ideal) (s := S1024x3712) (e := .f32) [⟨Rect.unit (s := S1024x3712) ![0, 0] S1024x3712.size inb_S1024x3712_S1024x3712_0_0, k0_pay15 (F := Ideal)⟩] (ix2 i k) = 0 :=
  (congrFun (View.canon_cons_unit_zero (S := S1024x3712) zero2 _ _ _) _).trans (pay15_apply _)

/-- so it stays on the columns after a store's. -/
theorem off_zero (off w : ℕ) (inb) (p : (⟨2, ![1024, w]⟩ : Shape).Idx → EReal) (L : List (View.Piece (Elt Ideal) S1024x3712 .f32)) (lo : ℕ)
    (h : ∀ (i : Fin 1024) (k : Fin 3712), lo ≤ k.val → View.canon (Val := Elt Ideal) (s := S1024x3712) (e := .f32) L (ix2 i k) = 0) (hi : ℕ) (h1 : off + w ≤ hi) (h2 : lo ≤ hi) (i : Fin 1024) (k : Fin 3712) (hk : hi ≤ k.val) :
    View.canon (Val := Elt Ideal) (s := S1024x3712) (e := .f32) (⟨Rect.unit (s := S1024x3712) ![0, off] ![1024, w] inb, p⟩ :: L) (ix2 i k) = 0 :=
  (canon_off _ _ _ _ _ _ (1 : Fin 2) (.inr (by show off + w ≤ k.val; omega))).trans (h i k (by omega))

/-- A load of columns of what the stores left. -/
theorem read_cols (off w : ℕ) (hw : off + w ≤ 3712) (inb) (L : List (View.Piece (Elt Ideal) S1024x3712 .f32)) (i : Fin 1024) (q : Fin w) :
    scM0_0.view.readCov L (Rect.unit (s := S1024x3712) ![0, off] ![1024, w] inb).toLoadRect (ix2 i q) = View.canon (Val := Elt Ideal) (s := S1024x3712) (e := .f32) L (ix2 i ⟨off + q.val, by omega⟩) :=
  readCov_at _ _ _ _ _ _ _ fun a => by
    match a with
    | ⟨0, _⟩ => exact (Nat.zero_add _).symm
    | ⟨1, _⟩ => rfl

theorem read_zero (off w : ℕ) (hw : off + w ≤ 3712) (inb) (L : List (View.Piece (Elt Ideal) S1024x3712 .f32)) {lo : ℕ}
    (h : ∀ (i : Fin 1024) (k : Fin 3712), lo ≤ k.val → View.canon (Val := Elt Ideal) (s := S1024x3712) (e := .f32) L (ix2 i k) = 0) (i : Fin 1024) (q : Fin w) (ho : lo ≤ off := by omega) :
    scM0_0.view.readCov L (Rect.unit (s := S1024x3712) ![0, off] ![1024, w] inb).toLoadRect (ix2 i q) = 0 :=
  (read_cols off w hw inb L i q).trans (h _ _ (by show lo ≤ off + q.val; omega))

/-- The contents a point found, through a box of the accumulator. -/
theorem found (X : Vec Ideal S1024x3712 .f32) (off w : ℕ) (hw : off + w ≤ 3712) (inb) (i : Fin 1024) (q : Fin w) :
    View.ld X (Rect.unit (s := S1024x3712) ![0, off] ![1024, w] inb) (ix2 i q) = X (ix2 i ⟨off + q.val, by omega⟩) :=
  View.ld_unit_apply_of X _ _ _ _ _ fun a => by
    match a with
    | ⟨0, _⟩ => exact (Nat.zero_add _).symm
    | ⟨1, _⟩ => rfl

/-! ## The result's blocks -/

/-- The accumulator's column of the weights' column `s`: the two gates' eight columns are kept last. -/
def dest (s : ℕ) : ℕ := if s < 2048 then s else if s < 2056 then s + 1536 else s - 8

theorem dest_lt {s : ℕ} (h : s < 3592) : dest s < 3712 := by unfold dest; split_ifs <;> omega

/-- The accumulator's columns, dealt to the devices. -/
def dealt (T : Fin 1024 → Fin 3712 → EReal) (j : Fin 8) (i : Fin 1024) (q : Fin 449) : EReal := T i ⟨dest (449 * j.val + q.val), dest_lt (by omega)⟩

/-- A store of columns into a device's block, and the earlier ones off it. -/
theorem ostep (j o w src : ℕ) (hj : j < 8) (how : o + w ≤ 449) (hsw : src + w ≤ 3712) (hs : ∀ q, q < w → dest (449 * j + (o + q)) = src + q)
    (inb) (inb') (hc : (⟨2, ![1024, w]⟩ : Shape).ShapeCasts ⟨3, ![1, 1024, w]⟩) (T : Fin 1024 → Fin 3712 → EReal) (L : List (View.Piece (Elt Ideal) S1024x3712 .f32))
    (hL : ∀ i k, View.canon (Val := Elt Ideal) (s := S1024x3712) (e := .f32) L (ix2 i k) = T i k) (L' : List (View.Piece (Elt Ideal) S8x1024x449 .bf16)) (j' : Fin 8) (i : Fin 1024) (q : Fin 449)
    (hout : ¬(j'.val = j ∧ o ≤ q.val ∧ q.val < o + w) → View.canon (Val := Elt Ideal) (s := S8x1024x449) (e := .bf16) L' (ix3 j' i q) = dealt T j' i q) :
    View.canon (Val := Elt Ideal) (s := S8x1024x449) (e := .bf16) (⟨Rect.unit (s := S8x1024x449) ![j, 0, o] ![1, 1024, w] inb,
      shapeCast (⟨3, ![1, 1024, w]⟩ : Shape) (truncf (F := Ideal) .bf16 (scM0_0.view.readCov L (Rect.unit (s := S1024x3712) ![0, src] ![1024, w] inb').toLoadRect) bitsLt_bf16_f32) hc⟩ :: L') (ix3 j' i q) = dealt T j' i q := by
  refine canon_step _ _ _ _ _ _ _ (fun x hx => ?_) fun a ha => hout ?_
  · have h0 : j'.val = j + (x (0 : Fin 3)).val := hx 0
    have h1 : i.val = 0 + (x (1 : Fin 3)).val := hx 1
    have h2 : q.val = o + (x (2 : Fin 3)).val := hx 2
    have l0 : (x (0 : Fin 3)).val < 1 := (x (0 : Fin 3)).isLt
    have l2 : (x (2 : Fin 3)).val < w := (x (2 : Fin 3)).isLt
    refine (shapeCast_apply _ hc x (ix2 (x (1 : Fin 3)) (x (2 : Fin 3)) : (⟨2, ![1024, w]⟩ : Shape).Idx) ?_).trans ((read_cols src w hsw inb' L (x (1 : Fin 3)) (x (2 : Fin 3))).trans ((hL _ _).trans ?_))
    · rewrite [Shape.rowMajor_val_three, Shape.rowMajor_val_two]
      show (x (1 : Fin 3)).val * w + (x (2 : Fin 3)).val = ((x (0 : Fin 3)).val * 1024 + (x (1 : Fin 3)).val) * w + (x (2 : Fin 3)).val
      rw [show (x (0 : Fin 3)).val = 0 by omega, Nat.zero_mul, Nat.zero_add]
    · refine congrArg₂ T (Fin.ext ?_) (Fin.ext ?_)
      · exact (Nat.zero_add _).symm.trans h1.symm
      · show src + (x (2 : Fin 3)).val = dest (449 * j'.val + q.val)
        rw [← hs _ l2]
        exact congrArg dest (by omega)
  · match a with
    | ⟨0, _⟩ => have ha' : j'.val < j ∨ j + 1 ≤ j'.val := ha; omega
    | ⟨1, _⟩ => exact absurd ha (by have := i.isLt; show ¬(i.val < 0 ∨ 0 + 1024 ≤ i.val); omega)
    | ⟨2, _⟩ => have ha' : q.val < o ∨ o + w ≤ q.val := ha; omega

/-- The ten stores of the result. -/
theorem dealt_all (L : List (View.Piece (Elt Ideal) S1024x3712 .f32)) (T : Fin 1024 → Fin 3712 → EReal)
    (hL : ∀ i k, View.canon (Val := Elt Ideal) (s := S1024x3712) (e := .f32) L (ix2 i k) = T i k) (j : Fin 8) (i : Fin 1024) (q : Fin 449) :
    View.canon (Val := Elt Ideal) (s := S8x1024x449) (e := .bf16) (⟨Rect.unit (s := S8x1024x449) ![7, 0, 0] S1x1024x449.size inb_S8x1024x449_S1x1024x449_7_0_0, k0_pay8 (scM0_0.view.readCov L (Rect.unit (s := S1024x3712) ![0, 3135] S1024x449.size inb_S1024x3712_S1024x449_0_3135).toLoadRect)⟩
      :: ⟨Rect.unit (s := S8x1024x449) ![6, 0, 0] S1x1024x449.size inb_S8x1024x449_S1x1024x449_6_0_0, k0_pay7 (scM0_0.view.readCov L (Rect.unit (s := S1024x3712) ![0, 2686] S1024x449.size inb_S1024x3712_S1024x449_0_2686).toLoadRect)⟩
      :: ⟨Rect.unit (s := S8x1024x449) ![5, 0, 0] S1x1024x449.size inb_S8x1024x449_S1x1024x449_5_0_0, k0_pay6 (scM0_0.view.readCov L (Rect.unit (s := S1024x3712) ![0, 2237] S1024x449.size inb_S1024x3712_S1024x449_0_2237).toLoadRect)⟩
      :: ⟨Rect.unit (s := S8x1024x449) ![4, 0, 260] S1x1024x189.size inb_S8x1024x449_S1x1024x189_4_0_260, k0_pay5 (scM0_0.view.readCov L (Rect.unit (s := S1024x3712) ![0, 2048] S1024x189.size inb_S1024x3712_S1024x189_0_2048).toLoadRect)⟩
      :: ⟨Rect.unit (s := S8x1024x449) ![4, 0, 252] S1x1024x8.size inb_S8x1024x449_S1x1024x8_4_0_252, k0_pay4 (k0_pay14 (scM0_0.view.readCov L (Rect.unit (s := S1024x3712) ![0, 3584] S1024x8.size inb_S1024x3712_S1024x8_0_3584).toLoadRect))⟩
      :: ⟨Rect.unit (s := S8x1024x449) ![4, 0, 0] S1x1024x252.size inb_S8x1024x449_S1x1024x252_4_0_0, k0_pay13 (scM0_0.view.readCov L (Rect.unit (s := S1024x3712) ![0, 1796] S1024x252.size inb_S1024x3712_S1024x252_0_1796).toLoadRect)⟩
      :: ⟨Rect.unit (s := S8x1024x449) ![3, 0, 0] S1x1024x449.size inb_S8x1024x449_S1x1024x449_3_0_0, k0_pay12 (scM0_0.view.readCov L (Rect.unit (s := S1024x3712) ![0, 1347] S1024x449.size inb_S1024x3712_S1024x449_0_1347).toLoadRect)⟩
      :: ⟨Rect.unit (s := S8x1024x449) ![2, 0, 0] S1x1024x449.size inb_S8x1024x449_S1x1024x449_2_0_0, k0_pay11 (scM0_0.view.readCov L (Rect.unit (s := S1024x3712) ![0, 898] S1024x449.size inb_S1024x3712_S1024x449_0_898).toLoadRect)⟩
      :: ⟨Rect.unit (s := S8x1024x449) ![1, 0, 0] S1x1024x449.size inb_S8x1024x449_S1x1024x449_1_0_0, k0_pay10 (scM0_0.view.readCov L (Rect.unit (s := S1024x3712) ![0, 449] S1024x449.size inb_S1024x3712_S1024x449_0_449).toLoadRect)⟩
      :: ⟨Rect.unit (s := S8x1024x449) ![0, 0, 0] S1x1024x449.size inb_S8x1024x449_S1x1024x449_0_0_0, k0_pay9 (scM0_0.view.readCov L (Rect.unit (s := S1024x3712) ![0, 0] S1024x449.size inb_S1024x3712_S1024x449_0_0).toLoadRect)⟩ :: []) (ix3 j i q) = dealt T j i q := by
  refine ostep 7 0 449 3135 (by decide) (by decide) (by decide) (fun q hq => by unfold dest; split_ifs <;> omega) _ _ _ T L hL _ j i q fun o0 => ?_
  refine ostep 6 0 449 2686 (by decide) (by decide) (by decide) (fun q hq => by unfold dest; split_ifs <;> omega) _ _ _ T L hL _ j i q fun o1 => ?_
  refine ostep 5 0 449 2237 (by decide) (by decide) (by decide) (fun q hq => by unfold dest; split_ifs <;> omega) _ _ _ T L hL _ j i q fun o2 => ?_
  refine ostep 4 260 189 2048 (by decide) (by decide) (by decide) (fun q hq => by unfold dest; split_ifs <;> omega) _ _ _ T L hL _ j i q fun o3 => ?_
  refine ostep 4 252 8 3584 (by decide) (by decide) (by decide) (fun q hq => by unfold dest; split_ifs <;> omega) _ _ _ T L hL _ j i q fun o4 => ?_
  refine ostep 4 0 252 1796 (by decide) (by decide) (by decide) (fun q hq => by unfold dest; split_ifs <;> omega) _ _ _ T L hL _ j i q fun o5 => ?_
  refine ostep 3 0 449 1347 (by decide) (by decide) (by decide) (fun q hq => by unfold dest; split_ifs <;> omega) _ _ _ T L hL _ j i q fun o6 => ?_
  refine ostep 2 0 449 898 (by decide) (by decide) (by decide) (fun q hq => by unfold dest; split_ifs <;> omega) _ _ _ T L hL _ j i q fun o7 => ?_
  refine ostep 1 0 449 449 (by decide) (by decide) (by decide) (fun q hq => by unfold dest; split_ifs <;> omega) _ _ _ T L hL _ j i q fun o8 => ?_
  refine ostep 0 0 449 0 (by decide) (by decide) (by decide) (fun q hq => by unfold dest; split_ifs <;> omega) _ _ _ T L hL _ j i q fun o9 => ?_
  have := j.isLt
  have := q.isLt
  omega

variable (m : (ℓ : Loc nD τ sig) → Buf (Elt Ideal) ℓ) (c : Dev nD)

/-! ## Where a block's index lies in its array -/

/-- Row `r` of point `t`'s block of rows. -/
def row (t : Fin cfg0.N) (r : Fin 1024) : Fin 4096 := ⟨t.val * 1024 + r.val, by have := t.isLt; have : cfg0.N = 4 := N_0; omega⟩

theorem index_eq0 : ∀ t : Fin grid0.N, win0_0.index t (0 : Fin 2) = t.val ∧ win0_0.index t (1 : Fin 2) = 0 := by decide +kernel

theorem index_eq1 : ∀ t : Fin grid0.N, win0_1.index t (0 : Fin 2) = t.val ∧ win0_1.index t (1 : Fin 2) = 0 := by decide +kernel

theorem index_eq2 : ∀ t : Fin grid0.N, win0_2.index t (0 : Fin 2) = t.val ∧ win0_2.index t (1 : Fin 2) = 0 := by decide +kernel

theorem index_eq3 : ∀ t : Fin grid0.N, win0_3.index t (0 : Fin 2) = t.val ∧ win0_3.index t (1 : Fin 2) = 0 := by decide +kernel

theorem index_eq4 : ∀ t : Fin grid0.N, win0_4.index t (0 : Fin 2) = t.val ∧ win0_4.index t (1 : Fin 2) = 0 := by decide +kernel

theorem index_eq5 : ∀ t : Fin grid0.N, win0_5.index t (0 : Fin 2) = t.val ∧ win0_5.index t (1 : Fin 2) = 0 := by decide +kernel

theorem index_eq6 : ∀ t : Fin grid0.N, win0_6.index t (0 : Fin 2) = t.val ∧ win0_6.index t (1 : Fin 2) = 0 := by decide +kernel

theorem index_eq7 : ∀ t : Fin grid0.N, win0_7.index t (0 : Fin 3) = 0 ∧ win0_7.index t (1 : Fin 3) = 0 ∧ win0_7.index t (2 : Fin 3) = 0 := by decide +kernel

theorem emb0 (t : Fin cfg0.N) (r : Fin 1024) (q : Fin 1024) : ((cfg0.win 0).blk t).view.emb (ix2 r q) = ix2 (row t r) q :=
  ix2_of (by show win0_0.index t (0 : Fin 2) * 1024 + 1 * r.val = t.val * 1024 + r.val; have := index_eq0 t; omega)
    (by show win0_0.index t (1 : Fin 2) * 1024 + 1 * q.val = q.val; have := index_eq0 t; omega)

theorem emb1 (t : Fin cfg0.N) (r : Fin 1024) (q : Fin 1536) : ((cfg0.win 1).blk t).view.emb (ix2 r q) = ix2 (row t r) q :=
  ix2_of (by show win0_1.index t (0 : Fin 2) * 1024 + 1 * r.val = t.val * 1024 + r.val; have := index_eq1 t; omega)
    (by show win0_1.index t (1 : Fin 2) * 1536 + 1 * q.val = q.val; have := index_eq1 t; omega)

theorem emb2 (t : Fin cfg0.N) (r : Fin 1024) (q : Fin 512) : ((cfg0.win 2).blk t).view.emb (ix2 r q) = ix2 (row t r) q :=
  ix2_of (by show win0_2.index t (0 : Fin 2) * 1024 + 1 * r.val = t.val * 1024 + r.val; have := index_eq2 t; omega)
    (by show win0_2.index t (1 : Fin 2) * 512 + 1 * q.val = q.val; have := index_eq2 t; omega)

theorem emb3 (t : Fin cfg0.N) (r : Fin 1024) (q : Fin 512) : ((cfg0.win 3).blk t).view.emb (ix2 r q) = ix2 (row t r) q :=
  ix2_of (by show win0_3.index t (0 : Fin 2) * 1024 + 1 * r.val = t.val * 1024 + r.val; have := index_eq3 t; omega)
    (by show win0_3.index t (1 : Fin 2) * 512 + 1 * q.val = q.val; have := index_eq3 t; omega)

theorem emb4 (t : Fin cfg0.N) (r : Fin 1024) (q : Fin 512) : ((cfg0.win 4).blk t).view.emb (ix2 r q) = ix2 (row t r) q :=
  ix2_of (by show win0_4.index t (0 : Fin 2) * 1024 + 1 * r.val = t.val * 1024 + r.val; have := index_eq4 t; omega)
    (by show win0_4.index t (1 : Fin 2) * 512 + 1 * q.val = q.val; have := index_eq4 t; omega)

theorem emb5 (t : Fin cfg0.N) (r : Fin 1024) (q : Fin 512) : ((cfg0.win 5).blk t).view.emb (ix2 r q) = ix2 (row t r) q :=
  ix2_of (by show win0_5.index t (0 : Fin 2) * 1024 + 1 * r.val = t.val * 1024 + r.val; have := index_eq5 t; omega)
    (by show win0_5.index t (1 : Fin 2) * 512 + 1 * q.val = q.val; have := index_eq5 t; omega)

theorem emb6 (t : Fin cfg0.N) (r : Fin 1024) (q : Fin 128) : ((cfg0.win 6).blk t).view.emb (ix2 r q) = ix2 (row t r) q :=
  ix2_of (by show win0_6.index t (0 : Fin 2) * 1024 + 1 * r.val = t.val * 1024 + r.val; have := index_eq6 t; omega)
    (by show win0_6.index t (1 : Fin 2) * 128 + 1 * q.val = q.val; have := index_eq6 t; omega)

theorem emb7 (t : Fin cfg0.N) (i : S8x1024x449.Idx) : ((cfg0.win 7).blk t).view.emb i = i := by
  obtain ⟨e0, e1, e2⟩ := index_eq7 t
  funext a; apply Fin.ext
  match a with
  | ⟨0, _⟩ => show win0_7.index t (0 : Fin 3) * 8 + 1 * (i 0).val = (i 0).val; omega
  | ⟨1, _⟩ => show win0_7.index t (1 : Fin 3) * 1024 + 1 * (i 1).val = (i 1).val; omega
  | ⟨2, _⟩ => show win0_7.index t (2 : Fin 3) * 449 + 1 * (i 2).val = (i 2).val; omega

/-! ## The arrays behind the points' input blocks -/

/-- The normed rows, the first argument, -/
def H (i : Fin 4096) (k : Fin 1024) : EReal := (m ((c : Thread nD τ).loc main_arg0) : FVec Ideal S4096x1024 .f32) (ix2 i k)

/-- the cotangent, the second, -/
def P (i : Fin 4096) (s : Fin 3592) : EReal := (m ((c : Thread nD τ).loc main_arg1) : FVec Ideal S4096x3592 .f32) (ix2 i s)

/-- and the cotangent in the accumulator's order of columns. -/
def D (i : Fin 4096) (k : Fin 3712) : EReal := (V m c main_v5 : FVec Ideal S4096x3712 .bf16) (ix2 i k)

theorem h_at (i : Fin 4096) (k : Fin 1024) : (V m c main_v12 : FVec Ideal S4096x1024 .bf16) (ix2 i k) = H m c i k := by
  unfold V hostOps0
  after_reads_at
  rfl

theorem D_at (i : Fin 4096) (s : Fin 3592) : D m c i ⟨dest s.val, dest_lt s.isLt⟩ = P m c i s := by
  unfold D V hostOps0
  after_reads_at
  after_reads_at
  show _ = (m (c, Proc.tc.devRef main_arg1) : FVec Ideal S4096x3592 .f32) (ix2 i s)
  by_cases h0 : s.val < 2048
  · have e : dest s.val = s.val := by unfold dest; rw [if_pos h0]
    rw [dif_pos (show dest s.val < 2048 by omega)]
    exact congrArg _ (congrArg (ix2 i) (Fin.ext e))
  by_cases h1 : s.val < 2056
  · have e : dest s.val = s.val + 1536 := by unfold dest; rw [if_neg h0, if_pos h1]
    rw [dif_neg (show ¬dest s.val < 2048 by omega), dif_neg (show ¬dest s.val - 2048 < 1536 by omega), dif_pos (show dest s.val - 2048 - 1536 < 8 by omega)]
    exact congrArg _ (congrArg (ix2 i) (Fin.ext (by show 2048 + (dest s.val - 2048 - 1536) = s.val; omega)))
  · have hs := s.isLt
    have e : dest s.val = s.val - 8 := by unfold dest; rw [if_neg h0, if_neg h1]
    rw [dif_neg (show ¬dest s.val < 2048 by omega), dif_pos (show dest s.val - 2048 < 1536 by omega)]
    exact congrArg _ (congrArg (ix2 i) (Fin.ext (by show 2056 + (dest s.val - 2048) = s.val; omega)))

theorem block0 (t : Fin cfg0.N) (r : Fin 1024) (k : Fin 1024) : iblk m c 0 t (ix2 r k) = H m c (row t r) k := by
  show V m c main_v12 (((cfg0.win 0).blk t).view.emb (ix2 r k)) = _
  rw [emb0]; exact h_at m c _ _

theorem read0 (t : Fin cfg0.N) : (ms0_0 t).view.read (Elt Ideal) ((hs0_0 t).unread (iblk m c 0 t)) = iblk m c 0 t := (hs0_0 t).read_unread _

theorem cut1 (i : Fin 4096) (q : Fin 1536) : (V m c main_v6 : FVec Ideal S4096x1536 .bf16) (ix2 i q) = D m c i ⟨0 + q.val, by omega⟩ := by
  unfold D V hostOps0
  after_reads_at

theorem block1 (t : Fin cfg0.N) (r : Fin 1024) (q : Fin 1536) : iblk m c 1 t (ix2 r q) = D m c (row t r) ⟨0 + q.val, by omega⟩ := by
  show V m c main_v6 (((cfg0.win 1).blk t).view.emb (ix2 r q)) = _
  rw [emb1]; exact cut1 m c _ _

theorem read1 (t : Fin cfg0.N) : (ms0_1 t).view.read (Elt Ideal) ((hs0_1 t).unread (iblk m c 1 t)) = iblk m c 1 t := (hs0_1 t).read_unread _

theorem cut2 (i : Fin 4096) (q : Fin 512) : (V m c main_v7 : FVec Ideal S4096x512 .bf16) (ix2 i q) = D m c i ⟨1536 + q.val, by omega⟩ := by
  unfold D V hostOps0
  after_reads_at

theorem block2 (t : Fin cfg0.N) (r : Fin 1024) (q : Fin 512) : iblk m c 2 t (ix2 r q) = D m c (row t r) ⟨1536 + q.val, by omega⟩ := by
  show V m c main_v7 (((cfg0.win 2).blk t).view.emb (ix2 r q)) = _
  rw [emb2]; exact cut2 m c _ _

theorem read2 (t : Fin cfg0.N) : (ms0_2 t).view.read (Elt Ideal) ((hs0_2 t).unread (iblk m c 2 t)) = iblk m c 2 t := (hs0_2 t).read_unread _

theorem cut3 (i : Fin 4096) (q : Fin 512) : (V m c main_v8 : FVec Ideal S4096x512 .bf16) (ix2 i q) = D m c i ⟨2048 + q.val, by omega⟩ := by
  unfold D V hostOps0
  after_reads_at

theorem block3 (t : Fin cfg0.N) (r : Fin 1024) (q : Fin 512) : iblk m c 3 t (ix2 r q) = D m c (row t r) ⟨2048 + q.val, by omega⟩ := by
  show V m c main_v8 (((cfg0.win 3).blk t).view.emb (ix2 r q)) = _
  rw [emb3]; exact cut3 m c _ _

theorem read3 (t : Fin cfg0.N) : (ms0_3 t).view.read (Elt Ideal) ((hs0_3 t).unread (iblk m c 3 t)) = iblk m c 3 t := (hs0_3 t).read_unread _

theorem cut4 (i : Fin 4096) (q : Fin 512) : (V m c main_v9 : FVec Ideal S4096x512 .bf16) (ix2 i q) = D m c i ⟨2560 + q.val, by omega⟩ := by
  unfold D V hostOps0
  after_reads_at

theorem block4 (t : Fin cfg0.N) (r : Fin 1024) (q : Fin 512) : iblk m c 4 t (ix2 r q) = D m c (row t r) ⟨2560 + q.val, by omega⟩ := by
  show V m c main_v9 (((cfg0.win 4).blk t).view.emb (ix2 r q)) = _
  rw [emb4]; exact cut4 m c _ _

theorem read4 (t : Fin cfg0.N) : (ms0_4 t).view.read (Elt Ideal) ((hs0_4 t).unread (iblk m c 4 t)) = iblk m c 4 t := (hs0_4 t).read_unread _

theorem cut5 (i : Fin 4096) (q : Fin 512) : (V m c main_v10 : FVec Ideal S4096x512 .bf16) (ix2 i q) = D m c i ⟨3072 + q.val, by omega⟩ := by
  unfold D V hostOps0
  after_reads_at

theorem block5 (t : Fin cfg0.N) (r : Fin 1024) (q : Fin 512) : iblk m c 5 t (ix2 r q) = D m c (row t r) ⟨3072 + q.val, by omega⟩ := by
  show V m c main_v10 (((cfg0.win 5).blk t).view.emb (ix2 r q)) = _
  rw [emb5]; exact cut5 m c _ _

theorem read5 (t : Fin cfg0.N) : (ms0_5 t).view.read (Elt Ideal) ((hs0_5 t).unread (iblk m c 5 t)) = iblk m c 5 t := (hs0_5 t).read_unread _

theorem cut6 (i : Fin 4096) (q : Fin 128) : (V m c main_v11 : FVec Ideal S4096x128 .bf16) (ix2 i q) = D m c i ⟨3584 + q.val, by omega⟩ := by
  unfold D V hostOps0
  after_reads_at

theorem block6 (t : Fin cfg0.N) (r : Fin 1024) (q : Fin 128) : iblk m c 6 t (ix2 r q) = D m c (row t r) ⟨3584 + q.val, by omega⟩ := by
  show V m c main_v11 (((cfg0.win 6).blk t).view.emb (ix2 r q)) = _
  rw [emb6]; exact cut6 m c _ _

theorem read6 (t : Fin cfg0.N) : (ms0_6 t).view.read (Elt Ideal) ((hs0_6 t).unread (iblk m c 6 t)) = iblk m c 6 t := (hs0_6 t).read_unread _

/-! ## What the points leave -/

/-- The product over point `t`'s rows. -/
def part (t : Fin cfg0.N) (i : Fin 1024) (k : Fin 3712) : EReal := ∑ r : Fin 1024, H m c (row t r) i * D m c (row t r) k

/-- The first point leaves its product in the accumulator. -/
theorem first (t : Fin cfg0.N) (h0 : t.val % 4 = 0) (i : Fin 1024) (k : Fin 3712) : (outsAt0 m c t.val t.isLt).2 (ix2 i k) = 0 + part m c t i k := by
  have h1 : ¬t.val % 4 = 3 := by omega
  rw [outsAt0_A m c t h0 h1]
  dsimp only
  unfold sout0_A_0
  rw [View.read_writes_eq_canon _ _ _ (fun _ => scover0_A_0 ..)]
  unfold kernelRun0_A
  dsimp only
  sl_unfold_words
  simp only [View.readAt_eq_ld, pay16_eq, read0 m c t, read1 m c t, read2 m c t, read3 m c t, read4 m c t, read5 m c t, read6 m c t, View.ld_unit_zero (S := S1024x1024) zero2, View.ld_unit_zero (S := S1024x1536) zero2, View.ld_unit_zero (S := S1024x512) zero2, View.ld_unit_zero (S := S1024x128) zero2]
  refine stored _ _ _ _ _ _ _ (fun i k => 0 + part m c t i k) (fun i q => ?_) (fun i q => ?_) (fun i q => ?_) (fun i q => ?_) (fun i q => ?_) (fun i q => ?_) i k
  · exact (pay17_apply _ _ _ i q).trans (added (fun _ _ => 0) _ (block0 m c t) (block1 m c t) i q (read_zero 0 1536 (by omega) _ _ all_zero i q))
  · exact (pay18_apply _ _ _ i q).trans (added (fun _ _ => 0) _ (block0 m c t) (block2 m c t) i q (read_zero 1536 512 (by omega) _ _ (off_zero 0 1536 _ _ _ _ all_zero 1536 (by omega) (by omega)) i q))
  · exact (pay19_apply _ _ _ i q).trans (added (fun _ _ => 0) _ (block0 m c t) (block3 m c t) i q (read_zero 2048 512 (by omega) _ _ (off_zero 1536 512 _ _ _ _ (off_zero 0 1536 _ _ _ _ all_zero 1536 (by omega) (by omega)) 2048 (by omega) (by omega)) i q))
  · exact (pay1_apply _ _ _ i q).trans (added (fun _ _ => 0) _ (block0 m c t) (block4 m c t) i q (read_zero 2560 512 (by omega) _ _ (off_zero 2048 512 _ _ _ _ (off_zero 1536 512 _ _ _ _ (off_zero 0 1536 _ _ _ _ all_zero 1536 (by omega) (by omega)) 2048 (by omega) (by omega)) 2560 (by omega) (by omega)) i q))
  · exact (pay2_apply _ _ _ i q).trans (added (fun _ _ => 0) _ (block0 m c t) (block5 m c t) i q (read_zero 3072 512 (by omega) _ _ (off_zero 2560 512 _ _ _ _ (off_zero 2048 512 _ _ _ _ (off_zero 1536 512 _ _ _ _ (off_zero 0 1536 _ _ _ _ all_zero 1536 (by omega) (by omega)) 2048 (by omega) (by omega)) 2560 (by omega) (by omega)) 3072 (by omega) (by omega)) i q))
  · exact (pay3_apply _ _ _ i q).trans (added (fun _ _ => 0) _ (block0 m c t) (block6 m c t) i q (read_zero 3584 128 (by omega) _ _ (off_zero 3072 512 _ _ _ _ (off_zero 2560 512 _ _ _ _ (off_zero 2048 512 _ _ _ _ (off_zero 1536 512 _ _ _ _ (off_zero 0 1536 _ _ _ _ all_zero 1536 (by omega) (by omega)) 2048 (by omega) (by omega)) 2560 (by omega) (by omega)) 3072 (by omega) (by omega)) 3584 (by omega) (by omega)) i q))

/-- What the point before `t` left in the accumulator. -/
abbrev before (t : Fin cfg0.N) : Vec Ideal S1024x3712 .f32 := (outsAt0 m c (t.val - 1) (Nat.lt_of_le_of_lt (Nat.sub_le _ _) t.isLt)).2

theorem read_before (t : Fin cfg0.N) (h) : scM0_0.view.read (Elt Ideal) (Memref.IsWhole.unread h (before m c t)) = before m c t := Memref.IsWhole.read_unread _ _

/-- A later point adds its product to what the accumulator held. -/
theorem next (t : Fin cfg0.N) (h0 : ¬t.val % 4 = 0) (h1 : ¬t.val % 4 = 3) (i : Fin 1024) (k : Fin 3712) :
    (outsAt0 m c t.val t.isLt).2 (ix2 i k) = before m c t (ix2 i k) + part m c t i k := by
  rw [outsAt0_B m c t h0 h1]
  dsimp only
  unfold sout0_B_0
  rw [View.read_writes_eq_canon _ _ _ (fun _ => scover0_B_0 ..)]
  unfold kernelRun0_B
  dsimp only
  sl_unfold_words
  simp only [View.readAt_eq_ld, pay16_eq, read0 m c t, read1 m c t, read2 m c t, read3 m c t, read4 m c t, read5 m c t, read6 m c t, View.ld_unit_zero (S := S1024x1024) zero2, View.ld_unit_zero (S := S1024x1536) zero2, View.ld_unit_zero (S := S1024x512) zero2, View.ld_unit_zero (S := S1024x128) zero2]
  refine stored _ _ _ _ _ _ _ (fun i k => before m c t (ix2 i k) + part m c t i k) (fun i q => ?_) (fun i q => ?_) (fun i q => ?_) (fun i q => ?_) (fun i q => ?_) (fun i q => ?_) i k
  · exact (pay17_apply _ _ _ i q).trans (added (fun i k => before m c t (ix2 i k)) _ (block0 m c t) (block1 m c t) i q ((congrFun (congrArg (fun X => View.ld X _) (read_before m c t _)) _).trans (found _ 0 1536 (by omega) _ i q)))
  · exact (pay18_apply _ _ _ i q).trans (added (fun i k => before m c t (ix2 i k)) _ (block0 m c t) (block2 m c t) i q ((congrFun (congrArg (fun X => View.ld X _) (read_before m c t _)) _).trans (found _ 1536 512 (by omega) _ i q)))
  · exact (pay19_apply _ _ _ i q).trans (added (fun i k => before m c t (ix2 i k)) _ (block0 m c t) (block3 m c t) i q ((congrFun (congrArg (fun X => View.ld X _) (read_before m c t _)) _).trans (found _ 2048 512 (by omega) _ i q)))
  · exact (pay1_apply _ _ _ i q).trans (added (fun i k => before m c t (ix2 i k)) _ (block0 m c t) (block4 m c t) i q ((congrFun (congrArg (fun X => View.ld X _) (read_before m c t _)) _).trans (found _ 2560 512 (by omega) _ i q)))
  · exact (pay2_apply _ _ _ i q).trans (added (fun i k => before m c t (ix2 i k)) _ (block0 m c t) (block5 m c t) i q ((congrFun (congrArg (fun X => View.ld X _) (read_before m c t _)) _).trans (found _ 3072 512 (by omega) _ i q)))
  · exact (pay3_apply _ _ _ i q).trans (added (fun i k => before m c t (ix2 i k)) _ (block0 m c t) (block6 m c t) i q ((congrFun (congrArg (fun X => View.ld X _) (read_before m c t _)) _).trans (found _ 3584 128 (by omega) _ i q)))

/-- The last point deals the sum to the devices' blocks. -/
theorem last (t : Fin cfg0.N) (h1 : t.val % 4 = 3) (j : Fin 8) (i : Fin 1024) (q : Fin 449) :
    (outsAt0 m c t.val t.isLt).1 (ix3 j i q) = dealt (fun i k => before m c t (ix2 i k) + part m c t i k) j i q := by
  have h0 : ¬t.val % 4 = 0 := by omega
  rw [outsAt0_C m c t h0 h1]
  dsimp only
  unfold out0_C_7
  rw [View.read_writes_eq_canon _ _ _ (fun _ => cover0_C_7 ..)]
  unfold kernelRun0_C
  dsimp only
  sl_unfold_words
  refine dealt_all _ _ (fun i k => ?_) j i q
  simp only [View.readAt_eq_ld, pay16_eq, read0 m c t, read1 m c t, read2 m c t, read3 m c t, read4 m c t, read5 m c t, read6 m c t, View.ld_unit_zero (S := S1024x1024) zero2, View.ld_unit_zero (S := S1024x1536) zero2, View.ld_unit_zero (S := S1024x512) zero2, View.ld_unit_zero (S := S1024x128) zero2]
  refine stored _ _ _ _ _ _ _ (fun i k => before m c t (ix2 i k) + part m c t i k) (fun i q => ?_) (fun i q => ?_) (fun i q => ?_) (fun i q => ?_) (fun i q => ?_) (fun i q => ?_) i k
  · exact (pay17_apply _ _ _ i q).trans (added (fun i k => before m c t (ix2 i k)) _ (block0 m c t) (block1 m c t) i q ((congrFun (congrArg (fun X => View.ld X _) (read_before m c t _)) _).trans (found _ 0 1536 (by omega) _ i q)))
  · exact (pay18_apply _ _ _ i q).trans (added (fun i k => before m c t (ix2 i k)) _ (block0 m c t) (block2 m c t) i q ((congrFun (congrArg (fun X => View.ld X _) (read_before m c t _)) _).trans (found _ 1536 512 (by omega) _ i q)))
  · exact (pay19_apply _ _ _ i q).trans (added (fun i k => before m c t (ix2 i k)) _ (block0 m c t) (block3 m c t) i q ((congrFun (congrArg (fun X => View.ld X _) (read_before m c t _)) _).trans (found _ 2048 512 (by omega) _ i q)))
  · exact (pay1_apply _ _ _ i q).trans (added (fun i k => before m c t (ix2 i k)) _ (block0 m c t) (block4 m c t) i q ((congrFun (congrArg (fun X => View.ld X _) (read_before m c t _)) _).trans (found _ 2560 512 (by omega) _ i q)))
  · exact (pay2_apply _ _ _ i q).trans (added (fun i k => before m c t (ix2 i k)) _ (block0 m c t) (block5 m c t) i q ((congrFun (congrArg (fun X => View.ld X _) (read_before m c t _)) _).trans (found _ 3072 512 (by omega) _ i q)))
  · exact (pay3_apply _ _ _ i q).trans (added (fun i k => before m c t (ix2 i k)) _ (block0 m c t) (block6 m c t) i q ((congrFun (congrArg (fun X => View.ld X _) (read_before m c t _)) _).trans (found _ 3584 128 (by omega) _ i q)))

/-! ## The result array -/

/-- The product over all rows. -/
def grad (j : Fin 8) (i : Fin 1024) (q : Fin 449) : EReal := ∑ r : Fin 4096, H m c r i * P m c r ⟨449 * j.val + q.val, by omega⟩

/-- Point `t`'s product is the quarter of the rows it reads. -/
theorem part_at (u : Fin cfg0.N) (o : ℕ) (ho : u.val * 1024 = o) (hb : o ≤ 3072) (i : Fin 1024) (k : Fin 3712) :
    part m c u i k = ∑ r : Fin 1024, H m c ⟨o + r.val, by omega⟩ i * D m c ⟨o + r.val, by omega⟩ k := by
  unfold part
  have er : ∀ r, row u r = ⟨o + r.val, by omega⟩ := fun r => Fin.ext (by show u.val * 1024 + r.val = o + r.val; omega)
  simp only [er]

theorem left7 (t : Fin cfg0.N) (h1 : t.val % 4 = 3) (j : Fin 8) (i : Fin 1024) (q : Fin 449) : (outsAt0 m c t.val t.isLt).1 (ix3 j i q) = grad m c j i q := by
  have ht : t.val < 4 := lt_of_lt_of_eq t.isLt N_0
  have hN : cfg0.grid.N = 4 := N_0
  have hN' : cfg0.N = 4 := N_0
  refine (last m c t h1 j i q).trans ?_
  have key : ∀ k : Fin 3712, before m c t (ix2 i k) + part m c t i k = ∑ r : Fin 4096, H m c r i * D m c r k := fun k => by
    have e2 := next m c ⟨t.val - 1, by omega⟩ (by show ¬(t.val - 1) % 4 = 0; omega) (by show ¬(t.val - 1) % 4 = 3; omega) i k
    have e1 := next m c ⟨t.val - 1 - 1, by omega⟩ (by show ¬(t.val - 1 - 1) % 4 = 0; omega) (by show ¬(t.val - 1 - 1) % 4 = 3; omega) i k
    have e0 := first m c ⟨t.val - 1 - 1 - 1, by omega⟩ (by show (t.val - 1 - 1 - 1) % 4 = 0; omega) i k
    refine (congrArg (· + _) (e2.trans (congrArg (· + _) (e1.trans (congrArg (· + _) e0))))).trans ?_
    rw [part_at m c _ 0 (by show (t.val - 1 - 1 - 1) * 1024 = 0; omega) (by omega),
      part_at m c _ 1024 (by show (t.val - 1 - 1) * 1024 = 1024; omega) (by omega),
      part_at m c _ 2048 (by show (t.val - 1) * 1024 = 2048; omega) (by omega),
      part_at m c t 3072 (by omega) (by omega), Cert.Kernel9Ideal.WOut.quarters]
    simp only [Nat.zero_add, zero_add]
  unfold dealt grad
  refine (key _).trans (Finset.sum_congr rfl fun r _ => congrArg (H m c r i * ·) ?_)
  exact D_at m c r ⟨449 * j.val + q.val, by omega⟩

theorem final7 : (dats m 0 c).arrAt 7 cfg0.N = fun i : S8x1024x449.Idx => grad m c (i 0) (i 1) (i 2) := by
  refine (dats m 0 c).arrAt_eq_of_cover 7 _ (fun t hf => ?_) fun i => ?_
  · show (cfg0.win 7).cut (grid0.coords t) ((dats m 0 c).after 7 t) = _
    rw [after0_7]
    funext y
    obtain ⟨j, r, k, rfl⟩ : ∃ (j : Fin 8) (r : Fin 1024) (k : Fin 449), y = ix3 j r k := ⟨y 0, y 1, y 2, eq_ix3 y⟩
    refine (left7 m c t ((flush0_7 t).mp hf) j r k).trans ?_
    show _ = (fun i : S8x1024x449.Idx => grad m c (i 0) (i 1) (i 2)) (((cfg0.win 7).blk t).view.emb (ix3 j r k))
    rw [emb7]
    rfl
  · have hN : cfg0.grid.N = 4 := N_0
    have hN' : cfg0.N = 4 := N_0
    have e := ((cfg0.win 7).blk ⟨3, by omega⟩).view.emb_mem_set i
    rw [emb7] at e
    exact ⟨_, (flush0_7 _).mpr (by show 3 % 4 = 3; omega), e⟩

end Cert.Kernel10Ideal.WIn
-- ==== Proof.WInPair.lean ====
/-
The weight gradient of the input projection and its reference end with the same array.
-/
module

public import proofs.«01_k».proof.Defs
public import proofs.«01_k».proof.Proof.Gen.Kernel10.Frame
public import proofs.«01_k».proof.Proof.WInKernel
public import proofs.«01_k».proof.Proof.Gen.Reference10Ideal.Read

@[expose] public section

set_option maxRecDepth 16384

noncomputable section

namespace Cert.WIn

open Idealize.ShloMosaic Idealize.ShloMosaic.TcCoe Idealize.SL.Sem Cert.Common
open Reference10Ideal.Read

/-- The reference's product, dealt to the devices, at one index. -/
theorem ref_at (x0 : FVec Ideal Reference10Ideal.S4096x1024 .f32) (x1 : FVec Ideal Reference10Ideal.S4096x3592 .f32) (j : Fin 8) (i : Fin 1024) (q : Fin 449) :
    val_main_v6 (F := Ideal) x0 x1 (ix3 j i q) = ∑ r : Fin 4096, x0 (ix2 r i) * x1 (ix2 r ⟨449 * j.val + q.val, by omega⟩) := by
  refine (val_main_v5_apply (F := Ideal) x0 x1 _).trans ?_
  rw [val_main_v4_apply, val_main_v3_apply, val_main_v2_apply]
  refine Finset.sum_congr rfl fun r _ => (mul_comm _ _).trans (congrArg₂ (· * ·) (congrArg x0 ?_) (congrArg x1 ?_))
  · exact ix2_of rfl (by show ((i.val * 8 + j.val) * 449 + q.val) / 3592 = i.val; omega)
  · exact ix2_of rfl (by show ((i.val * 8 + j.val) * 449 + q.val) % 3592 = 449 * j.val + q.val; omega)

/-- The reference's frame. -/
theorem frame_reference : quiescent_Reference10Ideal := fun m ρ _ =>
  (θ_run Reference10Ideal.defs _ _).mono (fun r h => ⟨fun c => (h c).2, sem_eq_zero_of_no_sems (by decide) r.2⟩)
    (Reference10Ideal.Value.run (F := Ideal) m ρ)

/-- The results agree. -/
theorem value : algebraic_Kernel10Ideal_Reference10Ideal := by
  intro m g m' g' _ hargs
  refine ⟨fun c => fun (i : Kernel10Ideal.S8x1024x449.Idx) => Kernel10Ideal.WIn.grad m c (i (0 : Fin 3)) (i (1 : Fin 3)) (i (2 : Fin 3)), ?_, ?_⟩
  · refine (θ_run Kernel10Ideal.defs _ _).mono (fun r hr c => ?_) (Kernel10Ideal.Value.run_blocks (F := Ideal) m g)
    obtain ⟨k0, hk⟩ := hr c
    exact ⟨k0.trans (Kernel10Ideal.WIn.final7 m c), hk⟩
  · refine (θ_run Reference10Ideal.defs _ _).mono (fun r hr c => ?_) (Reference10Ideal.Value.run (F := Ideal) m' g')
    obtain ⟨r0, hk⟩ := hr c
    obtain ⟨a0, a1⟩ := hargs c
    refine ⟨r0.trans ((val_main_v6_eq _ _).trans (funext fun y => ?_)), hk⟩
    obtain ⟨j, i, q, rfl⟩ : ∃ (j : Fin 8) (i : Fin 1024) (q : Fin 449), y = ix3 j i q := ⟨y 0, y 1, y 2, eq_ix3 y⟩
    refine (ref_at _ _ j i q).trans ?_
    rw [a0, a1]
    rfl

end Cert.WIn
-- ==== Proof.CatKernel.lean ====
/-
The devices' blocks of the input projection's weights in the kernel's order of columns: what a grid point leaves, and the result array after the run.
-/
module

public import proofs.«01_k».proof.Proof.Pieces
public import proofs.«01_k».proof.Proof.Gen.Kernel11Ideal.Value
public import proofs.«01_k».proof.Proof.MixSpec
public import Idealize.ShloMosaic.Lib.StableHlo.ReadAt

@[expose] public section

set_option maxRecDepth 16384

noncomputable section

open Idealize.ShloMosaic Idealize.ShloMosaic.TcCoe Idealize.SL.Sem
open Cert.Common

namespace Cert.Kernel11Ideal.Cat

open Cert.Kernel11Ideal Cert.Kernel11Ideal.Gen

/-! ## The order of columns -/

/-- The column of the weights that the kernel keeps at its column `k`: the two gates' eight columns go last. -/
def source (k : ℕ) : ℕ := if k < 2048 then k else if k < 3584 then k + 8 else k - 1536

theorem source_lt {k : ℕ} (h : k < 3592) : source k < 3592 := by unfold source; split_ifs <;> omega

/-- The blocks in the kernel's order of columns, padded with zeros. -/
def moved {n : ℕ} (X : Fin 8 → Fin n → Fin 449 → EReal) (i : Fin n) (k : Fin 3712) : EReal :=
  if h : k.val < 3592 then X ⟨source k.val / 449, by have := source_lt h; omega⟩ i ⟨source k.val % 449, by omega⟩ else 0

theorem moved_at {n : ℕ} (X : Fin 8 → Fin n → Fin 449 → EReal) (i : Fin n) (k : Fin 3712) (hk : k.val < 3592) (j : Fin 8) (q : Fin 449) (h : source k.val = 449 * j.val + q.val) :
    moved X i k = X j i q := by
  unfold moved
  rw [dif_pos hk]
  have ej : (⟨source k.val / 449, by have := source_lt hk; omega⟩ : Fin 8) = j := Fin.ext (by show source k.val / 449 = j.val; omega)
  have eq : (⟨source k.val % 449, by omega⟩ : Fin 449) = q := Fin.ext (by show source k.val % 449 = q.val; omega)
  rw [ej, eq]

/-! ## One store -/

/-- A block's columns, stored at their place. -/
theorem piece (j o off w : ℕ) (hj : j < 8) (how : o + w ≤ 449) (X : Vec Ideal S8x256x449 .bf16) (inb) (hc : (⟨3, ![1, 256, w]⟩ : Shape).ShapeCasts ⟨2, ![256, w]⟩)
    (hs : ∀ q, q < w → source (off + q) = 449 * j + (o + q) ∧ off + q < 3592) (i : Fin 256) (k : Fin 3712) (x : (⟨2, ![256, w]⟩ : Shape).Idx)
    (hx : ∀ a : Fin 2, ((ix2 i k : S256x3712.Idx) a).val = (![0, off] : Fin 2 → ℕ) a + (x a).val) :
    shapeCast (⟨2, ![256, w]⟩ : Shape) (View.ld X (Rect.unit (s := S8x256x449) ![j, 0, o] ![1, 256, w] inb)) hc x = moved (fun j i q => X (ix3 j i q)) i k := by
  have h0 : i.val = 0 + (x (0 : Fin 2)).val := hx 0
  have h1 : k.val = off + (x (1 : Fin 2)).val := hx 1
  have hl : (x (1 : Fin 2)).val < w := (x (1 : Fin 2)).isLt
  obtain ⟨s0, s1⟩ := hs _ hl
  rw [← h1] at s0 s1
  rw [moved_at _ i k s1 ⟨j, hj⟩ ⟨o + (x (1 : Fin 2)).val, by omega⟩ s0]
  refine (shapeCast_apply _ hc x (ix3 (0 : Fin 1) (x (0 : Fin 2)) (x (1 : Fin 2)) : (⟨3, ![1, 256, w]⟩ : Shape).Idx) ?_).trans (View.ld_unit_apply_of X _ _ _ _ _ fun a => ?_)
  · rewrite [Shape.rowMajor_val_three, Shape.rowMajor_val_two]
    show (0 * 256 + (x (0 : Fin 2)).val) * w + (x (1 : Fin 2)).val = (x (0 : Fin 2)).val * w + (x (1 : Fin 2)).val
    rw [Nat.zero_mul, Nat.zero_add]
  · match a with
    | ⟨0, _⟩ => rfl
    | ⟨1, _⟩ => exact h0
    | ⟨2, _⟩ => rfl

/-- A store of whole rows' columns, and the earlier ones off it. -/
theorem step (off w : ℕ) (inb) (p : (⟨2, ![256, w]⟩ : Shape).Idx → EReal) (L : List (View.Piece (Elt Ideal) S256x3712 .bf16)) (i : Fin 256) (k : Fin 3712) (v : EReal)
    (hin : ∀ x : (⟨2, ![256, w]⟩ : Shape).Idx, (∀ a : Fin 2, ((ix2 i k : S256x3712.Idx) a).val = (![0, off] : Fin 2 → ℕ) a + (x a).val) → p x = v)
    (hout : k.val < off ∨ off + w ≤ k.val → View.canon (Val := Elt Ideal) (s := S256x3712) (e := .bf16) L (ix2 i k) = v) :
    View.canon (Val := Elt Ideal) (s := S256x3712) (e := .bf16) (⟨Rect.unit (s := S256x3712) ![0, off] ![256, w] inb, p⟩ :: L) (ix2 i k) = v :=
  canon_step _ _ _ _ _ _ _ hin fun a ha => by
    match a with
    | ⟨0, _⟩ => exact absurd ha (by have := i.isLt; show ¬(i.val < 0 ∨ 0 + 256 ≤ i.val); omega)
    | ⟨1, _⟩ => exact hout ha

theorem pay5_apply (y : S256x128.Idx) : k0_pay5 (F := Ideal) y = 0 := by pointwise [k0_pay5]

variable (m : (ℓ : Loc nD τ sig) → Buf (Elt Ideal) ℓ) (c : Dev nD)

/-! ## Where a block's index lies in its array -/

/-- Row `r` of point `t`'s block of rows. -/
def row (t : Fin cfg0.N) (r : Fin 256) : Fin 1024 := ⟨t.val * 256 + r.val, by have := t.isLt; have : cfg0.N = 4 := N_0; omega⟩

theorem index_eq : ∀ t : Fin grid0.N, (win0_0.index t (0 : Fin 3) = 0 ∧ win0_0.index t (1 : Fin 3) = t.val ∧ win0_0.index t (2 : Fin 3) = 0)
    ∧ (win0_1.index t (0 : Fin 2) = t.val ∧ win0_1.index t (1 : Fin 2) = 0) := by decide +kernel

theorem emb0 (t : Fin cfg0.N) (j : Fin 8) (r : Fin 256) (q : Fin 449) : ((cfg0.win 0).blk t).view.emb (ix3 j r q) = ix3 j (row t r) q := by
  obtain ⟨e0, e1, e2⟩ := (index_eq t).1
  funext a; apply Fin.ext
  match a with
  | ⟨0, _⟩ => show win0_0.index t (0 : Fin 3) * 8 + 1 * j.val = j.val; omega
  | ⟨1, _⟩ => show win0_0.index t (1 : Fin 3) * 256 + 1 * r.val = t.val * 256 + r.val; omega
  | ⟨2, _⟩ => show win0_0.index t (2 : Fin 3) * 449 + 1 * q.val = q.val; omega

theorem emb1 (t : Fin cfg0.N) (r : Fin 256) (k : Fin 3712) : ((cfg0.win 1).blk t).view.emb (ix2 r k) = ix2 (row t r) k :=
  ix2_of (by show win0_1.index t (0 : Fin 2) * 256 + 1 * r.val = t.val * 256 + r.val; have := (index_eq t).2; omega)
    (by show win0_1.index t (1 : Fin 2) * 3712 + 1 * k.val = k.val; have := (index_eq t).2; omega)

/-- The devices' blocks, the argument. -/
def blocks (j : Fin 8) (i : Fin 1024) (q : Fin 449) : EReal := (m ((c : Thread nD τ).loc main_arg0) : FVec Ideal S8x1024x449 .f32) (ix3 j i q)

theorem block0 (t : Fin cfg0.N) (j : Fin 8) (r : Fin 256) (q : Fin 449) : iblk m c 0 t (ix3 j r q) = blocks m c j (row t r) q := by
  show V m c main_v0 (((cfg0.win 0).blk t).view.emb (ix3 j r q)) = _
  rw [emb0]
  unfold V hostOps0
  after_reads_at
  rfl

theorem read_x (t : Fin cfg0.N) : (ms0_0 t).view.read (Elt Ideal) ((hs0_0 t).unread (iblk m c 0 t)) = iblk m c 0 t := (hs0_0 t).read_unread _

/-- What a point leaves. -/
theorem left1 (t : Fin cfg0.N) (i : Fin 256) (k : Fin 3712) : outsAt0 m c t (ix2 i k) = moved (blocks m c) (row t i) k := by
  have hv : moved (fun j i q => iblk m c 0 t (ix3 j i q)) i k = moved (blocks m c) (row t i) k := by
    unfold moved
    simp only [block0]
  rw [← hv]
  unfold outsAt0 out0_A_1
  rw [View.read_writes_eq_canon _ _ _ (fun _ => cover0_A_1 ..)]
  unfold kernelRun0_A
  dsimp only
  sl_unfold_words
  simp only [View.readAt_eq_ld, read_x m c t]
  refine step 3135 449 _ _ _ i k _ (piece 7 0 3135 449 (by decide) (by decide) _ _ _ (fun q hq => by unfold source; split_ifs <;> omega) i k) fun o0 => ?_
  refine step 2686 449 _ _ _ i k _ (piece 6 0 2686 449 (by decide) (by decide) _ _ _ (fun q hq => by unfold source; split_ifs <;> omega) i k) fun o1 => ?_
  refine step 2237 449 _ _ _ i k _ (piece 5 0 2237 449 (by decide) (by decide) _ _ _ (fun q hq => by unfold source; split_ifs <;> omega) i k) fun o2 => ?_
  refine step 2048 189 _ _ _ i k _ (piece 4 260 2048 189 (by decide) (by decide) _ _ _ (fun q hq => by unfold source; split_ifs <;> omega) i k) fun o3 => ?_
  refine step 3584 8 _ _ _ i k _ (piece 4 252 3584 8 (by decide) (by decide) _ _ _ (fun q hq => by unfold source; split_ifs <;> omega) i k) fun o4 => ?_
  refine step 1796 252 _ _ _ i k _ (piece 4 0 1796 252 (by decide) (by decide) _ _ _ (fun q hq => by unfold source; split_ifs <;> omega) i k) fun o5 => ?_
  refine step 1347 449 _ _ _ i k _ (piece 3 0 1347 449 (by decide) (by decide) _ _ _ (fun q hq => by unfold source; split_ifs <;> omega) i k) fun o6 => ?_
  refine step 898 449 _ _ _ i k _ (piece 2 0 898 449 (by decide) (by decide) _ _ _ (fun q hq => by unfold source; split_ifs <;> omega) i k) fun o7 => ?_
  refine step 449 449 _ _ _ i k _ (piece 1 0 449 449 (by decide) (by decide) _ _ _ (fun q hq => by unfold source; split_ifs <;> omega) i k) fun o8 => ?_
  refine step 0 449 _ _ _ i k _ (piece 0 0 0 449 (by decide) (by decide) _ _ _ (fun q hq => by unfold source; split_ifs <;> omega) i k) fun o9 => ?_
  refine step 3584 128 _ _ _ i k _ (fun x _ => (pay5_apply x).trans ?_) fun o => ?_
  · unfold moved
    rw [dif_neg (by omega)]
  · have := k.isLt
    omega

theorem final1 : (dats m 0 c).arrAt 1 cfg0.N = fun i : S1024x3712.Idx => moved (blocks m c) (i 0) (i 1) := by
  refine (dats m 0 c).arrAt_eq_of_cover 1 _ (fun t _ => ?_) fun i => ?_
  · show (cfg0.win 1).cut (grid0.coords t) ((dats m 0 c).after 1 t) = _
    rw [after0_1]
    funext j
    obtain ⟨r, k, rfl⟩ : ∃ (r : Fin 256) (k : Fin 3712), j = ix2 r k := ⟨j 0, j 1, eq_ix2 j⟩
    refine (left1 m c t r k).trans ?_
    show _ = (fun i : S1024x3712.Idx => moved (blocks m c) (i 0) (i 1)) (((cfg0.win 1).blk t).view.emb (ix2 r k))
    rw [emb1]
    rfl
  · obtain ⟨r, k, rfl⟩ : ∃ (r : Fin 1024) (k : Fin 3712), i = ix2 r k := ⟨i 0, i 1, eq_ix2 i⟩
    have hN : cfg0.grid.N = 4 := N_0
    have hN' : cfg0.N = 4 := N_0
    have e := ((cfg0.win 1).blk ⟨r.val / 256, by omega⟩).view.emb_mem_set (ix2 ⟨r.val % 256, by omega⟩ k)
    rw [emb1] at e
    have er : row ⟨r.val / 256, by omega⟩ ⟨r.val % 256, by omega⟩ = r := Fin.ext (by show r.val / 256 * 256 + r.val % 256 = r.val; omega)
    rw [er] at e
    exact ⟨_, flush0_1 _, e⟩

end Cert.Kernel11Ideal.Cat
-- ==== Proof.CatPair.lean ====
/-
The weights in the kernel's order of columns: the kernel and its reference end with the same array.
-/
module

public import proofs.«01_k».proof.Defs
public import proofs.«01_k».proof.Proof.Gen.Kernel11.Frame
public import proofs.«01_k».proof.Proof.CatKernel
public import proofs.«01_k».proof.Proof.Gen.Reference11Ideal.Read

@[expose] public section

set_option maxRecDepth 16384

noncomputable section

namespace Cert.Cat

open Idealize.ShloMosaic Idealize.ShloMosaic.TcCoe Idealize.SL.Sem Cert.Common
open Cert.Kernel11Ideal.Cat (moved moved_at source)
open Reference11Ideal.Read

/-- The reference's blocks put side by side, at column `449 j + q`. -/
theorem side_at (x0 : FVec Ideal Reference11Ideal.S8x1024x449 .f32) (i : Fin 1024) (s : Fin 3592) (j : Fin 8) (q : Fin 449) (h : s.val = 449 * j.val + q.val) :
    val_main_v1 (F := Ideal) x0 (ix2 i s) = x0 (ix3 j i q) := by
  rw [val_main_v1_apply, val_main_v0_apply]
  refine congrArg x0 (funext fun a => Fin.ext ?_)
  match a with
  | ⟨0, _⟩ => show (i.val * 3592 + s.val) / 449 % 8 = j.val; omega
  | ⟨1, _⟩ => show (i.val * 3592 + s.val) / 3592 = i.val; omega
  | ⟨2, _⟩ => show (i.val * 3592 + s.val) % 449 = q.val; omega

/-- The reference at one index. -/
theorem ref_at (x0 : FVec Ideal Reference11Ideal.S8x1024x449 .f32) (i : Fin 1024) (k : Fin 3712) :
    val_main_v7 (F := Ideal) x0 (ix2 i k) = moved (fun j i q => x0 (ix3 j i q)) i k := by
  pointwise [val_main_v7, val_main_v6, val_main_v5, val_main_cst, val_main_v4, val_main_v3, val_main_v2]
  have key : ∀ s : Fin 3592, k.val < 3592 → source k.val = s.val → val_main_v1 (F := Ideal) x0 (ix2 i s) = moved (fun j i q => x0 (ix3 j i q)) i k := fun s hk hs => by
    have hj : s.val / 449 < 8 := by have := s.isLt; omega
    have hq : s.val % 449 < 449 := by omega
    rw [side_at x0 i s ⟨_, hj⟩ ⟨_, hq⟩ (by show s.val = 449 * (s.val / 449) + s.val % 449; omega)]
    exact (moved_at (fun j i q => x0 (ix3 j i q)) i k hk ⟨_, hj⟩ ⟨_, hq⟩ (by show source k.val = 449 * (s.val / 449) + s.val % 449; omega)).symm
  by_cases h0 : k.val < 2048
  · rw [dif_pos h0]
    exact key _ (by omega) (by unfold source; rw [if_pos h0])
  rw [dif_neg h0]
  by_cases h1 : k.val - 2048 < 1536
  · rw [dif_pos h1]
    exact key _ (by omega) (by show source k.val = 2056 + (k.val - 2048); unfold source; rw [if_neg h0, if_pos (by omega)]; omega)
  rw [dif_neg h1]
  by_cases h2 : k.val - 2048 - 1536 < 8
  · rw [dif_pos h2]
    exact key _ (by omega) (by show source k.val = 2048 + (k.val - 2048 - 1536); unfold source; rw [if_neg h0, if_neg (by omega)]; omega)
  rw [dif_neg h2]
  unfold moved
  rw [dif_neg (by omega)]

/-- The reference's frame. -/
theorem frame_reference : quiescent_Reference11Ideal := fun m ρ _ =>
  (θ_run Reference11Ideal.defs _ _).mono (fun r h => ⟨fun c => (h c).2, sem_eq_zero_of_no_sems (by decide) r.2⟩)
    (Reference11Ideal.Value.run (F := Ideal) m ρ)

/-- The results agree. -/
theorem value : algebraic_Kernel11Ideal_Reference11Ideal := by
  intro m g m' g' _ hargs
  refine ⟨fun c => fun (i : Kernel11Ideal.S1024x3712.Idx) => moved (Kernel11Ideal.Cat.blocks m c) (i (0 : Fin 2)) (i (1 : Fin 2)), ?_, ?_⟩
  · refine (θ_run Kernel11Ideal.defs _ _).mono (fun r hr c => ?_) (Kernel11Ideal.Value.run_blocks (F := Ideal) m g)
    obtain ⟨k0, hk⟩ := hr c
    exact ⟨k0.trans (Kernel11Ideal.Cat.final1 m c), hk⟩
  · refine (θ_run Reference11Ideal.defs _ _).mono (fun r hr c => ?_) (Reference11Ideal.Value.run (F := Ideal) m' g')
    obtain ⟨r0, hk⟩ := hr c
    have a0 := hargs c
    refine ⟨r0.trans ((val_main_v7_eq _).trans (ext2 fun i k => (ref_at _ i k).trans ?_)), hk⟩
    rw [a0]
    rfl

end Cert.Cat
-- ==== Proof.AdamSpec.lean ====
/-
  The optimiser's update at one element, over the extended reals.
-/
module

public import proofs.«01_k».proof.Proof.Common
public import Idealize.ShloMosaic.PureOps.IdealRules

@[expose] public section

noncomputable section

namespace Cert.AdamSpec

open Idealize.ShloMosaic

/-- The gradient: what the devices sent, the device's own part from its own array. -/
def total (me : BitVec 32) (own recv : Fin 8 → EReal) : EReal := ∑ s : Fin 8, if me = BitVec.ofNat 32 s.val then own s else recv s

/-- The first moment after the step, -/
def first (m g : EReal) : EReal := Ideal.ofBits .f32 0x3F666666#32 * m + Ideal.ofBits .f32 0x3DCCCCCD#32 * g

/-- the second one, -/
def second (v g : EReal) : EReal := Ideal.ofBits .f32 0x3F7FBE77#32 * v + Ideal.ofBits .f32 0x3A83126F#32 * (g * g)

/-- and the change of the weight, from its moments after the step. -/
def change (w m v : EReal) : EReal :=
  Ideal.ofBits .f32 0xBA83126F#32 * (Ideal.div (m * ((8388608 / 5463681 : ℝ) : EReal)) (Ideal.sqrt (v * ((268435456 / 2672307 : ℝ) : EReal)) + Ideal.ofBits .f32 0x322BCC77#32)
    + Ideal.ofBits .f32 0x3C23D70A#32 * w)

/-- The divisors by which the reference corrects the moments' bias. -/
theorem ofBits_c1 : Ideal.ofBits .f32 0x3F26BD02#32 = ((5463681 / 8388608 : ℝ) : EReal) := by
  simp [Ideal.ofBits, Ideal.ieee, -EReal.coe_mul]; norm_num

theorem ofBits_c2 : Ideal.ofBits .f32 0x3C231ACC#32 = ((2672307 / 268435456 : ℝ) : EReal) := by
  simp [Ideal.ofBits, Ideal.ieee, -EReal.coe_mul]; norm_num

theorem div_c1 (x : EReal) : Ideal.div x (Ideal.ofBits .f32 0x3F26BD02#32) = x * ((8388608 / 5463681 : ℝ) : EReal) := by
  rw [ofBits_c1, Ideal.div_coe (by norm_num)]
  norm_num

theorem div_c2 (x : EReal) : Ideal.div x (Ideal.ofBits .f32 0x3C231ACC#32) = x * ((268435456 / 2672307 : ℝ) : EReal) := by
  rw [ofBits_c2, Ideal.div_coe (by norm_num)]
  norm_num

/-- A choice by an equality of words. -/
theorem pick {α : Type} (a b : BitVec 32) (x y : α) : Scalar.select (IntOp.cmpi .eq a b) x y = if a = b then x else y := by
  show (if BitVec.ofBool (a == b) = 1#1 then x else y) = _
  by_cases h : a = b
  · rw [if_pos h, beq_iff_eq.2 h]; rfl
  · rw [if_neg h, beq_eq_false_iff_ne.2 h]; rfl

end Cert.AdamSpec
-- ==== Proof.AdamPay.lean ====
/-
  The optimiser's body at one index.
-/
module

public import proofs.«01_k».proof.Proof.AdamSpec
public import proofs.«01_k».proof.Proof.Gen.Kernel12Ideal.Skeleton
public import Idealize.ShloMosaic.Lib.Pipeline.Value

@[expose] public section

set_option maxRecDepth 16384

noncomputable section

open Idealize.ShloMosaic Idealize.ShloMosaic.TcCoe Idealize.SL.Sem
open Cert.Common Cert.AdamSpec

namespace Cert.Kernel12Ideal.Adam

open Cert.Kernel12Ideal Cert.Kernel12Ideal.Gen

variable (me : BitVec 32) (o : Vec Ideal S1x256x449 .bf16) (p : Fin 8 → Vec Ideal S1x256x449 .bf16)

/-- The sum over the first seven devices, as the body takes it, -/
def seven : FVec Ideal S256x449 .f32 :=
  k0_pay4 (k0_pay2 me o (p 0) me o (p 1) me o (p 2)) (Scalar.cmpi .eq me 3#32) (k0_pay3 o) (p 3) me o (p 4) me o (p 5) me o (p 6)

/-- and over all eight. -/
def summed : FVec Ideal S256x449 .f32 := k0_pay5 (seven me o p) me o (p 7)

theorem summed_at (r : Fin 256) (q : Fin 449) : summed me o p (ix2 r q) = total me (fun _ => o (ix3 0 r q)) (fun s => p s (ix3 0 r q)) := by
  unfold summed seven
  pointwise [k0_pay5, k0_pay4, k0_pay3, k0_pay2, total, Fin.sum_univ_eight]
  simp only [Scalar.cmpi, pick]

variable (g : FVec Ideal S256x449 .f32) (last : Vec Ideal S1x256x449 .bf16) (w v z : Vec Ideal S256x449 .f32) (r : Fin 256) (q : Fin 449)

theorem first_at : k0_pay6 g me o last z (ix2 r q) = first (z (ix2 r q)) (k0_pay5 g me o last (ix2 r q)) := by
  pointwise [k0_pay6, first]

theorem second_at : k0_pay7 g me o last v (ix2 r q) = second (v (ix2 r q)) (k0_pay5 g me o last (ix2 r q)) := by
  pointwise [k0_pay7, second]

theorem named_c1 : Named.named (F := Ideal) κ "c1" (φ := .f32) 0x3FC48605#32 = ((8388608 / 5463681 : ℝ) : EReal) :=
  IdealRules.named_const.ideal_named_scalar _ _ _ _ rfl

theorem named_c2 : Named.named (F := Ideal) κ "c2" (φ := .f32) 0x42C8E6D3#32 = ((268435456 / 2672307 : ℝ) : EReal) :=
  IdealRules.named_const.ideal_named_scalar _ _ _ _ rfl

theorem change_at : k0_pay1 (k0_pay8 g me o last z v) w (ix2 r q)
    = change (w (ix2 r q)) (k0_pay6 g me o last z (ix2 r q)) (k0_pay7 g me o last v (ix2 r q)) := by
  pointwise [k0_pay1, k0_pay8, change, named_c1, named_c2]

end Cert.Kernel12Ideal.Adam
-- ==== Proof.AdamKernel.lean ====
/-
  The optimiser's update: what a grid point leaves, and its four arrays after the region.
-/
module

public import proofs.«01_k».proof.Proof.AdamPay
public import proofs.«01_k».proof.Proof.Gen.Kernel12Ideal.Frame
public import proofs.«01_k».proof.Proof.Pieces
public import Idealize.ShloMosaic.Lib.StableHlo.ReadAt
public import Idealize.ShloMosaic.Lib.Pipeline.Value

@[expose] public section

set_option maxRecDepth 16384

noncomputable section

open Idealize.ShloMosaic Idealize.ShloMosaic.TcCoe Idealize.SL.Sem
open Cert.Common Cert.AdamSpec

namespace Cert.Kernel12Ideal.Adam

open Cert.Kernel12Ideal Cert.Kernel12Ideal.Gen

variable (m : (ℓ : Loc nD τ sig) → Buf (Elt Ideal) ℓ) (hO : Ok m) (c : Dev nD)

/-! ## The device's number -/

/-- The one index of an array of one element. -/
def at0 : S1.Idx := fun _ => ⟨0, by decide +revert⟩

theorem eq_at0 (y : S1.Idx) : y = at0 := funext fun a => Fin.ext (by
  have h := (y a).isLt
  match a, h with
  | ⟨0, _⟩, h => exact Nat.lt_one_iff.1 h)

/-- The device's number, the prefetched argument. -/
def me : BitVec 32 := (m ((c : Thread nD τ).loc main_arg2) : IVec S1 32) at0

theorem tbl_at (y : S1.Idx) : (tbl m 0 : IVec S1 32) y = me m c := by
  obtain rfl : c = 0 := Subsingleton.elim _ _
  show (V m 0 main_arg2 : IVec S1 32) y = _
  rw [V_main_arg2, eq_at0 y]
  rfl

/-- The prefetched block's place: the device's own row of blocks. -/
theorem place (i : grid0.Coords) : cc0_transform_1 (F := Ideal) inb_S1_S1_0 numel1_S1 (tbl m) i = (![(me m c).toNat, (i 0).val, 0] : Fin 3 → ℕ) := by
  unfold cc0_transform_1
  dsimp only
  have hi : (i 0).val < 4 := (i 0).isLt
  rw [BitVec.toNat_ofNat, Nat.mod_eq_of_lt (by omega)]
  exact congrArg (fun x : BitVec 32 => (![x.toNat, (i 0).val, 0] : Fin 3 → ℕ)) (tbl_at m c _)

/-- A number below eight keeps that block in its array. -/
theorem ok_of_lt (h : (me m 0).toNat < 8) : Ok m := fun i => by
  refine ⟨fun a => ?_, .inr (Affine.block_words_dvd (of_decide_eq_true rfl) (by decide))⟩
  rw [place m 0 i]
  have hi : (i 0).val < 4 := (i 0).isLt
  match a with
  | ⟨0, _⟩ => show ((me m 0).toNat + 1) * 1 ≤ 8; omega
  | ⟨1, _⟩ => show ((i 0).val + 1) * 256 ≤ 1024; omega
  | ⟨2, _⟩ => show (0 + 1) * 449 ≤ 449; omega

/-! ## Where a block's index lies in its array -/

/-- Row `r` of point `t`'s block of rows. -/
def row (t : Fin grid0.N) (r : Fin 256) : Fin 1024 := ⟨t.val * 256 + r.val, by have := t.isLt; have : grid0.N = 4 := N_0; omega⟩

theorem index_eq : ∀ t : Fin grid0.N, (cc0_transform_0 (grid0.coords t) (0 : Fin 3) = 0 ∧ cc0_transform_0 (grid0.coords t) (1 : Fin 3) = t.val ∧ cc0_transform_0 (grid0.coords t) (2 : Fin 3) = 0)
    ∧ (cc0_transform_2 (grid0.coords t) (0 : Fin 2) = t.val ∧ cc0_transform_2 (grid0.coords t) (1 : Fin 2) = 0)
    ∧ (cc0_transform_3 (grid0.coords t) (0 : Fin 2) = t.val ∧ cc0_transform_3 (grid0.coords t) (1 : Fin 2) = 0)
    ∧ (cc0_transform_4 (grid0.coords t) (0 : Fin 2) = t.val ∧ cc0_transform_4 (grid0.coords t) (1 : Fin 2) = 0)
    ∧ (cc0_transform_5 (grid0.coords t) (0 : Fin 2) = t.val ∧ cc0_transform_5 (grid0.coords t) (1 : Fin 2) = 0)
    ∧ (cc0_transform_6 (grid0.coords t) (0 : Fin 2) = t.val ∧ cc0_transform_6 (grid0.coords t) (1 : Fin 2) = 0)
    ∧ (cc0_transform_7 (grid0.coords t) (0 : Fin 2) = t.val ∧ cc0_transform_7 (grid0.coords t) (1 : Fin 2) = 0)
    ∧ (cc0_transform_8 (grid0.coords t) (0 : Fin 2) = t.val ∧ cc0_transform_8 (grid0.coords t) (1 : Fin 2) = 0)
    ∧ ((grid0.coords t) 0).val = t.val := by decide +kernel

theorem emb0 (t : Fin (cfgM m hO).N) (j : Fin 8) (r : Fin 256) (q : Fin 449) : (((cfgM m hO).win 0).blk t).view.emb (ix3 j r q) = ix3 j (row t r) q := by
  obtain ⟨e0, e1, e2⟩ := (index_eq t).1
  funext a; apply Fin.ext
  match a with
  | ⟨0, _⟩ => show cc0_transform_0 (grid0.coords t) (0 : Fin 3) * 8 + 1 * j.val = j.val; omega
  | ⟨1, _⟩ => show cc0_transform_0 (grid0.coords t) (1 : Fin 3) * 256 + 1 * r.val = t.val * 256 + r.val; omega
  | ⟨2, _⟩ => show cc0_transform_0 (grid0.coords t) (2 : Fin 3) * 449 + 1 * q.val = q.val; omega

theorem emb1 (t : Fin (cfgM m hO).N) (d : Fin 8) (hd : me m c = BitVec.ofNat 32 d.val) (r : Fin 256) (q : Fin 449) :
    (((cfgM m hO).win 1).blk t).view.emb (ix3 0 r q) = ix3 d (row t r) q := by
  have e := place m c (grid0.coords t)
  have ed : (me m c).toNat = d.val := by rw [hd, BitVec.toNat_ofNat]; have := d.isLt; omega
  have et := (index_eq t).2.2.2.2.2.2.2.2
  funext a; apply Fin.ext
  match a with
  | ⟨0, _⟩ => show cc0_transform_1 (F := Ideal) inb_S1_S1_0 numel1_S1 (tbl m) (grid0.coords t) (0 : Fin 3) * 1 + 1 * 0 = d.val; rw [e, ← ed]; show (me m c).toNat * 1 + 1 * 0 = _; omega
  | ⟨1, _⟩ => show cc0_transform_1 (F := Ideal) inb_S1_S1_0 numel1_S1 (tbl m) (grid0.coords t) (1 : Fin 3) * 256 + 1 * r.val = t.val * 256 + r.val; rw [e, ← et]; show ((grid0.coords t) 0).val * 256 + 1 * r.val = _; omega
  | ⟨2, _⟩ => show cc0_transform_1 (F := Ideal) inb_S1_S1_0 numel1_S1 (tbl m) (grid0.coords t) (2 : Fin 3) * 449 + 1 * q.val = q.val; rw [e]; show 0 * 449 + 1 * q.val = _; omega

theorem emb2 (t : Fin (cfgM m hO).N) (r : Fin 256) (q : Fin 449) : (((cfgM m hO).win 2).blk t).view.emb (ix2 r q) = ix2 (row t r) q :=
  ix2_of (by show cc0_transform_2 (grid0.coords t) (0 : Fin 2) * 256 + 1 * r.val = t.val * 256 + r.val; have := index_eq t; omega)
    (by show cc0_transform_2 (grid0.coords t) (1 : Fin 2) * 449 + 1 * q.val = q.val; have := index_eq t; omega)

theorem emb3 (t : Fin (cfgM m hO).N) (r : Fin 256) (q : Fin 449) : (((cfgM m hO).win 3).blk t).view.emb (ix2 r q) = ix2 (row t r) q :=
  ix2_of (by show cc0_transform_3 (grid0.coords t) (0 : Fin 2) * 256 + 1 * r.val = t.val * 256 + r.val; have := index_eq t; omega)
    (by show cc0_transform_3 (grid0.coords t) (1 : Fin 2) * 449 + 1 * q.val = q.val; have := index_eq t; omega)

theorem emb4 (t : Fin (cfgM m hO).N) (r : Fin 256) (q : Fin 449) : (((cfgM m hO).win 4).blk t).view.emb (ix2 r q) = ix2 (row t r) q :=
  ix2_of (by show cc0_transform_4 (grid0.coords t) (0 : Fin 2) * 256 + 1 * r.val = t.val * 256 + r.val; have := index_eq t; omega)
    (by show cc0_transform_4 (grid0.coords t) (1 : Fin 2) * 449 + 1 * q.val = q.val; have := index_eq t; omega)

theorem emb5 (t : Fin (cfgM m hO).N) (r : Fin 256) (q : Fin 449) : (((cfgM m hO).win 5).blk t).view.emb (ix2 r q) = ix2 (row t r) q :=
  ix2_of (by show cc0_transform_5 (grid0.coords t) (0 : Fin 2) * 256 + 1 * r.val = t.val * 256 + r.val; have := index_eq t; omega)
    (by show cc0_transform_5 (grid0.coords t) (1 : Fin 2) * 449 + 1 * q.val = q.val; have := index_eq t; omega)

theorem emb6 (t : Fin (cfgM m hO).N) (r : Fin 256) (q : Fin 449) : (((cfgM m hO).win 6).blk t).view.emb (ix2 r q) = ix2 (row t r) q :=
  ix2_of (by show cc0_transform_6 (grid0.coords t) (0 : Fin 2) * 256 + 1 * r.val = t.val * 256 + r.val; have := index_eq t; omega)
    (by show cc0_transform_6 (grid0.coords t) (1 : Fin 2) * 449 + 1 * q.val = q.val; have := index_eq t; omega)

theorem emb7 (t : Fin (cfgM m hO).N) (r : Fin 256) (q : Fin 449) : (((cfgM m hO).win 7).blk t).view.emb (ix2 r q) = ix2 (row t r) q :=
  ix2_of (by show cc0_transform_7 (grid0.coords t) (0 : Fin 2) * 256 + 1 * r.val = t.val * 256 + r.val; have := index_eq t; omega)
    (by show cc0_transform_7 (grid0.coords t) (1 : Fin 2) * 449 + 1 * q.val = q.val; have := index_eq t; omega)

theorem emb8 (t : Fin (cfgM m hO).N) (r : Fin 256) (q : Fin 449) : (((cfgM m hO).win 8).blk t).view.emb (ix2 r q) = ix2 (row t r) q :=
  ix2_of (by show cc0_transform_8 (grid0.coords t) (0 : Fin 2) * 256 + 1 * r.val = t.val * 256 + r.val; have := index_eq t; omega)
    (by show cc0_transform_8 (grid0.coords t) (1 : Fin 2) * 449 + 1 * q.val = q.val; have := index_eq t; omega)

/-! ## The points' input blocks -/

/-- What the devices sent, -/
def recv (s : Fin 8) (i : Fin 1024) (q : Fin 449) : EReal := (m ((c : Thread nD τ).loc main_arg0) : FVec Ideal S8x1024x449 .f32) (ix3 s i q)

/-- the device's own array, -/
def own (s : Fin 8) (i : Fin 1024) (q : Fin 449) : EReal := (m ((c : Thread nD τ).loc main_arg1) : FVec Ideal S8x1024x449 .f32) (ix3 s i q)

/-- the weight and its two moments. -/
def w (i : Fin 1024) (q : Fin 449) : EReal := (m ((c : Thread nD τ).loc main_arg3) : FVec Ideal S1024x449 .f32) (ix2 i q)
def mom (i : Fin 1024) (q : Fin 449) : EReal := (m ((c : Thread nD τ).loc main_arg4) : FVec Ideal S1024x449 .f32) (ix2 i q)
def var (i : Fin 1024) (q : Fin 449) : EReal := (m ((c : Thread nD τ).loc main_arg5) : FVec Ideal S1024x449 .f32) (ix2 i q)

/-- A point's blocks of these. -/
def in0 (t : Fin (cfgM m hO).N) : Vec Ideal S8x256x449 .bf16 := iblk m hO c 0 t
def in1 (t : Fin (cfgM m hO).N) : Vec Ideal S1x256x449 .bf16 := iblk m hO c 1 t
def in2 (t : Fin (cfgM m hO).N) : Vec Ideal S256x449 .f32 := iblk m hO c 2 t
def in3 (t : Fin (cfgM m hO).N) : Vec Ideal S256x449 .f32 := iblk m hO c 3 t
def in4 (t : Fin (cfgM m hO).N) : Vec Ideal S256x449 .f32 := iblk m hO c 4 t

theorem block0 (t : Fin (cfgM m hO).N) (s : Fin 8) (r : Fin 256) (q : Fin 449) : in0 m hO c t (ix3 s r q) = recv m c s (row t r) q := by
  show V m c main_v0 ((((cfgM m hO).win 0).blk t).view.emb (ix3 s r q)) = _
  rw [emb0]
  unfold V hostOps0
  after_reads_at
  rfl

theorem block1 (t : Fin (cfgM m hO).N) (d : Fin 8) (hd : me m c = BitVec.ofNat 32 d.val) (r : Fin 256) (q : Fin 449) :
    in1 m hO c t (ix3 0 r q) = own m c d (row t r) q := by
  show V m c main_v1 ((((cfgM m hO).win 1).blk t).view.emb (ix3 0 r q)) = _
  rw [emb1 m hO c t d hd]
  unfold V hostOps0
  after_reads_at
  rfl

theorem block2 (t : Fin (cfgM m hO).N) (r : Fin 256) (q : Fin 449) : in2 m hO c t (ix2 r q) = w m c (row t r) q := by
  show V m c main_arg3 ((((cfgM m hO).win 2).blk t).view.emb (ix2 r q)) = _
  rw [emb2, V_main_arg3]; rfl

theorem block3 (t : Fin (cfgM m hO).N) (r : Fin 256) (q : Fin 449) : in3 m hO c t (ix2 r q) = mom m c (row t r) q := by
  show V m c main_arg4 ((((cfgM m hO).win 3).blk t).view.emb (ix2 r q)) = _
  rw [emb3, V_main_arg4]; rfl

theorem block4 (t : Fin (cfgM m hO).N) (r : Fin 256) (q : Fin 449) : in4 m hO c t (ix2 r q) = var m c (row t r) q := by
  show V m c main_arg5 ((((cfgM m hO).win 4).blk t).view.emb (ix2 r q)) = _
  rw [emb4, V_main_arg5]; rfl

/-! ## The blocks a point leaves -/

/-- The gradient. -/
def grad (i : Fin 1024) (q : Fin 449) : EReal := total (me m c) (fun s => own m c s i q) (fun s => recv m c s i q)

theorem zero3 : (![0, 0, 0] : Fin 3 → Nat) = fun _ => 0 := funext fun a => by fin_cases a <;> rfl

/-- The blocks of the devices, one by one. -/
def rows (x : Vec Ideal S8x256x449 .bf16) (s : Fin 8) : Vec Ideal S1x256x449 .bf16 :=
  View.ld x (Rect.unit (s := S8x256x449) ![s.val, 0, 0] ![1, 256, 449] (fun a => by
    have := s.isLt
    match a with
    | ⟨0, _⟩ => show s.val + 1 ≤ 8; omega
    | ⟨1, _⟩ => exact Nat.le_refl 256
    | ⟨2, _⟩ => exact Nat.le_refl 449))

theorem rows_at (x : Vec Ideal S8x256x449 .bf16) (s : Fin 8) (r : Fin 256) (q : Fin 449) : rows x s (ix3 0 r q) = x (ix3 s r q) :=
  View.ld_unit_apply_of x _ _ _ _ _ fun a => by
    match a with
    | ⟨0, _⟩ => rfl
    | ⟨1, _⟩ => exact (Nat.zero_add _).symm
    | ⟨2, _⟩ => exact (Nat.zero_add _).symm

section Stored

variable (i : grid0.Coords) (arg2 : Memref sig .tc .vmem S8x256x449 .bf16) (harg2 : arg2.IsWhole) (arg3 : Memref sig .tc .vmem S1x256x449 .bf16) (harg3 : arg3.IsWhole)
  (arg4 : Memref sig .tc .vmem S256x449 .f32) (harg4 : arg4.IsWhole) (arg5 : Memref sig .tc .vmem S256x449 .f32) (harg5 : arg5.IsWhole) (arg6 : Memref sig .tc .vmem S256x449 .f32) (harg6 : arg6.IsWhole)
  (arg7 : Memref sig .tc .vmem S256x449 .f32) (harg7 : arg7.IsWhole) (arg8 : Memref sig .tc .vmem S256x449 .f32) (harg8 : arg8.IsWhole) (arg9 : Memref sig .tc .vmem S256x449 .f32) (harg9 : arg9.IsWhole)
  (arg10 : Memref sig .tc .vmem S256x449 .f32) (harg10 : arg10.IsWhole)
  (x0 : Vec Ideal S8x256x449 .bf16) (x1 : Vec Ideal S1x256x449 .bf16) (x2 x3 x4 : Vec Ideal S256x449 .f32) (xt : TbBuf0 (F := Ideal) c tbM0_0) (b : BitVec 32)

theorem stored5 (h : ∀ y, (xt : IVec S1 32) y = b) : out0_A_5 c i arg2 harg2 arg3 harg3 arg4 harg4 arg5 harg5 arg6 harg6 arg7 harg7 arg8 harg8 arg9 harg9 arg10 harg10 x0 x1 x2 x3 x4 xt = summed b x1 (rows x0) := by
  have hw : ∀ k : (Rect.unit (s := S1) ![0] ![1] inb_S1_S1_0).shape.Idx, View.ld (View.read (Elt Ideal) (View.whole main_arg2) xt) (Rect.unit (s := S1) ![0] ![1] inb_S1_S1_0) k = b := fun _ => h _
  unfold out0_A_5
  rw [View.read_writes_eq_canon _ _ _ (fun _ => cover0_A_5 ..)]
  unfold kernelRun0_A
  dsimp only
  sl_unfold_words
  rw [View.canon_unit_zero zero2]
  simp only [View.readAt_eq_ld, Memref.IsWhole.read_unread, View.ld_unit_zero (S := S1x256x449) zero3, View.ld_unit_zero (S := S256x449) zero2, hw]
  rfl

theorem stored6 (h : ∀ y, (xt : IVec S1 32) y = b) : out0_A_6 c i arg2 harg2 arg3 harg3 arg4 harg4 arg5 harg5 arg6 harg6 arg7 harg7 arg8 harg8 arg9 harg9 arg10 harg10 x0 x1 x2 x3 x4 xt = k0_pay1 (k0_pay8 (seven b x1 (rows x0)) b x1 (rows x0 7) x3 x4) x2 := by
  have hw : ∀ k : (Rect.unit (s := S1) ![0] ![1] inb_S1_S1_0).shape.Idx, View.ld (View.read (Elt Ideal) (View.whole main_arg2) xt) (Rect.unit (s := S1) ![0] ![1] inb_S1_S1_0) k = b := fun _ => h _
  unfold out0_A_6
  rw [View.read_writes_eq_canon _ _ _ (fun _ => cover0_A_6 ..)]
  unfold kernelRun0_A
  dsimp only
  sl_unfold_words
  rw [View.canon_unit_zero zero2]
  simp only [View.readAt_eq_ld, Memref.IsWhole.read_unread, View.ld_unit_zero (S := S1x256x449) zero3, View.ld_unit_zero (S := S256x449) zero2, hw]
  rfl

theorem stored7 (h : ∀ y, (xt : IVec S1 32) y = b) : out0_A_7 c i arg2 harg2 arg3 harg3 arg4 harg4 arg5 harg5 arg6 harg6 arg7 harg7 arg8 harg8 arg9 harg9 arg10 harg10 x0 x1 x2 x3 x4 xt = k0_pay6 (seven b x1 (rows x0)) b x1 (rows x0 7) x3 := by
  have hw : ∀ k : (Rect.unit (s := S1) ![0] ![1] inb_S1_S1_0).shape.Idx, View.ld (View.read (Elt Ideal) (View.whole main_arg2) xt) (Rect.unit (s := S1) ![0] ![1] inb_S1_S1_0) k = b := fun _ => h _
  unfold out0_A_7
  rw [View.read_writes_eq_canon _ _ _ (fun _ => cover0_A_7 ..)]
  unfold kernelRun0_A
  dsimp only
  sl_unfold_words
  rw [View.canon_unit_zero zero2]
  simp only [View.readAt_eq_ld, Memref.IsWhole.read_unread, View.ld_unit_zero (S := S1x256x449) zero3, View.ld_unit_zero (S := S256x449) zero2, hw]
  rfl

theorem stored8 (h : ∀ y, (xt : IVec S1 32) y = b) : out0_A_8 c i arg2 harg2 arg3 harg3 arg4 harg4 arg5 harg5 arg6 harg6 arg7 harg7 arg8 harg8 arg9 harg9 arg10 harg10 x0 x1 x2 x3 x4 xt = k0_pay7 (seven b x1 (rows x0)) b x1 (rows x0 7) x4 := by
  have hw : ∀ k : (Rect.unit (s := S1) ![0] ![1] inb_S1_S1_0).shape.Idx, View.ld (View.read (Elt Ideal) (View.whole main_arg2) xt) (Rect.unit (s := S1) ![0] ![1] inb_S1_S1_0) k = b := fun _ => h _
  unfold out0_A_8
  rw [View.read_writes_eq_canon _ _ _ (fun _ => cover0_A_8 ..)]
  unfold kernelRun0_A
  dsimp only
  sl_unfold_words
  rw [View.canon_unit_zero zero2]
  simp only [View.readAt_eq_ld, Memref.IsWhole.read_unread, View.ld_unit_zero (S := S1x256x449) zero3, View.ld_unit_zero (S := S256x449) zero2, hw]
  rfl

end Stored

variable (t : Fin (cfgM m hO).N) (r : Fin 256) (q : Fin 449)

/-- The body's sum at a point is the gradient. -/
theorem summed_eq : summed (me m c) (in1 m hO c t) (rows (in0 m hO c t)) (ix2 r q) = grad m c (row t r) q := by
  rw [summed_at]
  unfold grad total
  refine Finset.sum_congr rfl fun s _ => ?_
  by_cases hs : me m c = BitVec.ofNat 32 s.val
  · rw [if_pos hs, if_pos hs]; exact block1 m hO c t s hs r q
  · rw [if_neg hs, if_neg hs]; exact (rows_at _ s r q).trans (block0 m hO c t s r q)

/-- The moments and the change of the weight, after the step. -/
def mom' (i : Fin 1024) (q : Fin 449) : EReal := first (mom m c i q) (grad m c i q)
def var' (i : Fin 1024) (q : Fin 449) : EReal := second (var m c i q) (grad m c i q)
def delta (i : Fin 1024) (q : Fin 449) : EReal := change (w m c i q) (mom' m c i q) (var' m c i q)

theorem mom_eq : k0_pay6 (seven (me m c) (in1 m hO c t) (rows (in0 m hO c t))) (me m c) (in1 m hO c t) (rows (in0 m hO c t) 7) (in3 m hO c t) (ix2 r q) = mom' m c (row t r) q :=
  (first_at _ _ _ _ _ r q).trans (congrArg₂ first (block3 m hO c t r q) (summed_eq m hO c t r q))

theorem var_eq : k0_pay7 (seven (me m c) (in1 m hO c t) (rows (in0 m hO c t))) (me m c) (in1 m hO c t) (rows (in0 m hO c t) 7) (in4 m hO c t) (ix2 r q) = var' m c (row t r) q :=
  (second_at _ _ _ _ _ r q).trans (congrArg₂ second (block4 m hO c t r q) (summed_eq m hO c t r q))

theorem change_eq : change (in2 m hO c t (ix2 r q)) (k0_pay6 (seven (me m c) (in1 m hO c t) (rows (in0 m hO c t))) (me m c) (in1 m hO c t) (rows (in0 m hO c t) 7) (in3 m hO c t) (ix2 r q))
    (k0_pay7 (seven (me m c) (in1 m hO c t) (rows (in0 m hO c t))) (me m c) (in1 m hO c t) (rows (in0 m hO c t) 7) (in4 m hO c t) (ix2 r q)) = delta m c (row t r) q := by
  rw [block2, mom_eq, var_eq]
  rfl

theorem left5 : (outsAt0 m hO c t).1 (ix2 r q) = grad m c (row t r) q := by
  refine Eq.trans (congrFun (?_ : _ = summed (me m c) (in1 m hO c t) (rows (in0 m hO c t))) (ix2 r q)) (summed_eq m hO c t r q)
  unfold outsAt0
  dsimp only
  exact stored5 (h := tbl_at m c) ..

theorem left6 : (outsAt0 m hO c t).2.1 (ix2 r q) = delta m c (row t r) q := by
  refine Eq.trans (congrFun (?_ : _ = k0_pay1 (k0_pay8 (seven (me m c) (in1 m hO c t) (rows (in0 m hO c t))) (me m c) (in1 m hO c t) (rows (in0 m hO c t) 7) (in3 m hO c t) (in4 m hO c t)) (in2 m hO c t)) (ix2 r q)) ((change_at ..).trans (change_eq m hO c t r q))
  unfold outsAt0
  dsimp only
  exact stored6 (h := tbl_at m c) ..

theorem left7 : (outsAt0 m hO c t).2.2.1 (ix2 r q) = mom' m c (row t r) q := by
  refine Eq.trans (congrFun (?_ : _ = k0_pay6 (seven (me m c) (in1 m hO c t) (rows (in0 m hO c t))) (me m c) (in1 m hO c t) (rows (in0 m hO c t) 7) (in3 m hO c t)) (ix2 r q)) (mom_eq m hO c t r q)
  unfold outsAt0
  dsimp only
  exact stored7 (h := tbl_at m c) ..

theorem left8 : (outsAt0 m hO c t).2.2.2 (ix2 r q) = var' m c (row t r) q := by
  refine Eq.trans (congrFun (?_ : _ = k0_pay7 (seven (me m c) (in1 m hO c t) (rows (in0 m hO c t))) (me m c) (in1 m hO c t) (rows (in0 m hO c t) 7) (in4 m hO c t)) (ix2 r q)) (var_eq m hO c t r q)
  unfold outsAt0
  dsimp only
  exact stored8 (h := tbl_at m c) ..

/-! ## The arrays after the region -/

/-- A matrix as an array of a result's shape. -/
def sheet (f : Fin 1024 → Fin 449 → EReal) : S1024x449.Idx → EReal := fun i => f (i 0) (i 1)

omit m hO c t r q in
theorem at_block (j : S256x449.Idx) : ∃ r q, j = ix2 r q := ⟨j 0, j 1, eq_ix2 j⟩

omit m hO c t r q in
theorem at_sheet (i : S1024x449.Idx) : ∃ r q, i = ix2 r q := ⟨i 0, i 1, eq_ix2 i⟩

omit m hO c t r q in
/-- Every row lies in a point's block. -/
theorem row_tile (i : Fin 1024) : ∃ t r, row t r = i := by
  have hN : grid0.N = 4 := N_0
  exact ⟨⟨i.val / 256, by omega⟩, ⟨i.val % 256, by omega⟩, Fin.ext (by show i.val / 256 * 256 + i.val % 256 = i.val; omega)⟩

theorem final5 : (dats m hO 0 c).arrAt 5 (cfgM m hO).N = sheet (grad m c) := by
  refine (dats m hO 0 c).arrAt_eq_of_cover 5 _ (fun t _ => ?_) fun i => ?_
  · show ((cfgM m hO).win 5).cut (grid0.coords t) ((dats m hO 0 c).after 5 t) = _
    rw [after0_5]
    funext j
    obtain ⟨r, q, rfl⟩ := at_block j
    refine (left5 m hO c t r q).trans ?_
    show _ = sheet (grad m c) ((((cfgM m hO).win 5).blk t).view.emb (ix2 r q))
    rw [emb5]
    rfl
  · obtain ⟨r, q, rfl⟩ := at_sheet i
    obtain ⟨t, p, rfl⟩ := row_tile r
    have e := (((cfgM m hO).win 5).blk t).view.emb_mem_set (ix2 p q)
    rw [emb5] at e
    exact ⟨t, flush0_5 (adm m hO) t, e⟩

theorem final6 : (dats m hO 0 c).arrAt 6 (cfgM m hO).N = sheet (delta m c) := by
  refine (dats m hO 0 c).arrAt_eq_of_cover 6 _ (fun t _ => ?_) fun i => ?_
  · show ((cfgM m hO).win 6).cut (grid0.coords t) ((dats m hO 0 c).after 6 t) = _
    rw [after0_6]
    funext j
    obtain ⟨r, q, rfl⟩ := at_block j
    refine (left6 m hO c t r q).trans ?_
    show _ = sheet (delta m c) ((((cfgM m hO).win 6).blk t).view.emb (ix2 r q))
    rw [emb6]
    rfl
  · obtain ⟨r, q, rfl⟩ := at_sheet i
    obtain ⟨t, p, rfl⟩ := row_tile r
    have e := (((cfgM m hO).win 6).blk t).view.emb_mem_set (ix2 p q)
    rw [emb6] at e
    exact ⟨t, flush0_6 (adm m hO) t, e⟩

theorem final7 : (dats m hO 0 c).arrAt 7 (cfgM m hO).N = sheet (mom' m c) := by
  refine (dats m hO 0 c).arrAt_eq_of_cover 7 _ (fun t _ => ?_) fun i => ?_
  · show ((cfgM m hO).win 7).cut (grid0.coords t) ((dats m hO 0 c).after 7 t) = _
    rw [after0_7]
    funext j
    obtain ⟨r, q, rfl⟩ := at_block j
    refine (left7 m hO c t r q).trans ?_
    show _ = sheet (mom' m c) ((((cfgM m hO).win 7).blk t).view.emb (ix2 r q))
    rw [emb7]
    rfl
  · obtain ⟨r, q, rfl⟩ := at_sheet i
    obtain ⟨t, p, rfl⟩ := row_tile r
    have e := (((cfgM m hO).win 7).blk t).view.emb_mem_set (ix2 p q)
    rw [emb7] at e
    exact ⟨t, flush0_7 (adm m hO) t, e⟩

theorem final8 : (dats m hO 0 c).arrAt 8 (cfgM m hO).N = sheet (var' m c) := by
  refine (dats m hO 0 c).arrAt_eq_of_cover 8 _ (fun t _ => ?_) fun i => ?_
  · show ((cfgM m hO).win 8).cut (grid0.coords t) ((dats m hO 0 c).after 8 t) = _
    rw [after0_8]
    funext j
    obtain ⟨r, q, rfl⟩ := at_block j
    refine (left8 m hO c t r q).trans ?_
    show _ = sheet (var' m c) ((((cfgM m hO).win 8).blk t).view.emb (ix2 r q))
    rw [emb8]
    rfl
  · obtain ⟨r, q, rfl⟩ := at_sheet i
    obtain ⟨t, p, rfl⟩ := row_tile r
    have e := (((cfgM m hO).win 8).blk t).view.emb_mem_set (ix2 p q)
    rw [emb8] at e
    exact ⟨t, flush0_8 (adm m hO) t, e⟩

end Cert.Kernel12Ideal.Adam
-- ==== Proof.AdamPair.lean ====
/-
  The optimiser's update and its reference end with the same four arrays.
-/
module

public import proofs.«01_k».proof.Defs
public import proofs.«01_k».proof.Proof.Gen.Kernel12.Frame
public import proofs.«01_k».proof.Proof.Gen.Pre_in_range
public import proofs.«01_k».proof.Proof.AdamKernel
public import proofs.«01_k».proof.Proof.Gen.Reference12Ideal.Read

@[expose] public section

set_option maxRecDepth 16384

noncomputable section

open Idealize.ShloMosaic Idealize.ShloMosaic.TcCoe Idealize.SL.Sem
open Cert.Common Cert.AdamSpec

/-! ## The rounded kernel's block of its own array lies in that array -/

namespace Cert.Kernel12.Adam

open Cert.Kernel12 Cert.Kernel12.Gen

variable (m : (ℓ : Loc nD τ sig) → Buf (Elt Bits) ℓ)

theorem eq_first (y z : S1.Idx) : y = z := funext fun a => Fin.ext (by
  have h := (y a).isLt
  have h' := (z a).isLt
  match a, h, h' with
  | ⟨0, _⟩, h, h' => exact (Nat.lt_one_iff.1 h).trans (Nat.lt_one_iff.1 h').symm)

/-- The device's number. -/
def me : BitVec 32 := (m ((0 : Dev nD).tc.loc main_arg2) : IVec S1 32) Cert.Kernel12Ideal.Adam.at0

theorem tbl_at (y : S1.Idx) : (tbl m 0 : IVec S1 32) y = me m := by
  show (V m 0 main_arg2 : IVec S1 32) y = _
  rw [V_main_arg2, eq_first y Cert.Kernel12Ideal.Adam.at0]
  rfl

theorem ok_of_lt (h : (me m).toNat < 8) : Ok m := fun i => by
  have hi : (i 0).val < 4 := (i 0).isLt
  have e : cc0_transform_1 (F := Bits) inb_S1_S1_0 numel1_S1 (tbl m) i
      = (![(me m).toNat, (i 0).val, 0] : Fin 3 → ℕ) := by
    unfold cc0_transform_1
    dsimp only
    rw [BitVec.toNat_ofNat, Nat.mod_eq_of_lt (by omega)]
    exact congrArg (fun x : BitVec 32 => (![x.toNat, (i 0).val, 0] : Fin 3 → ℕ)) (tbl_at m _)
  refine ⟨fun a => ?_, .inr (Affine.block_words_dvd (of_decide_eq_true rfl) (by decide))⟩
  rw [e]
  match a with
  | ⟨0, _⟩ => show ((me m).toNat + 1) * 1 ≤ 8; omega
  | ⟨1, _⟩ => show ((i 0).val + 1) * 256 ≤ 1024; omega
  | ⟨2, _⟩ => show (0 + 1) * 449 ≤ 449; omega

end Cert.Kernel12.Adam

/-! ## The reference, element by element -/

namespace Cert.Reference12Ideal.Adam

open Cert.Reference12Ideal Cert.Reference12Ideal.Read

variable (x0 x1 : (⟨S8x1024x449, .f32⟩ : BufTy).Contents (Elt Ideal)) (x2 : (⟨S1, .i32⟩ : BufTy).Contents (Elt Ideal))
  (x3 x4 x5 : (⟨S1024x449, .f32⟩ : BufTy).Contents (Elt Ideal)) (i : Fin 1024) (q : Fin 449)

theorem part_at (s : Fin 8) : val_main_v4 (F := Ideal) x0 x1 x2 (ix3 s i q)
    = if (x2 : IVec S1 32) Cert.Kernel12Ideal.Adam.at0 = BitVec.ofNat 32 s.val then x1 (ix3 s i q) else x0 (ix3 s i q) := by
  rw [val_main_v4_apply, val_main_call0_v0_apply, val_main_v3_apply, val_main_v2_apply, val_main_v1_apply, val_main_v0_apply,
    Cert.Kernel12.Adam.eq_first (idx_main_v1 _) Cert.Kernel12Ideal.Adam.at0]
  exact (pick _ _ _ _).trans (if_congr eq_comm rfl rfl)

theorem grad_at : val_main_v5 (F := Ideal) x0 x1 x2 (ix2 i q)
    = total ((x2 : IVec S1 32) Cert.Kernel12Ideal.Adam.at0) (fun s => x1 (ix3 s i q)) (fun s => x0 (ix3 s i q)) := by
  rw [val_main_v5_apply, val_main_cst_apply]
  refine Eq.trans (congrArg₂ (· + ·) (Ideal.ofBits_zero_f32 : Ideal.ofBits .f32 0x00000000#32 = 0) (Finset.sum_congr rfl fun s _ => ?_)) (zero_add _)
  refine Eq.trans (congrArg (val_main_v4 (F := Ideal) x0 x1 x2) (?_ : _ = ix3 s i q)) (part_at x0 x1 x2 i q s)
  funext a
  match a with
  | ⟨0, _⟩ => rfl
  | ⟨1, _⟩ => rfl
  | ⟨2, _⟩ => rfl

theorem first_at : val_main_v10 (F := Ideal) x0 x1 x2 x4 (ix2 i q) = first (x4 (ix2 i q)) (val_main_v5 (F := Ideal) x0 x1 x2 (ix2 i q)) := by
  rw [val_main_v10_apply, val_main_v9_apply, val_main_v8_apply, val_main_cst_1_apply, val_main_v7_apply, val_main_v6_apply, val_main_cst_0_apply]
  rfl

theorem second_at : val_main_v16 (F := Ideal) x0 x1 x2 x5 (ix2 i q) = second (x5 (ix2 i q)) (val_main_v5 (F := Ideal) x0 x1 x2 (ix2 i q)) := by
  rw [val_main_v16_apply, val_main_v15_apply, val_main_v14_apply, val_main_cst_3_apply, val_main_v13_apply, val_main_v12_apply, val_main_v11_apply, val_main_cst_2_apply]
  rfl

theorem change_at : val_main_v29 (F := Ideal) x0 x1 x2 x3 x4 x5 (ix2 i q)
    = change (x3 (ix2 i q)) (val_main_v10 (F := Ideal) x0 x1 x2 x4 (ix2 i q)) (val_main_v16 (F := Ideal) x0 x1 x2 x5 (ix2 i q)) := by
  unfold change
  rw [← div_c1, ← div_c2, val_main_v29_apply, val_main_v28_apply, val_main_cst_8_apply, val_main_v27_apply, val_main_v26_apply, val_main_v25_apply, val_main_cst_7_apply,
    val_main_v24_apply, val_main_v23_apply, val_main_v22_apply, val_main_cst_6_apply, val_main_v21_apply, val_main_v20_apply, val_main_v19_apply, val_main_cst_5_apply,
    val_main_v18_apply, val_main_v17_apply, val_main_cst_4_apply]
  rfl

end Cert.Reference12Ideal.Adam

/-! ## The claims -/

namespace Cert.Adam

/-- A word between nought and seven, read as signed, is one below eight. -/
theorem lt_of_between (x : BitVec 32) (h : IntOp.andi (IntOp.cmpi .sge x 0#32) (IntOp.cmpi .slt x 8#32) = 1#1) : x.toNat < 8 := by
  obtain ⟨h0, h1⟩ := IntOp.andi_eq_one.1 h
  have h0' : BitVec.ofBool ((0#32).sle x) = BitVec.ofBool true := h0
  have h1' : BitVec.ofBool (x.slt 8#32) = BitVec.ofBool true := h1
  have a : (0#32).sle x = true := by cases hx : (0#32).sle x with | true => rfl | false => rw [hx] at h0'; exact absurd h0' (by decide)
  have b : x.slt 8#32 = true := by cases hx : x.slt 8#32 with | true => rfl | false => rw [hx] at h1'; exact absurd h1' (by decide)
  have a' : (0 : ℤ) ≤ x.toInt := BitVec.sle_iff_toInt_le.1 a
  have b' : x.toInt < 8 := BitVec.slt_iff_toInt_lt.1 b
  have e := BitVec.toInt_eq_toNat_cond x
  have l := x.isLt
  split at e <;> omega

/-- The rounded kernel's frame. -/
theorem frame_kernel : quiescent_Kernel12 := fun m ρ h =>
  Kernel12.Gen.frame (F := Bits) m ρ (Kernel12.Adam.ok_of_lt m (lt_of_between _ (congrFun (h 0) Kernel12Ideal.Adam.at0)))

theorem ok (m : (ℓ : Loc Kernel12Ideal.nD Kernel12Ideal.τ Kernel12Ideal.sig) → Buf (Elt Ideal) ℓ) (h : Pre_Kernel12Ideal m) : Kernel12Ideal.Gen.Ok m :=
  Kernel12Ideal.Adam.ok_of_lt m (lt_of_between _ (congrFun (h 0) Kernel12Ideal.Adam.at0))

/-- The ideal kernel's frame. -/
theorem frame_kernelIdeal : quiescent_Kernel12Ideal := fun m ρ h => Kernel12Ideal.Gen.frame (F := Ideal) m ρ (ok m h)

/-- The reference's frame. -/
theorem frame_reference : quiescent_Reference12Ideal := fun m ρ _ =>
  (θ_run Reference12Ideal.defs _ _).mono (fun r h => ⟨fun c => (h c).2.2.2.2, sem_eq_zero_of_no_sems (by decide) r.2⟩)
    (Reference12Ideal.Value.run (F := Ideal) m ρ)

/-- The two named constants. -/
theorem preserves : preserves_Kernel12_Kernel12Ideal :=
  ⟨IdealRules.named_const.statement Kernel12Ideal.κ "c1" .f32 0x3FC48605#32 _ rfl, IdealRules.named_const.statement Kernel12Ideal.κ "c2" .f32 0x42C8E6D3#32 _ rfl⟩

open Kernel12Ideal.Adam in
/-- The results agree. -/
theorem value : algebraic_Kernel12Ideal_Reference12Ideal := by
  intro m g m' g' hpre hargs
  have hO := ok m hpre
  refine ⟨fun c => sheet (grad m c), fun c => sheet (delta m c), fun c => sheet (mom' m c), fun c => sheet (var' m c), ?_, ?_⟩
  · refine (θ_run Kernel12Ideal.defs _ _).mono (fun r hr c => ?_) (θ_run_and (Kernel12Ideal.Gen.run_main (F := Ideal) m g hO) (Kernel12Ideal.Gen.unchanged (F := Ideal) m g hO))
    exact ⟨((hr.1 c).1 5).trans (final5 m hO c), ((hr.1 c).1 6).trans (final6 m hO c), ((hr.1 c).1 7).trans (final7 m hO c), ((hr.1 c).1 8).trans (final8 m hO c), hr.2 c⟩
  · refine (θ_run Reference12Ideal.defs _ _).mono (fun r hr c => ?_) (Reference12Ideal.Value.run (F := Ideal) m' g')
    obtain ⟨r0, r1, r2, r3, hk⟩ := hr c
    obtain ⟨a0, a1, a2, a3, a4, a5⟩ := hargs c
    rw [a0, a1, a2] at r0
    rw [a0, a1, a2, a3, a4, a5] at r1
    rw [a0, a1, a2, a4] at r2
    rw [a0, a1, a2, a5] at r3
    have eg := fun i q => Reference12Ideal.Adam.grad_at (m (c.tc.loc Kernel12Ideal.main_arg0)) (m (c.tc.loc Kernel12Ideal.main_arg1)) (m (c.tc.loc Kernel12Ideal.main_arg2)) i q
    have em := fun i q => (Reference12Ideal.Adam.first_at _ _ _ (m (c.tc.loc Kernel12Ideal.main_arg4)) i q).trans (congrArg (first _) (eg i q))
    have ev := fun i q => (Reference12Ideal.Adam.second_at _ _ _ (m (c.tc.loc Kernel12Ideal.main_arg5)) i q).trans (congrArg (second _) (eg i q))
    exact ⟨r0.trans ((Reference12Ideal.Read.val_main_v5_eq _ _ _).trans (ext2 eg)),
      r1.trans ((Reference12Ideal.Read.val_main_v29_eq _ _ _ _ _ _).trans (ext2 fun i q => (Reference12Ideal.Adam.change_at _ _ _ (m (c.tc.loc Kernel12Ideal.main_arg3)) _ _ i q).trans
        (congrArg₂ (change _) (em i q) (ev i q)))),
      r2.trans ((Reference12Ideal.Read.val_main_v10_eq _ _ _ _).trans (ext2 em)),
      r3.trans ((Reference12Ideal.Read.val_main_v16_eq _ _ _ _).trans (ext2 ev)), hk⟩

end Cert.Adam
-- ==== Proof.lean ====
/-
  The certificate: for each call its frames, then that idealizing rewrote nothing, then its value claim.
-/
module

public import proofs.«01_k».proof.Defs
public import proofs.«01_k».proof.Proof.Gen.Kernel.Frame
public import proofs.«01_k».proof.Proof.Gen.KernelIdeal.Value
public import proofs.«01_k».proof.Proof.Gen.ReferenceIdeal.Read
public import proofs.«01_k».proof.Proof.MixPair
public import proofs.«01_k».proof.Proof.Gen.Kernel2.Frame
public import proofs.«01_k».proof.Proof.Gen.Kernel2Ideal.Value
public import proofs.«01_k».proof.Proof.Gen.Reference2Ideal.Read
public import proofs.«01_k».proof.Proof.ProjPair
public import proofs.«01_k».proof.Proof.Gen.Kernel3.Frame
public import proofs.«01_k».proof.Proof.Gen.Kernel3Ideal.Value
public import proofs.«01_k».proof.Proof.Gen.Reference3Ideal.Read
public import proofs.«01_k».proof.Proof.FfnPair
public import proofs.«01_k».proof.Proof.PrepFrame
public import proofs.«01_k».proof.Proof.Gen.Reference4Ideal.Read
public import proofs.«01_k».proof.Proof.PrepPair
public import proofs.«01_k».proof.Proof.Gen.Kernel5.Frame
public import proofs.«01_k».proof.Proof.Gen.Kernel5Ideal.Value
public import proofs.«01_k».proof.Proof.Gen.Reference5Ideal.Read
public import proofs.«01_k».proof.Proof.MixFwdPair
public import proofs.«01_k».proof.Proof.Gen.Kernel6.Frame
public import proofs.«01_k».proof.Proof.Gen.Kernel6Ideal.Frame
public import proofs.«01_k».proof.Proof.Gen.Reference6Ideal.Read
public import proofs.«01_k».proof.Proof.ProjFwdPair
public import proofs.«01_k».proof.Proof.Gen.Kernel7.Frame
public import proofs.«01_k».proof.Proof.Gen.Kernel7Ideal.Frame
public import proofs.«01_k».proof.Proof.Gen.Reference7Ideal.Read
public import proofs.«01_k».proof.Proof.PrepFwdPair
public import proofs.«01_k».proof.Proof.Gen.Kernel8.Frame
public import proofs.«01_k».proof.Proof.Gen.Kernel8Ideal.Value
public import proofs.«01_k».proof.Proof.Gen.Reference8Ideal.Read
public import proofs.«01_k».proof.Proof.DownPair
public import proofs.«01_k».proof.Proof.Gen.Kernel9.Frame
public import proofs.«01_k».proof.Proof.Gen.Kernel9Ideal.Value
public import proofs.«01_k».proof.Proof.Gen.Reference9Ideal.Read
public import proofs.«01_k».proof.Proof.WOutPair
public import proofs.«01_k».proof.Proof.Gen.Kernel10.Frame
public import proofs.«01_k».proof.Proof.Gen.Kernel10Ideal.Value
public import proofs.«01_k».proof.Proof.Gen.Reference10Ideal.Read
public import proofs.«01_k».proof.Proof.WInPair
public import proofs.«01_k».proof.Proof.Gen.Kernel11.Frame
public import proofs.«01_k».proof.Proof.Gen.Kernel11Ideal.Value
public import proofs.«01_k».proof.Proof.Gen.Reference11Ideal.Read
public import proofs.«01_k».proof.Proof.CatPair
public import proofs.«01_k».proof.Proof.Gen.Kernel12.Frame
public import proofs.«01_k».proof.Proof.Gen.Kernel12Ideal.Frame
public import proofs.«01_k».proof.Proof.Gen.Reference12Ideal.Read
public import proofs.«01_k».proof.Proof.AdamPair

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Pre_finite1.Gen.facts,
    Cert.Pre_finite2.Gen.facts,
    Cert.Pre_finite3.Gen.facts,
    Cert.Pre_finite4.Gen.facts,
    Cert.Pre_finite5.Gen.facts,
    Cert.Pre_finite6.Gen.facts,
    Cert.Pre_finite7.Gen.facts,
    Cert.Pre_in_range.Gen.facts,
    fun m ρ _ => Cert.Kernel.Gen.frame m ρ,
    fun m ρ _ => Cert.KernelIdeal.Gen.frame m ρ,
    fun m ρ _ => Cert.KernelIdeal.Gen.frame m ρ,
    Cert.Mix.frame_reference,
    fun m ρ _ => Cert.Mix.frame_reference m ρ trivial,
    fun m ρ _ => Cert.Kernel2.Gen.frame m ρ,
    fun m ρ _ => Cert.Kernel2Ideal.Gen.frame m ρ,
    fun m ρ _ => Cert.Kernel2Ideal.Gen.frame m ρ,
    Cert.Proj.frame_reference,
    fun m ρ _ => Cert.Proj.frame_reference m ρ trivial,
    fun m ρ _ => Cert.Kernel3.Gen.frame m ρ,
    fun m ρ _ => Cert.Kernel3Ideal.Gen.frame m ρ,
    fun m ρ _ => Cert.Kernel3Ideal.Gen.frame m ρ,
    Cert.Ffn.frame_reference,
    fun m ρ _ => Cert.Ffn.frame_reference m ρ trivial,
    Cert.Prep.frame_kernel,
    Cert.Prep.frame_kernelIdeal,
    fun m ρ _ => Cert.Prep.frame_kernelIdeal m ρ trivial,
    Cert.Prep.frame_reference,
    fun m ρ _ => Cert.Prep.frame_reference m ρ trivial,
    fun m ρ _ => Cert.Kernel5.Gen.frame m ρ,
    fun m ρ _ => Cert.Kernel5Ideal.Gen.frame m ρ,
    fun m ρ _ => Cert.Kernel5Ideal.Gen.frame m ρ,
    Cert.MixFwd.frame_reference,
    fun m ρ _ => Cert.MixFwd.frame_reference m ρ trivial,
    fun m ρ _ => Cert.Kernel6.Gen.frame m ρ,
    fun m ρ _ => Cert.Kernel6Ideal.Gen.frame m ρ,
    fun m ρ _ => Cert.Kernel6Ideal.Gen.frame m ρ,
    Cert.ProjFwd.frame_reference,
    fun m ρ _ => Cert.ProjFwd.frame_reference m ρ trivial,
    fun m ρ _ => Cert.Kernel7.Gen.frame m ρ,
    fun m ρ _ => Cert.Kernel7Ideal.Gen.frame m ρ,
    fun m ρ _ => Cert.Kernel7Ideal.Gen.frame m ρ,
    Cert.PrepFwd.frame_reference,
    fun m ρ _ => Cert.PrepFwd.frame_reference m ρ trivial,
    fun m ρ _ => Cert.Kernel8.Gen.frame m ρ,
    fun m ρ _ => Cert.Kernel8Ideal.Gen.frame m ρ,
    Cert.Down.frame_reference,
    fun m ρ _ => Cert.Kernel9.Gen.frame m ρ,
    fun m ρ _ => Cert.Kernel9Ideal.Gen.frame m ρ,
    Cert.WOut.frame_reference,
    fun m ρ _ => Cert.Kernel10.Gen.frame m ρ,
    fun m ρ _ => Cert.Kernel10Ideal.Gen.frame m ρ,
    Cert.WIn.frame_reference,
    fun m ρ _ => Cert.Kernel11.Gen.frame m ρ,
    fun m ρ _ => Cert.Kernel11Ideal.Gen.frame m ρ,
    Cert.Cat.frame_reference,
    Cert.Adam.frame_kernel,
    Cert.Adam.frame_kernelIdeal,
    Cert.Adam.frame_reference,
    fun m ρ _ => Cert.Adam.frame_reference m ρ trivial,
    trivial,
    Cert.Mix.value,
    trivial,
    Cert.Proj.value,
    trivial,
    Cert.Ffn.value,
    trivial,
    Cert.Prep.value,
    trivial,
    Cert.MixFwd.value,
    trivial,
    Cert.ProjFwd.value,
    trivial,
    Cert.PrepFwd.value,
    trivial,
    Cert.Down.value,
    trivial,
    Cert.WOut.value,
    trivial,
    Cert.WIn.value,
    trivial,
    Cert.Cat.value,
    Cert.Adam.preserves,
    Cert.Adam.value⟩

end Cert.Proof

end
